-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMlOut (m : (ℓ : Loc Cert.KernelMlOut.nD Cert.KernelMlOut.τ Cert.KernelMlOut.sig) → Buf (Elt Bits) ℓ) : Prop :=
  True

def Pre_KernelMlOutIdeal (m : (ℓ : Loc Cert.KernelMlOutIdeal.nD Cert.KernelMlOutIdeal.τ Cert.KernelMlOutIdeal.sig) → Buf (Elt Ideal) ℓ) : Prop :=
  True

def Pre_ReferenceMlOutIdeal (m : (ℓ : Loc Cert.ReferenceMlOutIdeal.nD Cert.ReferenceMlOutIdeal.τ Cert.ReferenceMlOutIdeal.sig) → Buf (Elt Ideal) ℓ) : Prop :=
  True

def Pre_KernelRkOut (m : (ℓ : Loc Cert.KernelRkOut.nD Cert.KernelRkOut.τ Cert.KernelRkOut.sig) → Buf (Elt Bits) ℓ) : Prop :=
  True

def Pre_KernelRkOutIdeal (m : (ℓ : Loc Cert.KernelRkOutIdeal.nD Cert.KernelRkOutIdeal.τ Cert.KernelRkOutIdeal.sig) → Buf (Elt Ideal) ℓ) : Prop :=
  True

def Pre_ReferenceRkOutIdeal (m : (ℓ : Loc Cert.ReferenceRkOutIdeal.nD Cert.ReferenceRkOutIdeal.τ Cert.ReferenceRkOutIdeal.sig) → Buf (Elt Ideal) ℓ) : Prop :=
  True

def Pre_KernelRkIn (m : (ℓ : Loc Cert.KernelRkIn.nD Cert.KernelRkIn.τ Cert.KernelRkIn.sig) → Buf (Elt Bits) ℓ) : Prop :=
  True

def Pre_KernelRkInIdeal (m : (ℓ : Loc Cert.KernelRkInIdeal.nD Cert.KernelRkInIdeal.τ Cert.KernelRkInIdeal.sig) → Buf (Elt Ideal) ℓ) : Prop :=
  True

def Pre_ReferenceRkInIdeal (m : (ℓ : Loc Cert.ReferenceRkInIdeal.nD Cert.ReferenceRkInIdeal.τ Cert.ReferenceRkInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7))
      ∧ r.2.sem = fun _ => 0)

def quiescent_KernelMlOut [hKernelMlOut : Cert.KernelMlOut.Facts] : Prop :=
  ∀ (m : (ℓ : Loc Cert.KernelMlOut.nD Cert.KernelMlOut.τ Cert.KernelMlOut.sig) → Buf (Elt Bits) ℓ) (g : Dev Cert.KernelMlOut.nD → PrngReg), Pre_KernelMlOut m →
    θ_run (Cert.KernelMlOut.defs (F := Bits)) (onTc (τ := Cert.KernelMlOut.τ) (Cert.KernelMlOut.main (F := Bits))) ⟨m, fun _ => 0, g⟩ (fun r => (∀ c : Dev Cert.KernelMlOut.nD,
      r.2.mem ((c.tc : Thread Cert.KernelMlOut.nD Cert.KernelMlOut.τ).loc Cert.KernelMlOut.main_arg0) = m ((c.tc : Thread Cert.KernelMlOut.nD Cert.KernelMlOut.τ).loc Cert.KernelMlOut.main_arg0)
      ∧ r.2.mem ((c.tc : Thread Cert.KernelMlOut.nD Cert.KernelMlOut.τ).loc Cert.KernelMlOut.main_arg1) = m ((c.tc : Thread Cert.KernelMlOut.nD Cert.KernelMlOut.τ).loc Cert.KernelMlOut.main_arg1)
      ∧ r.2.mem ((c.tc : Thread Cert.KernelMlOut.nD Cert.KernelMlOut.τ).loc Cert.KernelMlOut.main_arg2) = m ((c.tc : Thread Cert.KernelMlOut.nD Cert.KernelMlOut.τ).loc Cert.KernelMlOut.main_arg2)
      ∧ r.2.mem ((c.tc : Thread Cert.KernelMlOut.nD Cert.KernelMlOut.τ).loc Cert.KernelMlOut.main_arg3) = m ((c.tc : Thread Cert.KernelMlOut.nD Cert.KernelMlOut.τ).loc Cert.KernelMlOut.main_arg3)
      ∧ r.2.mem ((c.tc : Thread Cert.KernelMlOut.nD Cert.KernelMlOut.τ).loc Cert.KernelMlOut.main_arg4) = m ((c.tc : Thread Cert.KernelMlOut.nD Cert.KernelMlOut.τ).loc Cert.KernelMlOut.main_arg4)
      ∧ r.2.mem ((c.tc : Thread Cert.KernelMlOut.nD Cert.KernelMlOut.τ).loc Cert.KernelMlOut.main_arg5) = m ((c.tc : Thread Cert.KernelMlOut.nD Cert.KernelMlOut.τ).loc Cert.KernelMlOut.main_arg5)
      ∧ r.2.mem ((c.tc : Thread Cert.KernelMlOut.nD Cert.KernelMlOut.τ).loc Cert.KernelMlOut.main_arg6) = m ((c.tc : Thread Cert.KernelMlOut.nD Cert.KernelMlOut.τ).loc Cert.KernelMlOut.main_arg6)
      ∧ r.2.mem ((c.tc : Thread Cert.KernelMlOut.nD Cert.KernelMlOut.τ).loc Cert.KernelMlOut.main_arg7) = m ((c.tc : Thread Cert.KernelMlOut.nD Cert.KernelMlOut.τ).loc Cert.KernelMlOut.main_arg7)
      ∧ r.2.mem ((c.tc : Thread Cert.KernelMlOut.nD Cert.KernelMlOut.τ).loc Cert.KernelMlOut.main_arg8) = m ((c.tc : Thread Cert.KernelMlOut.nD Cert.KernelMlOut.τ).loc Cert.KernelMlOut.main_arg8)
      ∧ r.2.mem ((c.tc : Thread Cert.KernelMlOut.nD Cert.KernelMlOut.τ).loc Cert.KernelMlOut.main_arg9) = m ((c.tc : Thread Cert.KernelMlOut.nD Cert.KernelMlOut.τ).loc Cert.KernelMlOut.main_arg9)
      ∧ r.2.mem ((c.tc : Thread Cert.KernelMlOut.nD Cert.KernelMlOut.τ).loc Cert.KernelMlOut.main_arg10) = m ((c.tc : Thread Cert.KernelMlOut.nD Cert.KernelMlOut.τ).loc Cert.KernelMlOut.main_arg10))
      ∧ r.2.sem = fun _ => 0)

def quiescent_KernelMlOutIdeal [hKernelMlOutIdeal : Cert.KernelMlOutIdeal.Facts] : Prop :=
  ∀ (m : (ℓ : Loc Cert.KernelMlOutIdeal.nD Cert.KernelMlOutIdeal.τ Cert.KernelMlOutIdeal.sig) → Buf (Elt Ideal) ℓ) (g : Dev Cert.KernelMlOutIdeal.nD → PrngReg), Pre_KernelMlOutIdeal m →
    θ_run (Cert.KernelMlOutIdeal.defs (F := Ideal)) (onTc (τ := Cert.KernelMlOutIdeal.τ) (Cert.KernelMlOutIdeal.main (F := Ideal))) ⟨m, fun _ => 0, g⟩ (fun r => (∀ c : Dev Cert.KernelMlOutIdeal.nD,
      r.2.mem ((c.tc : Thread Cert.KernelMlOutIdeal.nD Cert.KernelMlOutIdeal.τ).loc Cert.KernelMlOutIdeal.main_arg0) = m ((c.tc : Thread Cert.KernelMlOutIdeal.nD Cert.KernelMlOutIdeal.τ).loc Cert.KernelMlOutIdeal.main_arg0)
      ∧ r.2.mem ((c.tc : Thread Cert.KernelMlOutIdeal.nD Cert.KernelMlOutIdeal.τ).loc Cert.KernelMlOutIdeal.main_arg1) = m ((c.tc : Thread Cert.KernelMlOutIdeal.nD Cert.KernelMlOutIdeal.τ).loc Cert.KernelMlOutIdeal.main_arg1)
      ∧ r.2.mem ((c.tc : Thread Cert.KernelMlOutIdeal.nD Cert.KernelMlOutIdeal.τ).loc Cert.KernelMlOutIdeal.main_arg2) = m ((c.tc : Thread Cert.KernelMlOutIdeal.nD Cert.KernelMlOutIdeal.τ).loc Cert.KernelMlOutIdeal.main_arg2)
      ∧ r.2.mem ((c.tc : Thread Cert.KernelMlOutIdeal.nD Cert.KernelMlOutIdeal.τ).loc Cert.KernelMlOutIdeal.main_arg3) = m ((c.tc : Thread Cert.KernelMlOutIdeal.nD Cert.KernelMlOutIdeal.τ).loc Cert.KernelMlOutIdeal.main_arg3)
      ∧ r.2.mem ((c.tc : Thread Cert.KernelMlOutIdeal.nD Cert.KernelMlOutIdeal.τ).loc Cert.KernelMlOutIdeal.main_arg4) = m ((c.tc : Thread Cert.KernelMlOutIdeal.nD Cert.KernelMlOutIdeal.τ).loc Cert.KernelMlOutIdeal.main_arg4)
      ∧ r.2.mem ((c.tc : Thread Cert.KernelMlOutIdeal.nD Cert.KernelMlOutIdeal.τ).loc Cert.KernelMlOutIdeal.main_arg5) = m ((c.tc : Thread Cert.KernelMlOutIdeal.nD Cert.KernelMlOutIdeal.τ).loc Cert.KernelMlOutIdeal.main_arg5)
      ∧ r.2.mem ((c.tc : Thread Cert.KernelMlOutIdeal.nD Cert.KernelMlOutIdeal.τ).loc Cert.KernelMlOutIdeal.main_arg6) = m ((c.tc : Thread Cert.KernelMlOutIdeal.nD Cert.KernelMlOutIdeal.τ).loc Cert.KernelMlOutIdeal.main_arg6)
      ∧ r.2.mem ((c.tc : Thread Cert.KernelMlOutIdeal.nD Cert.KernelMlOutIdeal.τ).loc Cert.KernelMlOutIdeal.main_arg7) = m ((c.tc : Thread Cert.KernelMlOutIdeal.nD Cert.KernelMlOutIdeal.τ).loc Cert.KernelMlOutIdeal.main_arg7)
      ∧ r.2.mem ((c.tc : Thread Cert.KernelMlOutIdeal.nD Cert.KernelMlOutIdeal.τ).loc Cert.KernelMlOutIdeal.main_arg8) = m ((c.tc : Thread Cert.KernelMlOutIdeal.nD Cert.KernelMlOutIdeal.τ).loc Cert.KernelMlOutIdeal.main_arg8)
      ∧ r.2.mem ((c.tc : Thread Cert.KernelMlOutIdeal.nD Cert.KernelMlOutIdeal.τ).loc Cert.KernelMlOutIdeal.main_arg9) = m ((c.tc : Thread Cert.KernelMlOutIdeal.nD Cert.KernelMlOutIdeal.τ).loc Cert.KernelMlOutIdeal.main_arg9)
      ∧ r.2.mem ((c.tc : Thread Cert.KernelMlOutIdeal.nD Cert.KernelMlOutIdeal.τ).loc Cert.KernelMlOutIdeal.main_arg10) = m ((c.tc : Thread Cert.KernelMlOutIdeal.nD Cert.KernelMlOutIdeal.τ).loc Cert.KernelMlOutIdeal.main_arg10))
      ∧ r.2.sem = fun _ => 0)

def quiescent_ReferenceMlOutIdeal [hReferenceMlOutIdeal : Cert.ReferenceMlOutIdeal.Facts] : Prop :=
  ∀ (m : (ℓ : Loc Cert.ReferenceMlOutIdeal.nD Cert.ReferenceMlOutIdeal.τ Cert.ReferenceMlOutIdeal.sig) → Buf (Elt Ideal) ℓ) (g : Dev Cert.ReferenceMlOutIdeal.nD → PrngReg), Pre_ReferenceMlOutIdeal m →
    θ_run (Cert.ReferenceMlOutIdeal.defs (F := Ideal)) (onTc (τ := Cert.ReferenceMlOutIdeal.τ) (Cert.ReferenceMlOutIdeal.main (F := Ideal))) ⟨m, fun _ => 0, g⟩ (fun r => (∀ c : Dev Cert.ReferenceMlOutIdeal.nD,
      r.2.mem ((c.tc : Thread Cert.ReferenceMlOutIdeal.nD Cert.ReferenceMlOutIdeal.τ).loc Cert.ReferenceMlOutIdeal.main_arg0) = m ((c.tc : Thread Cert.ReferenceMlOutIdeal.nD Cert.ReferenceMlOutIdeal.τ).loc Cert.ReferenceMlOutIdeal.main_arg0)
      ∧ r.2.mem ((c.tc : Thread Cert.ReferenceMlOutIdeal.nD Cert.ReferenceMlOutIdeal.τ).loc Cert.ReferenceMlOutIdeal.main_arg1) = m ((c.tc : Thread Cert.ReferenceMlOutIdeal.nD Cert.ReferenceMlOutIdeal.τ).loc Cert.ReferenceMlOutIdeal.main_arg1)
      ∧ r.2.mem ((c.tc : Thread Cert.ReferenceMlOutIdeal.nD Cert.ReferenceMlOutIdeal.τ).loc Cert.ReferenceMlOutIdeal.main_arg2) = m ((c.tc : Thread Cert.ReferenceMlOutIdeal.nD Cert.ReferenceMlOutIdeal.τ).loc Cert.ReferenceMlOutIdeal.main_arg2)
      ∧ r.2.mem ((c.tc : Thread Cert.ReferenceMlOutIdeal.nD Cert.ReferenceMlOutIdeal.τ).loc Cert.ReferenceMlOutIdeal.main_arg3) = m ((c.tc : Thread Cert.ReferenceMlOutIdeal.nD Cert.ReferenceMlOutIdeal.τ).loc Cert.ReferenceMlOutIdeal.main_arg3)
      ∧ r.2.mem ((c.tc : Thread Cert.ReferenceMlOutIdeal.nD Cert.ReferenceMlOutIdeal.τ).loc Cert.ReferenceMlOutIdeal.main_arg4) = m ((c.tc : Thread Cert.ReferenceMlOutIdeal.nD Cert.ReferenceMlOutIdeal.τ).loc Cert.ReferenceMlOutIdeal.main_arg4)
      ∧ r.2.mem ((c.tc : Thread Cert.ReferenceMlOutIdeal.nD Cert.ReferenceMlOutIdeal.τ).loc Cert.ReferenceMlOutIdeal.main_arg5) = m ((c.tc : Thread Cert.ReferenceMlOutIdeal.nD Cert.ReferenceMlOutIdeal.τ).loc Cert.ReferenceMlOutIdeal.main_arg5)
      ∧ r.2.mem ((c.tc : Thread Cert.ReferenceMlOutIdeal.nD Cert.ReferenceMlOutIdeal.τ).loc Cert.ReferenceMlOutIdeal.main_arg6) = m ((c.tc : Thread Cert.ReferenceMlOutIdeal.nD Cert.ReferenceMlOutIdeal.τ).loc Cert.ReferenceMlOutIdeal.main_arg6)
      ∧ r.2.mem ((c.tc : Thread Cert.ReferenceMlOutIdeal.nD Cert.ReferenceMlOutIdeal.τ).loc Cert.ReferenceMlOutIdeal.main_arg7) = m ((c.tc : Thread Cert.ReferenceMlOutIdeal.nD Cert.ReferenceMlOutIdeal.τ).loc Cert.ReferenceMlOutIdeal.main_arg7)
      ∧ r.2.mem ((c.tc : Thread Cert.ReferenceMlOutIdeal.nD Cert.ReferenceMlOutIdeal.τ).loc Cert.ReferenceMlOutIdeal.main_arg8) = m ((c.tc : Thread Cert.ReferenceMlOutIdeal.nD Cert.ReferenceMlOutIdeal.τ).loc Cert.ReferenceMlOutIdeal.main_arg8)
      ∧ r.2.mem ((c.tc : Thread Cert.ReferenceMlOutIdeal.nD Cert.ReferenceMlOutIdeal.τ).loc Cert.ReferenceMlOutIdeal.main_arg9) = m ((c.tc : Thread Cert.ReferenceMlOutIdeal.nD Cert.ReferenceMlOutIdeal.τ).loc Cert.ReferenceMlOutIdeal.main_arg9)
      ∧ r.2.mem ((c.tc : Thread Cert.ReferenceMlOutIdeal.nD Cert.ReferenceMlOutIdeal.τ).loc Cert.ReferenceMlOutIdeal.main_arg10) = m ((c.tc : Thread Cert.ReferenceMlOutIdeal.nD Cert.ReferenceMlOutIdeal.τ).loc Cert.ReferenceMlOutIdeal.main_arg10))
      ∧ r.2.sem = fun _ => 0)

def quiescent_KernelRkOut [hKernelRkOut : Cert.KernelRkOut.Facts] : Prop :=
  ∀ (m : (ℓ : Loc Cert.KernelRkOut.nD Cert.KernelRkOut.τ Cert.KernelRkOut.sig) → Buf (Elt Bits) ℓ) (g : Dev Cert.KernelRkOut.nD → PrngReg), Pre_KernelRkOut m →
    θ_run (Cert.KernelRkOut.defs (F := Bits)) (onTc (τ := Cert.KernelRkOut.τ) (Cert.KernelRkOut.main (F := Bits))) ⟨m, fun _ => 0, g⟩ (fun r => (∀ c : Dev Cert.KernelRkOut.nD,
      r.2.mem ((c.tc : Thread Cert.KernelRkOut.nD Cert.KernelRkOut.τ).loc Cert.KernelRkOut.main_arg0) = m ((c.tc : Thread Cert.KernelRkOut.nD Cert.KernelRkOut.τ).loc Cert.KernelRkOut.main_arg0)
      ∧ r.2.mem ((c.tc : Thread Cert.KernelRkOut.nD Cert.KernelRkOut.τ).loc Cert.KernelRkOut.main_arg1) = m ((c.tc : Thread Cert.KernelRkOut.nD Cert.KernelRkOut.τ).loc Cert.KernelRkOut.main_arg1)
      ∧ r.2.mem ((c.tc : Thread Cert.KernelRkOut.nD Cert.KernelRkOut.τ).loc Cert.KernelRkOut.main_arg2) = m ((c.tc : Thread Cert.KernelRkOut.nD Cert.KernelRkOut.τ).loc Cert.KernelRkOut.main_arg2)
      ∧ r.2.mem ((c.tc : Thread Cert.KernelRkOut.nD Cert.KernelRkOut.τ).loc Cert.KernelRkOut.main_arg3) = m ((c.tc : Thread Cert.KernelRkOut.nD Cert.KernelRkOut.τ).loc Cert.KernelRkOut.main_arg3)
      ∧ r.2.mem ((c.tc : Thread Cert.KernelRkOut.nD Cert.KernelRkOut.τ).loc Cert.KernelRkOut.main_arg4) = m ((c.tc : Thread Cert.KernelRkOut.nD Cert.KernelRkOut.τ).loc Cert.KernelRkOut.main_arg4)
      ∧ r.2.mem ((c.tc : Thread Cert.KernelRkOut.nD Cert.KernelRkOut.τ).loc Cert.KernelRkOut.main_arg5) = m ((c.tc : Thread Cert.KernelRkOut.nD Cert.KernelRkOut.τ).loc Cert.KernelRkOut.main_arg5)
      ∧ r.2.mem ((c.tc : Thread Cert.KernelRkOut.nD Cert.KernelRkOut.τ).loc Cert.KernelRkOut.main_arg6) = m ((c.tc : Thread Cert.KernelRkOut.nD Cert.KernelRkOut.τ).loc Cert.KernelRkOut.main_arg6)
      ∧ r.2.mem ((c.tc : Thread Cert.KernelRkOut.nD Cert.KernelRkOut.τ).loc Cert.KernelRkOut.main_arg7) = m ((c.tc : Thread Cert.KernelRkOut.nD Cert.KernelRkOut.τ).loc Cert.KernelRkOut.main_arg7))
      ∧ r.2.sem = fun _ => 0)

def quiescent_KernelRkOutIdeal [hKernelRkOutIdeal : Cert.KernelRkOutIdeal.Facts] : Prop :=
  ∀ (m : (ℓ : Loc Cert.KernelRkOutIdeal.nD Cert.KernelRkOutIdeal.τ Cert.KernelRkOutIdeal.sig) → Buf (Elt Ideal) ℓ) (g : Dev Cert.KernelRkOutIdeal.nD → PrngReg), Pre_KernelRkOutIdeal m →
    θ_run (Cert.KernelRkOutIdeal.defs (F := Ideal)) (onTc (τ := Cert.KernelRkOutIdeal.τ) (Cert.KernelRkOutIdeal.main (F := Ideal))) ⟨m, fun _ => 0, g⟩ (fun r => (∀ c : Dev Cert.KernelRkOutIdeal.nD,
      r.2.mem ((c.tc : Thread Cert.KernelRkOutIdeal.nD Cert.KernelRkOutIdeal.τ).loc Cert.KernelRkOutIdeal.main_arg0) = m ((c.tc : Thread Cert.KernelRkOutIdeal.nD Cert.KernelRkOutIdeal.τ).loc Cert.KernelRkOutIdeal.main_arg0)
      ∧ r.2.mem ((c.tc : Thread Cert.KernelRkOutIdeal.nD Cert.KernelRkOutIdeal.τ).loc Cert.KernelRkOutIdeal.main_arg1) = m ((c.tc : Thread Cert.KernelRkOutIdeal.nD Cert.KernelRkOutIdeal.τ).loc Cert.KernelRkOutIdeal.main_arg1)
      ∧ r.2.mem ((c.tc : Thread Cert.KernelRkOutIdeal.nD Cert.KernelRkOutIdeal.τ).loc Cert.KernelRkOutIdeal.main_arg2) = m ((c.tc : Thread Cert.KernelRkOutIdeal.nD Cert.KernelRkOutIdeal.τ).loc Cert.KernelRkOutIdeal.main_arg2)
      ∧ r.2.mem ((c.tc : Thread Cert.KernelRkOutIdeal.nD Cert.KernelRkOutIdeal.τ).loc Cert.KernelRkOutIdeal.main_arg3) = m ((c.tc : Thread Cert.KernelRkOutIdeal.nD Cert.KernelRkOutIdeal.τ).loc Cert.KernelRkOutIdeal.main_arg3)
      ∧ r.2.mem ((c.tc : Thread Cert.KernelRkOutIdeal.nD Cert.KernelRkOutIdeal.τ).loc Cert.KernelRkOutIdeal.main_arg4) = m ((c.tc : Thread Cert.KernelRkOutIdeal.nD Cert.KernelRkOutIdeal.τ).loc Cert.KernelRkOutIdeal.main_arg4)
      ∧ r.2.mem ((c.tc : Thread Cert.KernelRkOutIdeal.nD Cert.KernelRkOutIdeal.τ).loc Cert.KernelRkOutIdeal.main_arg5) = m ((c.tc : Thread Cert.KernelRkOutIdeal.nD Cert.KernelRkOutIdeal.τ).loc Cert.KernelRkOutIdeal.main_arg5)
      ∧ r.2.mem ((c.tc : Thread Cert.KernelRkOutIdeal.nD Cert.KernelRkOutIdeal.τ).loc Cert.KernelRkOutIdeal.main_arg6) = m ((c.tc : Thread Cert.KernelRkOutIdeal.nD Cert.KernelRkOutIdeal.τ).loc Cert.KernelRkOutIdeal.main_arg6)
      ∧ r.2.mem ((c.tc : Thread Cert.KernelRkOutIdeal.nD Cert.KernelRkOutIdeal.τ).loc Cert.KernelRkOutIdeal.main_arg7) = m ((c.tc : Thread Cert.KernelRkOutIdeal.nD Cert.KernelRkOutIdeal.τ).loc Cert.KernelRkOutIdeal.main_arg7))
      ∧ r.2.sem = fun _ => 0)

def quiescent_ReferenceRkOutIdeal [hReferenceRkOutIdeal : Cert.ReferenceRkOutIdeal.Facts] : Prop :=
  ∀ (m : (ℓ : Loc Cert.ReferenceRkOutIdeal.nD Cert.ReferenceRkOutIdeal.τ Cert.ReferenceRkOutIdeal.sig) → Buf (Elt Ideal) ℓ) (g : Dev Cert.ReferenceRkOutIdeal.nD → PrngReg), Pre_ReferenceRkOutIdeal m →
    θ_run (Cert.ReferenceRkOutIdeal.defs (F := Ideal)) (onTc (τ := Cert.ReferenceRkOutIdeal.τ) (Cert.ReferenceRkOutIdeal.main (F := Ideal))) ⟨m, fun _ => 0, g⟩ (fun r => (∀ c : Dev Cert.ReferenceRkOutIdeal.nD,
      r.2.mem ((c.tc : Thread Cert.ReferenceRkOutIdeal.nD Cert.ReferenceRkOutIdeal.τ).loc Cert.ReferenceRkOutIdeal.main_arg0) = m ((c.tc : Thread Cert.ReferenceRkOutIdeal.nD Cert.ReferenceRkOutIdeal.τ).loc Cert.ReferenceRkOutIdeal.main_arg0)
      ∧ r.2.mem ((c.tc : Thread Cert.ReferenceRkOutIdeal.nD Cert.ReferenceRkOutIdeal.τ).loc Cert.ReferenceRkOutIdeal.main_arg1) = m ((c.tc : Thread Cert.ReferenceRkOutIdeal.nD Cert.ReferenceRkOutIdeal.τ).loc Cert.ReferenceRkOutIdeal.main_arg1)
      ∧ r.2.mem ((c.tc : Thread Cert.ReferenceRkOutIdeal.nD Cert.ReferenceRkOutIdeal.τ).loc Cert.ReferenceRkOutIdeal.main_arg2) = m ((c.tc : Thread Cert.ReferenceRkOutIdeal.nD Cert.ReferenceRkOutIdeal.τ).loc Cert.ReferenceRkOutIdeal.main_arg2)
      ∧ r.2.mem ((c.tc : Thread Cert.ReferenceRkOutIdeal.nD Cert.ReferenceRkOutIdeal.τ).loc Cert.ReferenceRkOutIdeal.main_arg3) = m ((c.tc : Thread Cert.ReferenceRkOutIdeal.nD Cert.ReferenceRkOutIdeal.τ).loc Cert.ReferenceRkOutIdeal.main_arg3)
      ∧ r.2.mem ((c.tc : Thread Cert.ReferenceRkOutIdeal.nD Cert.ReferenceRkOutIdeal.τ).loc Cert.ReferenceRkOutIdeal.main_arg4) = m ((c.tc : Thread Cert.ReferenceRkOutIdeal.nD Cert.ReferenceRkOutIdeal.τ).loc Cert.ReferenceRkOutIdeal.main_arg4)
      ∧ r.2.mem ((c.tc : Thread Cert.ReferenceRkOutIdeal.nD Cert.ReferenceRkOutIdeal.τ).loc Cert.ReferenceRkOutIdeal.main_arg5) = m ((c.tc : Thread Cert.ReferenceRkOutIdeal.nD Cert.ReferenceRkOutIdeal.τ).loc Cert.ReferenceRkOutIdeal.main_arg5)
      ∧ r.2.mem ((c.tc : Thread Cert.ReferenceRkOutIdeal.nD Cert.ReferenceRkOutIdeal.τ).loc Cert.ReferenceRkOutIdeal.main_arg6) = m ((c.tc : Thread Cert.ReferenceRkOutIdeal.nD Cert.ReferenceRkOutIdeal.τ).loc Cert.ReferenceRkOutIdeal.main_arg6)
      ∧ r.2.mem ((c.tc : Thread Cert.ReferenceRkOutIdeal.nD Cert.ReferenceRkOutIdeal.τ).loc Cert.ReferenceRkOutIdeal.main_arg7) = m ((c.tc : Thread Cert.ReferenceRkOutIdeal.nD Cert.ReferenceRkOutIdeal.τ).loc Cert.ReferenceRkOutIdeal.main_arg7))
      ∧ r.2.sem = fun _ => 0)

def quiescent_KernelRkIn [hKernelRkIn : Cert.KernelRkIn.Facts] : Prop :=
  ∀ (m : (ℓ : Loc Cert.KernelRkIn.nD Cert.KernelRkIn.τ Cert.KernelRkIn.sig) → Buf (Elt Bits) ℓ) (g : Dev Cert.KernelRkIn.nD → PrngReg), Pre_KernelRkIn m →
    θ_run (Cert.KernelRkIn.defs (F := Bits)) (onTc (τ := Cert.KernelRkIn.τ) (Cert.KernelRkIn.main (F := Bits))) ⟨m, fun _ => 0, g⟩ (fun r => (∀ c : Dev Cert.KernelRkIn.nD,
      r.2.mem ((c.tc : Thread Cert.KernelRkIn.nD Cert.KernelRkIn.τ).loc Cert.KernelRkIn.main_arg0) = m ((c.tc : Thread Cert.KernelRkIn.nD Cert.KernelRkIn.τ).loc Cert.KernelRkIn.main_arg0)
      ∧ r.2.mem ((c.tc : Thread Cert.KernelRkIn.nD Cert.KernelRkIn.τ).loc Cert.KernelRkIn.main_arg1) = m ((c.tc : Thread Cert.KernelRkIn.nD Cert.KernelRkIn.τ).loc Cert.KernelRkIn.main_arg1)
      ∧ r.2.mem ((c.tc : Thread Cert.KernelRkIn.nD Cert.KernelRkIn.τ).loc Cert.KernelRkIn.main_arg2) = m ((c.tc : Thread Cert.KernelRkIn.nD Cert.KernelRkIn.τ).loc Cert.KernelRkIn.main_arg2)
      ∧ r.2.mem ((c.tc : Thread Cert.KernelRkIn.nD Cert.KernelRkIn.τ).loc Cert.KernelRkIn.main_arg3) = m ((c.tc : Thread Cert.KernelRkIn.nD Cert.KernelRkIn.τ).loc Cert.KernelRkIn.main_arg3)
      ∧ r.2.mem ((c.tc : Thread Cert.KernelRkIn.nD Cert.KernelRkIn.τ).loc Cert.KernelRkIn.main_arg4) = m ((c.tc : Thread Cert.KernelRkIn.nD Cert.KernelRkIn.τ).loc Cert.KernelRkIn.main_arg4)
      ∧ r.2.mem ((c.tc : Thread Cert.KernelRkIn.nD Cert.KernelRkIn.τ).loc Cert.KernelRkIn.main_arg5) = m ((c.tc : Thread Cert.KernelRkIn.nD Cert.KernelRkIn.τ).loc Cert.KernelRkIn.main_arg5)
      ∧ r.2.mem ((c.tc : Thread Cert.KernelRkIn.nD Cert.KernelRkIn.τ).loc Cert.KernelRkIn.main_arg6) = m ((c.tc : Thread Cert.KernelRkIn.nD Cert.KernelRkIn.τ).loc Cert.KernelRkIn.main_arg6))
      ∧ r.2.sem = fun _ => 0)

def quiescent_KernelRkInIdeal [hKernelRkInIdeal : Cert.KernelRkInIdeal.Facts] : Prop :=
  ∀ (m : (ℓ : Loc Cert.KernelRkInIdeal.nD Cert.KernelRkInIdeal.τ Cert.KernelRkInIdeal.sig) → Buf (Elt Ideal) ℓ) (g : Dev Cert.KernelRkInIdeal.nD → PrngReg), Pre_KernelRkInIdeal m →
    θ_run (Cert.KernelRkInIdeal.defs (F := Ideal)) (onTc (τ := Cert.KernelRkInIdeal.τ) (Cert.KernelRkInIdeal.main (F := Ideal))) ⟨m, fun _ => 0, g⟩ (fun r => (∀ c : Dev Cert.KernelRkInIdeal.nD,
      r.2.mem ((c.tc : Thread Cert.KernelRkInIdeal.nD Cert.KernelRkInIdeal.τ).loc Cert.KernelRkInIdeal.main_arg0) = m ((c.tc : Thread Cert.KernelRkInIdeal.nD Cert.KernelRkInIdeal.τ).loc Cert.KernelRkInIdeal.main_arg0)
      ∧ r.2.mem ((c.tc : Thread Cert.KernelRkInIdeal.nD Cert.KernelRkInIdeal.τ).loc Cert.KernelRkInIdeal.main_arg1) = m ((c.tc : Thread Cert.KernelRkInIdeal.nD Cert.KernelRkInIdeal.τ).loc Cert.KernelRkInIdeal.main_arg1)
      ∧ r.2.mem ((c.tc : Thread Cert.KernelRkInIdeal.nD Cert.KernelRkInIdeal.τ).loc Cert.KernelRkInIdeal.main_arg2) = m ((c.tc : Thread Cert.KernelRkInIdeal.nD Cert.KernelRkInIdeal.τ).loc Cert.KernelRkInIdeal.main_arg2)
      ∧ r.2.mem ((c.tc : Thread Cert.KernelRkInIdeal.nD Cert.KernelRkInIdeal.τ).loc Cert.KernelRkInIdeal.main_arg3) = m ((c.tc : Thread Cert.KernelRkInIdeal.nD Cert.KernelRkInIdeal.τ).loc Cert.KernelRkInIdeal.main_arg3)
      ∧ r.2.mem ((c.tc : Thread Cert.KernelRkInIdeal.nD Cert.KernelRkInIdeal.τ).loc Cert.KernelRkInIdeal.main_arg4) = m ((c.tc : Thread Cert.KernelRkInIdeal.nD Cert.KernelRkInIdeal.τ).loc Cert.KernelRkInIdeal.main_arg4)
      ∧ r.2.mem ((c.tc : Thread Cert.KernelRkInIdeal.nD Cert.KernelRkInIdeal.τ).loc Cert.KernelRkInIdeal.main_arg5) = m ((c.tc : Thread Cert.KernelRkInIdeal.nD Cert.KernelRkInIdeal.τ).loc Cert.KernelRkInIdeal.main_arg5)
      ∧ r.2.mem ((c.tc : Thread Cert.KernelRkInIdeal.nD Cert.KernelRkInIdeal.τ).loc Cert.KernelRkInIdeal.main_arg6) = m ((c.tc : Thread Cert.KernelRkInIdeal.nD Cert.KernelRkInIdeal.τ).loc Cert.KernelRkInIdeal.main_arg6))
      ∧ r.2.sem = fun _ => 0)

def quiescent_ReferenceRkInIdeal [hReferenceRkInIdeal : Cert.ReferenceRkInIdeal.Facts] : Prop :=
  ∀ (m : (ℓ : Loc Cert.ReferenceRkInIdeal.nD Cert.ReferenceRkInIdeal.τ Cert.ReferenceRkInIdeal.sig) → Buf (Elt Ideal) ℓ) (g : Dev Cert.ReferenceRkInIdeal.nD → PrngReg), Pre_ReferenceRkInIdeal m →
    θ_run (Cert.ReferenceRkInIdeal.defs (F := Ideal)) (onTc (τ := Cert.ReferenceRkInIdeal.τ) (Cert.ReferenceRkInIdeal.main (F := Ideal))) ⟨m, fun _ => 0, g⟩ (fun r => (∀ c : Dev Cert.ReferenceRkInIdeal.nD,
      r.2.mem ((c.tc : Thread Cert.ReferenceRkInIdeal.nD Cert.ReferenceRkInIdeal.τ).loc Cert.ReferenceRkInIdeal.main_arg0) = m ((c.tc : Thread Cert.ReferenceRkInIdeal.nD Cert.ReferenceRkInIdeal.τ).loc Cert.ReferenceRkInIdeal.main_arg0)
      ∧ r.2.mem ((c.tc : Thread Cert.ReferenceRkInIdeal.nD Cert.ReferenceRkInIdeal.τ).loc Cert.ReferenceRkInIdeal.main_arg1) = m ((c.tc : Thread Cert.ReferenceRkInIdeal.nD Cert.ReferenceRkInIdeal.τ).loc Cert.ReferenceRkInIdeal.main_arg1)
      ∧ r.2.mem ((c.tc : Thread Cert.ReferenceRkInIdeal.nD Cert.ReferenceRkInIdeal.τ).loc Cert.ReferenceRkInIdeal.main_arg2) = m ((c.tc : Thread Cert.ReferenceRkInIdeal.nD Cert.ReferenceRkInIdeal.τ).loc Cert.ReferenceRkInIdeal.main_arg2)
      ∧ r.2.mem ((c.tc : Thread Cert.ReferenceRkInIdeal.nD Cert.ReferenceRkInIdeal.τ).loc Cert.ReferenceRkInIdeal.main_arg3) = m ((c.tc : Thread Cert.ReferenceRkInIdeal.nD Cert.ReferenceRkInIdeal.τ).loc Cert.ReferenceRkInIdeal.main_arg3)
      ∧ r.2.mem ((c.tc : Thread Cert.ReferenceRkInIdeal.nD Cert.ReferenceRkInIdeal.τ).loc Cert.ReferenceRkInIdeal.main_arg4) = m ((c.tc : Thread Cert.ReferenceRkInIdeal.nD Cert.ReferenceRkInIdeal.τ).loc Cert.ReferenceRkInIdeal.main_arg4)
      ∧ r.2.mem ((c.tc : Thread Cert.ReferenceRkInIdeal.nD Cert.ReferenceRkInIdeal.τ).loc Cert.ReferenceRkInIdeal.main_arg5) = m ((c.tc : Thread Cert.ReferenceRkInIdeal.nD Cert.ReferenceRkInIdeal.τ).loc Cert.ReferenceRkInIdeal.main_arg5)
      ∧ r.2.mem ((c.tc : Thread Cert.ReferenceRkInIdeal.nD Cert.ReferenceRkInIdeal.τ).loc Cert.ReferenceRkInIdeal.main_arg6) = m ((c.tc : Thread Cert.ReferenceRkInIdeal.nD Cert.ReferenceRkInIdeal.τ).loc Cert.ReferenceRkInIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v44_0)) (v1 : (c : Dev Cert.KernelInIdeal.nD) → Buf (Elt Ideal) ((c.tc : Thread Cert.KernelInIdeal.nD Cert.KernelInIdeal.τ).loc Cert.KernelInIdeal.main_v44_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v44_0) = v0 c
          ∧ r.2.mem ((c.tc : Thread Cert.KernelInIdeal.nD Cert.KernelInIdeal.τ).loc Cert.KernelInIdeal.main_v44_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v175) = v0 c
          ∧ r.2.mem ((c.tc : Thread Cert.ReferenceInIdeal.nD Cert.ReferenceInIdeal.τ).loc Cert.ReferenceInIdeal.main_v176) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)) →
    ∃ (v0 : (c : Dev Cert.KernelOutIdeal.nD) → Buf (Elt Ideal) ((c.tc : Thread Cert.KernelOutIdeal.nD Cert.KernelOutIdeal.τ).loc Cert.KernelOutIdeal.main_v9)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v9) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v78) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7))

def preserves_KernelMlOut_KernelMlOutIdeal : Prop :=
  True

def algebraic_KernelMlOutIdeal_ReferenceMlOutIdeal [hKernelMlOutIdeal : Cert.KernelMlOutIdeal.Facts] [hReferenceMlOutIdeal : Cert.ReferenceMlOutIdeal.Facts] : Prop :=
  ∀ (m : (ℓ : Loc Cert.KernelMlOutIdeal.nD Cert.KernelMlOutIdeal.τ Cert.KernelMlOutIdeal.sig) → Buf (Elt Ideal) ℓ) (g : Dev Cert.KernelMlOutIdeal.nD → PrngReg)
    (m' : (ℓ : Loc Cert.ReferenceMlOutIdeal.nD Cert.ReferenceMlOutIdeal.τ Cert.ReferenceMlOutIdeal.sig) → Buf (Elt Ideal) ℓ) (g' : Dev Cert.ReferenceMlOutIdeal.nD → PrngReg), Pre_KernelMlOutIdeal m →
    (∀ c : Dev Cert.KernelMlOutIdeal.nD,
      m' ((c.tc : Thread Cert.ReferenceMlOutIdeal.nD Cert.ReferenceMlOutIdeal.τ).loc Cert.ReferenceMlOutIdeal.main_arg0) = m ((c.tc : Thread Cert.KernelMlOutIdeal.nD Cert.KernelMlOutIdeal.τ).loc Cert.KernelMlOutIdeal.main_arg0)
      ∧ m' ((c.tc : Thread Cert.ReferenceMlOutIdeal.nD Cert.ReferenceMlOutIdeal.τ).loc Cert.ReferenceMlOutIdeal.main_arg1) = m ((c.tc : Thread Cert.KernelMlOutIdeal.nD Cert.KernelMlOutIdeal.τ).loc Cert.KernelMlOutIdeal.main_arg1)
      ∧ m' ((c.tc : Thread Cert.ReferenceMlOutIdeal.nD Cert.ReferenceMlOutIdeal.τ).loc Cert.ReferenceMlOutIdeal.main_arg2) = m ((c.tc : Thread Cert.KernelMlOutIdeal.nD Cert.KernelMlOutIdeal.τ).loc Cert.KernelMlOutIdeal.main_arg2)
      ∧ m' ((c.tc : Thread Cert.ReferenceMlOutIdeal.nD Cert.ReferenceMlOutIdeal.τ).loc Cert.ReferenceMlOutIdeal.main_arg3) = m ((c.tc : Thread Cert.KernelMlOutIdeal.nD Cert.KernelMlOutIdeal.τ).loc Cert.KernelMlOutIdeal.main_arg3)
      ∧ m' ((c.tc : Thread Cert.ReferenceMlOutIdeal.nD Cert.ReferenceMlOutIdeal.τ).loc Cert.ReferenceMlOutIdeal.main_arg4) = m ((c.tc : Thread Cert.KernelMlOutIdeal.nD Cert.KernelMlOutIdeal.τ).loc Cert.KernelMlOutIdeal.main_arg4)
      ∧ m' ((c.tc : Thread Cert.ReferenceMlOutIdeal.nD Cert.ReferenceMlOutIdeal.τ).loc Cert.ReferenceMlOutIdeal.main_arg5) = m ((c.tc : Thread Cert.KernelMlOutIdeal.nD Cert.KernelMlOutIdeal.τ).loc Cert.KernelMlOutIdeal.main_arg5)
      ∧ m' ((c.tc : Thread Cert.ReferenceMlOutIdeal.nD Cert.ReferenceMlOutIdeal.τ).loc Cert.ReferenceMlOutIdeal.main_arg6) = m ((c.tc : Thread Cert.KernelMlOutIdeal.nD Cert.KernelMlOutIdeal.τ).loc Cert.KernelMlOutIdeal.main_arg6)
      ∧ m' ((c.tc : Thread Cert.ReferenceMlOutIdeal.nD Cert.ReferenceMlOutIdeal.τ).loc Cert.ReferenceMlOutIdeal.main_arg7) = m ((c.tc : Thread Cert.KernelMlOutIdeal.nD Cert.KernelMlOutIdeal.τ).loc Cert.KernelMlOutIdeal.main_arg7)
      ∧ m' ((c.tc : Thread Cert.ReferenceMlOutIdeal.nD Cert.ReferenceMlOutIdeal.τ).loc Cert.ReferenceMlOutIdeal.main_arg8) = m ((c.tc : Thread Cert.KernelMlOutIdeal.nD Cert.KernelMlOutIdeal.τ).loc Cert.KernelMlOutIdeal.main_arg8)
      ∧ m' ((c.tc : Thread Cert.ReferenceMlOutIdeal.nD Cert.ReferenceMlOutIdeal.τ).loc Cert.ReferenceMlOutIdeal.main_arg9) = m ((c.tc : Thread Cert.KernelMlOutIdeal.nD Cert.KernelMlOutIdeal.τ).loc Cert.KernelMlOutIdeal.main_arg9)
      ∧ m' ((c.tc : Thread Cert.ReferenceMlOutIdeal.nD Cert.ReferenceMlOutIdeal.τ).loc Cert.ReferenceMlOutIdeal.main_arg10) = m ((c.tc : Thread Cert.KernelMlOutIdeal.nD Cert.KernelMlOutIdeal.τ).loc Cert.KernelMlOutIdeal.main_arg10)) →
    ∃ (v0 : (c : Dev Cert.KernelMlOutIdeal.nD) → Buf (Elt Ideal) ((c.tc : Thread Cert.KernelMlOutIdeal.nD Cert.KernelMlOutIdeal.τ).loc Cert.KernelMlOutIdeal.main_v11)),
      θ_run (Cert.KernelMlOutIdeal.defs (F := Ideal)) (onTc (τ := Cert.KernelMlOutIdeal.τ) (Cert.KernelMlOutIdeal.main (F := Ideal))) ⟨m, fun _ => 0, g⟩ (fun r => ∀ c : Dev Cert.KernelMlOutIdeal.nD,
          r.2.mem ((c.tc : Thread Cert.KernelMlOutIdeal.nD Cert.KernelMlOutIdeal.τ).loc Cert.KernelMlOutIdeal.main_v11) = v0 c
          ∧ r.2.mem ((c.tc : Thread Cert.KernelMlOutIdeal.nD Cert.KernelMlOutIdeal.τ).loc Cert.KernelMlOutIdeal.main_arg0) = m ((c.tc : Thread Cert.KernelMlOutIdeal.nD Cert.KernelMlOutIdeal.τ).loc Cert.KernelMlOutIdeal.main_arg0)
          ∧ r.2.mem ((c.tc : Thread Cert.KernelMlOutIdeal.nD Cert.KernelMlOutIdeal.τ).loc Cert.KernelMlOutIdeal.main_arg1) = m ((c.tc : Thread Cert.KernelMlOutIdeal.nD Cert.KernelMlOutIdeal.τ).loc Cert.KernelMlOutIdeal.main_arg1)
          ∧ r.2.mem ((c.tc : Thread Cert.KernelMlOutIdeal.nD Cert.KernelMlOutIdeal.τ).loc Cert.KernelMlOutIdeal.main_arg2) = m ((c.tc : Thread Cert.KernelMlOutIdeal.nD Cert.KernelMlOutIdeal.τ).loc Cert.KernelMlOutIdeal.main_arg2)
          ∧ r.2.mem ((c.tc : Thread Cert.KernelMlOutIdeal.nD Cert.KernelMlOutIdeal.τ).loc Cert.KernelMlOutIdeal.main_arg3) = m ((c.tc : Thread Cert.KernelMlOutIdeal.nD Cert.KernelMlOutIdeal.τ).loc Cert.KernelMlOutIdeal.main_arg3)
          ∧ r.2.mem ((c.tc : Thread Cert.KernelMlOutIdeal.nD Cert.KernelMlOutIdeal.τ).loc Cert.KernelMlOutIdeal.main_arg4) = m ((c.tc : Thread Cert.KernelMlOutIdeal.nD Cert.KernelMlOutIdeal.τ).loc Cert.KernelMlOutIdeal.main_arg4)
          ∧ r.2.mem ((c.tc : Thread Cert.KernelMlOutIdeal.nD Cert.KernelMlOutIdeal.τ).loc Cert.KernelMlOutIdeal.main_arg5) = m ((c.tc : Thread Cert.KernelMlOutIdeal.nD Cert.KernelMlOutIdeal.τ).loc Cert.KernelMlOutIdeal.main_arg5)
          ∧ r.2.mem ((c.tc : Thread Cert.KernelMlOutIdeal.nD Cert.KernelMlOutIdeal.τ).loc Cert.KernelMlOutIdeal.main_arg6) = m ((c.tc : Thread Cert.KernelMlOutIdeal.nD Cert.KernelMlOutIdeal.τ).loc Cert.KernelMlOutIdeal.main_arg6)
          ∧ r.2.mem ((c.tc : Thread Cert.KernelMlOutIdeal.nD Cert.KernelMlOutIdeal.τ).loc Cert.KernelMlOutIdeal.main_arg7) = m ((c.tc : Thread Cert.KernelMlOutIdeal.nD Cert.KernelMlOutIdeal.τ).loc Cert.KernelMlOutIdeal.main_arg7)
          ∧ r.2.mem ((c.tc : Thread Cert.KernelMlOutIdeal.nD Cert.KernelMlOutIdeal.τ).loc Cert.KernelMlOutIdeal.main_arg8) = m ((c.tc : Thread Cert.KernelMlOutIdeal.nD Cert.KernelMlOutIdeal.τ).loc Cert.KernelMlOutIdeal.main_arg8)
          ∧ r.2.mem ((c.tc : Thread Cert.KernelMlOutIdeal.nD Cert.KernelMlOutIdeal.τ).loc Cert.KernelMlOutIdeal.main_arg9) = m ((c.tc : Thread Cert.KernelMlOutIdeal.nD Cert.KernelMlOutIdeal.τ).loc Cert.KernelMlOutIdeal.main_arg9)
          ∧ r.2.mem ((c.tc : Thread Cert.KernelMlOutIdeal.nD Cert.KernelMlOutIdeal.τ).loc Cert.KernelMlOutIdeal.main_arg10) = m ((c.tc : Thread Cert.KernelMlOutIdeal.nD Cert.KernelMlOutIdeal.τ).loc Cert.KernelMlOutIdeal.main_arg10))
      ∧ θ_run (Cert.ReferenceMlOutIdeal.defs (F := Ideal)) (onTc (τ := Cert.ReferenceMlOutIdeal.τ) (Cert.ReferenceMlOutIdeal.main (F := Ideal))) ⟨m', fun _ => 0, g'⟩ (fun r => ∀ c : Dev Cert.ReferenceMlOutIdeal.nD,
          r.2.mem ((c.tc : Thread Cert.ReferenceMlOutIdeal.nD Cert.ReferenceMlOutIdeal.τ).loc Cert.ReferenceMlOutIdeal.main_v94) = v0 c
          ∧ r.2.mem ((c.tc : Thread Cert.ReferenceMlOutIdeal.nD Cert.ReferenceMlOutIdeal.τ).loc Cert.ReferenceMlOutIdeal.main_arg0) = m' ((c.tc : Thread Cert.ReferenceMlOutIdeal.nD Cert.ReferenceMlOutIdeal.τ).loc Cert.ReferenceMlOutIdeal.main_arg0)
          ∧ r.2.mem ((c.tc : Thread Cert.ReferenceMlOutIdeal.nD Cert.ReferenceMlOutIdeal.τ).loc Cert.ReferenceMlOutIdeal.main_arg1) = m' ((c.tc : Thread Cert.ReferenceMlOutIdeal.nD Cert.ReferenceMlOutIdeal.τ).loc Cert.ReferenceMlOutIdeal.main_arg1)
          ∧ r.2.mem ((c.tc : Thread Cert.ReferenceMlOutIdeal.nD Cert.ReferenceMlOutIdeal.τ).loc Cert.ReferenceMlOutIdeal.main_arg2) = m' ((c.tc : Thread Cert.ReferenceMlOutIdeal.nD Cert.ReferenceMlOutIdeal.τ).loc Cert.ReferenceMlOutIdeal.main_arg2)
          ∧ r.2.mem ((c.tc : Thread Cert.ReferenceMlOutIdeal.nD Cert.ReferenceMlOutIdeal.τ).loc Cert.ReferenceMlOutIdeal.main_arg3) = m' ((c.tc : Thread Cert.ReferenceMlOutIdeal.nD Cert.ReferenceMlOutIdeal.τ).loc Cert.ReferenceMlOutIdeal.main_arg3)
          ∧ r.2.mem ((c.tc : Thread Cert.ReferenceMlOutIdeal.nD Cert.ReferenceMlOutIdeal.τ).loc Cert.ReferenceMlOutIdeal.main_arg4) = m' ((c.tc : Thread Cert.ReferenceMlOutIdeal.nD Cert.ReferenceMlOutIdeal.τ).loc Cert.ReferenceMlOutIdeal.main_arg4)
          ∧ r.2.mem ((c.tc : Thread Cert.ReferenceMlOutIdeal.nD Cert.ReferenceMlOutIdeal.τ).loc Cert.ReferenceMlOutIdeal.main_arg5) = m' ((c.tc : Thread Cert.ReferenceMlOutIdeal.nD Cert.ReferenceMlOutIdeal.τ).loc Cert.ReferenceMlOutIdeal.main_arg5)
          ∧ r.2.mem ((c.tc : Thread Cert.ReferenceMlOutIdeal.nD Cert.ReferenceMlOutIdeal.τ).loc Cert.ReferenceMlOutIdeal.main_arg6) = m' ((c.tc : Thread Cert.ReferenceMlOutIdeal.nD Cert.ReferenceMlOutIdeal.τ).loc Cert.ReferenceMlOutIdeal.main_arg6)
          ∧ r.2.mem ((c.tc : Thread Cert.ReferenceMlOutIdeal.nD Cert.ReferenceMlOutIdeal.τ).loc Cert.ReferenceMlOutIdeal.main_arg7) = m' ((c.tc : Thread Cert.ReferenceMlOutIdeal.nD Cert.ReferenceMlOutIdeal.τ).loc Cert.ReferenceMlOutIdeal.main_arg7)
          ∧ r.2.mem ((c.tc : Thread Cert.ReferenceMlOutIdeal.nD Cert.ReferenceMlOutIdeal.τ).loc Cert.ReferenceMlOutIdeal.main_arg8) = m' ((c.tc : Thread Cert.ReferenceMlOutIdeal.nD Cert.ReferenceMlOutIdeal.τ).loc Cert.ReferenceMlOutIdeal.main_arg8)
          ∧ r.2.mem ((c.tc : Thread Cert.ReferenceMlOutIdeal.nD Cert.ReferenceMlOutIdeal.τ).loc Cert.ReferenceMlOutIdeal.main_arg9) = m' ((c.tc : Thread Cert.ReferenceMlOutIdeal.nD Cert.ReferenceMlOutIdeal.τ).loc Cert.ReferenceMlOutIdeal.main_arg9)
          ∧ r.2.mem ((c.tc : Thread Cert.ReferenceMlOutIdeal.nD Cert.ReferenceMlOutIdeal.τ).loc Cert.ReferenceMlOutIdeal.main_arg10) = m' ((c.tc : Thread Cert.ReferenceMlOutIdeal.nD Cert.ReferenceMlOutIdeal.τ).loc Cert.ReferenceMlOutIdeal.main_arg10))

def preserves_KernelRkOut_KernelRkOutIdeal : Prop :=
  True

def algebraic_KernelRkOutIdeal_ReferenceRkOutIdeal [hKernelRkOutIdeal : Cert.KernelRkOutIdeal.Facts] [hReferenceRkOutIdeal : Cert.ReferenceRkOutIdeal.Facts] : Prop :=
  ∀ (m : (ℓ : Loc Cert.KernelRkOutIdeal.nD Cert.KernelRkOutIdeal.τ Cert.KernelRkOutIdeal.sig) → Buf (Elt Ideal) ℓ) (g : Dev Cert.KernelRkOutIdeal.nD → PrngReg)
    (m' : (ℓ : Loc Cert.ReferenceRkOutIdeal.nD Cert.ReferenceRkOutIdeal.τ Cert.ReferenceRkOutIdeal.sig) → Buf (Elt Ideal) ℓ) (g' : Dev Cert.ReferenceRkOutIdeal.nD → PrngReg), Pre_KernelRkOutIdeal m →
    (∀ c : Dev Cert.KernelRkOutIdeal.nD,
      m' ((c.tc : Thread Cert.ReferenceRkOutIdeal.nD Cert.ReferenceRkOutIdeal.τ).loc Cert.ReferenceRkOutIdeal.main_arg0) = m ((c.tc : Thread Cert.KernelRkOutIdeal.nD Cert.KernelRkOutIdeal.τ).loc Cert.KernelRkOutIdeal.main_arg0)
      ∧ m' ((c.tc : Thread Cert.ReferenceRkOutIdeal.nD Cert.ReferenceRkOutIdeal.τ).loc Cert.ReferenceRkOutIdeal.main_arg1) = m ((c.tc : Thread Cert.KernelRkOutIdeal.nD Cert.KernelRkOutIdeal.τ).loc Cert.KernelRkOutIdeal.main_arg1)
      ∧ m' ((c.tc : Thread Cert.ReferenceRkOutIdeal.nD Cert.ReferenceRkOutIdeal.τ).loc Cert.ReferenceRkOutIdeal.main_arg2) = m ((c.tc : Thread Cert.KernelRkOutIdeal.nD Cert.KernelRkOutIdeal.τ).loc Cert.KernelRkOutIdeal.main_arg2)
      ∧ m' ((c.tc : Thread Cert.ReferenceRkOutIdeal.nD Cert.ReferenceRkOutIdeal.τ).loc Cert.ReferenceRkOutIdeal.main_arg3) = m ((c.tc : Thread Cert.KernelRkOutIdeal.nD Cert.KernelRkOutIdeal.τ).loc Cert.KernelRkOutIdeal.main_arg3)
      ∧ m' ((c.tc : Thread Cert.ReferenceRkOutIdeal.nD Cert.ReferenceRkOutIdeal.τ).loc Cert.ReferenceRkOutIdeal.main_arg4) = m ((c.tc : Thread Cert.KernelRkOutIdeal.nD Cert.KernelRkOutIdeal.τ).loc Cert.KernelRkOutIdeal.main_arg4)
      ∧ m' ((c.tc : Thread Cert.ReferenceRkOutIdeal.nD Cert.ReferenceRkOutIdeal.τ).loc Cert.ReferenceRkOutIdeal.main_arg5) = m ((c.tc : Thread Cert.KernelRkOutIdeal.nD Cert.KernelRkOutIdeal.τ).loc Cert.KernelRkOutIdeal.main_arg5)
      ∧ m' ((c.tc : Thread Cert.ReferenceRkOutIdeal.nD Cert.ReferenceRkOutIdeal.τ).loc Cert.ReferenceRkOutIdeal.main_arg6) = m ((c.tc : Thread Cert.KernelRkOutIdeal.nD Cert.KernelRkOutIdeal.τ).loc Cert.KernelRkOutIdeal.main_arg6)
      ∧ m' ((c.tc : Thread Cert.ReferenceRkOutIdeal.nD Cert.ReferenceRkOutIdeal.τ).loc Cert.ReferenceRkOutIdeal.main_arg7) = m ((c.tc : Thread Cert.KernelRkOutIdeal.nD Cert.KernelRkOutIdeal.τ).loc Cert.KernelRkOutIdeal.main_arg7)) →
    ∃ (v0 : (c : Dev Cert.KernelRkOutIdeal.nD) → Buf (Elt Ideal) ((c.tc : Thread Cert.KernelRkOutIdeal.nD Cert.KernelRkOutIdeal.τ).loc Cert.KernelRkOutIdeal.main_v9)),
      θ_run (Cert.KernelRkOutIdeal.defs (F := Ideal)) (onTc (τ := Cert.KernelRkOutIdeal.τ) (Cert.KernelRkOutIdeal.main (F := Ideal))) ⟨m, fun _ => 0, g⟩ (fun r => ∀ c : Dev Cert.KernelRkOutIdeal.nD,
          r.2.mem ((c.tc : Thread Cert.KernelRkOutIdeal.nD Cert.KernelRkOutIdeal.τ).loc Cert.KernelRkOutIdeal.main_v9) = v0 c
          ∧ r.2.mem ((c.tc : Thread Cert.KernelRkOutIdeal.nD Cert.KernelRkOutIdeal.τ).loc Cert.KernelRkOutIdeal.main_arg0) = m ((c.tc : Thread Cert.KernelRkOutIdeal.nD Cert.KernelRkOutIdeal.τ).loc Cert.KernelRkOutIdeal.main_arg0)
          ∧ r.2.mem ((c.tc : Thread Cert.KernelRkOutIdeal.nD Cert.KernelRkOutIdeal.τ).loc Cert.KernelRkOutIdeal.main_arg1) = m ((c.tc : Thread Cert.KernelRkOutIdeal.nD Cert.KernelRkOutIdeal.τ).loc Cert.KernelRkOutIdeal.main_arg1)
          ∧ r.2.mem ((c.tc : Thread Cert.KernelRkOutIdeal.nD Cert.KernelRkOutIdeal.τ).loc Cert.KernelRkOutIdeal.main_arg2) = m ((c.tc : Thread Cert.KernelRkOutIdeal.nD Cert.KernelRkOutIdeal.τ).loc Cert.KernelRkOutIdeal.main_arg2)
          ∧ r.2.mem ((c.tc : Thread Cert.KernelRkOutIdeal.nD Cert.KernelRkOutIdeal.τ).loc Cert.KernelRkOutIdeal.main_arg3) = m ((c.tc : Thread Cert.KernelRkOutIdeal.nD Cert.KernelRkOutIdeal.τ).loc Cert.KernelRkOutIdeal.main_arg3)
          ∧ r.2.mem ((c.tc : Thread Cert.KernelRkOutIdeal.nD Cert.KernelRkOutIdeal.τ).loc Cert.KernelRkOutIdeal.main_arg4) = m ((c.tc : Thread Cert.KernelRkOutIdeal.nD Cert.KernelRkOutIdeal.τ).loc Cert.KernelRkOutIdeal.main_arg4)
          ∧ r.2.mem ((c.tc : Thread Cert.KernelRkOutIdeal.nD Cert.KernelRkOutIdeal.τ).loc Cert.KernelRkOutIdeal.main_arg5) = m ((c.tc : Thread Cert.KernelRkOutIdeal.nD Cert.KernelRkOutIdeal.τ).loc Cert.KernelRkOutIdeal.main_arg5)
          ∧ r.2.mem ((c.tc : Thread Cert.KernelRkOutIdeal.nD Cert.KernelRkOutIdeal.τ).loc Cert.KernelRkOutIdeal.main_arg6) = m ((c.tc : Thread Cert.KernelRkOutIdeal.nD Cert.KernelRkOutIdeal.τ).loc Cert.KernelRkOutIdeal.main_arg6)
          ∧ r.2.mem ((c.tc : Thread Cert.KernelRkOutIdeal.nD Cert.KernelRkOutIdeal.τ).loc Cert.KernelRkOutIdeal.main_arg7) = m ((c.tc : Thread Cert.KernelRkOutIdeal.nD Cert.KernelRkOutIdeal.τ).loc Cert.KernelRkOutIdeal.main_arg7))
      ∧ θ_run (Cert.ReferenceRkOutIdeal.defs (F := Ideal)) (onTc (τ := Cert.ReferenceRkOutIdeal.τ) (Cert.ReferenceRkOutIdeal.main (F := Ideal))) ⟨m', fun _ => 0, g'⟩ (fun r => ∀ c : Dev Cert.ReferenceRkOutIdeal.nD,
          r.2.mem ((c.tc : Thread Cert.ReferenceRkOutIdeal.nD Cert.ReferenceRkOutIdeal.τ).loc Cert.ReferenceRkOutIdeal.main_v78) = v0 c
          ∧ r.2.mem ((c.tc : Thread Cert.ReferenceRkOutIdeal.nD Cert.ReferenceRkOutIdeal.τ).loc Cert.ReferenceRkOutIdeal.main_arg0) = m' ((c.tc : Thread Cert.ReferenceRkOutIdeal.nD Cert.ReferenceRkOutIdeal.τ).loc Cert.ReferenceRkOutIdeal.main_arg0)
          ∧ r.2.mem ((c.tc : Thread Cert.ReferenceRkOutIdeal.nD Cert.ReferenceRkOutIdeal.τ).loc Cert.ReferenceRkOutIdeal.main_arg1) = m' ((c.tc : Thread Cert.ReferenceRkOutIdeal.nD Cert.ReferenceRkOutIdeal.τ).loc Cert.ReferenceRkOutIdeal.main_arg1)
          ∧ r.2.mem ((c.tc : Thread Cert.ReferenceRkOutIdeal.nD Cert.ReferenceRkOutIdeal.τ).loc Cert.ReferenceRkOutIdeal.main_arg2) = m' ((c.tc : Thread Cert.ReferenceRkOutIdeal.nD Cert.ReferenceRkOutIdeal.τ).loc Cert.ReferenceRkOutIdeal.main_arg2)
          ∧ r.2.mem ((c.tc : Thread Cert.ReferenceRkOutIdeal.nD Cert.ReferenceRkOutIdeal.τ).loc Cert.ReferenceRkOutIdeal.main_arg3) = m' ((c.tc : Thread Cert.ReferenceRkOutIdeal.nD Cert.ReferenceRkOutIdeal.τ).loc Cert.ReferenceRkOutIdeal.main_arg3)
          ∧ r.2.mem ((c.tc : Thread Cert.ReferenceRkOutIdeal.nD Cert.ReferenceRkOutIdeal.τ).loc Cert.ReferenceRkOutIdeal.main_arg4) = m' ((c.tc : Thread Cert.ReferenceRkOutIdeal.nD Cert.ReferenceRkOutIdeal.τ).loc Cert.ReferenceRkOutIdeal.main_arg4)
          ∧ r.2.mem ((c.tc : Thread Cert.ReferenceRkOutIdeal.nD Cert.ReferenceRkOutIdeal.τ).loc Cert.ReferenceRkOutIdeal.main_arg5) = m' ((c.tc : Thread Cert.ReferenceRkOutIdeal.nD Cert.ReferenceRkOutIdeal.τ).loc Cert.ReferenceRkOutIdeal.main_arg5)
          ∧ r.2.mem ((c.tc : Thread Cert.ReferenceRkOutIdeal.nD Cert.ReferenceRkOutIdeal.τ).loc Cert.ReferenceRkOutIdeal.main_arg6) = m' ((c.tc : Thread Cert.ReferenceRkOutIdeal.nD Cert.ReferenceRkOutIdeal.τ).loc Cert.ReferenceRkOutIdeal.main_arg6)
          ∧ r.2.mem ((c.tc : Thread Cert.ReferenceRkOutIdeal.nD Cert.ReferenceRkOutIdeal.τ).loc Cert.ReferenceRkOutIdeal.main_arg7) = m' ((c.tc : Thread Cert.ReferenceRkOutIdeal.nD Cert.ReferenceRkOutIdeal.τ).loc Cert.ReferenceRkOutIdeal.main_arg7))

def preserves_KernelRkIn_KernelRkInIdeal : Prop :=
  True

def algebraic_KernelRkInIdeal_ReferenceRkInIdeal [hKernelRkInIdeal : Cert.KernelRkInIdeal.Facts] [hReferenceRkInIdeal : Cert.ReferenceRkInIdeal.Facts] : Prop :=
  ∀ (m : (ℓ : Loc Cert.KernelRkInIdeal.nD Cert.KernelRkInIdeal.τ Cert.KernelRkInIdeal.sig) → Buf (Elt Ideal) ℓ) (g : Dev Cert.KernelRkInIdeal.nD → PrngReg)
    (m' : (ℓ : Loc Cert.ReferenceRkInIdeal.nD Cert.ReferenceRkInIdeal.τ Cert.ReferenceRkInIdeal.sig) → Buf (Elt Ideal) ℓ) (g' : Dev Cert.ReferenceRkInIdeal.nD → PrngReg), Pre_KernelRkInIdeal m →
    (∀ c : Dev Cert.KernelRkInIdeal.nD,
      m' ((c.tc : Thread Cert.ReferenceRkInIdeal.nD Cert.ReferenceRkInIdeal.τ).loc Cert.ReferenceRkInIdeal.main_arg0) = m ((c.tc : Thread Cert.KernelRkInIdeal.nD Cert.KernelRkInIdeal.τ).loc Cert.KernelRkInIdeal.main_arg0)
      ∧ m' ((c.tc : Thread Cert.ReferenceRkInIdeal.nD Cert.ReferenceRkInIdeal.τ).loc Cert.ReferenceRkInIdeal.main_arg1) = m ((c.tc : Thread Cert.KernelRkInIdeal.nD Cert.KernelRkInIdeal.τ).loc Cert.KernelRkInIdeal.main_arg1)
      ∧ m' ((c.tc : Thread Cert.ReferenceRkInIdeal.nD Cert.ReferenceRkInIdeal.τ).loc Cert.ReferenceRkInIdeal.main_arg2) = m ((c.tc : Thread Cert.KernelRkInIdeal.nD Cert.KernelRkInIdeal.τ).loc Cert.KernelRkInIdeal.main_arg2)
      ∧ m' ((c.tc : Thread Cert.ReferenceRkInIdeal.nD Cert.ReferenceRkInIdeal.τ).loc Cert.ReferenceRkInIdeal.main_arg3) = m ((c.tc : Thread Cert.KernelRkInIdeal.nD Cert.KernelRkInIdeal.τ).loc Cert.KernelRkInIdeal.main_arg3)
      ∧ m' ((c.tc : Thread Cert.ReferenceRkInIdeal.nD Cert.ReferenceRkInIdeal.τ).loc Cert.ReferenceRkInIdeal.main_arg4) = m ((c.tc : Thread Cert.KernelRkInIdeal.nD Cert.KernelRkInIdeal.τ).loc Cert.KernelRkInIdeal.main_arg4)
      ∧ m' ((c.tc : Thread Cert.ReferenceRkInIdeal.nD Cert.ReferenceRkInIdeal.τ).loc Cert.ReferenceRkInIdeal.main_arg5) = m ((c.tc : Thread Cert.KernelRkInIdeal.nD Cert.KernelRkInIdeal.τ).loc Cert.KernelRkInIdeal.main_arg5)
      ∧ m' ((c.tc : Thread Cert.ReferenceRkInIdeal.nD Cert.ReferenceRkInIdeal.τ).loc Cert.ReferenceRkInIdeal.main_arg6) = m ((c.tc : Thread Cert.KernelRkInIdeal.nD Cert.KernelRkInIdeal.τ).loc Cert.KernelRkInIdeal.main_arg6)) →
    ∃ (v0 : (c : Dev Cert.KernelRkInIdeal.nD) → Buf (Elt Ideal) ((c.tc : Thread Cert.KernelRkInIdeal.nD Cert.KernelRkInIdeal.τ).loc Cert.KernelRkInIdeal.main_v19_0)) (v1 : (c : Dev Cert.KernelRkInIdeal.nD) → Buf (Elt Ideal) ((c.tc : Thread Cert.KernelRkInIdeal.nD Cert.KernelRkInIdeal.τ).loc Cert.KernelRkInIdeal.main_v19_1)) (v2 : (c : Dev Cert.KernelRkInIdeal.nD) → Buf (Elt Ideal) ((c.tc : Thread Cert.KernelRkInIdeal.nD Cert.KernelRkInIdeal.τ).loc Cert.KernelRkInIdeal.main_v19_2)) (v3 : (c : Dev Cert.KernelRkInIdeal.nD) → Buf (Elt Ideal) ((c.tc : Thread Cert.KernelRkInIdeal.nD Cert.KernelRkInIdeal.τ).loc Cert.KernelRkInIdeal.main_v19_3)) (v4 : (c : Dev Cert.KernelRkInIdeal.nD) → Buf (Elt Ideal) ((c.tc : Thread Cert.KernelRkInIdeal.nD Cert.KernelRkInIdeal.τ).loc Cert.KernelRkInIdeal.main_v19_4)) (v5 : (c : Dev Cert.KernelRkInIdeal.nD) → Buf (Elt Ideal) ((c.tc : Thread Cert.KernelRkInIdeal.nD Cert.KernelRkInIdeal.τ).loc Cert.KernelRkInIdeal.main_v19_5)),
      θ_run (Cert.KernelRkInIdeal.defs (F := Ideal)) (onTc (τ := Cert.KernelRkInIdeal.τ) (Cert.KernelRkInIdeal.main (F := Ideal))) ⟨m, fun _ => 0, g⟩ (fun r => ∀ c : Dev Cert.KernelRkInIdeal.nD,
          r.2.mem ((c.tc : Thread Cert.KernelRkInIdeal.nD Cert.KernelRkInIdeal.τ).loc Cert.KernelRkInIdeal.main_v19_0) = v0 c
          ∧ r.2.mem ((c.tc : Thread Cert.KernelRkInIdeal.nD Cert.KernelRkInIdeal.τ).loc Cert.KernelRkInIdeal.main_v19_1) = v1 c
          ∧ r.2.mem ((c.tc : Thread Cert.KernelRkInIdeal.nD Cert.KernelRkInIdeal.τ).loc Cert.KernelRkInIdeal.main_v19_2) = v2 c
          ∧ r.2.mem ((c.tc : Thread Cert.KernelRkInIdeal.nD Cert.KernelRkInIdeal.τ).loc Cert.KernelRkInIdeal.main_v19_3) = v3 c
          ∧ r.2.mem ((c.tc : Thread Cert.KernelRkInIdeal.nD Cert.KernelRkInIdeal.τ).loc Cert.KernelRkInIdeal.main_v19_4) = v4 c
          ∧ r.2.mem ((c.tc : Thread Cert.KernelRkInIdeal.nD Cert.KernelRkInIdeal.τ).loc Cert.KernelRkInIdeal.main_v19_5) = v5 c
          ∧ r.2.mem ((c.tc : Thread Cert.KernelRkInIdeal.nD Cert.KernelRkInIdeal.τ).loc Cert.KernelRkInIdeal.main_arg0) = m ((c.tc : Thread Cert.KernelRkInIdeal.nD Cert.KernelRkInIdeal.τ).loc Cert.KernelRkInIdeal.main_arg0)
          ∧ r.2.mem ((c.tc : Thread Cert.KernelRkInIdeal.nD Cert.KernelRkInIdeal.τ).loc Cert.KernelRkInIdeal.main_arg1) = m ((c.tc : Thread Cert.KernelRkInIdeal.nD Cert.KernelRkInIdeal.τ).loc Cert.KernelRkInIdeal.main_arg1)
          ∧ r.2.mem ((c.tc : Thread Cert.KernelRkInIdeal.nD Cert.KernelRkInIdeal.τ).loc Cert.KernelRkInIdeal.main_arg2) = m ((c.tc : Thread Cert.KernelRkInIdeal.nD Cert.KernelRkInIdeal.τ).loc Cert.KernelRkInIdeal.main_arg2)
          ∧ r.2.mem ((c.tc : Thread Cert.KernelRkInIdeal.nD Cert.KernelRkInIdeal.τ).loc Cert.KernelRkInIdeal.main_arg3) = m ((c.tc : Thread Cert.KernelRkInIdeal.nD Cert.KernelRkInIdeal.τ).loc Cert.KernelRkInIdeal.main_arg3)
          ∧ r.2.mem ((c.tc : Thread Cert.KernelRkInIdeal.nD Cert.KernelRkInIdeal.τ).loc Cert.KernelRkInIdeal.main_arg4) = m ((c.tc : Thread Cert.KernelRkInIdeal.nD Cert.KernelRkInIdeal.τ).loc Cert.KernelRkInIdeal.main_arg4)
          ∧ r.2.mem ((c.tc : Thread Cert.KernelRkInIdeal.nD Cert.KernelRkInIdeal.τ).loc Cert.KernelRkInIdeal.main_arg5) = m ((c.tc : Thread Cert.KernelRkInIdeal.nD Cert.KernelRkInIdeal.τ).loc Cert.KernelRkInIdeal.main_arg5)
          ∧ r.2.mem ((c.tc : Thread Cert.KernelRkInIdeal.nD Cert.KernelRkInIdeal.τ).loc Cert.KernelRkInIdeal.main_arg6) = m ((c.tc : Thread Cert.KernelRkInIdeal.nD Cert.KernelRkInIdeal.τ).loc Cert.KernelRkInIdeal.main_arg6))
      ∧ θ_run (Cert.ReferenceRkInIdeal.defs (F := Ideal)) (onTc (τ := Cert.ReferenceRkInIdeal.τ) (Cert.ReferenceRkInIdeal.main (F := Ideal))) ⟨m', fun _ => 0, g'⟩ (fun r => ∀ c : Dev Cert.ReferenceRkInIdeal.nD,
          r.2.mem ((c.tc : Thread Cert.ReferenceRkInIdeal.nD Cert.ReferenceRkInIdeal.τ).loc Cert.ReferenceRkInIdeal.main_v169) = v0 c
          ∧ r.2.mem ((c.tc : Thread Cert.ReferenceRkInIdeal.nD Cert.ReferenceRkInIdeal.τ).loc Cert.ReferenceRkInIdeal.main_v170) = v1 c
          ∧ r.2.mem ((c.tc : Thread Cert.ReferenceRkInIdeal.nD Cert.ReferenceRkInIdeal.τ).loc Cert.ReferenceRkInIdeal.main_v171) = v2 c
          ∧ r.2.mem ((c.tc : Thread Cert.ReferenceRkInIdeal.nD Cert.ReferenceRkInIdeal.τ).loc Cert.ReferenceRkInIdeal.main_v172) = v3 c
          ∧ r.2.mem ((c.tc : Thread Cert.ReferenceRkInIdeal.nD Cert.ReferenceRkInIdeal.τ).loc Cert.ReferenceRkInIdeal.main_v173) = v4 c
          ∧ r.2.mem ((c.tc : Thread Cert.ReferenceRkInIdeal.nD Cert.ReferenceRkInIdeal.τ).loc Cert.ReferenceRkInIdeal.main_v174) = v5 c
          ∧ r.2.mem ((c.tc : Thread Cert.ReferenceRkInIdeal.nD Cert.ReferenceRkInIdeal.τ).loc Cert.ReferenceRkInIdeal.main_arg0) = m' ((c.tc : Thread Cert.ReferenceRkInIdeal.nD Cert.ReferenceRkInIdeal.τ).loc Cert.ReferenceRkInIdeal.main_arg0)
          ∧ r.2.mem ((c.tc : Thread Cert.ReferenceRkInIdeal.nD Cert.ReferenceRkInIdeal.τ).loc Cert.ReferenceRkInIdeal.main_arg1) = m' ((c.tc : Thread Cert.ReferenceRkInIdeal.nD Cert.ReferenceRkInIdeal.τ).loc Cert.ReferenceRkInIdeal.main_arg1)
          ∧ r.2.mem ((c.tc : Thread Cert.ReferenceRkInIdeal.nD Cert.ReferenceRkInIdeal.τ).loc Cert.ReferenceRkInIdeal.main_arg2) = m' ((c.tc : Thread Cert.ReferenceRkInIdeal.nD Cert.ReferenceRkInIdeal.τ).loc Cert.ReferenceRkInIdeal.main_arg2)
          ∧ r.2.mem ((c.tc : Thread Cert.ReferenceRkInIdeal.nD Cert.ReferenceRkInIdeal.τ).loc Cert.ReferenceRkInIdeal.main_arg3) = m' ((c.tc : Thread Cert.ReferenceRkInIdeal.nD Cert.ReferenceRkInIdeal.τ).loc Cert.ReferenceRkInIdeal.main_arg3)
          ∧ r.2.mem ((c.tc : Thread Cert.ReferenceRkInIdeal.nD Cert.ReferenceRkInIdeal.τ).loc Cert.ReferenceRkInIdeal.main_arg4) = m' ((c.tc : Thread Cert.ReferenceRkInIdeal.nD Cert.ReferenceRkInIdeal.τ).loc Cert.ReferenceRkInIdeal.main_arg4)
          ∧ r.2.mem ((c.tc : Thread Cert.ReferenceRkInIdeal.nD Cert.ReferenceRkInIdeal.τ).loc Cert.ReferenceRkInIdeal.main_arg5) = m' ((c.tc : Thread Cert.ReferenceRkInIdeal.nD Cert.ReferenceRkInIdeal.τ).loc Cert.ReferenceRkInIdeal.main_arg5)
          ∧ r.2.mem ((c.tc : Thread Cert.ReferenceRkInIdeal.nD Cert.ReferenceRkInIdeal.τ).loc Cert.ReferenceRkInIdeal.main_arg6) = m' ((c.tc : Thread Cert.ReferenceRkInIdeal.nD Cert.ReferenceRkInIdeal.τ).loc Cert.ReferenceRkInIdeal.main_arg6))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelMlOut : Cert.KernelMlOut.Facts) (hKernelMlOutIdeal : Cert.KernelMlOutIdeal.Facts) (hReferenceMlOutIdeal : Cert.ReferenceMlOutIdeal.Facts) (hKernelRkOut : Cert.KernelRkOut.Facts) (hKernelRkOutIdeal : Cert.KernelRkOutIdeal.Facts) (hReferenceRkOutIdeal : Cert.ReferenceRkOutIdeal.Facts) (hKernelRkIn : Cert.KernelRkIn.Facts) (hKernelRkInIdeal : Cert.KernelRkInIdeal.Facts) (hReferenceRkInIdeal : Cert.ReferenceRkInIdeal.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMlOut (hKernelMlOut := hKernelMlOut)
    ∧ quiescent_KernelMlOutIdeal (hKernelMlOutIdeal := hKernelMlOutIdeal)
    ∧ quiescent_ReferenceMlOutIdeal (hReferenceMlOutIdeal := hReferenceMlOutIdeal)
    ∧ quiescent_KernelRkOut (hKernelRkOut := hKernelRkOut)
    ∧ quiescent_KernelRkOutIdeal (hKernelRkOutIdeal := hKernelRkOutIdeal)
    ∧ quiescent_ReferenceRkOutIdeal (hReferenceRkOutIdeal := hReferenceRkOutIdeal)
    ∧ quiescent_KernelRkIn (hKernelRkIn := hKernelRkIn)
    ∧ quiescent_KernelRkInIdeal (hKernelRkInIdeal := hKernelRkInIdeal)
    ∧ quiescent_ReferenceRkInIdeal (hReferenceRkInIdeal := hReferenceRkInIdeal)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelMlOut_KernelMlOutIdeal
    ∧ algebraic_KernelMlOutIdeal_ReferenceMlOutIdeal (hKernelMlOutIdeal := hKernelMlOutIdeal) (hReferenceMlOutIdeal := hReferenceMlOutIdeal)
    ∧ preserves_KernelRkOut_KernelRkOutIdeal
    ∧ algebraic_KernelRkOutIdeal_ReferenceRkOutIdeal (hKernelRkOutIdeal := hKernelRkOutIdeal) (hReferenceRkOutIdeal := hReferenceRkOutIdeal)
    ∧ preserves_KernelRkIn_KernelRkInIdeal
    ∧ algebraic_KernelRkInIdeal_ReferenceRkInIdeal (hKernelRkInIdeal := hKernelRkInIdeal) (hReferenceRkInIdeal := hReferenceRkInIdeal)
-- ==== Kernel.lean ====
abbrev S2x4 : Shape := ⟨2, ![2, 4]⟩
abbrev S8x4352x4096 : Shape := ⟨3, ![8, 4352, 4096]⟩
abbrev S8x4352x2048 : Shape := ⟨3, ![8, 4352, 2048]⟩
abbrev S1x4352x256 : Shape := ⟨3, ![1, 4352, 256]⟩
abbrev S1x4352x512 : Shape := ⟨3, ![1, 4352, 512]⟩
abbrev S256x512 : Shape := ⟨2, ![256, 512]⟩
abbrev S4352x512 : Shape := ⟨2, ![4352, 512]⟩
abbrev S128x128 : Shape := ⟨2, ![128, 128]⟩
abbrev S128x1 : Shape := ⟨2, ![128, 1]⟩
abbrev S1x1 : Shape := ⟨2, ![1, 1]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 3
  | .vmem => 11
  | .smem => 1
  | _ => 0

abbrev bufTy : (tb : Table) → Fin (tcTables nBuf tb) → BufTy
  | .hbm, ⟨0, _⟩ => ⟨S2x4, .f32⟩
  | .hbm, ⟨1, _⟩ => ⟨S8x4352x4096, .bf16⟩
  | .hbm, ⟨2, _⟩ => ⟨S8x4352x2048, .f32⟩
  | .local _ .vmem, ⟨0, _⟩ => ⟨S1x4352x256, .bf16⟩
  | .local _ .vmem, ⟨1, _⟩ => ⟨S1x4352x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x4352x512, .f32⟩
  | .local _ .vmem, ⟨7, _⟩ => ⟨S1x4352x512, .f32⟩
  | .local _ .vmem, ⟨8, _⟩ => ⟨S256x512, .f32⟩
  | .local _ .vmem, ⟨9, _⟩ => ⟨S256x512, .f32⟩
  | .local _ .vmem, ⟨10, _⟩ => ⟨S4352x512, .f32⟩
  | .local _ .smem, ⟨0, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let c0 : Index := 0#32
  let arg1 : BitVec 32 := BitVec.ofNat 32 (i 1).val
  let v4 : Index := Scalar.indexCast arg1
  ![0, v4.toNat]
def k0_off2 (i : grid0.Coords) : Fin 2 → Nat :=
  let c1 : Index := 1#32
  let arg1 : BitVec 32 := BitVec.ofNat 32 (i 1).val
  let v49 : Index := Scalar.indexCast arg1
  ![1, v49.toNat]
@[reducible] def k0_t1_loop : Scf.Loop 32 :=
  let c0_i32_23 : BitVec 32 := 0#32
  let c17_i32 : BitVec 32 := 17#32
  let v100 : BitVec 32 := Scalar.addi c0_i32_23 c17_i32
  let c1_i32 : BitVec 32 := 1#32
  ⟨c0_i32_23, v100, c1_i32⟩
def k0_mult1 (k0_t1 : Fin k0_t1_loop.trips) : BitVec 32 :=
  let c0_i32_23 : BitVec 32 := 0#32
  let c1_i32 : BitVec 32 := 1#32
  let arg10 : BitVec 32 := Scf.iv c0_i32_23 c1_i32 k0_t1
  let c2_i32 : BitVec 32 := 2#32
  let v102 : BitVec 32 := Scalar.muli arg10 c2_i32
  let c0_i32_29 : BitVec 32 := 0#32
  let v103 : BitVec 32 := Scalar.addi v102 c0_i32_29
  let c128_i32 : BitVec 32 := 128#32
  let v114 : BitVec 32 := Scalar.muli v103 c128_i32
  v114
def k0_off3 (k0_t1 : Fin k0_t1_loop.trips) (c0_i32_29 : BitVec 32) : Fin 3 → Nat :=
  let c0_37 : Index := 0#32
  let c0_i32_23 : BitVec 32 := 0#32
  let c1_i32 : BitVec 32 := 1#32
  let arg10 : BitVec 32 := Scf.iv c0_i32_23 c1_i32 k0_t1
  let c2_i32 : BitVec 32 := 2#32
  let v102 : BitVec 32 := Scalar.muli arg10 c2_i32
  let v103 : BitVec 32 := Scalar.addi v102 c0_i32_29
  let c128_i32 : BitVec 32 := 128#32
  let v114 : BitVec 32 := Scalar.muli v103 c128_i32
  let v115 : BitVec 32 := v114
  let v116 : Index := Scalar.indexCast v115
  let c0_38 : Index := 0#32
  ![0, v116.toNat, 0]
def k0_off4 (k0_t1 : Fin k0_t1_loop.trips) (c0_i32_29 : BitVec 32) : Fin 3 → Nat :=
  let c0_41 : Index := 0#32
  let c0_i32_23 : BitVec 32 := 0#32
  let c1_i32 : BitVec 32 := 1#32
  let arg10 : BitVec 32 := Scf.iv c0_i32_23 c1_i32 k0_t1
  let c2_i32 : BitVec 32 := 2#32
  let v102 : BitVec 32 := Scalar.muli arg10 c2_i32
  let v103 : BitVec 32 := Scalar.addi v102 c0_i32_29
  let c128_i32 : BitVec 32 := 128#32
  let v114 : BitVec 32 := Scalar.muli v103 c128_i32
  let v115 : BitVec 32 := v114
  let v122 : Index := Scalar.indexCast v115
  let c0_42 : Index := 0#32
  ![0, v122.toNat, 0]
def k0_mult2 (k0_t1 : Fin k0_t1_loop.trips) : BitVec 32 :=
  let c0_i32_23 : BitVec 32 := 0#32
  let c1_i32 : BitVec 32 := 1#32
  let arg10 : BitVec 32 := Scf.iv c0_i32_23 c1_i32 k0_t1
  let c2_i32 : BitVec 32 := 2#32
  let v102 : BitVec 32 := Scalar.muli arg10 c2_i32
  let c0_i32_29 : BitVec 32 := 0#32
  let v103 : BitVec 32 := Scalar.addi v102 c0_i32_29
  let c2_i32_30 : BitVec 32 := 2#32
  let v104 : BitVec 1 := Scalar.cmpi .slt v103 c2_i32_30
  let c1_i32_31 : BitVec 32 := 1#32
  let v105 : BitVec 32 := Scalar.subi c1_i32_31 v103
  let c35_i32 : BitVec 32 := 35#32
  let v106 : BitVec 32 := Scalar.subi c35_i32 v103
  let v107 : BitVec 32 := Scalar.select v104 v105 v106
  let c128_i32_45 : BitVec 32 := 128#32
  let v131 : BitVec 32 := Scalar.muli v107 c128_i32_45
  v131
def k0_off5 (k0_t1 : Fin k0_t1_loop.trips) (c0_i32_29 : BitVec 32) : Fin 3 → Nat :=
  let c0_46 : Index := 0#32
  let c0_i32_23 : BitVec 32 := 0#32
  let c1_i32 : BitVec 32 := 1#32
  let arg10 : BitVec 32 := Scf.iv c0_i32_23 c1_i32 k0_t1
  let c2_i32 : BitVec 32 := 2#32
  let v102 : BitVec 32 := Scalar.muli arg10 c2_i32
  let v103 : BitVec 32 := Scalar.addi v102 c0_i32_29
  let c2_i32_30 : BitVec 32 := 2#32
  let v104 : BitVec 1 := Scalar.cmpi .slt v103 c2_i32_30
  let c1_i32_31 : BitVec 32 := 1#32
  let v105 : BitVec 32 := Scalar.subi c1_i32_31 v103
  let c35_i32 : BitVec 32 := 35#32
  let v106 : BitVec 32 := Scalar.subi c35_i32 v103
  let v107 : BitVec 32 := Scalar.select v104 v105 v106
  let c128_i32_45 : BitVec 32 := 128#32
  let v131 : BitVec 32 := Scalar.muli v107 c128_i32_45
  let v132 : BitVec 32 := v131
  let v133 : Index := Scalar.indexCast v132
  let c0_47 : Index := 0#32
  ![0, v133.toNat, 0]
def k0_off6 (k0_t1 : Fin k0_t1_loop.trips) (c0_i32_29 : BitVec 32) : Fin 3 → Nat :=
  let c0_50 : Index := 0#32
  let c0_i32_23 : BitVec 32 := 0#32
  let c1_i32 : BitVec 32 := 1#32
  let arg10 : BitVec 32 := Scf.iv c0_i32_23 c1_i32 k0_t1
  let c2_i32 : BitVec 32 := 2#32
  let v102 : BitVec 32 := Scalar.muli arg10 c2_i32
  let v103 : BitVec 32 := Scalar.addi v102 c0_i32_29
  let c2_i32_30 : BitVec 32 := 2#32
  let v104 : BitVec 1 := Scalar.cmpi .slt v103 c2_i32_30
  let c1_i32_31 : BitVec 32 := 1#32
  let v105 : BitVec 32 := Scalar.subi c1_i32_31 v103
  let c35_i32 : BitVec 32 := 35#32
  let v106 : BitVec 32 := Scalar.subi c35_i32 v103
  let v107 : BitVec 32 := Scalar.select v104 v105 v106
  let c128_i32_45 : BitVec 32 := 128#32
  let v131 : BitVec 32 := Scalar.muli v107 c128_i32_45
  let v132 : BitVec 32 := v131
  let v139 : Index := Scalar.indexCast v132
  let c0_51 : Index := 0#32
  ![0, v139.toNat, 0]
def k0_mult3 (k0_t1 : Fin k0_t1_loop.trips) : BitVec 32 :=
  let c0_i32_23 : BitVec 32 := 0#32
  let c1_i32 : BitVec 32 := 1#32
  let arg10 : BitVec 32 := Scf.iv c0_i32_23 c1_i32 k0_t1
  let c2_i32_32 : BitVec 32 := 2#32
  let v108 : BitVec 32 := Scalar.muli arg10 c2_i32_32
  let c1_i32_33 : BitVec 32 := 1#32
  let v109 : BitVec 32 := Scalar.addi v108 c1_i32_33
  let c128_i32_54 : BitVec 32 := 128#32
  let v148 : BitVec 32 := Scalar.muli v109 c128_i32_54
  v148
def k0_mult4 (k0_t1 : Fin k0_t1_loop.trips) : BitVec 32 :=
  let c0_i32_23 : BitVec 32 := 0#32
  let c1_i32 : BitVec 32 := 1#32
  let arg10 : BitVec 32 := Scf.iv c0_i32_23 c1_i32 k0_t1
  let c2_i32_32 : BitVec 32 := 2#32
  let v108 : BitVec 32 := Scalar.muli arg10 c2_i32_32
  let c1_i32_33 : BitVec 32 := 1#32
  let v109 : BitVec 32 := Scalar.addi v108 c1_i32_33
  let c2_i32_34 : BitVec 32 := 2#32
  let v110 : BitVec 1 := Scalar.cmpi .slt v109 c2_i32_34
  let c1_i32_35 : BitVec 32 := 1#32
  let v111 : BitVec 32 := Scalar.subi c1_i32_35 v109
  let c35_i32_36 : BitVec 32 := 35#32
  let v112 : BitVec 32 := Scalar.subi c35_i32_36 v109
  let v113 : BitVec 32 := Scalar.select v110 v111 v112
  let c128_i32_63 : BitVec 32 := 128#32
  let v165 : BitVec 32 := Scalar.muli v113 c128_i32_63
  v165
def k0_off7 (k0_t1 : Fin k0_t1_loop.trips) (c0_i32_29 : BitVec 32) : Fin 2 → Nat :=
  let c0_i32_23 : BitVec 32 := 0#32
  let c1_i32 : BitVec 32 := 1#32
  let arg10 : BitVec 32 := Scf.iv c0_i32_23 c1_i32 k0_t1
  let c2_i32 : BitVec 32 := 2#32
  let v102 : BitVec 32 := Scalar.muli arg10 c2_i32
  let v103 : BitVec 32 := Scalar.addi v102 c0_i32_29
  let c2_i32_30 : BitVec 32 := 2#32
  let v104 : BitVec 1 := Scalar.cmpi .slt v103 c2_i32_30
  let c1_i32_31 : BitVec 32 := 1#32
  let v105 : BitVec 32 := Scalar.subi c1_i32_31 v103
  let c35_i32 : BitVec 32 := 35#32
  let v106 : BitVec 32 := Scalar.subi c35_i32 v103
  let v107 : BitVec 32 := Scalar.select v104 v105 v106
  let c128_i32_45 : BitVec 32 := 128#32
  let v131 : BitVec 32 := Scalar.muli v107 c128_i32_45
  let v132 : BitVec 32 := v131
  let v224 : Index := Scalar.indexCast v132
  let c0_92 : Index := 0#32
  ![v224.toNat, 0]
@[reducible] def k0_t2_loop : Scf.Loop 32 :=
  let c0_i32_25 : BitVec 32 := 0#32
  let c17_i32_26 : BitVec 32 := 17#32
  let v101 : BitVec 32 := Scalar.addi c0_i32_25 c17_i32_26
  let c1_i32_27 : BitVec 32 := 1#32
  ⟨c0_i32_25, v101, c1_i32_27⟩
def k0_mult5 (k0_t2 : Fin k0_t2_loop.trips) : BitVec 32 :=
  let c0_i32_25 : BitVec 32 := 0#32
  let c1_i32_27 : BitVec 32 := 1#32
  let arg10 : BitVec 32 := Scf.iv c0_i32_25 c1_i32_27 k0_t2
  let c256_i32 : BitVec 32 := 256#32
  let v102 : BitVec 32 := Scalar.muli arg10 c256_i32
  v102
def k0_off8 (k0_t2 : Fin k0_t2_loop.trips) : Fin 3 → Nat :=
  let c0_29 : Index := 0#32
  let c0_i32_25 : BitVec 32 := 0#32
  let c1_i32_27 : BitVec 32 := 1#32
  let arg10 : BitVec 32 := Scf.iv c0_i32_25 c1_i32_27 k0_t2
  let c256_i32 : BitVec 32 := 256#32
  let v102 : BitVec 32 := Scalar.muli arg10 c256_i32
  let v103 : BitVec 32 := v102
  let v104 : Index := Scalar.indexCast v103
  let c0_30 : Index := 0#32
  ![0, v104.toNat, 0]
def k0_off9 (k0_t2 : Fin k0_t2_loop.trips) : Fin 2 → Nat :=
  let c0_i32_25 : BitVec 32 := 0#32
  let c1_i32_27 : BitVec 32 := 1#32
  let arg10 : BitVec 32 := Scf.iv c0_i32_25 c1_i32_27 k0_t2
  let c256_i32 : BitVec 32 := 256#32
  let v102 : BitVec 32 := Scalar.muli arg10 c256_i32
  let v103 : BitVec 32 := v102
  let v107 : Index := Scalar.indexCast v103
  let c0_31 : Index := 0#32
  ![v107.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4352x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x4 : Shape := ⟨2, ![2, 4]⟩
abbrev S8x4352x4096 : Shape := ⟨3, ![8, 4352, 4096]⟩
abbrev S8x4352x1024 : Shape := ⟨3, ![8, 4352, 1024]⟩
abbrev S8x4352x2048 : Shape := ⟨3, ![8, 4352, 2048]⟩
abbrev S8x4352x4x256 : Shape := ⟨4, ![8, 4352, 4, 256]⟩
abbrev S8x4x4352x256 : Shape := ⟨4, ![8, 4, 4352, 256]⟩
abbrev S8x4352x4x512 : Shape := ⟨4, ![8, 4352, 4, 512]⟩
abbrev S8x4x4352x512 : Shape := ⟨4, ![8, 4, 4352, 512]⟩
abbrev S_ : Shape := ⟨0, ![]⟩
abbrev S2x8x4x256x512 : Shape := ⟨5, ![2, 8, 4, 256, 512]⟩
abbrev S8x4x256x256 : Shape := ⟨4, ![8, 4, 256, 256]⟩
abbrev S8x4x4096x256 : Shape := ⟨4, ![8, 4, 4096, 256]⟩
abbrev S1x8x4x4352x256 : Shape := ⟨5, ![1, 8, 4, 4352, 256]⟩
abbrev S2x8x4x4352x256 : Shape := ⟨5, ![2, 8, 4, 4352, 256]⟩
abbrev S8x4x256x512 : Shape := ⟨4, ![8, 4, 256, 512]⟩
abbrev S8x4x4096x512 : Shape := ⟨4, ![8, 4, 4096, 512]⟩
abbrev S1x8x4x4352x512 : Shape := ⟨5, ![1, 8, 4, 4352, 512]⟩
abbrev S2x8x4x4352x512 : Shape := ⟨5, ![2, 8, 4, 4352, 512]⟩
abbrev S128 : Shape := ⟨1, ![128]⟩
abbrev S2x1x4x1 : Shape := ⟨4, ![2, 1, 4, 1]⟩
abbrev S128x1 : Shape := ⟨2, ![128, 1]⟩
abbrev S1x128 : Shape := ⟨2, ![1, 128]⟩
abbrev S128x128 : Shape := ⟨2, ![128, 128]⟩
abbrev S2x1x4x1x1 : Shape := ⟨5, ![2, 1, 4, 1, 1]⟩
abbrev S1x1x1x128x128 : Shape := ⟨5, ![1, 1, 1, 128, 128]⟩
abbrev S2x1x4x128x128 : Shape := ⟨5, ![2, 1, 4, 128, 128]⟩
abbrev S1x1x1x128 : Shape := ⟨4, ![1, 1, 1, 128]⟩
abbrev S2x1x4x128 : Shape := ⟨4, ![2, 1, 4, 128]⟩
abbrev S2x1x4x128x1 : Shape := ⟨5, ![2, 1, 4, 128, 1]⟩
abbrev S2x8x4x34x128x256 : Shape := ⟨6, ![2, 8, 4, 34, 128, 256]⟩
abbrev S34x2x8x4x128x256 : Shape := ⟨6, ![34, 2, 8, 4, 128, 256]⟩
abbrev S2x8x4x34x128x512 : Shape := ⟨6, ![2, 8, 4, 34, 128, 512]⟩
abbrev S34x2x8x4x128x512 : Shape := ⟨6, ![34, 2, 8, 4, 128, 512]⟩
abbrev S1x2x8x4x128x256 : Shape := ⟨6, ![1, 2, 8, 4, 128, 256]⟩
abbrev S2x8x4x128x256 : Shape := ⟨5, ![2, 8, 4, 128, 256]⟩
abbrev S1x2x8x4x128x512 : Shape := ⟨6, ![1, 2, 8, 4, 128, 512]⟩
abbrev S2x8x4x128x512 : Shape := ⟨5, ![2, 8, 4, 128, 512]⟩
abbrev S2x8x4x128x128 : Shape := ⟨5, ![2, 8, 4, 128, 128]⟩
abbrev S8x4x4352 : Shape := ⟨3, ![8, 4, 4352]⟩
abbrev S8x4x4352x1 : Shape := ⟨4, ![8, 4, 4352, 1]⟩

abbrev nBuf : Space → Nat
  | .hbm => 191
  | .vmem => 0
  | .smem => 0
  | _ => 0

abbrev hbmTy0_0 (i : Nat) : BufTy := match i % 128 with
  | 0 => ⟨S2x4, .f32⟩
  | 1 => ⟨S8x4352x4096, .bf16⟩
  | 2 => ⟨S8x4352x4096, .f32⟩
  | 3 => ⟨S8x4352x1024, .f32⟩
  | 4 => ⟨S8x4352x1024, .f32⟩
  | 5 => ⟨S8x4352x2048, .f32⟩
  | 6 => ⟨S8x4352x4x256, .f32⟩
  | 7 => ⟨S8x4x4352x256, .f32⟩
  | 8 => ⟨S8x4352x4x256, .f32⟩
  | 9 => ⟨S8x4x4352x256, .f32⟩
  | 10 => ⟨S8x4352x4x512, .f32⟩
  | 11 => ⟨S8x4x4352x512, .f32⟩
  | 12 => ⟨S2x4, .f32⟩
  | 13 => ⟨S_, .f32⟩
  | 14 => ⟨S2x4, .f32⟩
  | 15 => ⟨S2x4, .f32⟩
  | 16 => ⟨S2x4, .f32⟩
  | 17 => ⟨S2x4, .f32⟩
  | 18 => ⟨S2x4, .i1⟩
  | 19 => ⟨S2x4, .f32⟩
  | 20 => ⟨S2x4, .f32⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S_, .f32⟩
  | 29 => ⟨S2x8x4x256x512, .f32⟩
  | 30 => ⟨S8x4x256x256, .f32⟩
  | 31 => ⟨S8x4x256x256, .f32⟩
  | 32 => ⟨S8x4x4096x256, .f32⟩
  | 33 => ⟨S8x4x4096x256, .f32⟩
  | 34 => ⟨S8x4x4352x256, .f32⟩
  | 35 => ⟨S1x8x4x4352x256, .f32⟩
  | 36 => ⟨S1x8x4x4352x256, .f32⟩
  | 37 => ⟨S2x8x4x4352x256, .f32⟩
  | 38 => ⟨S8x4x256x256, .f32⟩
  | 39 => ⟨S8x4x256x256, .f32⟩
  | 40 => ⟨S8x4x4096x256, .f32⟩
  | 41 => ⟨S8x4x4096x256, .f32⟩
  | 42 => ⟨S8x4x4352x256, .f32⟩
  | 43 => ⟨S1x8x4x4352x256, .f32⟩
  | 44 => ⟨S1x8x4x4352x256, .f32⟩
  | 45 => ⟨S2x8x4x4352x256, .f32⟩
  | 46 => ⟨S8x4x256x512, .f32⟩
  | 47 => ⟨S8x4x256x512, .f32⟩
  | 48 => ⟨S8x4x4096x512, .f32⟩
  | 49 => ⟨S8x4x4096x512, .f32⟩
  | 50 => ⟨S8x4x4352x512, .f32⟩
  | 51 => ⟨S1x8x4x4352x512, .f32⟩
  | 52 => ⟨S1x8x4x4352x512, .f32⟩
  | 53 => ⟨S2x8x4x4352x512, .f32⟩
  | 54 => ⟨S128, .i32⟩
  | 55 => ⟨S128, .f32⟩
  | 56 => ⟨S2x1x4x1, .f32⟩
  | 57 => ⟨S128x1, .f32⟩
  | 58 => ⟨S1x128, .f32⟩
  | 59 => ⟨S128x128, .f32⟩
  | 60 => ⟨S128x128, .f32⟩
  | 61 => ⟨S128x128, .f32⟩
  | 62 => ⟨S_, .f32⟩
  | 63 => ⟨S128x128, .f32⟩
  | 64 => ⟨S128x128, .i1⟩
  | 65 => ⟨S2x1x4x1x1, .f32⟩
  | 66 => ⟨S1x1x1x128x128, .f32⟩
  | 67 => ⟨S2x1x4x128x128, .f32⟩
  | 68 => ⟨S2x1x4x128x128, .f32⟩
  | 69 => ⟨S2x1x4x128x128, .f32⟩
  | 70 => ⟨S2x1x4x128x128, .f32⟩
  | 71 => ⟨S_, .f32⟩
  | 72 => ⟨S_, .f32⟩
  | 73 => ⟨S2x1x4x128x128, .i1⟩
  | 74 => ⟨S2x1x4x128x128, .f32⟩
  | 75 => ⟨S2x1x4x128x128, .f32⟩
  | 76 => ⟨S_, .f32⟩
  | 77 => ⟨S128, .f32⟩
  | 78 => ⟨S128, .f32⟩
  | 79 => ⟨S1x1x1x128, .f32⟩
  | 80 => ⟨S2x1x4x128, .f32⟩
  | 81 => ⟨S2x1x4x128, .f32⟩
  | 82 => ⟨S2x1x4x128, .f32⟩
  | 83 => ⟨S2x1x4x128, .f32⟩
  | 84 => ⟨S2x1x4x128x1, .f32⟩
  | 85 => ⟨S_, .f32⟩
  | 86 => ⟨S128, .f32⟩
  | 87 => ⟨S128, .f32⟩
  | 88 => ⟨S1x1x1x128, .f32⟩
  | 89 => ⟨S2x1x4x128, .f32⟩
  | 90 => ⟨S2x1x4x128, .f32⟩
  | 91 => ⟨S2x1x4x128, .f32⟩
  | 92 => ⟨S2x1x4x128, .f32⟩
  | 93 => ⟨S2x1x4x128x1, .f32⟩
  | 94 => ⟨S_, .f32⟩
  | 95 => ⟨S2x1x4x1, .f32⟩
  | 96 => ⟨S2x1x4x1, .f32⟩
  | 97 => ⟨S2x1x4x1, .f32⟩
  | 98 => ⟨S2x1x4x1x1, .f32⟩
  | 99 => ⟨S2x8x4x34x128x256, .f32⟩
  | 100 => ⟨S34x2x8x4x128x256, .f32⟩
  | 101 => ⟨S2x8x4x34x128x256, .f32⟩
  | 102 => ⟨S34x2x8x4x128x256, .f32⟩
  | 103 => ⟨S2x8x4x34x128x512, .f32⟩
  | 104 => ⟨S34x2x8x4x128x512, .f32⟩
  | 105 => ⟨S_, .f32⟩
  | 106 => ⟨S34x2x8x4x128x512, .f32⟩
  | 107 => ⟨S_, .i32⟩
  | 108 => ⟨S34x2x8x4x128x256, .f32⟩
  | 109 => ⟨S34x2x8x4x128x256, .f32⟩
  | 110 => ⟨S34x2x8x4x128x512, .f32⟩
  | 111 => ⟨S2x1x4x128x128, .f32⟩
  | 112 => ⟨S2x1x4x128x1, .f32⟩
  | 113 => ⟨S2x1x4x1x1, .f32⟩
  | 114 => ⟨S2x1x4x128x1, .f32⟩
  | 115 => ⟨S_, .i32⟩
  | 116 => ⟨S2x8x4x256x512, .f32⟩
  | 117 => ⟨S34x2x8x4x128x512, .f32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S1x2x8x4x128x256, .f32⟩
  | 126 => ⟨S2x8x4x128x256, .f32⟩
  | 127 => ⟨S_, .i32⟩
  | _ => ⟨S2x4, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x2x8x4x128x256, .f32⟩
  | 5 => ⟨S2x8x4x128x256, .f32⟩
  | 6 => ⟨S_, .i32⟩
  | 7 => ⟨S_, .i32⟩
  | 8 => ⟨S_, .i32⟩
  | 9 => ⟨S_, .i32⟩
  | 10 => ⟨S_, .i32⟩
  | 11 => ⟨S1x2x8x4x128x512, .f32⟩
  | 12 => ⟨S2x8x4x128x512, .f32⟩
  | 13 => ⟨S2x8x4x128x128, .f32⟩
  | 14 => ⟨S2x8x4x128x128, .f32⟩
  | 15 => ⟨S2x8x4x128x128, .f32⟩
  | 16 => ⟨S2x8x4x128x512, .f32⟩
  | 17 => ⟨S2x8x4x128x256, .f32⟩
  | 18 => ⟨S2x8x4x128x256, .f32⟩
  | 19 => ⟨S2x8x4x128x512, .f32⟩
  | 20 => ⟨S2x8x4x128x512, .f32⟩
  | 21 => ⟨S2x8x4x256x512, .f32⟩
  | 22 => ⟨S2x8x4x256x512, .f32⟩
  | 23 => ⟨S2x8x4x128x256, .f32⟩
  | 24 => ⟨S2x8x4x128x256, .f32⟩
  | 25 => ⟨S2x8x4x256x512, .f32⟩
  | 26 => ⟨S2x8x4x256x512, .f32⟩
  | 27 => ⟨S1x2x8x4x128x512, .f32⟩
  | 28 => ⟨S_, .i32⟩
  | 29 => ⟨S_, .i32⟩
  | 30 => ⟨S_, .i32⟩
  | 31 => ⟨S_, .i32⟩
  | 32 => ⟨S_, .i32⟩
  | 33 => ⟨S34x2x8x4x128x512, .f32⟩
  | 34 => ⟨S_, .i32⟩
  | 35 => ⟨S_, .i32⟩
  | 36 => ⟨S2x8x4x34x128x512, .f32⟩
  | 37 => ⟨S2x8x4x4352x512, .f32⟩
  | 38 => ⟨S1x8x4x4352x512, .f32⟩
  | 39 => ⟨S8x4x4352x512, .f32⟩
  | 40 => ⟨S1x8x4x4352x512, .f32⟩
  | 41 => ⟨S8x4x4352x512, .f32⟩
  | 42 => ⟨S8x4x256x512, .f32⟩
  | 43 => ⟨S8x4x256x512, .f32⟩
  | 44 => ⟨S8x4x4096x512, .f32⟩
  | 45 => ⟨S8x4x4096x512, .f32⟩
  | 46 => ⟨S8x4x4352x512, .f32⟩
  | 47 => ⟨S8x4x4352x512, .f32⟩
  | 48 => ⟨S8x4x4352x512, .f32⟩
  | 49 => ⟨S_, .f32⟩
  | 50 => ⟨S8x4x4352, .f32⟩
  | 51 => ⟨S8x4x4352x1, .f32⟩
  | 52 => ⟨S_, .f32⟩
  | 53 => ⟨S8x4x4352x1, .f32⟩
  | 54 => ⟨S8x4x4352x1, .f32⟩
  | 55 => ⟨S_, .f32⟩
  | 56 => ⟨S8x4x4352x1, .f32⟩
  | 57 => ⟨S8x4x4352x1, .f32⟩
  | 58 => ⟨S8x4x4352x1, .f32⟩
  | 59 => ⟨S8x4x4352x512, .f32⟩
  | 60 => ⟨S8x4x4352x512, .f32⟩
  | 61 => ⟨S8x4352x4x512, .f32⟩
  | 62 => ⟨S8x4352x2048, .f32⟩
  | _ => ⟨S2x4, .f32⟩

abbrev hbmTy (i : Nat) : BufTy := match i / 128 with
  | 0 => hbmTy0_0 i
  | 1 => hbmTy0_1 i
  | _ => ⟨S2x4, .f32⟩

abbrev bufTy : (tb : Table) → Fin (tcTables nBuf tb) → BufTy
  | .hbm, ⟨i, _⟩ => hbmTy i
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_1 : Ref sig .tc := ⟨.hbm, 71, rfl⟩
abbrev main_call7_v0 : Ref sig .tc := ⟨.hbm, 72, rfl⟩
abbrev main_call7_v1 : Ref sig .tc := ⟨.hbm, 73, rfl⟩
abbrev main_call7_v2 : Ref sig .tc := ⟨.hbm, 74, rfl⟩
abbrev main_v52 : Ref sig .tc := ⟨.hbm, 75, rfl⟩
abbrev main_cst_2 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_3 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_4 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_5 : Ref sig .tc := ⟨.hbm, 105, rfl⟩
abbrev main_v79 : Ref sig .tc := ⟨.hbm, 106, rfl⟩
abbrev main_c : Ref sig .tc := ⟨.hbm, 107, rfl⟩
abbrev main_v80_0 : Ref sig .tc := ⟨.hbm, 108, rfl⟩
abbrev main_v80_1 : Ref sig .tc := ⟨.hbm, 109, rfl⟩
abbrev main_v80_2 : Ref sig .tc := ⟨.hbm, 110, rfl⟩
abbrev main_v80_3 : Ref sig .tc := ⟨.hbm, 111, rfl⟩
abbrev main_v80_4 : Ref sig .tc := ⟨.hbm, 112, rfl⟩
abbrev main_v80_5 : Ref sig .tc := ⟨.hbm, 113, rfl⟩
abbrev main_v80_6 : Ref sig .tc := ⟨.hbm, 114, rfl⟩
abbrev main_v80_7 : Ref sig .tc := ⟨.hbm, 115, rfl⟩
abbrev main_v80_8 : Ref sig .tc := ⟨.hbm, 116, rfl⟩
abbrev main_v80_9 : Ref sig .tc := ⟨.hbm, 117, rfl⟩
abbrev main_while0c_c_18 : Ref sig .tc := ⟨.hbm, 118, rfl⟩
abbrev main_while0c_v105 : Ref sig .tc := ⟨.hbm, 119, rfl⟩
abbrev main_while0b_call8_c : Ref sig .tc := ⟨.hbm, 120, rfl⟩
abbrev main_while0b_call8_c_0 : Ref sig .tc := ⟨.hbm, 121, rfl⟩
abbrev main_while0b_call8_c_1 : Ref sig .tc := ⟨.hbm, 122, rfl⟩
abbrev main_while0b_call8_c_2 : Ref sig .tc := ⟨.hbm, 123, rfl⟩
abbrev main_while0b_call8_c_3 : Ref sig .tc := ⟨.hbm, 124, rfl⟩
abbrev main_while0b_call8_v0 : Ref sig .tc := ⟨.hbm, 125, rfl⟩
abbrev main_while0b_v105 : Ref sig .tc := ⟨.hbm, 126, rfl⟩
abbrev main_while0b_call9_c : Ref sig .tc := ⟨.hbm, 127, rfl⟩
abbrev main_while0b_call9_c_0 : Ref sig .tc := ⟨.hbm, 128, rfl⟩
abbrev main_while0b_call9_c_1 : Ref sig .tc := ⟨.hbm, 129, rfl⟩
abbrev main_while0b_call9_c_2 : Ref sig .tc := ⟨.hbm, 130, rfl⟩
abbrev main_while0b_call9_c_3 : Ref sig .tc := ⟨.hbm, 131, rfl⟩
abbrev main_while0b_call9_v0 : Ref sig .tc := ⟨.hbm, 132, rfl⟩
abbrev main_while0b_v106 : Ref sig .tc := ⟨.hbm, 133, rfl⟩
abbrev main_while0b_call10_c : Ref sig .tc := ⟨.hbm, 134, rfl⟩
abbrev main_while0b_call10_c_0 : Ref sig .tc := ⟨.hbm, 135, rfl⟩
abbrev main_while0b_call10_c_1 : Ref sig .tc := ⟨.hbm, 136, rfl⟩
abbrev main_while0b_call10_c_2 : Ref sig .tc := ⟨.hbm, 137, rfl⟩
abbrev main_while0b_call10_c_3 : Ref sig .tc := ⟨.hbm, 138, rfl⟩
abbrev main_while0b_call10_v0 : Ref sig .tc := ⟨.hbm, 139, rfl⟩
abbrev main_while0b_v107 : Ref sig .tc := ⟨.hbm, 140, rfl⟩
abbrev main_while0b_v108 : Ref sig .tc := ⟨.hbm, 141, rfl⟩
abbrev main_while0b_v109 : Ref sig .tc := ⟨.hbm, 142, rfl⟩
abbrev main_while0b_v110 : Ref sig .tc := ⟨.hbm, 143, rfl⟩
abbrev main_while0b_v111 : Ref sig .tc := ⟨.hbm, 144, rfl⟩
abbrev main_while0b_v112 : Ref sig .tc := ⟨.hbm, 145, rfl⟩
abbrev main_while0b_v113 : Ref sig .tc := ⟨.hbm, 146, rfl⟩
abbrev main_while0b_v114 : Ref sig .tc := ⟨.hbm, 147, rfl⟩
abbrev main_while0b_v115 : Ref sig .tc := ⟨.hbm, 148, rfl⟩
abbrev main_while0b_v116 : Ref sig .tc := ⟨.hbm, 149, rfl⟩
abbrev main_while0b_v117 : Ref sig .tc := ⟨.hbm, 150, rfl⟩
abbrev main_while0b_v118 : Ref sig .tc := ⟨.hbm, 151, rfl⟩
abbrev main_while0b_v119 : Ref sig .tc := ⟨.hbm, 152, rfl⟩
abbrev main_while0b_v120 : Ref sig .tc := ⟨.hbm, 153, rfl⟩
abbrev main_while0b_v121 : Ref sig .tc := ⟨.hbm, 154, rfl⟩
abbrev main_while0b_call11_v0 : Ref sig .tc := ⟨.hbm, 155, rfl⟩
abbrev main_while0b_call11_c : Ref sig .tc := ⟨.hbm, 156, rfl⟩
abbrev main_while0b_call11_c_0 : Ref sig .tc := ⟨.hbm, 157, rfl⟩
abbrev main_while0b_call11_c_1 : Ref sig .tc := ⟨.hbm, 158, rfl⟩
abbrev main_while0b_call11_c_2 : Ref sig .tc := ⟨.hbm, 159, rfl⟩
abbrev main_while0b_call11_c_3 : Ref sig .tc := ⟨.hbm, 160, rfl⟩
abbrev main_while0b_v122 : Ref sig .tc := ⟨.hbm, 161, rfl⟩
abbrev main_while0b_c_18 : Ref sig .tc := ⟨.hbm, 162, rfl⟩
abbrev main_while0b_v123 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_6 : Ref sig .tc := ⟨.hbm, 177, rfl⟩
abbrev main_v94 : Ref sig .tc := ⟨.hbm, 178, rfl⟩
abbrev main_v95 : Ref sig .tc := ⟨.hbm, 179, rfl⟩
abbrev main_cst_7 : Ref sig .tc := ⟨.hbm, 180, rfl⟩
abbrev main_v96 : Ref sig .tc := ⟨.hbm, 181, rfl⟩
abbrev main_v97 : Ref sig .tc := ⟨.hbm, 182, rfl⟩
abbrev main_cst_8 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩

abbrev nD : Nat := 1
abbrev τ : Topo := Topo.v7x

variable {F : FTy → Type} [FloatOps F]

abbrev main_while0_count : Scf.Loop 32 := ⟨0#32, 34#32, 1#32⟩
-- ==== KernelIn.lean ====
abbrev S8x4352x1024 : Shape := ⟨3, ![8, 4352, 1024]⟩
abbrev S8x3072 : Shape := ⟨2, ![8, 3072]⟩
abbrev S3072 : Shape := ⟨1, ![3072]⟩
abbrev S1024x6144 : Shape := ⟨2, ![1024, 6144]⟩
abbrev S8x3x1024 : Shape := ⟨3, ![8, 3, 1024]⟩
abbrev S1x3x1024 : Shape := ⟨3, ![1, 3, 1024]⟩
abbrev S8x1x3x1024 : Shape := ⟨4, ![8, 1, 3, 1024]⟩
abbrev S8x2x3x1024 : Shape := ⟨4, ![8, 2, 3, 1024]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x256 : Shape := ⟨2, ![4096, 256]⟩
abbrev S256x256 : Shape := ⟨2, ![256, 256]⟩
abbrev S4352x256 : Shape := ⟨2, ![4352, 256]⟩
abbrev S8x4352x4096 : Shape := ⟨3, ![8, 4352, 4096]⟩
abbrev S8x4352x2048 : Shape := ⟨3, ![8, 4352, 2048]⟩
abbrev S1x256x1024 : Shape := ⟨3, ![1, 256, 1024]⟩
abbrev S1x1x3x1024 : Shape := ⟨4, ![1, 1, 3, 1024]⟩
abbrev S1x256x4096 : Shape := ⟨3, ![1, 256, 4096]⟩
abbrev S1x256x2048 : Shape := ⟨3, ![1, 256, 2048]⟩
abbrev S256x1024 : Shape := ⟨2, ![256, 1024]⟩
abbrev S3x1024 : Shape := ⟨2, ![3, 1024]⟩
abbrev S1x1024 : Shape := ⟨2, ![1, 1024]⟩
abbrev S1024x256 : Shape := ⟨2, ![1024, 256]⟩
abbrev S256x128 : Shape := ⟨2, ![256, 128]⟩
abbrev S1x256x256 : Shape := ⟨3, ![1, 256, 256]⟩
abbrev S1024x2048 : Shape := ⟨2, ![1024, 2048]⟩
abbrev S256x2048 : Shape := ⟨2, ![256, 2048]⟩

abbrev nBuf : Space → Nat
  | .hbm => 92
  | .vmem => 13
  | .smem => 0
  | _ => 0

abbrev bufTy : (tb : Table) → Fin (tcTables nBuf tb) → BufTy
  | .hbm, ⟨0, _⟩ => ⟨S8x4352x1024, .f32⟩
  | .hbm, ⟨1, _⟩ => ⟨S8x3072, .f32⟩
  | .hbm, ⟨2, _⟩ => ⟨S3072, .f32⟩
  | .hbm, ⟨3, _⟩ => ⟨S1024x6144, .f32⟩
  | .hbm, ⟨4, _⟩ => ⟨S8x3x1024, .f32⟩
  | .hbm, ⟨5, _⟩ => ⟨S1x3x1024, .f32⟩
  | .hbm, ⟨6, _⟩ => ⟨S8x3x1024, .f32⟩
  | .hbm, ⟨7, _⟩ => ⟨S8x1x3x1024, .f32⟩
  | .hbm, ⟨8, _⟩ => ⟨S8x1x3x1024, .f32⟩
  | .hbm, ⟨9, _⟩ => ⟨S8x2x3x1024, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S4096, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S_, .i1⟩
  | .hbm, ⟨54, _⟩ => ⟨S4096, .i1⟩
  | .hbm, ⟨55, _⟩ => ⟨S4096, .i1⟩
  | .hbm, ⟨56, _⟩ => ⟨S4096, .i1⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096, .f32⟩
  | .hbm, ⟨61, _⟩ => ⟨S4096x1, .f32⟩
  | .hbm, ⟨62, _⟩ => ⟨S1x64, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x1, .f32⟩
  | .hbm, ⟨67, _⟩ => ⟨S1x64, .f32⟩
  | .hbm, ⟨68, _⟩ => ⟨S4096x64, .f32⟩
  | .hbm, ⟨69, _⟩ => ⟨S4096x64, .f32⟩
  | .hbm, ⟨70, _⟩ => ⟨S4096x64, .f32⟩
  | .hbm, ⟨71, _⟩ => ⟨S4096x64, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S4096x256, .f32⟩
  | .hbm, ⟨76, _⟩ => ⟨S4096x64, .f32⟩
  | .hbm, ⟨77, _⟩ => ⟨S4096x64, .f32⟩
  | .hbm, ⟨78, _⟩ => ⟨S4096x64, .f32⟩
  | .hbm, ⟨79, _⟩ => ⟨S4096x64, .f32⟩
  | .hbm, ⟨80, _⟩ => ⟨S4096x64, .f32⟩
  | .hbm, ⟨81, _⟩ => ⟨S4096x64, .f32⟩
  | .hbm, ⟨82, _⟩ => ⟨S4096x256, .f32⟩
  | .hbm, ⟨83, _⟩ => ⟨S_, .f32⟩
  | .hbm, ⟨84, _⟩ => ⟨S256x256, .f32⟩
  | .hbm, ⟨85, _⟩ => ⟨S4352x256, .f32⟩
  | .hbm, ⟨86, _⟩ => ⟨S_, .f32⟩
  | .hbm, ⟨87, _⟩ => ⟨S256x256, .f32⟩
  | .hbm, ⟨88, _⟩ => ⟨S4352x256, .f32⟩
  | .hbm, ⟨89, _⟩ => ⟨S1024x6144, .bf16⟩
  | .hbm, ⟨90, _⟩ => ⟨S8x4352x4096, .bf16⟩
  | .hbm, ⟨91, _⟩ => ⟨S8x4352x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3x1024, .f32⟩
  | .local _ .vmem, ⟨3, _⟩ => ⟨S1x1x3x1024, .f32⟩
  | .local _ .vmem, ⟨4, _⟩ => ⟨S1024x6144, .bf16⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1x256x4096, .bf16⟩
  | .local _ .vmem, ⟨10, _⟩ => ⟨S1x256x4096, .bf16⟩
  | .local _ .vmem, ⟨11, _⟩ => ⟨S1x256x2048, .f32⟩
  | .local _ .vmem, ⟨12, _⟩ => ⟨S1x256x2048, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_2 : Ref sig .tc := ⟨.hbm, 83, rfl⟩
abbrev main_v39 : Ref sig .tc := ⟨.hbm, 84, rfl⟩
abbrev main_v40 : Ref sig .tc := ⟨.hbm, 85, rfl⟩
abbrev main_cst_3 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44_0 : Ref sig .tc := ⟨.hbm, 90, rfl⟩
abbrev main_v44_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceInIdeal.lean ====
abbrev S8x4352x1024 : Shape := ⟨3, ![8, 4352, 1024]⟩
abbrev S8x3072 : Shape := ⟨2, ![8, 3072]⟩
abbrev S3072 : Shape := ⟨1, ![3072]⟩
abbrev S1024x6144 : Shape := ⟨2, ![1024, 6144]⟩
abbrev S8x256x1024 : Shape := ⟨3, ![8, 256, 1024]⟩
abbrev S8x4096x1024 : Shape := ⟨3, ![8, 4096, 1024]⟩
abbrev S8x1x3072 : Shape := ⟨3, ![8, 1, 3072]⟩
abbrev S8x1x1024 : Shape := ⟨3, ![8, 1, 1024]⟩
abbrev S1024 : Shape := ⟨1, ![1024]⟩
abbrev S_ : Shape := ⟨0, ![]⟩
abbrev S1x1x1024 : Shape := ⟨3, ![1, 1, 1024]⟩
abbrev S8x4096x6144 : Shape := ⟨3, ![8, 4096, 6144]⟩
abbrev S8x4096x2048 : Shape := ⟨3, ![8, 4096, 2048]⟩
abbrev S8x4096x4x256 : Shape := ⟨4, ![8, 4096, 4, 256]⟩
abbrev S8x4x4096x256 : Shape := ⟨4, ![8, 4, 4096, 256]⟩
abbrev S8x256x6144 : Shape := ⟨3, ![8, 256, 6144]⟩
abbrev S8x256x2048 : Shape := ⟨3, ![8, 256, 2048]⟩
abbrev S8x256x4x256 : Shape := ⟨4, ![8, 256, 4, 256]⟩
abbrev S8x4x256x256 : Shape := ⟨4, ![8, 4, 256, 256]⟩
abbrev S4096 : Shape := ⟨1, ![4096]⟩
abbrev S64 : Shape := ⟨1, ![64]⟩
abbrev S8x4x4096x128 : Shape := ⟨4, ![8, 4, 4096, 128]⟩
abbrev S4096x1 : Shape := ⟨2, ![4096, 1]⟩
abbrev S1x64 : Shape := ⟨2, ![1, 64]⟩
abbrev S4096x64 : Shape := ⟨2, ![4096, 64]⟩
abbrev S8x4x4096x64 : Shape := ⟨4, ![8, 4, 4096, 64]⟩
abbrev S1x1x4096x64 : Shape := ⟨4, ![1, 1, 4096, 64]⟩
abbrev S8x256x4096 : Shape := ⟨3, ![8, 256, 4096]⟩
abbrev S8x4096x4096 : Shape := ⟨3, ![8, 4096, 4096]⟩
abbrev S8x4352x4096 : Shape := ⟨3, ![8, 4352, 4096]⟩
abbrev S8x4352x2048 : Shape := ⟨3, ![8, 4352, 2048]⟩

abbrev nBuf : Space → Nat
  | .hbm => 227
  | .vmem => 0
  | .smem => 0
  | _ => 0

abbrev hbmTy0_0 (i : Nat) : BufTy := match i % 128 with
  | 0 => ⟨S8x4352x1024, .f32⟩
  | 1 => ⟨S8x3072, .f32⟩
  | 2 => ⟨S3072, .f32⟩
  | 3 => ⟨S1024x6144, .f32⟩
  | 4 => ⟨S8x256x1024, .f32⟩
  | 5 => ⟨S8x4096x1024, .f32⟩
  | 6 => ⟨S8x1x3072, .f32⟩
  | 7 => ⟨S8x1x1024, .f32⟩
  | 8 => ⟨S8x1x1024, .f32⟩
  | 9 => ⟨S8x1x1024, .f32⟩
  | 10 => ⟨S1024, .f32⟩
  | 11 => ⟨S1024, .f32⟩
  | 12 => ⟨S1024, .f32⟩
  | 13 => ⟨S_, .f32⟩
  | 14 => ⟨S8x1x1024, .f32⟩
  | 15 => ⟨S8x1x1024, .f32⟩
  | 16 => ⟨S8x4096x1024, .f32⟩
  | 17 => ⟨S8x4096x1024, .f32⟩
  | 18 => ⟨S8x4096x1024, .f32⟩
  | 19 => ⟨S8x4096x1024, .f32⟩
  | 20 => ⟨S_, .f32⟩
  | 21 => ⟨S1024, .f32⟩
  | 22 => ⟨S1024, .f32⟩
  | 23 => ⟨S1x1x1024, .f32⟩
  | 24 => ⟨S8x256x1024, .f32⟩
  | 25 => ⟨S8x256x1024, .f32⟩
  | 26 => ⟨S1x1x1024, .f32⟩
  | 27 => ⟨S8x256x1024, .f32⟩
  | 28 => ⟨S8x256x1024, .f32⟩
  | 29 => ⟨S8x4096x6144, .f32⟩
  | 30 => ⟨S8x4096x1024, .f32⟩
  | 31 => ⟨S8x4096x1024, .f32⟩
  | 32 => ⟨S8x4096x2048, .f32⟩
  | 33 => ⟨S8x4096x2048, .f32⟩
  | 34 => ⟨S8x4096x4x256, .f32⟩
  | 35 => ⟨S8x4x4096x256, .f32⟩
  | 36 => ⟨S8x4096x4x256, .f32⟩
  | 37 => ⟨S8x4x4096x256, .f32⟩
  | 38 => ⟨S_, .f32⟩
  | 39 => ⟨S8x4x4096x256, .f32⟩
  | 40 => ⟨S8x4x4096x256, .f32⟩
  | 41 => ⟨S8x256x6144, .f32⟩
  | 42 => ⟨S8x256x1024, .f32⟩
  | 43 => ⟨S8x256x1024, .f32⟩
  | 44 => ⟨S8x256x2048, .f32⟩
  | 45 => ⟨S8x256x2048, .f32⟩
  | 46 => ⟨S8x256x4x256, .f32⟩
  | 47 => ⟨S8x4x256x256, .f32⟩
  | 48 => ⟨S8x256x4x256, .f32⟩
  | 49 => ⟨S8x4x256x256, .f32⟩
  | 50 => ⟨S_, .f32⟩
  | 51 => ⟨S8x4x256x256, .f32⟩
  | 52 => ⟨S8x4x256x256, .f32⟩
  | 53 => ⟨S4096, .i32⟩
  | 54 => ⟨S_, .i32⟩
  | 55 => ⟨S_, .i32⟩
  | 56 => ⟨S4096, .i32⟩
  | 57 => ⟨S4096, .i32⟩
  | 58 => ⟨S4096, .i32⟩
  | 59 => ⟨S_, .i32⟩
  | 60 => ⟨S4096, .i32⟩
  | 61 => ⟨S4096, .i1⟩
  | 62 => ⟨S4096, .i32⟩
  | 63 => ⟨S4096, .i32⟩
  | 64 => ⟨S_, .i32⟩
  | 65 => ⟨S4096, .i32⟩
  | 66 => ⟨S4096, .i1⟩
  | 67 => ⟨S4096, .i1⟩
  | 68 => ⟨S_, .i32⟩
  | 69 => ⟨S4096, .i32⟩
  | 70 => ⟨S4096, .i32⟩
  | 71 => ⟨S4096, .i32⟩
  | 72 => ⟨S4096, .f32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i1⟩
  | 87 => ⟨S_, .i32⟩
  | 88 => ⟨S_, .i1⟩
  | 89 => ⟨S4096, .i1⟩
  | 90 => ⟨S4096, .i1⟩
  | 91 => ⟨S4096, .i1⟩
  | 92 => ⟨S4096, .i32⟩
  | 93 => ⟨S4096, .i32⟩
  | 94 => ⟨S4096, .i32⟩
  | 95 => ⟨S4096, .f32⟩
  | 96 => ⟨S64, .f32⟩
  | 97 => ⟨S64, .f32⟩
  | 98 => ⟨S_, .f32⟩
  | 99 => ⟨S64, .f32⟩
  | 100 => ⟨S64, .f32⟩
  | 101 => ⟨S_, .f32⟩
  | 102 => ⟨S64, .f32⟩
  | 103 => ⟨S64, .f32⟩
  | 104 => ⟨S8x4x4096x128, .f32⟩
  | 105 => ⟨S4096x1, .f32⟩
  | 106 => ⟨S1x64, .f32⟩
  | 107 => ⟨S4096x64, .f32⟩
  | 108 => ⟨S4096x64, .f32⟩
  | 109 => ⟨S4096x64, .f32⟩
  | 110 => ⟨S4096x64, .f32⟩
  | 111 => ⟨S4096x64, .f32⟩
  | 112 => ⟨S8x4x4096x64, .f32⟩
  | 113 => ⟨S8x4x4096x64, .f32⟩
  | 114 => ⟨S1x1x4096x64, .f32⟩
  | 115 => ⟨S8x4x4096x64, .f32⟩
  | 116 => ⟨S8x4x4096x64, .f32⟩
  | 117 => ⟨S1x1x4096x64, .f32⟩
  | 118 => ⟨S8x4x4096x64, .f32⟩
  | 119 => ⟨S8x4x4096x64, .f32⟩
  | 120 => ⟨S8x4x4096x64, .f32⟩
  | 121 => ⟨S1x1x4096x64, .f32⟩
  | 122 => ⟨S8x4x4096x64, .f32⟩
  | 123 => ⟨S8x4x4096x64, .f32⟩
  | 124 => ⟨S1x1x4096x64, .f32⟩
  | 125 => ⟨S8x4x4096x64, .f32⟩
  | 126 => ⟨S8x4x4096x64, .f32⟩
  | 127 => ⟨S8x4x4096x64, .f32⟩
  | _ => ⟨S8x4352x1024, .f32⟩

abbrev hbmTy0_1 (i : Nat) : BufTy := match i % 128 with
  | 0 => ⟨S8x4x4096x128, .f32⟩
  | 1 => ⟨S8x4x4096x128, .f32⟩
  | 2 => ⟨S4096x1, .f32⟩
  | 3 => ⟨S1x64, .f32⟩
  | 4 => ⟨S4096x64, .f32⟩
  | 5 => ⟨S4096x64, .f32⟩
  | 6 => ⟨S4096x64, .f32⟩
  | 7 => ⟨S4096x64, .f32⟩
  | 8 => ⟨S4096x64, .f32⟩
  | 9 => ⟨S8x4x4096x64, .f32⟩
  | 10 => ⟨S8x4x4096x64, .f32⟩
  | 11 => ⟨S1x1x4096x64, .f32⟩
  | 12 => ⟨S8x4x4096x64, .f32⟩
  | 13 => ⟨S8x4x4096x64, .f32⟩
  | 14 => ⟨S1x1x4096x64, .f32⟩
  | 15 => ⟨S8x4x4096x64, .f32⟩
  | 16 => ⟨S8x4x4096x64, .f32⟩
  | 17 => ⟨S8x4x4096x64, .f32⟩
  | 18 => ⟨S1x1x4096x64, .f32⟩
  | 19 => ⟨S8x4x4096x64, .f32⟩
  | 20 => ⟨S8x4x4096x64, .f32⟩
  | 21 => ⟨S1x1x4096x64, .f32⟩
  | 22 => ⟨S8x4x4096x64, .f32⟩
  | 23 => ⟨S8x4x4096x64, .f32⟩
  | 24 => ⟨S8x4x4096x64, .f32⟩
  | 25 => ⟨S8x4x4096x128, .f32⟩
  | 26 => ⟨S8x4x4096x256, .f32⟩
  | 27 => ⟨S64, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S8x4x4096x128, .f32⟩
  | 36 => ⟨S4096x1, .f32⟩
  | 37 => ⟨S1x64, .f32⟩
  | 38 => ⟨S4096x64, .f32⟩
  | 39 => ⟨S4096x64, .f32⟩
  | 40 => ⟨S4096x64, .f32⟩
  | 41 => ⟨S4096x64, .f32⟩
  | 42 => ⟨S4096x64, .f32⟩
  | 43 => ⟨S8x4x4096x64, .f32⟩
  | 44 => ⟨S8x4x4096x64, .f32⟩
  | 45 => ⟨S1x1x4096x64, .f32⟩
  | 46 => ⟨S8x4x4096x64, .f32⟩
  | 47 => ⟨S8x4x4096x64, .f32⟩
  | 48 => ⟨S1x1x4096x64, .f32⟩
  | 49 => ⟨S8x4x4096x64, .f32⟩
  | 50 => ⟨S8x4x4096x64, .f32⟩
  | 51 => ⟨S8x4x4096x64, .f32⟩
  | 52 => ⟨S1x1x4096x64, .f32⟩
  | 53 => ⟨S8x4x4096x64, .f32⟩
  | 54 => ⟨S8x4x4096x64, .f32⟩
  | 55 => ⟨S1x1x4096x64, .f32⟩
  | 56 => ⟨S8x4x4096x64, .f32⟩
  | 57 => ⟨S8x4x4096x64, .f32⟩
  | 58 => ⟨S8x4x4096x64, .f32⟩
  | 59 => ⟨S8x4x4096x128, .f32⟩
  | 60 => ⟨S8x4x4096x128, .f32⟩
  | 61 => ⟨S4096x1, .f32⟩
  | 62 => ⟨S1x64, .f32⟩
  | 63 => ⟨S4096x64, .f32⟩
  | 64 => ⟨S4096x64, .f32⟩
  | 65 => ⟨S4096x64, .f32⟩
  | 66 => ⟨S4096x64, .f32⟩
  | 67 => ⟨S4096x64, .f32⟩
  | 68 => ⟨S8x4x4096x64, .f32⟩
  | 69 => ⟨S8x4x4096x64, .f32⟩
  | 70 => ⟨S1x1x4096x64, .f32⟩
  | 71 => ⟨S8x4x4096x64, .f32⟩
  | 72 => ⟨S8x4x4096x64, .f32⟩
  | 73 => ⟨S1x1x4096x64, .f32⟩
  | 74 => ⟨S8x4x4096x64, .f32⟩
  | 75 => ⟨S8x4x4096x64, .f32⟩
  | 76 => ⟨S8x4x4096x64, .f32⟩
  | 77 => ⟨S1x1x4096x64, .f32⟩
  | 78 => ⟨S8x4x4096x64, .f32⟩
  | 79 => ⟨S8x4x4096x64, .f32⟩
  | 80 => ⟨S1x1x4096x64, .f32⟩
  | 81 => ⟨S8x4x4096x64, .f32⟩
  | 82 => ⟨S8x4x4096x64, .f32⟩
  | 83 => ⟨S8x4x4096x64, .f32⟩
  | 84 => ⟨S8x4x4096x128, .f32⟩
  | 85 => ⟨S8x4x4096x256, .f32⟩
  | 86 => ⟨S8x256x4x256, .f32⟩
  | 87 => ⟨S8x256x1024, .f32⟩
  | 88 => ⟨S8x256x4x256, .f32⟩
  | 89 => ⟨S8x256x1024, .f32⟩
  | 90 => ⟨S8x256x4096, .f32⟩
  | 91 => ⟨S8x4096x4x256, .f32⟩
  | 92 => ⟨S8x4096x1024, .f32⟩
  | 93 => ⟨S8x4096x4x256, .f32⟩
  | 94 => ⟨S8x4096x1024, .f32⟩
  | 95 => ⟨S8x4096x4096, .f32⟩
  | 96 => ⟨S8x4352x4096, .f32⟩
  | 97 => ⟨S8x4352x4096, .bf16⟩
  | 98 => ⟨S8x4352x2048, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_c : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_0 : Ref sig .tc := ⟨.hbm, 68, rfl⟩
abbrev main_call0_v12 : Ref sig .tc := ⟨.hbm, 69, rfl⟩
abbrev main_call0_v13 : Ref sig .tc := ⟨.hbm, 70, rfl⟩
abbrev main_v46 : Ref sig .tc := ⟨.hbm, 71, rfl⟩
abbrev main_v47 : Ref sig .tc := ⟨.hbm, 72, rfl⟩
abbrev main_c_3 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_1 : Ref sig .tc := ⟨.hbm, 81, rfl⟩
abbrev main_call1_v5 : Ref sig .tc := ⟨.hbm, 82, rfl⟩
abbrev main_call1_v6 : Ref sig .tc := ⟨.hbm, 83, rfl⟩
abbrev main_call1_c_2 : Ref sig .tc := ⟨.hbm, 84, rfl⟩
abbrev main_call1_v7 : Ref sig .tc := ⟨.hbm, 85, rfl⟩
abbrev main_call1_v8 : Ref sig .tc := ⟨.hbm, 86, rfl⟩
abbrev main_call1_c_3 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_4 : Ref sig .tc := ⟨.hbm, 98, rfl⟩
abbrev main_v52 : Ref sig .tc := ⟨.hbm, 99, rfl⟩
abbrev main_v53 : Ref sig .tc := ⟨.hbm, 100, rfl⟩
abbrev main_cst_5 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_6 : Ref sig .tc := ⟨.hbm, 157, rfl⟩
abbrev main_v109 : Ref sig .tc := ⟨.hbm, 158, rfl⟩
abbrev main_v110 : Ref sig .tc := ⟨.hbm, 159, rfl⟩
abbrev main_cst_7 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩

abbrev nD : Nat := 1
abbrev τ : Topo := Topo.v7x

variable {F : FTy → Type} [FloatOps F]
-- ==== KernelOut.lean ====
abbrev S8x4352x2048 : Shape := ⟨3, ![8, 4352, 2048]⟩
abbrev S2048x1024 : Shape := ⟨2, ![2048, 1024]⟩
abbrev S8x4352x1024 : Shape := ⟨3, ![8, 4352, 1024]⟩
abbrev S8x3072 : Shape := ⟨2, ![8, 3072]⟩
abbrev S3072 : Shape := ⟨1, ![3072]⟩
abbrev S1024 : Shape := ⟨1, ![1024]⟩
abbrev S8x3x1024 : Shape := ⟨3, ![8, 3, 1024]⟩
abbrev S1x3x1024 : Shape := ⟨3, ![1, 3, 1024]⟩
abbrev S8x1x3x1024 : Shape := ⟨4, ![8, 1, 3, 1024]⟩
abbrev S8x2x3x1024 : Shape := ⟨4, ![8, 2, 3, 1024]⟩
abbrev S1x1024 : Shape := ⟨2, ![1, 1024]⟩
abbrev S1x256x2048 : Shape := ⟨3, ![1, 256, 2048]⟩
abbrev S1x256x1024 : Shape := ⟨3, ![1, 256, 1024]⟩
abbrev S1x1x3x1024 : Shape := ⟨4, ![1, 1, 3, 1024]⟩
abbrev S256x2048 : Shape := ⟨2, ![256, 2048]⟩
abbrev S256x1024 : Shape := ⟨2, ![256, 1024]⟩
abbrev S3x1024 : Shape := ⟨2, ![3, 1024]⟩
abbrev S256 : Shape := ⟨1, ![256]⟩
abbrev S256x1 : Shape := ⟨2, ![256, 1]⟩

abbrev nBuf : Space → Nat
  | .hbm => 18
  | .vmem => 13
  | .smem => 0
  | _ => 0

abbrev bufTy : (tb : Table) → Fin (tcTables nBuf tb) → BufTy
  | .hbm, ⟨0, _⟩ => ⟨S8x4352x2048, .f32⟩
  | .hbm, ⟨1, _⟩ => ⟨S8x4352x2048, .f32⟩
  | .hbm, ⟨2, _⟩ => ⟨S2048x1024, .f32⟩
  | .hbm, ⟨3, _⟩ => ⟨S8x4352x1024, .f32⟩
  | .hbm, ⟨4, _⟩ => ⟨S8x3072, .f32⟩
  | .hbm, ⟨5, _⟩ => ⟨S3072, .f32⟩
  | .hbm, ⟨6, _⟩ => ⟨S1024, .f32⟩
  | .hbm, ⟨7, _⟩ => ⟨S1024, .f32⟩
  | .hbm, ⟨8, _⟩ => ⟨S8x3x1024, .f32⟩
  | .hbm, ⟨9, _⟩ => ⟨S1x3x1024, .f32⟩
  | .hbm, ⟨10, _⟩ => ⟨S8x3x1024, .f32⟩
  | .hbm, ⟨11, _⟩ => ⟨S8x1x3x1024, .f32⟩
  | .hbm, ⟨12, _⟩ => ⟨S8x1x3x1024, .f32⟩
  | .hbm, ⟨13, _⟩ => ⟨S8x2x3x1024, .f32⟩
  | .hbm, ⟨14, _⟩ => ⟨S2048x1024, .bf16⟩
  | .hbm, ⟨15, _⟩ => ⟨S1x1024, .f32⟩
  | .hbm, ⟨16, _⟩ => ⟨S1x1024, .f32⟩
  | .hbm, ⟨17, _⟩ => ⟨S8x4352x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S2048x1024, .bf16⟩
  | .local _ .vmem, ⟨5, _⟩ => ⟨S1x256x1024, .f32⟩
  | .local _ .vmem, ⟨6, _⟩ => ⟨S1x256x1024, .f32⟩
  | .local _ .vmem, ⟨7, _⟩ => ⟨S1x1x3x1024, .f32⟩
  | .local _ .vmem, ⟨8, _⟩ => ⟨S1x1x3x1024, .f32⟩
  | .local _ .vmem, ⟨9, _⟩ => ⟨S1x1024, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | _, _ => ⟨S8x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceOutIdeal.lean ====
abbrev S8x4352x2048 : Shape := ⟨3, ![8, 4352, 2048]⟩
abbrev S2048x1024 : Shape := ⟨2, ![2048, 1024]⟩
abbrev S8x4352x1024 : Shape := ⟨3, ![8, 4352, 1024]⟩
abbrev S8x3072 : Shape := ⟨2, ![8, 3072]⟩
abbrev S3072 : Shape := ⟨1, ![3072]⟩
abbrev S1024 : Shape := ⟨1, ![1024]⟩
abbrev S8x256x1024 : Shape := ⟨3, ![8, 256, 1024]⟩
abbrev S8x4096x1024 : Shape := ⟨3, ![8, 4096, 1024]⟩
abbrev S8x1x3072 : Shape := ⟨3, ![8, 1, 3072]⟩
abbrev S8x1x1024 : Shape := ⟨3, ![8, 1, 1024]⟩
abbrev S8x4096x2048 : Shape := ⟨3, ![8, 4096, 2048]⟩
abbrev S_ : Shape := ⟨0, ![]⟩
abbrev S8x256x2048 : Shape := ⟨3, ![8, 256, 2048]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩

abbrev nBuf : Space → Nat
  | .hbm => 115
  | .vmem => 0
  | .smem => 0
  | _ => 0

abbrev bufTy : (tb : Table) → Fin (tcTables nBuf tb) → BufTy
  | .hbm, ⟨0, _⟩ => ⟨S8x4352x2048, .f32⟩
  | .hbm, ⟨1, _⟩ => ⟨S8x4352x2048, .f32⟩
  | .hbm, ⟨2, _⟩ => ⟨S2048x1024, .f32⟩
  | .hbm, ⟨3, _⟩ => ⟨S8x4352x1024, .f32⟩
  | .hbm, ⟨4, _⟩ => ⟨S8x3072, .f32⟩
  | .hbm, ⟨5, _⟩ => ⟨S3072, .f32⟩
  | .hbm, ⟨6, _⟩ => ⟨S1024, .f32⟩
  | .hbm, ⟨7, _⟩ => ⟨S1024, .f32⟩
  | .hbm, ⟨8, _⟩ => ⟨S8x256x1024, .f32⟩
  | .hbm, ⟨9, _⟩ => ⟨S8x4096x1024, .f32⟩
  | .hbm, ⟨10, _⟩ => ⟨S8x1x3072, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x4096x2048, .f32⟩
  | .hbm, ⟨23, _⟩ => ⟨S8x4096x2048, .f32⟩
  | .hbm, ⟨24, _⟩ => ⟨S_, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x1024, .f32⟩
  | .hbm, ⟨30, _⟩ => ⟨S8x256x2048, .f32⟩
  | .hbm, ⟨31, _⟩ => ⟨S8x256x2048, .f32⟩
  | .hbm, ⟨32, _⟩ => ⟨S8x256x2048, .f32⟩
  | .hbm, ⟨33, _⟩ => ⟨S8x256x2048, .f32⟩
  | .hbm, ⟨34, _⟩ => ⟨S_, .f32⟩
  | .hbm, ⟨35, _⟩ => ⟨S8x256x2048, .f32⟩
  | .hbm, ⟨36, _⟩ => ⟨S8x256x2048, .f32⟩
  | .hbm, ⟨37, _⟩ => ⟨S_, .f32⟩
  | .hbm, ⟨38, _⟩ => ⟨S8x256x2048, .f32⟩
  | .hbm, ⟨39, _⟩ => ⟨S8x256x2048, .f32⟩
  | .hbm, ⟨40, _⟩ => ⟨S8x256x2048, .f32⟩
  | .hbm, ⟨41, _⟩ => ⟨S8x256x2048, .f32⟩
  | .hbm, ⟨42, _⟩ => ⟨S8x256x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S1x1x1024, .f32⟩
  | .hbm, ⟨73, _⟩ => ⟨S8x4096x1024, .f32⟩
  | .hbm, ⟨74, _⟩ => ⟨S8x4096x1024, .f32⟩
  | .hbm, ⟨75, _⟩ => ⟨S1x1x1024, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x256x1024, .f32⟩
  | .hbm, ⟨80, _⟩ => ⟨S8x256x1024, .f32⟩
  | .hbm, ⟨81, _⟩ => ⟨S1x1x1024, .f32⟩
  | .hbm, ⟨82, _⟩ => ⟨S8x256x1024, .f32⟩
  | .hbm, ⟨83, _⟩ => ⟨S8x256x1024, .f32⟩
  | .hbm, ⟨84, _⟩ => ⟨S8x256x1024, .f32⟩
  | .hbm, ⟨85, _⟩ => ⟨S_, .f32⟩
  | .hbm, ⟨86, _⟩ => ⟨S8x256, .f32⟩
  | .hbm, ⟨87, _⟩ => ⟨S8x256x1, .f32⟩
  | .hbm, ⟨88, _⟩ => ⟨S_, .f32⟩
  | .hbm, ⟨89, _⟩ => ⟨S8x256x1, .f32⟩
  | .hbm, ⟨90, _⟩ => ⟨S8x256x1, .f32⟩
  | .hbm, ⟨91, _⟩ => ⟨S8x256x1024, .f32⟩
  | .hbm, ⟨92, _⟩ => ⟨S8x256x1024, .f32⟩
  | .hbm, ⟨93, _⟩ => ⟨S8x256x1024, .f32⟩
  | .hbm, ⟨94, _⟩ => ⟨S_, .f32⟩
  | .hbm, ⟨95, _⟩ => ⟨S8x256, .f32⟩
  | .hbm, ⟨96, _⟩ => ⟨S8x256x1, .f32⟩
  | .hbm, ⟨97, _⟩ => ⟨S_, .f32⟩
  | .hbm, ⟨98, _⟩ => ⟨S8x256x1, .f32⟩
  | .hbm, ⟨99, _⟩ => ⟨S8x256x1, .f32⟩
  | .hbm, ⟨100, _⟩ => ⟨S8x256x1024, .f32⟩
  | .hbm, ⟨101, _⟩ => ⟨S8x256x1024, .f32⟩
  | .hbm, ⟨102, _⟩ => ⟨S_, .f32⟩
  | .hbm, ⟨103, _⟩ => ⟨S8x256x1, .f32⟩
  | .hbm, ⟨104, _⟩ => ⟨S8x256x1, .f32⟩
  | .hbm, ⟨105, _⟩ => ⟨S8x256x1, .f32⟩
  | .hbm, ⟨106, _⟩ => ⟨S8x256x1024, .f32⟩
  | .hbm, ⟨107, _⟩ => ⟨S8x256x1024, .f32⟩
  | .hbm, ⟨108, _⟩ => ⟨S1x1x1024, .f32⟩
  | .hbm, ⟨109, _⟩ => ⟨S8x256x1024, .f32⟩
  | .hbm, ⟨110, _⟩ => ⟨S8x256x1024, .f32⟩
  | .hbm, ⟨111, _⟩ => ⟨S1x1x1024, .f32⟩
  | .hbm, ⟨112, _⟩ => ⟨S8x256x1024, .f32⟩
  | .hbm, ⟨113, _⟩ => ⟨S8x256x1024, .f32⟩
  | .hbm, ⟨114, _⟩ => ⟨S8x4352x1024, .f32⟩
  | _, _ => ⟨S8x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_4 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_8 : Ref sig .tc := ⟨.hbm, 94, rfl⟩
abbrev main_v61 : Ref sig .tc := ⟨.hbm, 95, rfl⟩
abbrev main_v62 : Ref sig .tc := ⟨.hbm, 96, rfl⟩
abbrev main_cst_9 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_10 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== KernelMlOut.lean ====
abbrev S8x4352x2048 : Shape := ⟨3, ![8, 4352, 2048]⟩
abbrev S2048 : Shape := ⟨1, ![2048]⟩
abbrev S2048x1024 : Shape := ⟨2, ![2048, 1024]⟩
abbrev S8x4352x1024 : Shape := ⟨3, ![8, 4352, 1024]⟩
abbrev S8x3072 : Shape := ⟨2, ![8, 3072]⟩
abbrev S3072 : Shape := ⟨1, ![3072]⟩
abbrev S1024 : Shape := ⟨1, ![1024]⟩
abbrev S8x3x1024 : Shape := ⟨3, ![8, 3, 1024]⟩
abbrev S1x3x1024 : Shape := ⟨3, ![1, 3, 1024]⟩
abbrev S8x1x3x1024 : Shape := ⟨4, ![8, 1, 3, 1024]⟩
abbrev S8x2x3x1024 : Shape := ⟨4, ![8, 2, 3, 1024]⟩
abbrev S1x2048 : Shape := ⟨2, ![1, 2048]⟩
abbrev S1x1024 : Shape := ⟨2, ![1, 1024]⟩
abbrev S1x256x2048 : Shape := ⟨3, ![1, 256, 2048]⟩
abbrev S1x256x1024 : Shape := ⟨3, ![1, 256, 1024]⟩
abbrev S1x1x3x1024 : Shape := ⟨4, ![1, 1, 3, 1024]⟩
abbrev S256x2048 : Shape := ⟨2, ![256, 2048]⟩
abbrev S256x1024 : Shape := ⟨2, ![256, 1024]⟩
abbrev S3x1024 : Shape := ⟨2, ![3, 1024]⟩
abbrev S256 : Shape := ⟨1, ![256]⟩
abbrev S256x1 : Shape := ⟨2, ![256, 1]⟩

abbrev nBuf : Space → Nat
  | .hbm => 23
  | .vmem => 17
  | .smem => 0
  | _ => 0

abbrev bufTy : (tb : Table) → Fin (tcTables nBuf tb) → BufTy
  | .hbm, ⟨0, _⟩ => ⟨S8x4352x2048, .f32⟩
  | .hbm, ⟨1, _⟩ => ⟨S8x4352x2048, .f32⟩
  | .hbm, ⟨2, _⟩ => ⟨S8x4352x2048, .f32⟩
  | .hbm, ⟨3, _⟩ => ⟨S2048, .f32⟩
  | .hbm, ⟨4, _⟩ => ⟨S2048, .f32⟩
  | .hbm, ⟨5, _⟩ => ⟨S2048x1024, .f32⟩
  | .hbm, ⟨6, _⟩ => ⟨S8x4352x1024, .f32⟩
  | .hbm, ⟨7, _⟩ => ⟨S8x3072, .f32⟩
  | .hbm, ⟨8, _⟩ => ⟨S3072, .f32⟩
  | .hbm, ⟨9, _⟩ => ⟨S1024, .f32⟩
  | .hbm, ⟨10, _⟩ => ⟨S1024, .f32⟩
  | .hbm, ⟨11, _⟩ => ⟨S8x3x1024, .f32⟩
  | .hbm, ⟨12, _⟩ => ⟨S1x3x1024, .f32⟩
  | .hbm, ⟨13, _⟩ => ⟨S8x3x1024, .f32⟩
  | .hbm, ⟨14, _⟩ => ⟨S8x1x3x1024, .f32⟩
  | .hbm, ⟨15, _⟩ => ⟨S8x1x3x1024, .f32⟩
  | .hbm, ⟨16, _⟩ => ⟨S8x2x3x1024, .f32⟩
  | .hbm, ⟨17, _⟩ => ⟨S1x2048, .f32⟩
  | .hbm, ⟨18, _⟩ => ⟨S1x2048, .f32⟩
  | .hbm, ⟨19, _⟩ => ⟨S2048x1024, .bf16⟩
  | .hbm, ⟨20, _⟩ => ⟨S1x1024, .f32⟩
  | .hbm, ⟨21, _⟩ => ⟨S1x1024, .f32⟩
  | .hbm, ⟨22, _⟩ => ⟨S8x4352x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x2048, .f32⟩
  | .local _ .vmem, ⟨7, _⟩ => ⟨S1x2048, .f32⟩
  | .local _ .vmem, ⟨8, _⟩ => ⟨S2048x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x1x3x1024, .f32⟩
  | .local _ .vmem, ⟨12, _⟩ => ⟨S1x1x3x1024, .f32⟩
  | .local _ .vmem, ⟨13, _⟩ => ⟨S1x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | _, _ => ⟨S8x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceMlOutIdeal.lean ====
abbrev S8x4352x2048 : Shape := ⟨3, ![8, 4352, 2048]⟩
abbrev S2048 : Shape := ⟨1, ![2048]⟩
abbrev S2048x1024 : Shape := ⟨2, ![2048, 1024]⟩
abbrev S8x4352x1024 : Shape := ⟨3, ![8, 4352, 1024]⟩
abbrev S8x3072 : Shape := ⟨2, ![8, 3072]⟩
abbrev S3072 : Shape := ⟨1, ![3072]⟩
abbrev S1024 : Shape := ⟨1, ![1024]⟩
abbrev S8x256x1024 : Shape := ⟨3, ![8, 256, 1024]⟩
abbrev S8x4096x1024 : Shape := ⟨3, ![8, 4096, 1024]⟩
abbrev S8x1x3072 : Shape := ⟨3, ![8, 1, 3072]⟩
abbrev S8x1x1024 : Shape := ⟨3, ![8, 1, 1024]⟩
abbrev S8x4096x2048 : Shape := ⟨3, ![8, 4096, 2048]⟩
abbrev S1x1x2048 : Shape := ⟨3, ![1, 1, 2048]⟩
abbrev S_ : Shape := ⟨0, ![]⟩
abbrev S8x256x2048 : Shape := ⟨3, ![8, 256, 2048]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩

abbrev nBuf : Space → Nat
  | .hbm => 134
  | .vmem => 0
  | .smem => 0
  | _ => 0

abbrev hbmTy0_0 (i : Nat) : BufTy := match i % 128 with
  | 0 => ⟨S8x4352x2048, .f32⟩
  | 1 => ⟨S8x4352x2048, .f32⟩
  | 2 => ⟨S8x4352x2048, .f32⟩
  | 3 => ⟨S2048, .f32⟩
  | 4 => ⟨S2048, .f32⟩
  | 5 => ⟨S2048x1024, .f32⟩
  | 6 => ⟨S8x4352x1024, .f32⟩
  | 7 => ⟨S8x3072, .f32⟩
  | 8 => ⟨S3072, .f32⟩
  | 9 => ⟨S1024, .f32⟩
  | 10 => ⟨S1024, .f32⟩
  | 11 => ⟨S8x256x1024, .f32⟩
  | 12 => ⟨S8x4096x1024, .f32⟩
  | 13 => ⟨S8x1x3072, .f32⟩
  | 14 => ⟨S8x1x1024, .f32⟩
  | 15 => ⟨S8x1x1024, .f32⟩
  | 16 => ⟨S8x1x1024, .f32⟩
  | 17 => ⟨S1024, .f32⟩
  | 18 => ⟨S1024, .f32⟩
  | 19 => ⟨S1024, .f32⟩
  | 20 => ⟨S8x4096x2048, .f32⟩
  | 21 => ⟨S8x4096x2048, .f32⟩
  | 22 => ⟨S8x4096x2048, .f32⟩
  | 23 => ⟨S1x1x2048, .f32⟩
  | 24 => ⟨S8x4096x2048, .f32⟩
  | 25 => ⟨S8x4096x2048, .f32⟩
  | 26 => ⟨S1x1x2048, .f32⟩
  | 27 => ⟨S8x4096x2048, .f32⟩
  | 28 => ⟨S8x4096x2048, .f32⟩
  | 29 => ⟨S8x4096x2048, .f32⟩
  | 30 => ⟨S8x4096x2048, .f32⟩
  | 31 => ⟨S8x4096x2048, .f32⟩
  | 32 => ⟨S_, .f32⟩
  | 33 => ⟨S8x4096x2048, .f32⟩
  | 34 => ⟨S8x4096x2048, .f32⟩
  | 35 => ⟨S_, .f32⟩
  | 36 => ⟨S8x4096x2048, .f32⟩
  | 37 => ⟨S8x4096x2048, .f32⟩
  | 38 => ⟨S8x4096x2048, .f32⟩
  | 39 => ⟨S8x4096x2048, .f32⟩
  | 40 => ⟨S8x4096x1024, .f32⟩
  | 41 => ⟨S8x256x2048, .f32⟩
  | 42 => ⟨S8x256x2048, .f32⟩
  | 43 => ⟨S8x256x2048, .f32⟩
  | 44 => ⟨S1x1x2048, .f32⟩
  | 45 => ⟨S8x256x2048, .f32⟩
  | 46 => ⟨S8x256x2048, .f32⟩
  | 47 => ⟨S1x1x2048, .f32⟩
  | 48 => ⟨S8x256x2048, .f32⟩
  | 49 => ⟨S8x256x2048, .f32⟩
  | 50 => ⟨S8x256x2048, .f32⟩
  | 51 => ⟨S8x256x2048, .f32⟩
  | 52 => ⟨S8x256x2048, .f32⟩
  | 53 => ⟨S_, .f32⟩
  | 54 => ⟨S8x256x2048, .f32⟩
  | 55 => ⟨S8x256x2048, .f32⟩
  | 56 => ⟨S_, .f32⟩
  | 57 => ⟨S8x256x2048, .f32⟩
  | 58 => ⟨S8x256x2048, .f32⟩
  | 59 => ⟨S8x256x2048, .f32⟩
  | 60 => ⟨S8x256x2048, .f32⟩
  | 61 => ⟨S8x256x1024, .f32⟩
  | 62 => ⟨S_, .f32⟩
  | 63 => ⟨S8x4096x1024, .f32⟩
  | 64 => ⟨S8x4096x1024, .f32⟩
  | 65 => ⟨S8x4096x1024, .f32⟩
  | 66 => ⟨S8x4096x1024, .f32⟩
  | 67 => ⟨S8x4096x1024, .f32⟩
  | 68 => ⟨S_, .f32⟩
  | 69 => ⟨S8x4096, .f32⟩
  | 70 => ⟨S8x4096x1, .f32⟩
  | 71 => ⟨S_, .f32⟩
  | 72 => ⟨S8x4096x1, .f32⟩
  | 73 => ⟨S8x4096x1, .f32⟩
  | 74 => ⟨S8x4096x1024, .f32⟩
  | 75 => ⟨S8x4096x1024, .f32⟩
  | 76 => ⟨S8x4096x1024, .f32⟩
  | 77 => ⟨S_, .f32⟩
  | 78 => ⟨S8x4096, .f32⟩
  | 79 => ⟨S8x4096x1, .f32⟩
  | 80 => ⟨S_, .f32⟩
  | 81 => ⟨S8x4096x1, .f32⟩
  | 82 => ⟨S8x4096x1, .f32⟩
  | 83 => ⟨S8x4096x1024, .f32⟩
  | 84 => ⟨S8x4096x1024, .f32⟩
  | 85 => ⟨S_, .f32⟩
  | 86 => ⟨S8x4096x1, .f32⟩
  | 87 => ⟨S8x4096x1, .f32⟩
  | 88 => ⟨S8x4096x1, .f32⟩
  | 89 => ⟨S8x4096x1024, .f32⟩
  | 90 => ⟨S8x4096x1024, .f32⟩
  | 91 => ⟨S1x1x1024, .f32⟩
  | 92 => ⟨S8x4096x1024, .f32⟩
  | 93 => ⟨S8x4096x1024, .f32⟩
  | 94 => ⟨S1x1x1024, .f32⟩
  | 95 => ⟨S8x4096x1024, .f32⟩
  | 96 => ⟨S8x4096x1024, .f32⟩
  | 97 => ⟨S_, .f32⟩
  | 98 => ⟨S8x256x1024, .f32⟩
  | 99 => ⟨S8x256x1024, .f32⟩
  | 100 => ⟨S1x1x1024, .f32⟩
  | 101 => ⟨S8x256x1024, .f32⟩
  | 102 => ⟨S8x256x1024, .f32⟩
  | 103 => ⟨S8x256x1024, .f32⟩
  | 104 => ⟨S_, .f32⟩
  | 105 => ⟨S8x256, .f32⟩
  | 106 => ⟨S8x256x1, .f32⟩
  | 107 => ⟨S_, .f32⟩
  | 108 => ⟨S8x256x1, .f32⟩
  | 109 => ⟨S8x256x1, .f32⟩
  | 110 => ⟨S8x256x1024, .f32⟩
  | 111 => ⟨S8x256x1024, .f32⟩
  | 112 => ⟨S8x256x1024, .f32⟩
  | 113 => ⟨S_, .f32⟩
  | 114 => ⟨S8x256, .f32⟩
  | 115 => ⟨S8x256x1, .f32⟩
  | 116 => ⟨S_, .f32⟩
  | 117 => ⟨S8x256x1, .f32⟩
  | 118 => ⟨S8x256x1, .f32⟩
  | 119 => ⟨S8x256x1024, .f32⟩
  | 120 => ⟨S8x256x1024, .f32⟩
  | 121 => ⟨S_, .f32⟩
  | 122 => ⟨S8x256x1, .f32⟩
  | 123 => ⟨S8x256x1, .f32⟩
  | 124 => ⟨S8x256x1, .f32⟩
  | 125 => ⟨S8x256x1024, .f32⟩
  | 126 => ⟨S8x256x1024, .f32⟩
  | 127 => ⟨S1x1x1024, .f32⟩
  | _ => ⟨S8x4352x2048, .f32⟩

abbrev hbmTy0_1 (i : Nat) : BufTy := match i % 128 with
  | 0 => ⟨S8x256x1024, .f32⟩
  | 1 => ⟨S8x256x1024, .f32⟩
  | 2 => ⟨S1x1x1024, .f32⟩
  | 3 => ⟨S8x256x1024, .f32⟩
  | 4 => ⟨S8x256x1024, .f32⟩
  | 5 => ⟨S8x4352x1024, .f32⟩
  | _ => ⟨S8x4352x2048, .f32⟩

abbrev hbmTy (i : Nat) : BufTy := match i / 128 with
  | 0 => hbmTy0_0 i
  | 1 => hbmTy0_1 i
  | _ => ⟨S8x4352x2048, .f32⟩

abbrev bufTy : (tb : Table) → Fin (tcTables nBuf tb) → BufTy
  | .hbm, ⟨i, _⟩ => hbmTy i
  | _, _ => ⟨S8x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_0 : Ref sig .tc := ⟨.hbm, 68, rfl⟩
abbrev main_v40 : Ref sig .tc := ⟨.hbm, 69, rfl⟩
abbrev main_v41 : Ref sig .tc := ⟨.hbm, 70, rfl⟩
abbrev main_cst_1 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_2 : Ref sig .tc := ⟨.hbm, 77, rfl⟩
abbrev main_v47 : Ref sig .tc := ⟨.hbm, 78, rfl⟩
abbrev main_v48 : Ref sig .tc := ⟨.hbm, 79, rfl⟩
abbrev main_cst_3 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_4 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_5 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_6 : Ref sig .tc := ⟨.hbm, 104, rfl⟩
abbrev main_v70 : Ref sig .tc := ⟨.hbm, 105, rfl⟩
abbrev main_v71 : Ref sig .tc := ⟨.hbm, 106, rfl⟩
abbrev main_cst_7 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_8 : Ref sig .tc := ⟨.hbm, 113, rfl⟩
abbrev main_v77 : Ref sig .tc := ⟨.hbm, 114, rfl⟩
abbrev main_v78 : Ref sig .tc := ⟨.hbm, 115, rfl⟩
abbrev main_cst_9 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_10 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]
-- ==== KernelRkOut.lean ====
abbrev S8x4352x1024 : Shape := ⟨3, ![8, 4352, 1024]⟩
abbrev S1024x1024 : Shape := ⟨2, ![1024, 1024]⟩
abbrev S8x3072 : Shape := ⟨2, ![8, 3072]⟩
abbrev S3072 : Shape := ⟨1, ![3072]⟩
abbrev S1024 : Shape := ⟨1, ![1024]⟩
abbrev S8x3x1024 : Shape := ⟨3, ![8, 3, 1024]⟩
abbrev S1x3x1024 : Shape := ⟨3, ![1, 3, 1024]⟩
abbrev S8x1x3x1024 : Shape := ⟨4, ![8, 1, 3, 1024]⟩
abbrev S8x2x3x1024 : Shape := ⟨4, ![8, 2, 3, 1024]⟩
abbrev S1x1024 : Shape := ⟨2, ![1, 1024]⟩
abbrev S1x256x1024 : Shape := ⟨3, ![1, 256, 1024]⟩
abbrev S1x1x3x1024 : Shape := ⟨4, ![1, 1, 3, 1024]⟩
abbrev S256x1024 : Shape := ⟨2, ![256, 1024]⟩
abbrev S3x1024 : Shape := ⟨2, ![3, 1024]⟩
abbrev S256 : Shape := ⟨1, ![256]⟩
abbrev S256x1 : Shape := ⟨2, ![256, 1]⟩

abbrev nBuf : Space → Nat
  | .hbm => 18
  | .vmem => 13
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S1024x1024, .f32⟩
  | .hbm, ⟨3, _⟩ => ⟨S8x4352x1024, .f32⟩
  | .hbm, ⟨4, _⟩ => ⟨S8x3072, .f32⟩
  | .hbm, ⟨5, _⟩ => ⟨S3072, .f32⟩
  | .hbm, ⟨6, _⟩ => ⟨S1024, .f32⟩
  | .hbm, ⟨7, _⟩ => ⟨S1024, .f32⟩
  | .hbm, ⟨8, _⟩ => ⟨S8x3x1024, .f32⟩
  | .hbm, ⟨9, _⟩ => ⟨S1x3x1024, .f32⟩
  | .hbm, ⟨10, _⟩ => ⟨S8x3x1024, .f32⟩
  | .hbm, ⟨11, _⟩ => ⟨S8x1x3x1024, .f32⟩
  | .hbm, ⟨12, _⟩ => ⟨S8x1x3x1024, .f32⟩
  | .hbm, ⟨13, _⟩ => ⟨S8x2x3x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1x256x1024, .f32⟩
  | .local _ .vmem, ⟨6, _⟩ => ⟨S1x256x1024, .f32⟩
  | .local _ .vmem, ⟨7, _⟩ => ⟨S1x1x3x1024, .f32⟩
  | .local _ .vmem, ⟨8, _⟩ => ⟨S1x1x3x1024, .f32⟩
  | .local _ .vmem, ⟨9, _⟩ => ⟨S1x1024, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceRkOutIdeal.lean ====
abbrev S8x4352x1024 : Shape := ⟨3, ![8, 4352, 1024]⟩
abbrev S1024x1024 : Shape := ⟨2, ![1024, 1024]⟩
abbrev S8x3072 : Shape := ⟨2, ![8, 3072]⟩
abbrev S3072 : Shape := ⟨1, ![3072]⟩
abbrev S1024 : Shape := ⟨1, ![1024]⟩
abbrev S8x256x1024 : Shape := ⟨3, ![8, 256, 1024]⟩
abbrev S8x4096x1024 : Shape := ⟨3, ![8, 4096, 1024]⟩
abbrev S8x1x3072 : Shape := ⟨3, ![8, 1, 3072]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩

abbrev nBuf : Space → Nat
  | .hbm => 115
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S1024x1024, .f32⟩
  | .hbm, ⟨3, _⟩ => ⟨S8x4352x1024, .f32⟩
  | .hbm, ⟨4, _⟩ => ⟨S8x3072, .f32⟩
  | .hbm, ⟨5, _⟩ => ⟨S3072, .f32⟩
  | .hbm, ⟨6, _⟩ => ⟨S1024, .f32⟩
  | .hbm, ⟨7, _⟩ => ⟨S1024, .f32⟩
  | .hbm, ⟨8, _⟩ => ⟨S8x256x1024, .f32⟩
  | .hbm, ⟨9, _⟩ => ⟨S8x4096x1024, .f32⟩
  | .hbm, ⟨10, _⟩ => ⟨S8x1x3072, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S8x256x1024, .f32⟩
  | .hbm, ⟨34, _⟩ => ⟨S_, .f32⟩
  | .hbm, ⟨35, _⟩ => ⟨S8x256x1024, .f32⟩
  | .hbm, ⟨36, _⟩ => ⟨S8x256x1024, .f32⟩
  | .hbm, ⟨37, _⟩ => ⟨S_, .f32⟩
  | .hbm, ⟨38, _⟩ => ⟨S8x256x1024, .f32⟩
  | .hbm, ⟨39, _⟩ => ⟨S8x256x1024, .f32⟩
  | .hbm, ⟨40, _⟩ => ⟨S8x256x1024, .f32⟩
  | .hbm, ⟨41, _⟩ => ⟨S8x256x1024, .f32⟩
  | .hbm, ⟨42, _⟩ => ⟨S8x256x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S1x1x1024, .f32⟩
  | .hbm, ⟨73, _⟩ => ⟨S8x4096x1024, .f32⟩
  | .hbm, ⟨74, _⟩ => ⟨S8x4096x1024, .f32⟩
  | .hbm, ⟨75, _⟩ => ⟨S1x1x1024, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x256x1024, .f32⟩
  | .hbm, ⟨80, _⟩ => ⟨S8x256x1024, .f32⟩
  | .hbm, ⟨81, _⟩ => ⟨S1x1x1024, .f32⟩
  | .hbm, ⟨82, _⟩ => ⟨S8x256x1024, .f32⟩
  | .hbm, ⟨83, _⟩ => ⟨S8x256x1024, .f32⟩
  | .hbm, ⟨84, _⟩ => ⟨S8x256x1024, .f32⟩
  | .hbm, ⟨85, _⟩ => ⟨S_, .f32⟩
  | .hbm, ⟨86, _⟩ => ⟨S8x256, .f32⟩
  | .hbm, ⟨87, _⟩ => ⟨S8x256x1, .f32⟩
  | .hbm, ⟨88, _⟩ => ⟨S_, .f32⟩
  | .hbm, ⟨89, _⟩ => ⟨S8x256x1, .f32⟩
  | .hbm, ⟨90, _⟩ => ⟨S8x256x1, .f32⟩
  | .hbm, ⟨91, _⟩ => ⟨S8x256x1024, .f32⟩
  | .hbm, ⟨92, _⟩ => ⟨S8x256x1024, .f32⟩
  | .hbm, ⟨93, _⟩ => ⟨S8x256x1024, .f32⟩
  | .hbm, ⟨94, _⟩ => ⟨S_, .f32⟩
  | .hbm, ⟨95, _⟩ => ⟨S8x256, .f32⟩
  | .hbm, ⟨96, _⟩ => ⟨S8x256x1, .f32⟩
  | .hbm, ⟨97, _⟩ => ⟨S_, .f32⟩
  | .hbm, ⟨98, _⟩ => ⟨S8x256x1, .f32⟩
  | .hbm, ⟨99, _⟩ => ⟨S8x256x1, .f32⟩
  | .hbm, ⟨100, _⟩ => ⟨S8x256x1024, .f32⟩
  | .hbm, ⟨101, _⟩ => ⟨S8x256x1024, .f32⟩
  | .hbm, ⟨102, _⟩ => ⟨S_, .f32⟩
  | .hbm, ⟨103, _⟩ => ⟨S8x256x1, .f32⟩
  | .hbm, ⟨104, _⟩ => ⟨S8x256x1, .f32⟩
  | .hbm, ⟨105, _⟩ => ⟨S8x256x1, .f32⟩
  | .hbm, ⟨106, _⟩ => ⟨S8x256x1024, .f32⟩
  | .hbm, ⟨107, _⟩ => ⟨S8x256x1024, .f32⟩
  | .hbm, ⟨108, _⟩ => ⟨S1x1x1024, .f32⟩
  | .hbm, ⟨109, _⟩ => ⟨S8x256x1024, .f32⟩
  | .hbm, ⟨110, _⟩ => ⟨S8x256x1024, .f32⟩
  | .hbm, ⟨111, _⟩ => ⟨S1x1x1024, .f32⟩
  | .hbm, ⟨112, _⟩ => ⟨S8x256x1024, .f32⟩
  | .hbm, ⟨113, _⟩ => ⟨S8x256x1024, .f32⟩
  | .hbm, ⟨114, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_4 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_8 : Ref sig .tc := ⟨.hbm, 94, rfl⟩
abbrev main_v61 : Ref sig .tc := ⟨.hbm, 95, rfl⟩
abbrev main_v62 : Ref sig .tc := ⟨.hbm, 96, rfl⟩
abbrev main_cst_9 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_10 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== KernelRkIn.lean ====
abbrev S8x4352x1024 : Shape := ⟨3, ![8, 4352, 1024]⟩
abbrev S8x3072 : Shape := ⟨2, ![8, 3072]⟩
abbrev S3072 : Shape := ⟨1, ![3072]⟩
abbrev S6x1024 : Shape := ⟨2, ![6, 1024]⟩
abbrev S4x1024x1024 : Shape := ⟨3, ![4, 1024, 1024]⟩
abbrev S2x1024x64 : Shape := ⟨3, ![2, 1024, 64]⟩
abbrev S8x3x1024 : Shape := ⟨3, ![8, 3, 1024]⟩
abbrev S1x3x1024 : Shape := ⟨3, ![1, 3, 1024]⟩
abbrev S8x1x3x1024 : Shape := ⟨4, ![8, 1, 3, 1024]⟩
abbrev S8x2x3x1024 : Shape := ⟨4, ![8, 2, 3, 1024]⟩
abbrev S1x1024x64 : Shape := ⟨3, ![1, 1024, 64]⟩
abbrev S1024x64 : Shape := ⟨2, ![1024, 64]⟩
abbrev S1024x128 : Shape := ⟨2, ![1024, 128]⟩
abbrev S8x4352x128 : Shape := ⟨3, ![8, 4352, 128]⟩
abbrev S1x256x1024 : Shape := ⟨3, ![1, 256, 1024]⟩
abbrev S1x64x1024 : Shape := ⟨3, ![1, 64, 1024]⟩
abbrev S1x1x3x1024 : Shape := ⟨4, ![1, 1, 3, 1024]⟩
abbrev S1x256x128 : Shape := ⟨3, ![1, 256, 128]⟩
abbrev S256x1024 : Shape := ⟨2, ![256, 1024]⟩
abbrev S3x1024 : Shape := ⟨2, ![3, 1024]⟩
abbrev S1x1024 : Shape := ⟨2, ![1, 1024]⟩
abbrev S256x1 : Shape := ⟨2, ![256, 1]⟩
abbrev S256x512 : Shape := ⟨2, ![256, 512]⟩
abbrev S256x256 : Shape := ⟨2, ![256, 256]⟩
abbrev S64x1024 : Shape := ⟨2, ![64, 1024]⟩
abbrev S64x256 : Shape := ⟨2, ![64, 256]⟩
abbrev S192x256 : Shape := ⟨2, ![192, 256]⟩
abbrev S1x1024x1024 : Shape := ⟨3, ![1, 1024, 1024]⟩
abbrev S1024x1024 : Shape := ⟨2, ![1024, 1024]⟩
abbrev S256x128 : Shape := ⟨2, ![256, 128]⟩

abbrev nBuf : Space → Nat
  | .hbm => 32
  | .vmem => 25
  | .smem => 0
  | _ => 0

abbrev bufTy : (tb : Table) → Fin (tcTables nBuf tb) → BufTy
  | .hbm, ⟨0, _⟩ => ⟨S8x4352x1024, .f32⟩
  | .hbm, ⟨1, _⟩ => ⟨S8x3072, .f32⟩
  | .hbm, ⟨2, _⟩ => ⟨S3072, .f32⟩
  | .hbm, ⟨3, _⟩ => ⟨S6x1024, .f32⟩
  | .hbm, ⟨4, _⟩ => ⟨S4x1024x1024, .f32⟩
  | .hbm, ⟨5, _⟩ => ⟨S2x1024x64, .f32⟩
  | .hbm, ⟨6, _⟩ => ⟨S2x1024x64, .f32⟩
  | .hbm, ⟨7, _⟩ => ⟨S8x3x1024, .f32⟩
  | .hbm, ⟨8, _⟩ => ⟨S1x3x1024, .f32⟩
  | .hbm, ⟨9, _⟩ => ⟨S8x3x1024, .f32⟩
  | .hbm, ⟨10, _⟩ => ⟨S8x1x3x1024, .f32⟩
  | .hbm, ⟨11, _⟩ => ⟨S8x1x3x1024, .f32⟩
  | .hbm, ⟨12, _⟩ => ⟨S8x2x3x1024, .f32⟩
  | .hbm, ⟨13, _⟩ => ⟨S4x1024x1024, .bf16⟩
  | .hbm, ⟨14, _⟩ => ⟨S1x1024x64, .f32⟩
  | .hbm, ⟨15, _⟩ => ⟨S1024x64, .f32⟩
  | .hbm, ⟨16, _⟩ => ⟨S1x1024x64, .f32⟩
  | .hbm, ⟨17, _⟩ => ⟨S1024x64, .f32⟩
  | .hbm, ⟨18, _⟩ => ⟨S1024x128, .f32⟩
  | .hbm, ⟨19, _⟩ => ⟨S1024x128, .bf16⟩
  | .hbm, ⟨20, _⟩ => ⟨S1x1024x64, .f32⟩
  | .hbm, ⟨21, _⟩ => ⟨S1024x64, .f32⟩
  | .hbm, ⟨22, _⟩ => ⟨S1x1024x64, .f32⟩
  | .hbm, ⟨23, _⟩ => ⟨S1024x64, .f32⟩
  | .hbm, ⟨24, _⟩ => ⟨S1024x128, .f32⟩
  | .hbm, ⟨25, _⟩ => ⟨S1024x128, .bf16⟩
  | .hbm, ⟨26, _⟩ => ⟨S8x4352x1024, .f32⟩
  | .hbm, ⟨27, _⟩ => ⟨S8x4352x1024, .f32⟩
  | .hbm, ⟨28, _⟩ => ⟨S8x4352x1024, .f32⟩
  | .hbm, ⟨29, _⟩ => ⟨S8x4352x1024, .f32⟩
  | .hbm, ⟨30, _⟩ => ⟨S8x4352x128, .f32⟩
  | .hbm, ⟨31, _⟩ => ⟨S8x4352x128, .f32⟩
  | .local _ .vmem, ⟨0, _⟩ => ⟨S1x256x1024, .f32⟩
  | .local _ .vmem, ⟨1, _⟩ => ⟨S1x256x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x1x3x1024, .f32⟩
  | .local _ .vmem, ⟨7, _⟩ => ⟨S1x1x3x1024, .f32⟩
  | .local _ .vmem, ⟨8, _⟩ => ⟨S6x1024, .f32⟩
  | .local _ .vmem, ⟨9, _⟩ => ⟨S4x1024x1024, .bf16⟩
  | .local _ .vmem, ⟨10, _⟩ => ⟨S1024x128, .bf16⟩
  | .local _ .vmem, ⟨11, _⟩ => ⟨S1024x128, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev main_v19_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c67_i32 : BitVec 32 := 67#32
  let v2 : BitVec 32 := Scalar.minsi v1 c67_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceRkInIdeal.lean ====
abbrev S8x4352x1024 : Shape := ⟨3, ![8, 4352, 1024]⟩
abbrev S8x3072 : Shape := ⟨2, ![8, 3072]⟩
abbrev S3072 : Shape := ⟨1, ![3072]⟩
abbrev S6x1024 : Shape := ⟨2, ![6, 1024]⟩
abbrev S4x1024x1024 : Shape := ⟨3, ![4, 1024, 1024]⟩
abbrev S2x1024x64 : Shape := ⟨3, ![2, 1024, 64]⟩
abbrev S8x256x1024 : Shape := ⟨3, ![8, 256, 1024]⟩
abbrev S8x4096x1024 : Shape := ⟨3, ![8, 4096, 1024]⟩
abbrev S8x1x3072 : Shape := ⟨3, ![8, 1, 3072]⟩
abbrev S8x1x1024 : Shape := ⟨3, ![8, 1, 1024]⟩
abbrev S1024 : Shape := ⟨1, ![1024]⟩
abbrev S_ : Shape := ⟨0, ![]⟩
abbrev S1x1x1024 : Shape := ⟨3, ![1, 1, 1024]⟩
abbrev S8x255x512 : Shape := ⟨3, ![8, 255, 512]⟩
abbrev S8x256x512 : Shape := ⟨3, ![8, 256, 512]⟩
abbrev S1x1024 : Shape := ⟨2, ![1, 1024]⟩
abbrev S1x1024x1024 : Shape := ⟨3, ![1, 1024, 1024]⟩
abbrev S1024x1024 : Shape := ⟨2, ![1024, 1024]⟩
abbrev S1x1024x64 : Shape := ⟨3, ![1, 1024, 64]⟩
abbrev S1024x64 : Shape := ⟨2, ![1024, 64]⟩
abbrev S8x256x64 : Shape := ⟨3, ![8, 256, 64]⟩
abbrev S8x256x128 : Shape := ⟨3, ![8, 256, 128]⟩
abbrev S8x64x64x1024 : Shape := ⟨4, ![8, 64, 64, 1024]⟩
abbrev S8x64x63x256 : Shape := ⟨4, ![8, 64, 63, 256]⟩
abbrev S8x64x64x256 : Shape := ⟨4, ![8, 64, 64, 256]⟩
abbrev S8x63x64x256 : Shape := ⟨4, ![8, 63, 64, 256]⟩
abbrev S8x4096x64 : Shape := ⟨3, ![8, 4096, 64]⟩
abbrev S8x4096x128 : Shape := ⟨3, ![8, 4096, 128]⟩
abbrev S8x4352x128 : Shape := ⟨3, ![8, 4352, 128]⟩

abbrev nBuf : Space → Nat
  | .hbm => 196
  | .vmem => 0
  | .smem => 0
  | _ => 0

abbrev hbmTy0_0 (i : Nat) : BufTy := match i % 128 with
  | 0 => ⟨S8x4352x1024, .f32⟩
  | 1 => ⟨S8x3072, .f32⟩
  | 2 => ⟨S3072, .f32⟩
  | 3 => ⟨S6x1024, .f32⟩
  | 4 => ⟨S4x1024x1024, .f32⟩
  | 5 => ⟨S2x1024x64, .f32⟩
  | 6 => ⟨S2x1024x64, .f32⟩
  | 7 => ⟨S8x256x1024, .f32⟩
  | 8 => ⟨S8x4096x1024, .f32⟩
  | 9 => ⟨S8x1x3072, .f32⟩
  | 10 => ⟨S8x1x1024, .f32⟩
  | 11 => ⟨S8x1x1024, .f32⟩
  | 12 => ⟨S8x1x1024, .f32⟩
  | 13 => ⟨S1024, .f32⟩
  | 14 => ⟨S1024, .f32⟩
  | 15 => ⟨S1024, .f32⟩
  | 16 => ⟨S_, .f32⟩
  | 17 => ⟨S8x1x1024, .f32⟩
  | 18 => ⟨S8x1x1024, .f32⟩
  | 19 => ⟨S8x4096x1024, .f32⟩
  | 20 => ⟨S8x4096x1024, .f32⟩
  | 21 => ⟨S8x4096x1024, .f32⟩
  | 22 => ⟨S8x4096x1024, .f32⟩
  | 23 => ⟨S_, .f32⟩
  | 24 => ⟨S1024, .f32⟩
  | 25 => ⟨S1024, .f32⟩
  | 26 => ⟨S1x1x1024, .f32⟩
  | 27 => ⟨S8x256x1024, .f32⟩
  | 28 => ⟨S8x256x1024, .f32⟩
  | 29 => ⟨S1x1x1024, .f32⟩
  | 30 => ⟨S8x256x1024, .f32⟩
  | 31 => ⟨S8x256x1024, .f32⟩
  | 32 => ⟨S8x255x512, .f32⟩
  | 33 => ⟨S_, .i32⟩
  | 34 => ⟨S_, .f32⟩
  | 35 => ⟨S8x256x512, .f32⟩
  | 36 => ⟨S8x255x512, .f32⟩
  | 37 => ⟨S_, .i32⟩
  | 38 => ⟨S_, .f32⟩
  | 39 => ⟨S8x256x512, .f32⟩
  | 40 => ⟨S8x256x1024, .f32⟩
  | 41 => ⟨S8x256x1024, .f32⟩
  | 42 => ⟨S1x1024, .f32⟩
  | 43 => ⟨S1024, .f32⟩
  | 44 => ⟨S1x1x1024, .f32⟩
  | 45 => ⟨S8x256x1024, .f32⟩
  | 46 => ⟨S8x256x1024, .f32⟩
  | 47 => ⟨S8x256x1024, .f32⟩
  | 48 => ⟨S1x1024, .f32⟩
  | 49 => ⟨S1024, .f32⟩
  | 50 => ⟨S1x1x1024, .f32⟩
  | 51 => ⟨S8x256x1024, .f32⟩
  | 52 => ⟨S8x256x1024, .f32⟩
  | 53 => ⟨S8x256x1024, .f32⟩
  | 54 => ⟨S1x1024, .f32⟩
  | 55 => ⟨S1024, .f32⟩
  | 56 => ⟨S1x1x1024, .f32⟩
  | 57 => ⟨S8x256x1024, .f32⟩
  | 58 => ⟨S8x256x1024, .f32⟩
  | 59 => ⟨S8x256x1024, .f32⟩
  | 60 => ⟨S1x1024, .f32⟩
  | 61 => ⟨S1024, .f32⟩
  | 62 => ⟨S1x1x1024, .f32⟩
  | 63 => ⟨S8x256x1024, .f32⟩
  | 64 => ⟨S8x256x1024, .f32⟩
  | 65 => ⟨S8x256x1024, .f32⟩
  | 66 => ⟨S1x1024, .f32⟩
  | 67 => ⟨S1024, .f32⟩
  | 68 => ⟨S1x1x1024, .f32⟩
  | 69 => ⟨S8x256x1024, .f32⟩
  | 70 => ⟨S8x256x1024, .f32⟩
  | 71 => ⟨S8x256x1024, .f32⟩
  | 72 => ⟨S1x1024, .f32⟩
  | 73 => ⟨S1024, .f32⟩
  | 74 => ⟨S1x1x1024, .f32⟩
  | 75 => ⟨S8x256x1024, .f32⟩
  | 76 => ⟨S8x256x1024, .f32⟩
  | 77 => ⟨S8x256x1024, .f32⟩
  | 78 => ⟨S1x1024x1024, .f32⟩
  | 79 => ⟨S1024x1024, .f32⟩
  | 80 => ⟨S8x256x1024, .f32⟩
  | 81 => ⟨S1x1024x1024, .f32⟩
  | 82 => ⟨S1024x1024, .f32⟩
  | 83 => ⟨S8x256x1024, .f32⟩
  | 84 => ⟨S1x1024x1024, .f32⟩
  | 85 => ⟨S1024x1024, .f32⟩
  | 86 => ⟨S8x256x1024, .f32⟩
  | 87 => ⟨S1x1024x1024, .f32⟩
  | 88 => ⟨S1024x1024, .f32⟩
  | 89 => ⟨S8x256x1024, .f32⟩
  | 90 => ⟨S1x1024x64, .f32⟩
  | 91 => ⟨S1024x64, .f32⟩
  | 92 => ⟨S8x256x64, .f32⟩
  | 93 => ⟨S8x256x64, .f32⟩
  | 94 => ⟨S1x1024x64, .f32⟩
  | 95 => ⟨S1024x64, .f32⟩
  | 96 => ⟨S8x256x64, .f32⟩
  | 97 => ⟨S8x256x64, .f32⟩
  | 98 => ⟨S8x256x128, .f32⟩
  | 99 => ⟨S1x1024x64, .f32⟩
  | 100 => ⟨S1024x64, .f32⟩
  | 101 => ⟨S8x256x64, .f32⟩
  | 102 => ⟨S1x1024x64, .f32⟩
  | 103 => ⟨S1024x64, .f32⟩
  | 104 => ⟨S8x256x64, .f32⟩
  | 105 => ⟨S8x256x128, .f32⟩
  | 106 => ⟨S8x64x64x1024, .f32⟩
  | 107 => ⟨S8x64x63x256, .f32⟩
  | 108 => ⟨S_, .i32⟩
  | 109 => ⟨S_, .f32⟩
  | 110 => ⟨S8x64x64x256, .f32⟩
  | 111 => ⟨S8x64x63x256, .f32⟩
  | 112 => ⟨S_, .i32⟩
  | 113 => ⟨S_, .f32⟩
  | 114 => ⟨S8x64x64x256, .f32⟩
  | 115 => ⟨S8x63x64x256, .f32⟩
  | 116 => ⟨S_, .i32⟩
  | 117 => ⟨S_, .f32⟩
  | 118 => ⟨S8x64x64x256, .f32⟩
  | 119 => ⟨S8x63x64x256, .f32⟩
  | 120 => ⟨S_, .i32⟩
  | 121 => ⟨S_, .f32⟩
  | 122 => ⟨S8x64x64x256, .f32⟩
  | 123 => ⟨S8x64x64x1024, .f32⟩
  | 124 => ⟨S8x4096x1024, .f32⟩
  | 125 => ⟨S8x4096x1024, .f32⟩
  | 126 => ⟨S1x1024, .f32⟩
  | 127 => ⟨S1024, .f32⟩
  | _ => ⟨S8x4352x1024, .f32⟩

abbrev hbmTy0_1 (i : Nat) : BufTy := match i % 128 with
  | 0 => ⟨S1x1x1024, .f32⟩
  | 1 => ⟨S8x4096x1024, .f32⟩
  | 2 => ⟨S8x4096x1024, .f32⟩
  | 3 => ⟨S8x4096x1024, .f32⟩
  | 4 => ⟨S1x1024, .f32⟩
  | 5 => ⟨S1024, .f32⟩
  | 6 => ⟨S1x1x1024, .f32⟩
  | 7 => ⟨S8x4096x1024, .f32⟩
  | 8 => ⟨S8x4096x1024, .f32⟩
  | 9 => ⟨S8x4096x1024, .f32⟩
  | 10 => ⟨S1x1024, .f32⟩
  | 11 => ⟨S1024, .f32⟩
  | 12 => ⟨S1x1x1024, .f32⟩
  | 13 => ⟨S8x4096x1024, .f32⟩
  | 14 => ⟨S8x4096x1024, .f32⟩
  | 15 => ⟨S8x4096x1024, .f32⟩
  | 16 => ⟨S1x1024, .f32⟩
  | 17 => ⟨S1024, .f32⟩
  | 18 => ⟨S1x1x1024, .f32⟩
  | 19 => ⟨S8x4096x1024, .f32⟩
  | 20 => ⟨S8x4096x1024, .f32⟩
  | 21 => ⟨S8x4096x1024, .f32⟩
  | 22 => ⟨S1x1024, .f32⟩
  | 23 => ⟨S1024, .f32⟩
  | 24 => ⟨S1x1x1024, .f32⟩
  | 25 => ⟨S8x4096x1024, .f32⟩
  | 26 => ⟨S8x4096x1024, .f32⟩
  | 27 => ⟨S8x4096x1024, .f32⟩
  | 28 => ⟨S1x1024, .f32⟩
  | 29 => ⟨S1024, .f32⟩
  | 30 => ⟨S1x1x1024, .f32⟩
  | 31 => ⟨S8x4096x1024, .f32⟩
  | 32 => ⟨S8x4096x1024, .f32⟩
  | 33 => ⟨S8x4096x1024, .f32⟩
  | 34 => ⟨S1x1024x1024, .f32⟩
  | 35 => ⟨S1024x1024, .f32⟩
  | 36 => ⟨S8x4096x1024, .f32⟩
  | 37 => ⟨S1x1024x1024, .f32⟩
  | 38 => ⟨S1024x1024, .f32⟩
  | 39 => ⟨S8x4096x1024, .f32⟩
  | 40 => ⟨S1x1024x1024, .f32⟩
  | 41 => ⟨S1024x1024, .f32⟩
  | 42 => ⟨S8x4096x1024, .f32⟩
  | 43 => ⟨S1x1024x1024, .f32⟩
  | 44 => ⟨S1024x1024, .f32⟩
  | 45 => ⟨S8x4096x1024, .f32⟩
  | 46 => ⟨S1x1024x64, .f32⟩
  | 47 => ⟨S1024x64, .f32⟩
  | 48 => ⟨S8x4096x64, .f32⟩
  | 49 => ⟨S8x4096x64, .f32⟩
  | 50 => ⟨S1x1024x64, .f32⟩
  | 51 => ⟨S1024x64, .f32⟩
  | 52 => ⟨S8x4096x64, .f32⟩
  | 53 => ⟨S8x4096x64, .f32⟩
  | 54 => ⟨S8x4096x128, .f32⟩
  | 55 => ⟨S1x1024x64, .f32⟩
  | 56 => ⟨S1024x64, .f32⟩
  | 57 => ⟨S8x4096x64, .f32⟩
  | 58 => ⟨S1x1024x64, .f32⟩
  | 59 => ⟨S1024x64, .f32⟩
  | 60 => ⟨S8x4096x64, .f32⟩
  | 61 => ⟨S8x4096x128, .f32⟩
  | 62 => ⟨S8x4352x1024, .f32⟩
  | 63 => ⟨S8x4352x1024, .f32⟩
  | 64 => ⟨S8x4352x1024, .f32⟩
  | 65 => ⟨S8x4352x1024, .f32⟩
  | 66 => ⟨S8x4352x128, .f32⟩
  | 67 => ⟨S8x4352x128, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_call1_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_c_2 : Ref sig .tc := ⟨.hbm, 108, rfl⟩
abbrev main_call2_v0 : Ref sig .tc := ⟨.hbm, 109, rfl⟩
abbrev main_v95 : Ref sig .tc := ⟨.hbm, 110, rfl⟩
abbrev main_v96 : Ref sig .tc := ⟨.hbm, 111, rfl⟩
abbrev main_c_3 : Ref sig .tc := ⟨.hbm, 112, rfl⟩
abbrev main_call3_v0 : Ref sig .tc := ⟨.hbm, 113, rfl⟩
abbrev main_v97 : Ref sig .tc := ⟨.hbm, 114, rfl⟩
abbrev main_v98 : Ref sig .tc := ⟨.hbm, 115, rfl⟩
abbrev main_c_4 : Ref sig .tc := ⟨.hbm, 116, rfl⟩
abbrev main_call4_v0 : Ref sig .tc := ⟨.hbm, 117, rfl⟩
abbrev main_v99 : Ref sig .tc := ⟨.hbm, 118, rfl⟩
abbrev main_v100 : Ref sig .tc := ⟨.hbm, 119, rfl⟩
abbrev main_c_5 : Ref sig .tc := ⟨.hbm, 120, rfl⟩
abbrev main_call5_v0 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩

abbrev nD : Nat := 1
abbrev τ : Topo := Topo.v7x

variable {F : FTy → Type} [FloatOps F]
-- ==== Proof.Scan.Math.lean ====
/-
  The retention of one head over the extended reals: the state chunk by chunk, the rows a chunk gives, the decays, and
  the two facts the programs differ by. A decay of a query's row comes out of the sum over the state, since it is not
  negative and not infinite; and a chunk read from its end with the masks and decays reversed is the chunk read forward.
-/
module

public import Idealize.ShloMosaic.Lib.Pointwise
public import Idealize.ShloMosaic.Lib.DynamicIndex
public import Idealize.ShloMosaic.PureOps.Ideal

@[expose] public section

noncomputable section

namespace Cert.ScanMath

open Idealize.ShloMosaic

/-! ## The order of the chunks -/

/-- The chunk the backward direction reads at step `n`: the two context chunks from the context's end, then the
    latents' 32 chunks from their end. -/
def cn (n : ℕ) : ℕ := if n < 2 then 1 - n else 35 - n

theorem cn_lt {n : ℕ} (h : n < 34) : cn n < 34 := by unfold cn; split <;> omega
theorem cn_cn {n : ℕ} (h : n < 34) : cn (cn n) = n := by unfold cn; split <;> split <;> omega

/-! ## The recursion -/

section Rec

variable (mk : Fin 128 → Fin 128 → EReal) (qd kd : Fin 128 → EReal) (cd : EReal)
  (Q K : ℕ → Fin 128 → Fin 256 → EReal) (V : ℕ → Fin 128 → Fin 512 → EReal)

/-- The state before chunk `n`. -/
def St : ℕ → Fin 256 → Fin 512 → EReal
  | 0 => fun _ _ => 0
  | n + 1 => fun d w => St n d w * cd + ∑ j, (K n j d * kd j) * V n j w

/-- The rows of chunk `n`, each query decayed before it reads the state. -/
def Out (n : ℕ) (i : Fin 128) (w : Fin 512) : EReal :=
  (∑ j, ((∑ d, Q n i d * K n j d) * mk i j) * V n j w) + ∑ d, (Q n i d * qd i) * St kd cd K V n d w

/-- The rows of chunk `n`, what a query reads of the state decayed afterwards. -/
def OutK (n : ℕ) (i : Fin 128) (w : Fin 512) : EReal :=
  (∑ j, ((∑ d, Q n i d * K n j d) * mk i j) * V n j w) + qd i * ∑ d, Q n i d * St kd cd K V n d w

end Rec

/-- A factor that is neither negative nor infinite goes into a sum. -/
theorem mul_sum {ι : Type} (s : Finset ι) (f : ι → EReal) {c : EReal} (h0 : 0 ≤ c) (h1 : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

theorem OutK_eq (mk qd kd cd Q K V) (n : ℕ) (i : Fin 128) (w : Fin 512) (h0 : 0 ≤ qd i) (h1 : qd i ≠ ⊤) :
    OutK mk qd kd cd Q K V n i w = Out mk qd kd cd Q K V n i w := by
  unfold OutK Out
  rw [mul_sum _ _ h0 h1]
  congr 1
  exact Finset.sum_congr rfl fun d _ => by rw [← mul_assoc, mul_comm (qd i)]

theorem St_congr (kd : Fin 128 → EReal) (cd : EReal) {K K' : ℕ → Fin 128 → Fin 256 → EReal} {V V' : ℕ → Fin 128 → Fin 512 → EReal} :
    ∀ n, (∀ k < n, K k = K' k) → (∀ k < n, V k = V' k) → St kd cd K V n = St kd cd K' V' n
  | 0, _, _ => rfl
  | n + 1, hK, hV => by
    funext d w
    unfold St
    rw [St_congr kd cd n (fun k hk => hK k (by omega)) (fun k hk => hV k (by omega)), hK n (by omega), hV n (by omega)]

theorem Out_congr (mk qd) (kd : Fin 128 → EReal) (cd : EReal) {Q Q' K K' : ℕ → Fin 128 → Fin 256 → EReal} {V V' : ℕ → Fin 128 → Fin 512 → EReal}
    (n : ℕ) (hQ : Q n = Q' n) (hK : ∀ k ≤ n, K k = K' k) (hV : ∀ k ≤ n, V k = V' k) :
    Out mk qd kd cd Q K V n = Out mk qd kd cd Q' K' V' n := by
  funext i w
  unfold Out
  rw [St_congr kd cd n (fun k hk => hK k (by omega)) (fun k hk => hV k (by omega)), hQ, hK n le_rfl, hV n le_rfl]

theorem St_rev (kd cd) (K : ℕ → Fin 128 → Fin 256 → EReal) (V : ℕ → Fin 128 → Fin 512 → EReal) :
    ∀ n, St (fun j => kd j.rev) cd (fun n j => K n j.rev) (fun n j => V n j.rev) n = St kd cd K V n
  | 0 => rfl
  | n + 1 => by
    funext d w
    unfold St
    rw [St_rev kd cd K V n]
    congr 1
    exact (Equiv.sum_comp Fin.revPerm fun j => (K n j d * kd j) * V n j w)

theorem Out_rev (mk : Fin 128 → Fin 128 → EReal) (qd kd : Fin 128 → EReal) (cd) (Q K : ℕ → Fin 128 → Fin 256 → EReal)
    (V : ℕ → Fin 128 → Fin 512 → EReal) (n : ℕ) (i : Fin 128) (w : Fin 512) :
    Out (fun i j => mk i.rev j.rev) (fun j => qd j.rev) (fun j => kd j.rev) cd (fun n j => Q n j.rev) (fun n j => K n j.rev)
      (fun n j => V n j.rev) n i w = Out mk qd kd cd Q K V n i.rev w := by
  unfold Out
  rw [St_rev kd cd K V n]
  congr 1
  exact (Equiv.sum_comp Fin.revPerm fun j => ((∑ d, Q n i.rev d * K n j d) * mk i.rev j) * V n j w)

/-! ## The decays -/

/-- The log-sigmoid. -/
def ls (g : EReal) : EReal := -(max (-g) 0 + Ideal.log1p (Ideal.exp (-max (-g) (- -g))))

theorem exp_nonneg (x : EReal) : 0 ≤ Ideal.exp x := by
  induction x with
  | bot => simp
  | top => simp
  | coe r => rw [Ideal.exp_coe]; exact EReal.coe_nonneg.mpr (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem log1p_exp_nonneg (x : EReal) : 0 ≤ Ideal.log1p (Ideal.exp x) := by
  unfold Ideal.log1p
  induction x with
  | bot => rw [Ideal.exp_bot, add_zero, ← EReal.coe_one, Ideal.log_coe]; simp [show ¬ ((1 : ℝ) ≤ 0) by norm_num]
  | top => rw [Ideal.exp_top, EReal.add_top_of_ne_bot (by decide)]; simp
  | coe r =>
    have hp := Real.exp_pos r
    rw [Ideal.exp_coe, ← EReal.coe_one, ← EReal.coe_add, Ideal.log_coe]
    simp only [show ¬ (1 + Real.exp r ≤ 0) by linarith, if_false]
    exact EReal.coe_nonneg.mpr (Real.log_nonneg (by linarith))

theorem ls_ne_top (g : EReal) : ls g ≠ ⊤ := by
  have h : ls g ≤ 0 := by
    unfold ls
    rw [EReal.neg_le, neg_zero]
    exact add_nonneg (le_max_right _ _) (log1p_exp_nonneg _)
  exact fun e => absurd (e ▸ h) (by decide)

/-- The mask: a key at or before the query's row, by how far it is before. -/
def mkF (lg : EReal) (i j : Fin 128) : EReal :=
  if j ≤ i then Ideal.exp ((((i.val : ℝ) - (j.val : ℝ) : ℝ) : EReal) * lg) else 0
def qdF (lg : EReal) (i : Fin 128) : EReal := Ideal.exp ((((i.val : ℝ) + 1 : ℝ) : EReal) * lg)
def kdF (lg : EReal) (i : Fin 128) : EReal := Ideal.exp ((((127 : ℝ) - i.val : ℝ) : EReal) * lg)
def cdF (lg : EReal) : EReal := Ideal.exp (((128 : ℝ) : EReal) * lg)

theorem qdF_nonneg (lg i) : 0 ≤ qdF lg i := exp_nonneg _
theorem qdF_ne_top {lg} (h : lg ≠ ⊤) (i) : qdF lg i ≠ ⊤ := by
  refine exp_ne_top fun e => ?_
  have hc : (0 : ℝ) < (i.val : ℝ) + 1 := by positivity
  induction lg with
  | bot => rw [EReal.coe_mul_bot_of_pos hc] at e; exact absurd e (by decide)
  | top => exact h rfl
  | coe r => rw [← EReal.coe_mul] at e; exact EReal.coe_ne_top _ e

theorem ofBits_127 : Ideal.ofBits .f32 0x42FE0000#32 = ((127 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

theorem sitofp_ofNat {n : ℕ} (h : n < 2 ^ 31) : FloatOps.sitofp (F := Ideal) FTy.f32 (BitVec.ofNat 32 n) = ((n : ℝ) : EReal) := by
  have e : (BitVec.ofNat 32 n).toInt = n := toInt_ofNat_of_lt h
  show (((BitVec.ofNat 32 n).toInt : ℝ) : EReal) = _
  rw [e]; rfl

/-! ## The result -/

section Result

variable (g : Fin 2 → Fin 4 → EReal) (X : Fin 8 → Fin 4352 → Fin 4096 → EReal) (b : Fin 8) (h : Fin 4)

/-- A head's queries, keys and values, cut into chunks of 128 rows. -/
def qCh (n : ℕ) (j : Fin 128) (d : Fin 256) : EReal :=
  X b ⟨(128 * n + j.val) % 4352, Nat.mod_lt _ (by decide)⟩ ⟨h.val * 256 + d.val, by omega⟩
def kCh (n : ℕ) (j : Fin 128) (d : Fin 256) : EReal :=
  X b ⟨(128 * n + j.val) % 4352, Nat.mod_lt _ (by decide)⟩ ⟨1024 + (h.val * 256 + d.val), by omega⟩
def vCh (n : ℕ) (j : Fin 128) (d : Fin 512) : EReal :=
  X b ⟨(128 * n + j.val) % 4352, Nat.mod_lt _ (by decide)⟩ ⟨2048 + (h.val * 512 + d.val), by omega⟩

/-- A head's row before it is normed: the forward direction's and the backward direction's. -/
def rowOf (q k : ℕ → Fin 128 → Fin 256 → EReal) (v : ℕ → Fin 128 → Fin 512 → EReal) (lg lg' : EReal) (r : Fin 4352) (w : Fin 512) : EReal :=
  Out (mkF lg) (qdF lg) (kdF lg) (cdF lg) q k v (r.val / 128) ⟨r.val % 128, Nat.mod_lt _ (by decide)⟩ w
    + Out (mkF lg') (qdF lg') (kdF lg') (cdF lg') (fun n j => q (cn n) j.rev) (fun n j => k (cn n) j.rev)
        (fun n j => v (cn n) j.rev) (cn (r.val / 128)) (Fin.rev ⟨r.val % 128, Nat.mod_lt _ (by decide)⟩) w

/-- A row divided by the root of its mean square. -/
def normRow (f : Fin 512 → EReal) (w : Fin 512) : EReal :=
  f w * Ideal.rsqrt (Ideal.div (∑ x : Fin 512, f x * f x) (Ideal.ofBits .f32 0x44000000#32) + Ideal.ofBits .f32 0x358637BD#32)

/-- The retention's result. -/
def val (r : Fin 4352) (w : Fin 512) : EReal :=
  normRow (rowOf (qCh X b h) (kCh X b h) (vCh X b h) (ls (g 0 h)) (ls (g 1 h)) r) w

end Result

end Cert.ScanMath
-- ==== Proof.Scan.Spec.lean ====
/-
  The retention scan of one head, as the kernel's body computes it: the recursion over the 34 chunks of 128
  rows in each direction, and the block of the result it leaves. All of it over any float values.
-/
module

public import proofs.«01_k».proof.Proof.Gen.KernelIdeal.Frame
public import proofs.«01_k».proof.Proof.Gen.KernelIdeal.Loops
public import Idealize.ShloMosaic.Lib.Tactic
public import Idealize.ShloMosaic.Lib.WritesUnit
public import Idealize.ShloMosaic.Lib.VecWindow
public import Idealize.ShloMosaic.Lib.Pipeline.Value
public import Idealize.ShloMosaic.Lib.Pointwise.Index
public import proofs.«01_k».proof.Proof.Scan.Math

@[expose] public section

noncomputable section

namespace Cert.Scan

open Cert.KernelIdeal Cert.KernelIdeal.Gen
open Cert.ScanMath (cn cn_lt cn_cn)
open Idealize.ShloMosaic

variable {F : FTy → Type} [FloatOps F]

/-! ## The order of the chunks -/

theorem trips1 : k0_t1_loop.trips = 17 := by decide +kernel
theorem trips2 : k0_t2_loop.trips = 17 := by decide +kernel

theorem off3_0 (k : Fin k0_t1_loop.trips) : k0_off3 k 0#32 = ![0, 128 * (2 * k.val), 0] := by revert k; decide +kernel
theorem off3_1 (k : Fin k0_t1_loop.trips) : k0_off3 k 1#32 = ![0, 128 * (2 * k.val + 1), 0] := by revert k; decide +kernel
theorem off4_0 (k : Fin k0_t1_loop.trips) : k0_off4 k 0#32 = ![0, 128 * (2 * k.val), 0] := by revert k; decide +kernel
theorem off4_1 (k : Fin k0_t1_loop.trips) : k0_off4 k 1#32 = ![0, 128 * (2 * k.val + 1), 0] := by revert k; decide +kernel
theorem off5_0 (k : Fin k0_t1_loop.trips) : k0_off5 k 0#32 = ![0, 128 * cn (2 * k.val), 0] := by revert k; decide +kernel
theorem off5_1 (k : Fin k0_t1_loop.trips) : k0_off5 k 1#32 = ![0, 128 * cn (2 * k.val + 1), 0] := by revert k; decide +kernel
theorem off6_0 (k : Fin k0_t1_loop.trips) : k0_off6 k 0#32 = ![0, 128 * cn (2 * k.val), 0] := by revert k; decide +kernel
theorem off6_1 (k : Fin k0_t1_loop.trips) : k0_off6 k 1#32 = ![0, 128 * cn (2 * k.val + 1), 0] := by revert k; decide +kernel
theorem off7_0 (k : Fin k0_t1_loop.trips) : k0_off7 k 0#32 = ![128 * cn (2 * k.val), 0] := by revert k; decide +kernel
theorem off7_1 (k : Fin k0_t1_loop.trips) : k0_off7 k 1#32 = ![128 * cn (2 * k.val + 1), 0] := by revert k; decide +kernel
theorem off8 (k : Fin k0_t2_loop.trips) : k0_off8 k = ![0, 256 * k.val, 0] := by revert k; decide +kernel
theorem off9 (k : Fin k0_t2_loop.trips) : k0_off9 k = ![256 * k.val, 0] := by revert k; decide +kernel

/-! ## A chunk of a head's rows -/

/-- Rows `128 n …` of the queries or the keys. -/
def rowsK (x : Vec F S1x4352x256 .bf16) (n : ℕ) : Vec F S1x128x256 .bf16 :=
  fun y => x (ix3 (n0 := 1) (n1 := 4352) (n2 := 256) 0 ⟨(128 * n + (y 1).val) % 4352, Nat.mod_lt _ (by decide)⟩ (y 2))

/-- Rows `128 n …` of the values. -/
def rowsV (x : Vec F S1x4352x512 .bf16) (n : ℕ) : Vec F S1x128x512 .bf16 :=
  fun y => x (ix3 (n0 := 1) (n1 := 4352) (n2 := 512) 0 ⟨(128 * n + (y 1).val) % 4352, Nat.mod_lt _ (by decide)⟩ (y 2))

/-! ## One chunk -/

/-- The state after a chunk: the state before it decayed, and the chunk's own keys and values. -/
def stS (kd : FVec F S128x1 .f32) (cd : FVec F S1x1 .f32) (k : Vec F S1x128x256 .bf16) (v : Vec F S1x128x512 .bf16)
    (s : FVec F S256x512 .f32) : FVec F S256x512 .f32 := k0_pay29 cd (k0_pay10 kd k v) s

/-- A chunk's rows of the result: its own scores masked and applied to its values, and the state before it read by
    its queries. -/
def stO (mk : FVec F S128x128 .f32) (qd : FVec F S128x1 .f32) (q k : Vec F S1x128x256 .bf16) (v : Vec F S1x128x512 .bf16)
    (s : FVec F S256x512 .f32) : FVec F S128x512 .f32 :=
  addf (k0_pay25 mk (k0_pay13 v) (k0_pay14 (k0_pay11 q) k))
    (mulf (broadcastTo S128x512 qd broadcasts_S128x1_S128x512) (k0_pay28 (k0_pay11 q) s))

theorem pay31_eq (kd : FVec F S128x1 .f32) (cd : FVec F S1x1 .f32) (k v s) :
    k0_pay31 cd (k0_pay15 kd k v) s = stS kd cd k v s := rfl
theorem pay34_eq (kd : FVec F S128x1 .f32) (cd : FVec F S1x1 .f32) (k v s) :
    k0_pay34 cd (k0_pay20 kd k v) s = stS kd cd k v s := rfl
theorem pay36_eq (kd : FVec F S128x1 .f32) (cd : FVec F S1x1 .f32) (k v s) :
    k0_pay3 (k0_pay36 cd (k0_pay24 kd (k0_pay22 k) (k0_pay23 v)) s) = stS kd cd k v s := rfl

theorem pay30_eq (mk : FVec F S128x128 .f32) (qd : FVec F S128x1 .f32) (q k v s) :
    k0_pay30 mk qd (k0_pay6 q) (k0_pay8 v) (k0_pay9 q k) s
      = shapeCast S1x128x512 (stO mk qd q k v s) shapeCasts_S128x512_S1x128x512 := rfl
theorem pay35_eq (mk : FVec F S128x128 .f32) (qd : FVec F S128x1 .f32) (q k v s) :
    k0_pay35 qd (k0_pay16 q) (k0_pay26 mk (k0_pay18 v) (k0_pay19 q k)) s
      = shapeCast S1x128x512 (stO mk qd q k v s) shapeCasts_S128x512_S1x128x512 := rfl
theorem pay32_eq (mk : FVec F S128x128 .f32) (qd : FVec F S128x1 .f32) (q k v s) :
    k0_pay32 qd (k0_pay25 mk (k0_pay13 v) (k0_pay14 (k0_pay11 q) k)) (k0_pay28 (k0_pay11 q) s) = stO mk qd q k v s :=
  shapeCast_self _ _
theorem pay4_eq (mk : FVec F S128x128 .f32) (qd : FVec F S128x1 .f32) (q k v s) :
    k0_pay4 qd (k0_pay27 mk (k0_pay21 q) (k0_pay22 k) (k0_pay23 v) (constant S128x128 .f32 0x00000000#32))
      (k0_pay33 (k0_pay21 q) s) = stO mk qd q k v s :=
  shapeCast_self _ _

/-! ## The recursion -/

section Rec

variable (mk : FVec F S128x128 .f32) (qd kd : FVec F S128x1 .f32) (cd : FVec F S1x1 .f32)
  (x3 x4 : Vec F S1x4352x256 .bf16) (x5 : Vec F S1x4352x512 .bf16)

/-- The state before step `n`, the chunks read in the order `o`. -/
def stN (o : ℕ → ℕ) : ℕ → FVec F S256x512 .f32
  | 0 => k0_pay2
  | n + 1 => stS kd cd (rowsK x4 (o n)) (rowsV x5 (o n)) (stN o n)

/-- The rows step `n` gives, the chunks read in the order `o`. -/
def outN (o : ℕ → ℕ) (n : ℕ) : FVec F S128x512 .f32 :=
  stO mk qd (rowsK x3 (o n)) (rowsK x4 (o n)) (rowsV x5 (o n)) (stN kd cd x4 x5 o n)

end Rec

/-! ## The head's result -/

section Result

variable (mk mk' : FVec F S128x128 .f32) (qd kd qd' kd' : FVec F S128x1 .f32) (cd cd' : FVec F S1x1 .f32)
  (x3 x4 : Vec F S1x4352x256 .bf16) (x5 : Vec F S1x4352x512 .bf16)

/-- The forward direction's rows. -/
def fwdRows : Vec F S1x4352x512 .f32 := fun y =>
  shapeCast S1x128x512 (outN mk qd kd cd x3 x4 x5 id ((y 1).val / 128)) shapeCasts_S128x512_S1x128x512
    (ix3 (n0 := 1) (n1 := 128) (n2 := 512) 0 ⟨(y 1).val % 128, Nat.mod_lt _ (by decide)⟩ (y 2))

/-- The backward direction's rows. -/
def bwdRows : Vec F S4352x512 .f32 := fun y =>
  outN mk' qd' kd' cd' x3 x4 x5 cn (cn ((y 0).val / 128))
    (ix2 (n0 := 128) (n1 := 512) ⟨(y 0).val % 128, Nat.mod_lt _ (by decide)⟩ (y 1))

/-- Rows `256 t …` of the two directions, as the last loop reads them. -/
def tile6 (a : Vec F S1x4352x512 .f32) (t : ℕ) : Vec F S1x256x512 .f32 :=
  fun y => a (ix3 (n0 := 1) (n1 := 4352) (n2 := 512) 0 ⟨(256 * t + (y 1).val) % 4352, Nat.mod_lt _ (by decide)⟩ (y 2))
def tile9 (a : Vec F S4352x512 .f32) (t : ℕ) : Vec F S256x512 .f32 :=
  fun y => a (ix2 (n0 := 4352) (n1 := 512) ⟨(256 * t + (y 0).val) % 4352, Nat.mod_lt _ (by decide)⟩ (y 1))

/-- The two directions' sum, each row divided by the root of its mean square. -/
def normed (a : Vec F S1x4352x512 .f32) (b : Vec F S4352x512 .f32) : Vec F S1x4352x512 .f32 := fun y =>
  k0_pay5 (tile6 a ((y 1).val / 256)) (tile9 b ((y 1).val / 256))
    (ix3 (n0 := 1) (n1 := 256) (n2 := 512) 0 ⟨(y 1).val % 256, Nat.mod_lt _ (by decide)⟩ (y 2))

end Result

end Cert.Scan
-- ==== Proof.Scan.Trip.lean ====
/-
  The two loops of the scan's body: what the first leaves in the two states and in the two directions' rows after
  each trip (two chunks a trip), and what the second leaves in the result's block.
-/
module

public import proofs.«01_k».proof.Proof.Scan.Spec
public import Idealize.ShloMosaic.Lib.WholeRead

@[expose] public section

noncomputable section

namespace Cert.Scan

open Cert.KernelIdeal Cert.KernelIdeal.Gen
open Cert.ScanMath (cn cn_lt cn_cn)
open Idealize.ShloMosaic Idealize.ShloMosaic.TcCoe Idealize.ShloMosaic.Tactic

variable {F : FTy → Type} [FloatOps F]

/-! ## Loads -/

section Loads

variable {κ : Kind} {sp : Space}

/-- A chunk's rows read from the queries' (or the keys') block. -/
theorem readAt_rowsK (a : Memref sig κ sp S1x4352x256 .bf16) (ha : a.IsWhole) (x : Vec F S1x4352x256 .bf16) {off : Fin 3 → ℕ}
    (inb : ∀ d, off d + (![1, 128, 256] : Fin 3 → ℕ) d ≤ S1x4352x256.size d) (n : ℕ) (hn : n < 34) (h : off = ![0, 128 * n, 0]) :
    a.view.readAt (Elt F) (Rect.unit (s := S1x4352x256) off ![1, 128, 256] inb).toLoadRect (ha.unread x) = rowsK x n := by
  subst h
  funext y
  refine (ha.readAt_unread x _ y).trans (congrArg x (funext fun d => Fin.ext ?_))
  have h0 : (y 0).val < 1 := (y 0).isLt
  have h1 : (y 1).val < 128 := (y 1).isLt
  match d with
  | ⟨0, _⟩ => show 0 + 1 * (y 0).val = 0; omega
  | ⟨1, _⟩ => show 128 * n + 1 * (y 1).val = (128 * n + (y 1).val) % 4352; omega
  | ⟨2, _⟩ => show 0 + 1 * (y 2).val = (y 2).val; omega

/-- A chunk's rows read from the values' block. -/
theorem readAt_rowsV (a : Memref sig κ sp S1x4352x512 .bf16) (ha : a.IsWhole) (x : Vec F S1x4352x512 .bf16) {off : Fin 3 → ℕ}
    (inb : ∀ d, off d + (![1, 128, 512] : Fin 3 → ℕ) d ≤ S1x4352x512.size d) (n : ℕ) (hn : n < 34) (h : off = ![0, 128 * n, 0]) :
    a.view.readAt (Elt F) (Rect.unit (s := S1x4352x512) off ![1, 128, 512] inb).toLoadRect (ha.unread x) = rowsV x n := by
  subst h
  funext y
  refine (ha.readAt_unread x _ y).trans (congrArg x (funext fun d => Fin.ext ?_))
  have h0 : (y 0).val < 1 := (y 0).isLt
  have h1 : (y 1).val < 128 := (y 1).isLt
  match d with
  | ⟨0, _⟩ => show 0 + 1 * (y 0).val = 0; omega
  | ⟨1, _⟩ => show 128 * n + 1 * (y 1).val = (128 * n + (y 1).val) % 4352; omega
  | ⟨2, _⟩ => show 0 + 1 * (y 2).val = (y 2).val; omega

/-- A store of 128 rows at row `128 n`: inside them its payload, outside them what was there. -/
theorem read_rows6_mem (a : Memref sig κ sp S1x4352x512 .f32) (f : a.view.ty.Contents (Elt F)) {off : Fin 3 → ℕ}
    (inb : ∀ d, off d + (![1, 128, 512] : Fin 3 → ℕ) d ≤ S1x4352x512.size d) (w : Vec F S1x128x512 .f32)
    (L : List (View.Piece (Elt F) S1x4352x512 .f32)) (n : ℕ) (h : off = ![0, 128 * n, 0]) (y : S1x4352x512.Idx)
    (hy : (y 1).val / 128 = n) :
    a.view.read (Elt F) (a.view.writes (Elt F) f (⟨Rect.unit (s := S1x4352x512) off ![1, 128, 512] inb, w⟩ :: L)) y
      = w (ix3 (n0 := 1) (n1 := 128) (n2 := 512) 0 ⟨(y 1).val % 128, Nat.mod_lt _ (by decide)⟩ (y 2)) := by
  refine View.read_writes_cons_unit_of_mem a.view f inb w L y _ h fun d => ?_
  have h0 : (y 0).val < 1 := (y 0).isLt
  match d with
  | ⟨0, _⟩ => show (y 0).val = 0 + 0; omega
  | ⟨1, _⟩ => show (y 1).val = 128 * n + (y 1).val % 128; omega
  | ⟨2, _⟩ => show (y 2).val = 0 + (y 2).val; omega

theorem read_rows6_not_mem (a : Memref sig κ sp S1x4352x512 .f32) (f : a.view.ty.Contents (Elt F)) {off : Fin 3 → ℕ}
    (inb : ∀ d, off d + (![1, 128, 512] : Fin 3 → ℕ) d ≤ S1x4352x512.size d) (w : Vec F S1x128x512 .f32)
    (L : List (View.Piece (Elt F) S1x4352x512 .f32)) (n : ℕ) (h : off = ![0, 128 * n, 0]) (y : S1x4352x512.Idx)
    (hy : (y 1).val / 128 ≠ n) :
    a.view.read (Elt F) (a.view.writes (Elt F) f (⟨Rect.unit (s := S1x4352x512) off ![1, 128, 512] inb, w⟩ :: L)) y
      = a.view.read (Elt F) (a.view.writes (Elt F) f L) y := by
  refine View.read_writes_cons_unit_of_not_mem a.view f inb w L y h 1 ?_
  show (y 1).val < 128 * n ∨ 128 * n + 128 ≤ (y 1).val
  omega

theorem read_rows9_mem (a : Memref sig κ sp S4352x512 .f32) (f : a.view.ty.Contents (Elt F)) {off : Fin 2 → ℕ}
    (inb : ∀ d, off d + (![128, 512] : Fin 2 → ℕ) d ≤ S4352x512.size d) (w : Vec F S128x512 .f32)
    (L : List (View.Piece (Elt F) S4352x512 .f32)) (n : ℕ) (h : off = ![128 * n, 0]) (y : S4352x512.Idx)
    (hy : (y 0).val / 128 = n) :
    a.view.read (Elt F) (a.view.writes (Elt F) f (⟨Rect.unit (s := S4352x512) off ![128, 512] inb, w⟩ :: L)) y
      = w (ix2 (n0 := 128) (n1 := 512) ⟨(y 0).val % 128, Nat.mod_lt _ (by decide)⟩ (y 1)) := by
  refine View.read_writes_cons_unit_of_mem a.view f inb w L y _ h fun d => ?_
  match d with
  | ⟨0, _⟩ => show (y 0).val = 128 * n + (y 0).val % 128; omega
  | ⟨1, _⟩ => show (y 1).val = 0 + (y 1).val; omega

theorem read_rows9_not_mem (a : Memref sig κ sp S4352x512 .f32) (f : a.view.ty.Contents (Elt F)) {off : Fin 2 → ℕ}
    (inb : ∀ d, off d + (![128, 512] : Fin 2 → ℕ) d ≤ S4352x512.size d) (w : Vec F S128x512 .f32)
    (L : List (View.Piece (Elt F) S4352x512 .f32)) (n : ℕ) (h : off = ![128 * n, 0]) (y : S4352x512.Idx)
    (hy : (y 0).val / 128 ≠ n) :
    a.view.read (Elt F) (a.view.writes (Elt F) f (⟨Rect.unit (s := S4352x512) off ![128, 512] inb, w⟩ :: L)) y
      = a.view.read (Elt F) (a.view.writes (Elt F) f L) y := by
  refine View.read_writes_cons_unit_of_not_mem a.view f inb w L y h 0 ?_
  show (y 0).val < 128 * n ∨ 128 * n + 128 ≤ (y 0).val
  omega

/-- A load of the whole state. -/
theorem readAt_state (a : Memref sig κ sp S256x512 .f32) (f : a.view.ty.Contents (Elt F))
    (inb : ∀ d, (![0, 0] : Fin 2 → ℕ) d + (![256, 512] : Fin 2 → ℕ) d ≤ S256x512.size d) :
    a.view.readAt (Elt F) (Rect.unit (s := S256x512) ![0, 0] ![256, 512] inb).toLoadRect f = a.view.read (Elt F) f :=
  View.readAt_full a.view f inb

/-- A load of the whole state after a store of the whole state. -/
theorem readCov_state (a : Memref sig κ sp S256x512 .f32)
    (inb : ∀ d, (![0, 0] : Fin 2 → ℕ) d + (![256, 512] : Fin 2 → ℕ) d ≤ S256x512.size d) (w : Vec F S256x512 .f32)
    (L : List (View.Piece (Elt F) S256x512 .f32)) :
    a.view.readCov (⟨Rect.unit (s := S256x512) ![0, 0] ![256, 512] inb, w⟩ :: L)
      (Rect.unit (s := S256x512) ![0, 0] ![256, 512] inb).toLoadRect = w :=
  View.readCov_full a.view inb inb w L

/-- A store of the whole state. -/
theorem read_state (a : Memref sig κ sp S256x512 .f32) (f : a.view.ty.Contents (Elt F))
    (inb : ∀ d, (![0, 0] : Fin 2 → ℕ) d + (![256, 512] : Fin 2 → ℕ) d ≤ S256x512.size d) (w : Vec F S256x512 .f32)
    (L : List (View.Piece (Elt F) S256x512 .f32)) :
    a.view.read (Elt F) (a.view.writes (Elt F) f (⟨Rect.unit (s := S256x512) ![0, 0] ![256, 512] inb, w⟩ :: L)) = w :=
  View.read_writes_full a.view f inb w L

end Loads

/-! ## The first loop -/

section Loop

variable (c : Dev nD) (i : grid0.Coords)
  (arg2 : Memref sig .tc .smem S2x4 .f32) (harg2 : arg2.IsWhole)
  (arg3 : Memref sig .tc .vmem S1x4352x256 .bf16) (harg3 : arg3.IsWhole)
  (arg4 : Memref sig .tc .vmem S1x4352x256 .bf16) (harg4 : arg4.IsWhole)
  (arg5 : Memref sig .tc .vmem S1x4352x512 .bf16) (harg5 : arg5.IsWhole)
  (arg6 : Memref sig .tc .vmem S1x4352x512 .f32) (harg6 : arg6.IsWhole)
  (arg7 : Memref sig .tc .vmem S256x512 .f32) (harg7 : arg7.IsWhole)
  (arg8 : Memref sig .tc .vmem S256x512 .f32) (harg8 : arg8.IsWhole)
  (arg9 : Memref sig .tc .vmem S4352x512 .f32) (harg9 : arg9.IsWhole)
variable (mk mk' : FVec F S128x128 .f32) (qd kd qd' kd' : FVec F S128x1 .f32) (cd cd' : FVec F S1x1 .f32)
  (x3 x4 : Vec F S1x4352x256 .bf16) (x5 : Vec F S1x4352x512 .bf16)

/-- What the four buffers the loop writes hold once `n` chunks are done. -/
structure Done (n : ℕ) (f6 : BufTy.Contents (Elt F) arg6.view.ty) (f7 : BufTy.Contents (Elt F) arg7.view.ty)
    (f8 : BufTy.Contents (Elt F) arg8.view.ty) (f9 : BufTy.Contents (Elt F) arg9.view.ty) : Prop where
  s7 : arg7.view.read (Elt F) f7 = stN kd cd x4 x5 id n
  s8 : arg8.view.read (Elt F) f8 = stN kd' cd' x4 x5 cn n
  o6 : ∀ y : S1x4352x512.Idx, (y 1).val / 128 < n →
    arg6.view.read (Elt F) f6 y = fwdRows mk qd kd cd x3 x4 x5 y
  o9 : ∀ y : S4352x512.Idx, cn ((y 0).val / 128) < n →
    arg9.view.read (Elt F) f9 y = bwdRows mk' qd' kd' cd' x3 x4 x5 y

set_option maxHeartbeats 4000000 in
/-- One trip: two chunks forward and two backward. -/
theorem done_trip (k : Fin k0_t1_loop.trips) (f6 : BufTy.Contents (Elt F) arg6.view.ty) (f7 : BufTy.Contents (Elt F) arg7.view.ty)
    (f8 : BufTy.Contents (Elt F) arg8.view.ty) (f9 : BufTy.Contents (Elt F) arg9.view.ty)
    (h : Done arg6 arg7 arg8 arg9 mk mk' qd kd qd' kd' cd cd' x3 x4 x5 (2 * k.val) f6 f7 f8 f9) :
    Done arg6 arg7 arg8 arg9 mk mk' qd kd qd' kd' cd cd' x3 x4 x5 (2 * k.val + 2)
      (arg6.view.writes (Elt F) f6 (tripL_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) k f6 f7 f8 f9).1)
      (arg7.view.writes (Elt F) f7 (tripL_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) k f6 f7 f8 f9).2.1)
      (arg8.view.writes (Elt F) f8 (tripL_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) k f6 f7 f8 f9).2.2.1)
      (arg9.view.writes (Elt F) f9 (tripL_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) k f6 f7 f8 f9).2.2.2) := by
  have hk : k.val < 17 := trips1 ▸ k.isLt
  unfold tripL_k0_t1 trip_k0_t1
  dsimp only
  simp only [trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.r_17,trip_k0_t1.sl.r_18,trip_k0_t1.sl.r_19,trip_k0_t1.sl.r_20,trip_k0_t1.sl.r_21,trip_k0_t1.sl.r_22,trip_k0_t1.sl.v228,trip_k0_t1.sl.HW_arg7_1,trip_k0_t1.sl.HW_arg8_1, trip_k0_t1.sl.v231, trip_k0_t1.sl.cst_70]
  have hc0 : cn (2 * k.val) < 34 := cn_lt (by omega)
  have hc1 : cn (2 * k.val + 1) < 34 := cn_lt (by omega)
  rw [readAt_rowsK arg3 harg3 x3 _ (2 * k.val) (by omega) (off3_0 k),
    readAt_rowsK arg4 harg4 x4 _ (2 * k.val) (by omega) (off3_0 k),
    readAt_rowsV arg5 harg5 x5 _ (2 * k.val) (by omega) (off4_0 k),
    readAt_rowsK arg3 harg3 x3 _ (2 * k.val + 1) (by omega) (off3_1 k),
    readAt_rowsK arg4 harg4 x4 _ (2 * k.val + 1) (by omega) (off3_1 k),
    readAt_rowsV arg5 harg5 x5 _ (2 * k.val + 1) (by omega) (off4_1 k),
    readAt_rowsK arg3 harg3 x3 _ _ hc0 (off5_0 k), readAt_rowsK arg4 harg4 x4 _ _ hc0 (off5_0 k),
    readAt_rowsV arg5 harg5 x5 _ _ hc0 (off6_0 k),
    readAt_rowsK arg3 harg3 x3 _ _ hc1 (off5_1 k), readAt_rowsK arg4 harg4 x4 _ _ hc1 (off5_1 k),
    readAt_rowsV arg5 harg5 x5 _ _ hc1 (off6_1 k)]
  simp only [readCov_state, readAt_state]
  rw [h.s7, h.s8]
  refine ⟨?_, ?_, fun y hy => ?_, fun y hy => ?_⟩
  · rw [read_state]
    rfl
  · rw [read_state]
    rfl
  · by_cases h1 : (y 1).val / 128 = 2 * k.val + 1
    · rw [read_rows6_mem arg6 f6 _ _ _ (2 * k.val + 1) (off4_1 k) y h1]
      unfold fwdRows
      rw [h1]
      rfl
    rw [read_rows6_not_mem arg6 f6 _ _ _ (2 * k.val + 1) (off4_1 k) y h1]
    by_cases h0 : (y 1).val / 128 = 2 * k.val
    · rw [read_rows6_mem arg6 f6 _ _ _ (2 * k.val) (off4_0 k) y h0]
      unfold fwdRows
      rw [h0]
      rfl
    rw [read_rows6_not_mem arg6 f6 _ _ _ (2 * k.val) (off4_0 k) y h0, View.writes_nil]
    exact h.o6 y (by omega)
  · have hy0 : (y 0).val < 4352 := (y 0).isLt
    have hcc : ∀ n, n < 34 → cn (cn n) = n := fun n => cn_cn
    by_cases h1 : (y 0).val / 128 = cn (2 * k.val + 1)
    · rw [read_rows9_mem arg9 f9 _ _ _ (cn (2 * k.val + 1)) (off7_1 k) y h1]
      unfold bwdRows
      rw [h1, hcc _ (by omega), pay4_eq]
      rfl
    rw [read_rows9_not_mem arg9 f9 _ _ _ (cn (2 * k.val + 1)) (off7_1 k) y h1]
    by_cases h0 : (y 0).val / 128 = cn (2 * k.val)
    · rw [read_rows9_mem arg9 f9 _ _ _ (cn (2 * k.val)) (off7_0 k) y h0]
      unfold bwdRows
      rw [h0, hcc _ (by omega), pay32_eq]
      rfl
    rw [read_rows9_not_mem arg9 f9 _ _ _ (cn (2 * k.val)) (off7_0 k) y h0, View.writes_nil]
    refine h.o9 y ?_
    have e1 : cn ((y 0).val / 128) ≠ 2 * k.val + 1 := fun e => h1 (by rw [← e, hcc _ (by omega)])
    have e0 : cn ((y 0).val / 128) ≠ 2 * k.val := fun e => h0 (by rw [← e, hcc _ (by omega)])
    omega

/-- Nothing done yet. -/
theorem done_zero (f6 : BufTy.Contents (Elt F) arg6.view.ty) (f7 : BufTy.Contents (Elt F) arg7.view.ty)
    (f8 : BufTy.Contents (Elt F) arg8.view.ty) (f9 : BufTy.Contents (Elt F) arg9.view.ty)
    (h7 : arg7.view.read (Elt F) f7 = k0_pay2) (h8 : arg8.view.read (Elt F) f8 = k0_pay2) :
    Done arg6 arg7 arg8 arg9 mk mk' qd kd qd' kd' cd cd' x3 x4 x5 0 f6 f7 f8 f9 :=
  ⟨h7, h8, fun _ h => absurd h (Nat.not_lt_zero _), fun _ h => absurd h (Nat.not_lt_zero _)⟩

/-- After `k` trips, `2 k` chunks are done in each direction. -/
theorem done_loop (f6 : BufTy.Contents (Elt F) arg6.view.ty) (f7 : BufTy.Contents (Elt F) arg7.view.ty)
    (f8 : BufTy.Contents (Elt F) arg8.view.ty) (f9 : BufTy.Contents (Elt F) arg9.view.ty)
    (h7 : arg7.view.read (Elt F) f7 = k0_pay2) (h8 : arg8.view.read (Elt F) f8 = k0_pay2) (k : ℕ) (hk : k ≤ 17) :
    Done arg6 arg7 arg8 arg9 mk mk' qd kd qd' kd' cd cd' x3 x4 x5 (2 * k)
      (arg6.view.writes (Elt F) f6 (pb_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 k).1)
      (arg7.view.writes (Elt F) f7 (pb_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 k).2.1)
      (arg8.view.writes (Elt F) f8 (pb_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 k).2.2.1)
      (arg9.view.writes (Elt F) f9 (pb_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 k).2.2.2) := by
  induction k with
  | zero =>
    rw [pb_k0_t1.eq_1]
    exact done_zero arg6 arg7 arg8 arg9 mk mk' qd kd qd' kd' cd cd' x3 x4 x5 f6 f7 f8 f9 h7 h8
  | succ k ih =>
    have hk' : k < k0_t1_loop.trips := trips1 ▸ (by omega)
    have hstep := pb_k0_t1_succ (F := F) Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 ⟨k, hk'⟩
    have hd := done_trip c i arg2 harg2 arg3 harg3 arg4 harg4 arg5 harg5 arg6 harg6 arg7 harg7 arg8 harg8 arg9 harg9 mk mk' qd kd qd' kd' cd cd' x3 x4 x5 ⟨k, hk'⟩ _ _ _ _ (ih (by omega))
    dsimp only at hstep
    rw [hstep]
    simp only [View.writes_append]
    exact hd

/-! ## The last loop -/

omit [FloatOps F] in
/-- 256 rows of the forward direction, whatever the buffer holds. -/
theorem readAt_tile6 (f : BufTy.Contents (Elt F) arg6.view.ty) {off : Fin 3 → ℕ}
    (inb : ∀ d, off d + (![1, 256, 512] : Fin 3 → ℕ) d ≤ S1x4352x512.size d) (t : ℕ) (ht : t < 17) (h : off = ![0, 256 * t, 0]) :
    arg6.view.readAt (Elt F) (Rect.unit (s := S1x4352x512) off ![1, 256, 512] inb).toLoadRect f
      = tile6 (arg6.view.read (Elt F) f) t := by
  subst h
  funext y
  show arg6.view.read (Elt F) f _ = arg6.view.read (Elt F) f _
  refine congrArg _ (funext fun d => Fin.ext ?_)
  have h0 : (y 0).val < 1 := (y 0).isLt
  have h1 : (y 1).val < 256 := (y 1).isLt
  match d with
  | ⟨0, _⟩ => show 0 + 1 * (y 0).val = 0; omega
  | ⟨1, _⟩ => show 256 * t + 1 * (y 1).val = (256 * t + (y 1).val) % 4352; omega
  | ⟨2, _⟩ => show 0 + 1 * (y 2).val = (y 2).val; omega

omit [FloatOps F] in
/-- 256 rows of the backward direction. -/
theorem readAt_tile9 (f : BufTy.Contents (Elt F) arg9.view.ty) {off : Fin 2 → ℕ}
    (inb : ∀ d, off d + (![256, 512] : Fin 2 → ℕ) d ≤ S4352x512.size d) (t : ℕ) (ht : t < 17) (h : off = ![256 * t, 0]) :
    arg9.view.readAt (Elt F) (Rect.unit (s := S4352x512) off ![256, 512] inb).toLoadRect f
      = tile9 (arg9.view.read (Elt F) f) t := by
  subst h
  funext y
  show arg9.view.read (Elt F) f _ = arg9.view.read (Elt F) f _
  refine congrArg _ (funext fun d => Fin.ext ?_)
  have h0 : (y 0).val < 256 := (y 0).isLt
  match d with
  | ⟨0, _⟩ => show 256 * t + 1 * (y 0).val = (256 * t + (y 0).val) % 4352; omega
  | ⟨1, _⟩ => show 0 + 1 * (y 1).val = (y 1).val; omega

/-- One tile of the last loop. -/
theorem tile_trip (k : Fin k0_t2_loop.trips) (f6 g6 : BufTy.Contents (Elt F) arg6.view.ty) (f9 : BufTy.Contents (Elt F) arg9.view.ty)
    (h : ∀ y : S1x4352x512.Idx, arg6.view.read (Elt F) g6 y
      = if (y 1).val / 256 < k.val then normed (arg6.view.read (Elt F) f6) (arg9.view.read (Elt F) f9) y
        else arg6.view.read (Elt F) f6 y) (y : S1x4352x512.Idx) :
    arg6.view.read (Elt F) (arg6.view.writes (Elt F) g6
        (tripL_k0_t2 Variants.none c none i arg2 harg2 arg3 harg3 arg4 harg4 arg5 harg5 arg6 harg6 arg7 harg7 arg8 harg8 arg9 harg9 f9 k g6)) y
      = if (y 1).val / 256 < k.val + 1 then normed (arg6.view.read (Elt F) f6) (arg9.view.read (Elt F) f9) y
        else arg6.view.read (Elt F) f6 y := by
  have hk : k.val < 17 := trips2 ▸ k.isLt
  have hy0 : (y 0).val < 1 := (y 0).isLt
  have hy1 : (y 1).val < 4352 := (y 1).isLt
  unfold tripL_k0_t2 trip_k0_t2
  dsimp only
  rw [readAt_tile6 arg6 g6 _ k.val hk (off8 k), readAt_tile9 arg9 f9 _ k.val hk (off9 k)]
  have ht : tile6 (arg6.view.read (Elt F) g6) k.val = tile6 (arg6.view.read (Elt F) f6) k.val := by
    funext z
    have hz : (z 1).val < 256 := (z 1).isLt
    refine (h _).trans (if_neg ?_)
    show ¬ (256 * k.val + (z 1).val) % 4352 / 256 < k.val
    omega
  rw [ht]
  by_cases h1 : (y 1).val / 256 = k.val
  · rw [if_pos (by omega)]
    refine (View.read_writes_cons_unit_of_mem arg6.view g6 _ _ [] y
      (ix3 (n0 := 1) (n1 := 256) (n2 := 512) 0 ⟨(y 1).val % 256, Nat.mod_lt _ (by decide)⟩ (y 2)) (off8 k) fun d => ?_).trans ?_
    · match d with
      | ⟨0, _⟩ => show (y 0).val = 0 + 0; omega
      | ⟨1, _⟩ => show (y 1).val = 256 * k.val + (y 1).val % 256; omega
      | ⟨2, _⟩ => show (y 2).val = 0 + (y 2).val; omega
    · unfold normed
      rw [h1]
  · refine (View.read_writes_cons_unit_of_not_mem arg6.view g6 _ _ [] y (off8 k) 1 ?_).trans ?_
    · show (y 1).val < 256 * k.val ∨ 256 * k.val + 256 ≤ (y 1).val
      omega
    · rw [View.writes_nil, h y]
      by_cases h2 : (y 1).val / 256 < k.val
      · rw [if_pos h2, if_pos (by omega)]
      · rw [if_neg h2, if_neg (by omega)]

/-- After the last loop's 17 tiles, the whole block is the normed sum of the two directions. -/
theorem tile_loop (f6 : BufTy.Contents (Elt F) arg6.view.ty) (f9 : BufTy.Contents (Elt F) arg9.view.ty) (k : ℕ) (hk : k ≤ 17)
    (y : S1x4352x512.Idx) :
    arg6.view.read (Elt F) (arg6.view.writes (Elt F) f6 (pb_k0_t2 Variants.none c none i arg2 harg2 arg3 harg3 arg4 harg4 arg5 harg5 arg6 harg6 arg7 harg7 arg8 harg8 arg9 harg9 f9 f6 k)) y
      = if (y 1).val / 256 < k then normed (arg6.view.read (Elt F) f6) (arg9.view.read (Elt F) f9) y
        else arg6.view.read (Elt F) f6 y := by
  induction k generalizing y with
  | zero => rw [pb_k0_t2.eq_1, if_neg (Nat.not_lt_zero _), View.writes_nil]
  | succ k ih =>
    have hk' : k < k0_t2_loop.trips := trips2 ▸ (by omega)
    have hstep := pb_k0_t2_succ (F := F) Variants.none c none i arg2 harg2 arg3 harg3 arg4 harg4 arg5 harg5 arg6 harg6 arg7 harg7 arg8 harg8 arg9 harg9 f9 f6 ⟨k, hk'⟩
    dsimp only at hstep
    rw [hstep, View.writes_append]
    exact tile_trip c i arg2 harg2 arg3 harg3 arg4 harg4 arg5 harg5 arg6 harg6 arg7 harg7 arg8 harg8 arg9 harg9 ⟨k, hk'⟩ f6 _ f9 (fun y => ih (by omega) y) y

/-! ## The two loops together -/

/-- The block of the result the body leaves. -/
theorem read_out (f6 : BufTy.Contents (Elt F) arg6.view.ty) (f7 : BufTy.Contents (Elt F) arg7.view.ty)
    (f8 : BufTy.Contents (Elt F) arg8.view.ty) (f9 : BufTy.Contents (Elt F) arg9.view.ty)
    (h7 : arg7.view.read (Elt F) f7 = k0_pay2) (h8 : arg8.view.read (Elt F) f8 = k0_pay2) :
    arg6.view.read (Elt F) (arg6.view.writes (Elt F) f6
        (pb_k0_t2 Variants.none c none i arg2 harg2 arg3 harg3 arg4 harg4 arg5 harg5 arg6 harg6 arg7 harg7 arg8 harg8 arg9 harg9 (arg9.view.writes (Elt F) f9 (pb_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 17).2.2.2)
            (arg6.view.writes (Elt F) f6 (pb_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 17).1) 17
          ++ (pb_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 17).1))
      = normed (fwdRows mk qd kd cd x3 x4 x5) (bwdRows mk' qd' kd' cd' x3 x4 x5) := by
  have hd := done_loop c i arg2 harg2 arg3 harg3 arg4 harg4 arg5 harg5 arg6 harg6 arg7 harg7 arg8 harg8 arg9 harg9 mk mk' qd kd qd' kd' cd cd' x3 x4 x5 f6 f7 f8 f9 h7 h8 17 le_rfl
  have h6 : arg6.view.read (Elt F) (arg6.view.writes (Elt F) f6 (pb_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 17).1)
      = fwdRows mk qd kd cd x3 x4 x5 := by
    funext y
    have hy1 : (y 1).val < 4352 := (y 1).isLt
    exact hd.o6 y (by omega)
  have h9 : arg9.view.read (Elt F) (arg9.view.writes (Elt F) f9 (pb_k0_t1 Variants.none c none i arg2 harg2 arg3 harg3 arg4 harg4 arg5 harg5 arg6 harg6 arg7 harg7 arg8 harg8 arg9 harg9 mk qd kd cd mk' qd' kd' cd' (harg3.unread x3) (harg4.unread x4) (harg5.unread x5) f6 f7 f8 f9 17).2.2.2)
      = bwdRows mk' qd' kd' cd' x3 x4 x5 := by
    funext y
    have hy0 : (y 0).val < 4352 := (y 0).isLt
    exact hd.o9 y (cn_lt (by omega))
  rw [View.writes_append]
  funext y
  have hy1 : (y 1).val < 4352 := (y 1).isLt
  rw [tile_loop c i arg2 harg2 arg3 harg3 arg4 harg4 arg5 harg5 arg6 harg6 arg7 harg7 arg8 harg8 arg9 harg9 _ _ 17 le_rfl y, if_pos (by omega), h6, h9]

end Loop

end Cert.Scan
-- ==== Proof.Scan.Body.lean ====
/-
  One run of the scan's body: from its four input blocks, whatever the result's block and the scratch buffers hold, it
  leaves the head's result in the result's block.
-/
module

public import proofs.«01_k».proof.Proof.Scan.Trip

@[expose] public section

noncomputable section

namespace Cert.Scan

open Cert.KernelIdeal Cert.KernelIdeal.Gen
open Cert.ScanMath (cn cn_lt cn_cn)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem off1_eq (i : grid0.Coords) : k0_off1 i = ![0, (i 1).val] := by
  have h : (i 1).val < 4 := (i 1).isLt
  unfold k0_off1
  show ![0, (BitVec.ofNat 32 (i 1).val).toNat] = _
  rw [BitVec.toNat_ofNat, Nat.mod_eq_of_lt (by omega)]

theorem off2_eq (i : grid0.Coords) : k0_off2 i = ![1, (i 1).val] := by
  have h : (i 1).val < 4 := (i 1).isLt
  unfold k0_off2
  show ![1, (BitVec.ofNat 32 (i 1).val).toNat] = _
  rw [BitVec.toNat_ofNat, Nat.mod_eq_of_lt (by omega)]

/-- One decay logit read from the table. -/
theorem readAt_logit {κ : Kind} {sp : Space} (a : Memref sig κ sp S2x4 .f32) (ha : a.IsWhole) (x : Vec F S2x4 .f32) {off : Fin 2 → ℕ}
    (inb : ∀ d, off d + S1x1.size d ≤ S2x4.size d) (hp : 0 < S1x1.numel) (r : Fin 2) (j : Fin 4) (h : off = ![r.val, j.val]) :
    a.view.readAt (Elt F) (Rect.unit (s := S2x4) off S1x1.size inb).toLoadRect (ha.unread x) (Shape.Idx.first hp)
      = x (ix2 (n0 := 2) (n1 := 4) r j) := by
  subst h
  refine (ha.readAt_unread x _ _).trans (congrArg x (funext fun d => Fin.ext ?_))
  match d with
  | ⟨0, _⟩ => show r.val + 1 * 0 = r.val; omega
  | ⟨1, _⟩ => show j.val + 1 * 0 = j.val; omega

/-- The head's result from its two decay logits (one a direction), its queries, keys and values. -/
def headOut (g g' : Elt F .f32) (x3 x4 : Vec F S1x4352x256 .bf16) (x5 : Vec F S1x4352x512 .bf16) : Vec F S1x4352x512 .f32 :=
  normed
    (fwdRows (k0_pay39 g) (k0_pay40 g) (k0_pay41 g) (k0_pay43 (k0_pay38 g) k0_pay42) x3 x4 x5)
    (bwdRows (k0_pay45 (iota .tc S128x128 32 [0] iota_S128x128_d0_w32) (iota .tc S128x128 32 [1] iota_S128x128_d1_w32) g')
      (k0_pay46 k0_pay37 g') (k0_pay47 k0_pay37 g') (k0_pay48 g') x3 x4 x5)

variable (c : Dev nD) (i : grid0.Coords)
  (arg2 : Memref sig .tc .smem S2x4 .f32) (harg2 : arg2.IsWhole)
  (arg3 : Memref sig .tc .vmem S1x4352x256 .bf16) (harg3 : arg3.IsWhole)
  (arg4 : Memref sig .tc .vmem S1x4352x256 .bf16) (harg4 : arg4.IsWhole)
  (arg5 : Memref sig .tc .vmem S1x4352x512 .bf16) (harg5 : arg5.IsWhole)
  (arg6 : Memref sig .tc .vmem S1x4352x512 .f32) (harg6 : arg6.IsWhole)
  (arg7 : Memref sig .tc .vmem S256x512 .f32) (harg7 : arg7.IsWhole)
  (arg8 : Memref sig .tc .vmem S256x512 .f32) (harg8 : arg8.IsWhole)
  (arg9 : Memref sig .tc .vmem S4352x512 .f32) (harg9 : arg9.IsWhole)
  (x2 : Vec F S2x4 .f32) (x3 x4 : Vec F S1x4352x256 .bf16) (x5 : Vec F S1x4352x512 .bf16)

set_option maxHeartbeats 4000000 in
theorem body_run (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (headOut (x2 (ix2 (n0 := 2) (n1 := 4) 0 (i 1))) (x2 (ix2 (n0 := 2) (n1 := 4) 1 (i 1))) x3 x4 x5)
            ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_ret_scan i arg2 harg2 arg3 harg3 arg4 harg4 arg5 harg5 arg6 harg6 arg7 harg7 arg8 harg8 arg9 harg9) K := by
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩,
    ⟨%d8, %f8, -, H8⟩, ⟨%d9, %f9, -, H9⟩, Hk⟩
  obtain rfl := harg2.eq_unread hf2
  obtain rfl := harg3.eq_unread hf3
  obtain rfl := harg4.eq_unread hf4
  obtain rfl := harg5.eq_unread hf5
  sl_unfold [cc0_ret_scan]
  sl_exec!
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]
  · iexists _
    isplitr
    swap
    · iexact H6
    · ipureintro
      refine (read_out c i arg2 harg2 arg3 harg3 arg4 harg4 arg5 harg5 arg6 harg6 arg7 harg7 arg8 harg8 arg9 harg9 _ _ _ _ _ _ _ _ x3 x4 x5 f6 _ _ f9 ?_ ?_).trans ?_
      · sl_unfold_words
        exact read_state arg7 _ _ _ _
      · sl_unfold_words
        exact read_state arg8 _ _ _ _
      · sl_unfold_words
        exact congrArg₂ (fun g g' => headOut g g' x3 x4 x5)
          (readAt_logit arg2 harg2 x2 _ _ 0 (i 1) (off1_eq i)) (readAt_logit arg2 harg2 x2 _ _ 1 (i 1) (off2_eq i))
  isplitl [H7]; · iexists _; iexists _; isplitr; swap; · iexact H7
                  ipureintro; rfl
  isplitl [H8]; · iexists _; iexists _; isplitr; swap; · iexact H8
                  ipureintro; rfl
  iexists _; iexists _; isplitr; swap; · iexact H9
  ipureintro; rfl

end Cert.Scan
-- ==== Proof.Scan.Run.lean ====
/-
  The scan's program runs, over any float values: the pipeline's proof data (each input's block left as it is, the
  result's block at `headOut` of the point's blocks), the body at every grid point, and the launch.
-/
module

public import proofs.«01_k».proof.Proof.Scan.Body

@[expose] public section

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The head's result at a grid point, from the point's blocks. -/
def outsAt (c : Dev nD) (t : Fin cfg0.N) : Vec F S1x4352x512 .f32 :=
  headOut ((iblk m c 0 t : Vec F S2x4 .f32) (ix2 (n0 := 2) (n1 := 4) 0 (grid0.coords t 1)))
    ((iblk m c 0 t : Vec F S2x4 .f32) (ix2 (n0 := 2) (n1 := 4) 1 (grid0.coords t 1)))
    (iblk m c 1 t) (iblk m c 2 t) (iblk m c 3 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The scratch buffers as the body takes them: each held whole, at something. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) := by
  rw [scopedRest0_eq]
  simp only [owns_whole]

/-- The body runs at every grid point. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4]
  unfold outsAt Pipeline.ΦA
  rw [scratch_eq]
  iintro ⟨⟨⟨S0, S1, S2⟩, HP⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  iintro ⟨H0, H1, H2, H3, H4, S0, S1, S2⟩
  isplitl [S0 S1 S2 HP]
  · isplitl [S0 S1 S2]
    · isplitl [S0]; · iexact S0
      isplitl [S1]; · iexact S1
      iexact S2
    iexact HP
  isplitl [Ho]; · iexact Ho
  isplitl [H0]; · iexact H0
  isplitl [H1]; · iexact H1
  isplitl [H2]; · iexact H2
  isplitl [H3]; · iexact H3
  iexact H4

set_option backward.isDefEq.respectTransparency.types false in
/-- From any memory with zero counters, @main runs to an end in which every array of the pipeline holds what the proof
    data says and every counter is zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.Scan
-- ==== Proof.Scan.KernelAt.lean ====
/-
  The kernel's body over the extended reals, read at an index.
-/
module

public import proofs.«01_k».proof.Proof.Scan.Body
public import proofs.«01_k».proof.Proof.Scan.Math
public import Idealize.ShloMosaic.Lib.Pointwise

@[expose] public section

set_option maxRecDepth 16384

noncomputable section

namespace Cert.Scan

open Cert.KernelIdeal Cert.KernelIdeal.Gen Cert.ScanMath
open Idealize.ShloMosaic Idealize.ShloMosaic.TcCoe

/-! ## One chunk -/

theorem stS_at (kd : FVec Ideal S128x1 .f32) (cd : FVec Ideal S1x1 .f32) (k : FVec Ideal S1x128x256 .bf16)
    (v : FVec Ideal S1x128x512 .bf16) (s : FVec Ideal S256x512 .f32) (d : Fin 256) (e : Fin 512) :
    stS (F := Ideal) kd cd k v s (ix2 d e) = s (ix2 d e) * cd (ix2 0 0)
      + ∑ j : Fin 128, (k (ix3 0 j d) * kd (ix2 j 0)) * v (ix3 0 j e) := by
  pointwise [stS, k0_pay29, k0_pay10, k0_pay7, k0_pay8]

theorem stO_at (mk : FVec Ideal S128x128 .f32) (qd : FVec Ideal S128x1 .f32) (q k : FVec Ideal S1x128x256 .bf16)
    (v : FVec Ideal S1x128x512 .bf16) (s : FVec Ideal S256x512 .f32) (i : Fin 128) (e : Fin 512) :
    stO (F := Ideal) mk qd q k v s (ix2 i e) = (∑ j : Fin 128, ((∑ d : Fin 256, q (ix3 0 i d) * k (ix3 0 j d)) * mk (ix2 i j)) * v (ix3 0 j e))
      + qd (ix2 i 0) * ∑ d : Fin 256, q (ix3 0 i d) * s (ix2 d e) := by
  pointwise [stO, k0_pay25, k0_pay13, k0_pay14, k0_pay11, k0_pay12, k0_pay28]

/-! ## The decays -/

theorem lsK (g : EReal) : (0 - (if (0 - g ≠ 0 - g) then 0 - g else max (0 - g) 0 + Ideal.log1p (Ideal.exp (0 - FloatOps.absf (F := Ideal) (φ := .f32) (0 - g)))) : EReal) = ls g := by
  rw [if_neg (fun h => h rfl)]
  simp only [zero_sub]
  rfl

theorem sel_sge {i j : ℕ} (hi : i < 128) (hj : j < 128) (a b : EReal) :
    Scalar.select (IntOp.cmpi CmpIPredicate.sge (IntOp.subi (BitVec.ofNat 32 i) (BitVec.ofNat 32 j)) 0#32) a b = if j ≤ i then a else b := by
  have e : (BitVec.ofNat 32 i - BitVec.ofNat 32 j).toInt = (i : ℤ) - j := by
    simp only [BitVec.toInt_sub, toInt_ofNat_of_lt (show i < 2 ^ 31 by omega), toInt_ofNat_of_lt (show j < 2 ^ 31 by omega)]
    rw [Int.bmod_eq_of_le] <;> omega
  have : IntOp.cmpi CmpIPredicate.sge (IntOp.subi (BitVec.ofNat 32 i) (BitVec.ofNat 32 j)) 0#32 = if j ≤ i then 1#1 else 0#1 := by
    simp only [IntOp.cmpi, IntOp.subi, BitVec.sle, e, BitVec.toInt_zero, sub_nonneg, Nat.cast_le]
    by_cases h : j ≤ i <;> simp [h]
  rw [this]; split <;> rfl

theorem sitofp_max {i j : ℕ} (hi : i < 128) (hj : j < 128) (h : j ≤ i) :
    FloatOps.sitofp (F := Ideal) FTy.f32 (IntOp.maxsi (IntOp.subi (BitVec.ofNat 32 i) (BitVec.ofNat 32 j)) 0#32) = (((i : ℝ) - (j : ℝ) : ℝ) : EReal) := by
  have e : (BitVec.ofNat 32 i - BitVec.ofNat 32 j) = BitVec.ofNat 32 (i - j) := by
    apply BitVec.eq_of_toNat_eq
    simp only [BitVec.toNat_sub, BitVec.toNat_ofNat]
    omega
  have e' : IntOp.maxsi (BitVec.ofNat 32 (i - j)) 0#32 = BitVec.ofNat 32 (i - j) := by
    simp only [IntOp.maxsi, BitVec.slt, toInt_ofNat_of_lt (show i - j < 2 ^ 31 by omega), BitVec.toInt_zero, decide_eq_true_eq]
    split
    · rfl
    · rw [show i - j = 0 by omega]
  rw [show IntOp.subi (BitVec.ofNat 32 i) (BitVec.ofNat 32 j) = BitVec.ofNat 32 (i - j) from e, e', sitofp_ofNat (by omega), Nat.cast_sub h]

theorem pay38_at (g : EReal) : k0_pay38 (F := Ideal) g (ix2 0 0) = ls g := by
  pointwise [k0_pay38]
  exact lsK g
theorem pay39_at (g : EReal) (i j : Fin 128) : k0_pay39 (F := Ideal) g (ix2 i j) = mkF (ls g) i j := by
  pointwise [k0_pay39]
  rw [pay38_at, sel_sge i.isLt j.isLt]
  unfold mkF
  split
  · rename_i h; rw [sitofp_max i.isLt j.isLt h, if_pos (Fin.le_def.mpr h)]
  · rename_i h; rw [if_neg (fun h' => h (Fin.le_def.mp h'))]
theorem pay40_at (g : EReal) (i : Fin 128) : k0_pay40 (F := Ideal) g (ix2 i 0) = qdF (ls g) i := by
  pointwise [k0_pay40, k0_pay37]
  rw [pay38_at, sitofp_ofNat (by omega), ← EReal.coe_one, ← EReal.coe_add]; rfl
theorem pay41_at (g : EReal) (i : Fin 128) : k0_pay41 (F := Ideal) g (ix2 i 0) = kdF (ls g) i := by
  pointwise [k0_pay41, k0_pay37]
  rw [pay38_at, sitofp_ofNat (by omega), ofBits_127, ← EReal.coe_sub]; rfl
theorem pay43_at (g : EReal) : k0_pay43 (F := Ideal) (k0_pay38 g) k0_pay42 (ix2 0 0) = cdF (ls g) := by
  pointwise [k0_pay43, k0_pay42]
  rw [pay38_at, ofBits_128]; rfl

theorem pay44_at (g : EReal) : k0_pay44 (F := Ideal) g (ix2 0 0) = ls g := by
  pointwise [k0_pay44]
  exact lsK g
theorem pay45_at (g : EReal) (i j : Fin 128) :
    k0_pay45 (F := Ideal) (iota .tc S128x128 32 [0] iota_S128x128_d0_w32) (iota .tc S128x128 32 [1] iota_S128x128_d1_w32) g (ix2 i j)
      = mkF (ls g) i.rev j.rev := by
  pointwise [k0_pay45]
  rw [pay44_at, sel_sge j.isLt i.isLt]
  unfold mkF
  split
  · rename_i h
    rw [sitofp_max j.isLt i.isLt h, if_pos (Fin.rev_le_rev.mpr (Fin.le_def.mpr h))]
    congr 3
    rw [Fin.val_rev, Fin.val_rev, Nat.cast_sub (by omega), Nat.cast_sub (by omega)]; push_cast; ring
  · rename_i h; rw [if_neg (fun h' => h (Fin.le_def.mp (Fin.rev_le_rev.mp h')))]
theorem pay46_at (g : EReal) (i : Fin 128) : k0_pay46 (F := Ideal) k0_pay37 g (ix2 i 0) = qdF (ls g) i.rev := by
  pointwise [k0_pay46, k0_pay37]
  rw [pay44_at, sitofp_ofNat (by omega), ofBits_128, ← EReal.coe_sub]
  unfold qdF
  congr 3
  rw [Fin.val_rev, Nat.cast_sub (by omega)]; push_cast; ring
theorem pay47_at (g : EReal) (i : Fin 128) : k0_pay47 (F := Ideal) k0_pay37 g (ix2 i 0) = kdF (ls g) i.rev := by
  pointwise [k0_pay47, k0_pay37]
  rw [pay44_at, sitofp_ofNat (by omega)]
  unfold kdF
  congr 3
  rw [Fin.val_rev, Nat.cast_sub (by omega)]; push_cast; ring
theorem pay48_at (g : EReal) : k0_pay48 (F := Ideal) g (ix2 0 0) = cdF (ls g) := by
  pointwise [k0_pay48]
  rw [pay44_at, ofBits_128]; rfl

/-! ## The recursion -/

/-- A head's rows, cut into chunks. -/
def chK (x : Vec Ideal S1x4352x256 .bf16) (n : ℕ) (j : Fin 128) (d : Fin 256) : EReal :=
  x (ix3 0 ⟨(128 * n + j.val) % 4352, Nat.mod_lt _ (by decide)⟩ d)
def chV (x : Vec Ideal S1x4352x512 .bf16) (n : ℕ) (j : Fin 128) (d : Fin 512) : EReal :=
  x (ix3 0 ⟨(128 * n + j.val) % 4352, Nat.mod_lt _ (by decide)⟩ d)

theorem stN_at (kd : FVec Ideal S128x1 .f32) (cd : FVec Ideal S1x1 .f32) (x4 : Vec Ideal S1x4352x256 .bf16) (x5 : Vec Ideal S1x4352x512 .bf16)
    (o : ℕ → ℕ) : ∀ (n : ℕ) (d : Fin 256) (w : Fin 512),
    stN (F := Ideal) kd cd x4 x5 o n (ix2 d w)
      = St (fun j => kd (ix2 j 0)) (cd (ix2 0 0)) (fun n => chK x4 (o n)) (fun n => chV x5 (o n)) n d w
  | 0, d, w => by
    show k0_pay2 (F := Ideal) (ix2 d w) = 0
    pointwise [k0_pay2]
  | n + 1, d, w => by
    refine (stS_at _ _ _ _ _ _ _).trans ?_
    rw [stN_at kd cd x4 x5 o n]
    rfl

theorem outN_at (mk : FVec Ideal S128x128 .f32) (qd kd : FVec Ideal S128x1 .f32) (cd : FVec Ideal S1x1 .f32)
    (x3 x4 : Vec Ideal S1x4352x256 .bf16) (x5 : Vec Ideal S1x4352x512 .bf16) (o : ℕ → ℕ) (n : ℕ) (i : Fin 128) (w : Fin 512) :
    outN (F := Ideal) mk qd kd cd x3 x4 x5 o n (ix2 i w)
      = OutK (fun i j => mk (ix2 i j)) (fun j => qd (ix2 j 0)) (fun j => kd (ix2 j 0)) (cd (ix2 0 0))
          (fun n => chK x3 (o n)) (fun n => chK x4 (o n)) (fun n => chV x5 (o n)) n i w := by
  refine (stO_at _ _ _ _ _ _ _ _).trans ?_
  simp only [stN_at]
  rfl

/-! ## The head's result -/

theorem pay5_at (a : FVec Ideal S1x256x512 .f32) (b : FVec Ideal S256x512 .f32) (i : Fin 256) (e : Fin 512) :
    k0_pay5 (F := Ideal) a b (ix3 0 i e) = (a (ix3 0 i e) + b (ix2 i e))
      * Ideal.rsqrt (Ideal.div (∑ x : Fin 512, (a (ix3 0 i x) + b (ix2 i x)) * (a (ix3 0 i x) + b (ix2 i x)))
          (Ideal.ofBits .f32 0x44000000#32) + Ideal.ofBits .f32 0x358637BD#32) := by
  pointwise [k0_pay5]

theorem normed_at (a : FVec Ideal S1x4352x512 .f32) (b : FVec Ideal S4352x512 .f32) (r : Fin 4352) (w : Fin 512) :
    normed (F := Ideal) a b (ix3 0 r w) = (a (ix3 0 r w) + b (ix2 r w))
      * Ideal.rsqrt (Ideal.div (∑ x : Fin 512, (a (ix3 0 r x) + b (ix2 r x)) * (a (ix3 0 r x) + b (ix2 r x)))
          (Ideal.ofBits .f32 0x44000000#32) + Ideal.ofBits .f32 0x358637BD#32) := by
  have er : (⟨(256 * (r.val / 256) + r.val % 256) % 4352, Nat.mod_lt _ (by decide)⟩ : Fin 4352) = r :=
    Fin.ext (by simp only []; omega)
  have ha : ∀ w : Fin 512, tile6 (F := Ideal) a (r.val / 256) (ix3 (n0 := 1) (n1 := 256) (n2 := 512) 0 ⟨r.val % 256, Nat.mod_lt _ (by decide)⟩ w)
      = a (ix3 0 r w) := fun w => congrArg (fun r => a (ix3 0 r w)) er
  have hb : ∀ w : Fin 512, tile9 (F := Ideal) b (r.val / 256) (ix2 (n0 := 256) (n1 := 512) ⟨r.val % 256, Nat.mod_lt _ (by decide)⟩ w)
      = b (ix2 r w) := fun w => congrArg (fun r => b (ix2 r w)) er
  refine (pay5_at (tile6 (F := Ideal) a (r.val / 256)) (tile9 (F := Ideal) b (r.val / 256)) ⟨r.val % 256, Nat.mod_lt _ (by decide)⟩ w).trans ?_
  simp only [ha, hb]

theorem cast_at (t : FVec Ideal S128x512 .f32) (i : Fin 128) (w : Fin 512) :
    shapeCast S1x128x512 t shapeCasts_S128x512_S1x128x512 (ix3 0 i w) = t (ix2 i w) := by
  pointwise []

theorem fwd_at (g : EReal) (x3 x4 : Vec Ideal S1x4352x256 .bf16) (x5 : Vec Ideal S1x4352x512 .bf16) (r : Fin 4352) (w : Fin 512) :
    fwdRows (F := Ideal) (k0_pay39 g) (k0_pay40 g) (k0_pay41 g) (k0_pay43 (k0_pay38 g) k0_pay42) x3 x4 x5 (ix3 0 r w)
      = Out (mkF (ls g)) (qdF (ls g)) (kdF (ls g)) (cdF (ls g)) (chK x3) (chK x4) (chV x5) (r.val / 128) ⟨r.val % 128, Nat.mod_lt _ (by decide)⟩ w := by
  refine (cast_at _ _ _).trans ((outN_at _ _ _ _ _ _ _ _ _ _ _).trans ?_)
  simp only [pay39_at, pay40_at, pay41_at, pay43_at]
  exact OutK_eq _ _ _ _ _ _ _ _ _ _ (qdF_nonneg _ _) (qdF_ne_top (ls_ne_top g) _)

theorem bwdRows_at (mk : FVec Ideal S128x128 .f32) (qd kd : FVec Ideal S128x1 .f32) (cd : FVec Ideal S1x1 .f32)
    (x3 x4 : Vec Ideal S1x4352x256 .bf16) (x5 : Vec Ideal S1x4352x512 .bf16) (r : Fin 4352) (w : Fin 512) :
    bwdRows (F := Ideal) mk qd kd cd x3 x4 x5 (ix2 r w)
      = outN mk qd kd cd x3 x4 x5 cn (cn (r.val / 128)) (ix2 ⟨r.val % 128, Nat.mod_lt _ (by decide)⟩ w) := by
  unfold bwdRows
  rfl

theorem bwd_of (lg : EReal) (hl : lg ≠ ⊤) (mk : FVec Ideal S128x128 .f32) (qd kd : FVec Ideal S128x1 .f32) (cd : FVec Ideal S1x1 .f32)
    (hm : ∀ i j, mk (ix2 i j) = mkF lg i.rev j.rev) (hq : ∀ i, qd (ix2 i 0) = qdF lg i.rev) (hk : ∀ i, kd (ix2 i 0) = kdF lg i.rev)
    (hc : cd (ix2 0 0) = cdF lg) (x3 x4 : Vec Ideal S1x4352x256 .bf16) (x5 : Vec Ideal S1x4352x512 .bf16) (r : Fin 4352) (w : Fin 512) :
    bwdRows (F := Ideal) mk qd kd cd x3 x4 x5 (ix2 r w)
      = Out (mkF lg) (qdF lg) (kdF lg) (cdF lg) (fun n j => chK x3 (cn n) j.rev) (fun n j => chK x4 (cn n) j.rev)
        (fun n j => chV x5 (cn n) j.rev) (cn (r.val / 128)) (Fin.rev ⟨r.val % 128, Nat.mod_lt _ (by decide)⟩) w := by
  rw [bwdRows_at, outN_at]
  simp only [hm, hq, hk, hc]
  generalize (⟨r.val % 128, Nat.mod_lt _ (by decide)⟩ : Fin 128) = i
  rw [OutK_eq (fun i j => mkF lg i.rev j.rev) (fun j => qdF lg j.rev) (fun j => kdF lg j.rev) (cdF lg) _ _ _ _ i w
    (qdF_nonneg lg i.rev) (qdF_ne_top hl i.rev)]
  have e := Out_rev (mkF lg) (qdF lg) (kdF lg) (cdF lg) (fun n j => chK x3 (cn n) j.rev) (fun n j => chK x4 (cn n) j.rev)
    (fun n j => chV x5 (cn n) j.rev) (cn (r.val / 128)) i w
  simp only [Fin.rev_rev] at e
  exact e

/-- The head's result at an index. -/
theorem headOut_at (g g' : EReal) (x3 x4 : Vec Ideal S1x4352x256 .bf16) (x5 : Vec Ideal S1x4352x512 .bf16) (r : Fin 4352) (w : Fin 512) :
    headOut (F := Ideal) g g' x3 x4 x5 (ix3 0 r w) = normRow (rowOf (chK x3) (chK x4) (chV x5) (ls g) (ls g') r) w := by
  refine (normed_at _ _ _ _).trans ?_
  have hb := bwd_of (ls g') (ls_ne_top g') _ _ _ _ (pay45_at g') (pay46_at g') (pay47_at g') (pay48_at g') x3 x4 x5
  have key : ∀ w : Fin 512, fwdRows (F := Ideal) (k0_pay39 g) (k0_pay40 g) (k0_pay41 g) (k0_pay43 (k0_pay38 g) k0_pay42) x3 x4 x5 (ix3 0 r w)
      + bwdRows (F := Ideal) (k0_pay45 (iota .tc S128x128 32 [0] iota_S128x128_d0_w32) (iota .tc S128x128 32 [1] iota_S128x128_d1_w32) g')
        (k0_pay46 k0_pay37 g') (k0_pay47 k0_pay37 g') (k0_pay48 g') x3 x4 x5 (ix2 r w)
      = rowOf (chK x3) (chK x4) (chV x5) (ls g) (ls g') r w := fun w =>
    congrArg₂ (· + ·) (fwd_at g x3 x4 x5 r w) (hb r w)
  exact congrArg₂ (fun a b => a * Ideal.rsqrt (Ideal.div b _ + _)) (key w) (Finset.sum_congr rfl fun x _ => congrArg₂ (· * ·) (key x) (key x))

end Cert.Scan
-- ==== Proof.Scan.KernelValue.lean ====
/-
  The kernel's result array over the extended reals: at every index the retention of the arguments.
-/
module

public import proofs.«01_k».proof.Proof.Scan.Run
public import proofs.«01_k».proof.Proof.Scan.KernelAt
public import Idealize.ShloMosaic.Lib.Pipeline.ValueKit

@[expose] public section

set_option maxRecDepth 16384

noncomputable section

namespace Cert.Scan

open Cert.KernelIdeal Cert.KernelIdeal.Gen Cert.ScanMath
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![0, 0] ∧ win0_1.index t = ![(grid0.coords t 0).val, 0, (grid0.coords t 1).val]
    ∧ win0_2.index t = ![(grid0.coords t 0).val, 0, 4 + (grid0.coords t 1).val]
    ∧ win0_3.index t = ![(grid0.coords t 0).val, 0, 4 + (grid0.coords t 1).val]
    ∧ win0_4.index t = ![(grid0.coords t 0).val, 0, (grid0.coords t 1).val] :=
  (by decide +kernel : ∀ t : Fin grid0.N, _)

/-- The arguments by coordinates. -/
abbrev gOf (c : Dev nD) (e : Fin 2) (h : Fin 4) : EReal := (m ((c : Thread nD τ).loc main_arg0) : FVec Ideal S2x4 .f32) (ix2 e h)
abbrev xOf (c : Dev nD) (b : Fin 8) (r : Fin 4352) (u : Fin 4096) : EReal :=
  (m ((c : Thread nD τ).loc main_arg1) : FVec Ideal S8x4352x4096 .bf16) (ix3 b r u)

/-- The retention of the arguments, as an array. -/
def result (c : Dev nD) : FVec Ideal S8x4352x2048 .f32 := fun i =>
  val (gOf m c) (xOf m c) (i 0) ⟨(i 2).val / 512, by have : (i 2).val < 2048 := (i 2).isLt; omega⟩ (i 1)
    ⟨(i 2).val % 512, Nat.mod_lt _ (by decide)⟩

theorem result_at (c : Dev nD) (b : Fin 8) (r : Fin 4352) (h : Fin 4) (w : Fin 512) (hu : h.val * 512 + w.val < 2048) :
    result m c (ix3 b r ⟨h.val * 512 + w.val, hu⟩) = val (gOf m c) (xOf m c) b h r w :=
  congrArg₂ (fun h w => val (gOf m c) (xOf m c) b h r w)
    (Fin.ext (show (h.val * 512 + w.val) / 512 = h.val by omega)) (Fin.ext (show (h.val * 512 + w.val) % 512 = w.val by omega))

section Blocks

variable (c : Dev nD) (t : Fin cfg0.N)

theorem blk0 (e : Fin 2) (h : Fin 4) : (iblk m c 0 t : Vec Ideal S2x4 .f32) (ix2 e h) = gOf m c e h := by
  blk_ext [iblk, V, idx t]
theorem blk1 (n : ℕ) (j : Fin 128) (d : Fin 256) :
    chK (iblk m c 1 t) n j d = qCh (xOf m c) (grid0.coords t 0) (grid0.coords t 1) n j d := by
  unfold chK qCh
  blk_ext [iblk, V, idx t]
theorem blk2 (n : ℕ) (j : Fin 128) (d : Fin 256) :
    chK (iblk m c 2 t) n j d = kCh (xOf m c) (grid0.coords t 0) (grid0.coords t 1) n j d := by
  unfold chK kCh
  blk_ext [iblk, V, idx t]
theorem blk3 (n : ℕ) (j : Fin 128) (d : Fin 512) :
    chV (iblk m c 3 t) n j d = vCh (xOf m c) (grid0.coords t 0) (grid0.coords t 1) n j d := by
  unfold chV vCh
  blk_ext [iblk, V, idx t]

theorem val_of {g : Fin 2 → Fin 4 → EReal} {X : Fin 8 → Fin 4352 → Fin 4096 → EReal} {b : Fin 8} {h : Fin 4} {r : Fin 4352} {w : Fin 512}
    {q k : ℕ → Fin 128 → Fin 256 → EReal} {v : ℕ → Fin 128 → Fin 512 → EReal} {a a' : EReal}
    (h0 : a = g 0 h) (h1 : a' = g 1 h) (hq : q = qCh X b h) (hk : k = kCh X b h) (hv : v = vCh X b h) :
    normRow (rowOf q k v (ls a) (ls a') r) w = val g X b h r w := by
  subst h0 h1 hq hk hv; rfl

theorem outs_at (r : Fin 4352) (w : Fin 512) : outsAt m c t (ix3 0 r w)
    = val (gOf m c) (xOf m c) (grid0.coords t 0) (grid0.coords t 1) r w := by
  unfold outsAt
  refine (headOut_at _ _ _ _ _ r w).trans ?_
  exact val_of (blk0 m c t 0 _) (blk0 m c t 1 _) (funext fun n => funext fun j => funext fun d => blk1 m c t n j d)
    (funext fun n => funext fun j => funext fun d => blk2 m c t n j d) (funext fun n => funext fun j => funext fun d => blk3 m c t n j d)

end Blocks

/-- The result array after the run. -/
theorem final (c : Dev nD) : (dats m 0 c).arrAt 4 (cfgs 0).N = result m c := by
  refine (dats m 0 c).arrAt_eq_of_covers 4 _ (by decide +kernel) fun t _ y => ?_
  blk_simp
  rw [after0_4]
  have e : (((cfg0.win 4).blk t).view.emb y) = ix3 (n0 := 8) (n1 := 4352) (n2 := 2048) (grid0.coords t 0) (y 1)
      ⟨(grid0.coords t 1).val * 512 + (y 2).val, by
        have h1 : (grid0.coords t 1).val < 4 := (grid0.coords t 1).isLt
        have h2 : (y 2).val < 512 := (y 2).isLt
        omega⟩ := by
    blk_ext [idx t]
  rw [e]
  have hy : y = ix3 (n0 := 1) (n1 := 4352) (n2 := 512) 0 (y 1) (y 2) := by
    funext a
    fin_cases a
    · exact Fin.ext (by have : (y 0).val < 1 := (y 0).isLt; show (y 0).val = 0; omega)
    all_goals rfl
  refine (congrArg (outsAt m c t) hy).trans ((outs_at m c t (y 1) (y 2)).trans ?_)
  exact (result_at m c _ _ (grid0.coords t 1) (y 2) _).symm

/-- The run: the result is the retention of the arguments, and the arguments are unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 4).trans (final m c),
      ((h.1 c).1 0).trans ((dats m 0 c).arrAt_in 0 rfl _), ((h.1 c).1 1).trans ((dats m 0 c).arrAt_in 1 rfl _)⟩)
    (run_main m ρ)

end Cert.Scan
-- ==== Proof.Scan.RefTerm.lean ====
/-
  The reference's arrays by name: the heads of the packed queries, keys and values, the two directions stacked, the
  chunks, the decays, one step of its loop and what it makes of the stacked rows, each over any float values; and that
  these are what the loop starts from, steps by and is read at.
-/
module

public import proofs.«01_k».proof.Proof.Gen.ReferenceIdeal.Run

@[expose] public section

set_option maxRecDepth 16384

noncomputable section

namespace Cert.ScanRef

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-! ## Queries, keys and values -/

def refQ (x : FVec F S8x4352x4096 .bf16) : FVec F S8x4x4352x256 .f32 :=
  transpose S8x4x4352x256 [0, 2, 1, 3] (shapeCast S8x4352x4x256 (extractStridedSlice S8x4352x1024 ![0, 0, 0] (extf .f32 x bitsLt_bf16_f32) slices_S8x4352x4096_S8x4352x1024_0_0_0) shapeCasts_S8x4352x1024_S8x4352x4x256) transposes_S8x4352x4x256_S8x4x4352x256_0_2_1_3
def refK (x : FVec F S8x4352x4096 .bf16) : FVec F S8x4x4352x256 .f32 :=
  transpose S8x4x4352x256 [0, 2, 1, 3] (shapeCast S8x4352x4x256 (extractStridedSlice S8x4352x1024 ![0, 0, 1024] (extf .f32 x bitsLt_bf16_f32) slices_S8x4352x4096_S8x4352x1024_0_0_1024) shapeCasts_S8x4352x1024_S8x4352x4x256) transposes_S8x4352x4x256_S8x4x4352x256_0_2_1_3
def refV (x : FVec F S8x4352x4096 .bf16) : FVec F S8x4x4352x512 .f32 :=
  transpose S8x4x4352x512 [0, 2, 1, 3] (shapeCast S8x4352x4x512 (extractStridedSlice S8x4352x2048 ![0, 0, 2048] (extf .f32 x bitsLt_bf16_f32) slices_S8x4352x4096_S8x4352x2048_0_0_2048) shapeCasts_S8x4352x2048_S8x4352x4x512) transposes_S8x4352x4x512_S8x4x4352x512_0_2_1_3

/-- The context's rows from their end, then the latents' from theirs. -/
def flipK (t : FVec F S8x4x4352x256 .f32) : FVec F S8x4x4352x256 .f32 :=
  concatenate S8x4x4352x256 2 [⟨S8x4x256x256, Host.reverse [2] (extractStridedSlice S8x4x256x256 ![0, 0, 0, 0] t slices_S8x4x4352x256_S8x4x256x256_0_0_0_0)⟩,
    ⟨S8x4x4096x256, Host.reverse [2] (extractStridedSlice S8x4x4096x256 ![0, 0, 256, 0] t slices_S8x4x4352x256_S8x4x4096x256_0_0_256_0)⟩] concatenates_S8x4x256x256_S8x4x4096x256_S8x4x4352x256_d2
def flipV (t : FVec F S8x4x4352x512 .f32) : FVec F S8x4x4352x512 .f32 :=
  concatenate S8x4x4352x512 2 [⟨S8x4x256x512, Host.reverse [2] (extractStridedSlice S8x4x256x512 ![0, 0, 0, 0] t slices_S8x4x4352x512_S8x4x256x512_0_0_0_0)⟩,
    ⟨S8x4x4096x512, Host.reverse [2] (extractStridedSlice S8x4x4096x512 ![0, 0, 256, 0] t slices_S8x4x4352x512_S8x4x4096x512_0_0_256_0)⟩] concatenates_S8x4x256x512_S8x4x4096x512_S8x4x4352x512_d2

/-- The rows as they are and the rows flipped, on a leading axis. -/
def bothK (t : FVec F S8x4x4352x256 .f32) : FVec F S2x8x4x4352x256 .f32 :=
  concatenate S2x8x4x4352x256 0
    [⟨S1x8x4x4352x256, broadcastInDim S1x8x4x4352x256 ![1, 2, 3, 4] bcast_S8x4x4352x256_S1x8x4x4352x256_1_2_3_4 t⟩,
     ⟨S1x8x4x4352x256, broadcastInDim S1x8x4x4352x256 ![1, 2, 3, 4] bcast_S8x4x4352x256_S1x8x4x4352x256_1_2_3_4 (flipK t)⟩]
    concatenates_S1x8x4x4352x256_S1x8x4x4352x256_S2x8x4x4352x256_d0
def bothV (t : FVec F S8x4x4352x512 .f32) : FVec F S2x8x4x4352x512 .f32 :=
  concatenate S2x8x4x4352x512 0
    [⟨S1x8x4x4352x512, broadcastInDim S1x8x4x4352x512 ![1, 2, 3, 4] bcast_S8x4x4352x512_S1x8x4x4352x512_1_2_3_4 t⟩,
     ⟨S1x8x4x4352x512, broadcastInDim S1x8x4x4352x512 ![1, 2, 3, 4] bcast_S8x4x4352x512_S1x8x4x4352x512_1_2_3_4 (flipV t)⟩]
    concatenates_S1x8x4x4352x512_S1x8x4x4352x512_S2x8x4x4352x512_d0

/-- The rows cut into chunks of 128. -/
def cutK (t : FVec F S2x8x4x4352x256 .f32) : FVec F S34x2x8x4x128x256 .f32 :=
  transpose S34x2x8x4x128x256 [3, 0, 1, 2, 4, 5] (shapeCast S2x8x4x34x128x256 t shapeCasts_S2x8x4x4352x256_S2x8x4x34x128x256) transposes_S2x8x4x34x128x256_S34x2x8x4x128x256_3_0_1_2_4_5
def cutV (t : FVec F S2x8x4x4352x512 .f32) : FVec F S34x2x8x4x128x512 .f32 :=
  transpose S34x2x8x4x128x512 [3, 0, 1, 2, 4, 5] (shapeCast S2x8x4x34x128x512 t shapeCasts_S2x8x4x4352x512_S2x8x4x34x128x512) transposes_S2x8x4x34x128x512_S34x2x8x4x128x512_3_0_1_2_4_5

/-! ## The decays -/

/-- The log-sigmoid of every decay. -/
def lsig (g : FVec F S2x4 .f32) : FVec F S2x4 .f32 :=
  let z : FVec F S2x4 .f32 := broadcastInDim S2x4 ![] bcast_S_S2x4 (constant S_ .f32 0x00000000#32)
  let x := Host.negf g
  Host.negf (select (cmpf .une (subf x z) (subf x z)) (addf x z)
    (addf (maximumf x z) (Host.log1p (Host.exp (Host.negf (Host.absf (subf x z)))))))

/-- The positions in a chunk. -/
def pos : FVec F S128 .f32 := sitofp .f32 (iotaInDim S128 32 0)

/-- Row minus column. -/
def diff : FVec F S128x128 .f32 :=
  let pos : FVec F S128 .f32 := pos
  subf (broadcastInDim S128x128 ![0, 1] bcast_S128x1_S128x128_0_1 (broadcastInDim S128x1 ![0] bcast_S128_S128x1_0 pos))
    (broadcastInDim S128x128 ![0, 1] bcast_S1x128_S128x128_0_1 (broadcastInDim S1x128 ![1] bcast_S128_S1x128_1 pos))

def lgs (lg : FVec F S2x4 .f32) : FVec F S2x1x4x1 .f32 := broadcastInDim S2x1x4x1 ![0, 2] bcast_S2x4_S2x1x4x1_0_2 lg

def maskR (lg : FVec F S2x4 .f32) : FVec F S2x1x4x128x128 .f32 :=
  select (broadcastInDim S2x1x4x128x128 ![3, 4] bcast_S128x128_S2x1x4x128x128_3_4
      (cmpf .oge (diff (F := F)) (broadcastInDim S128x128 ![] bcast_S_S128x128 (constant S_ .f32 0x00000000#32))))
    (Host.exp (mulf (broadcastInDim S2x1x4x128x128 ![0, 1, 2, 3, 4] bcast_S1x1x1x128x128_S2x1x4x128x128_0_1_2_3_4
        (broadcastInDim S1x1x1x128x128 ![3, 4] bcast_S128x128_S1x1x1x128x128_3_4 diff))
      (broadcastInDim S2x1x4x128x128 ![0, 1, 2, 3, 4] bcast_S2x1x4x1x1_S2x1x4x128x128_0_1_2_3_4
        (broadcastInDim S2x1x4x1x1 ![0, 1, 2, 3] bcast_S2x1x4x1_S2x1x4x1x1_0_1_2_3 (lgs lg)))))
    (broadcastInDim S2x1x4x128x128 ![] bcast_S_S2x1x4x128x128 (constant S_ .f32 0x00000000#32))

def spread (p : FVec F S128 .f32) (lg : FVec F S2x4 .f32) : FVec F S2x1x4x128x1 .f32 :=
  broadcastInDim S2x1x4x128x1 ![0, 1, 2, 3] bcast_S2x1x4x128_S2x1x4x128x1_0_1_2_3
    (Host.exp (mulf (broadcastInDim S2x1x4x128 ![0, 1, 2, 3] bcast_S1x1x1x128_S2x1x4x128_0_1_2_3 (broadcastInDim S1x1x1x128 ![3] bcast_S128_S1x1x1x128_3 p))
      (broadcastInDim S2x1x4x128 ![0, 1, 2, 3] bcast_S2x1x4x1_S2x1x4x128_0_1_2_3 (lgs lg))))

def qdR (lg : FVec F S2x4 .f32) : FVec F S2x1x4x128x1 .f32 :=
  spread (addf pos (broadcastInDim S128 ![] bcast_S_S128 (constant S_ .f32 0x3F800000#32))) lg
def kdR (lg : FVec F S2x4 .f32) : FVec F S2x1x4x128x1 .f32 :=
  spread (subf (broadcastInDim S128 ![] bcast_S_S128 (constant S_ .f32 0x42FE0000#32)) pos) lg
def cdR (lg : FVec F S2x4 .f32) : FVec F S2x1x4x1x1 .f32 :=
  broadcastInDim S2x1x4x1x1 ![0, 1, 2, 3] bcast_S2x1x4x1_S2x1x4x1x1_0_1_2_3
    (Host.exp (mulf (broadcastInDim S2x1x4x1 ![] bcast_S_S2x1x4x1 (constant S_ .f32 0x43000000#32)) (lgs lg)))

/-! ## One step -/

def takeK (t : FVec F S34x2x8x4x128x256 .f32) (n : IVec S_ 32) : FVec F S2x8x4x128x256 .f32 :=
  shapeCast S2x8x4x128x256 (Host.dynamicSlice S1x2x8x4x128x256 t (fun k => ((![n, constantI S_ 32 0#32, constantI S_ 32 0#32, constantI S_ 32 0#32, constantI S_ 32 0#32, constantI S_ 32 0#32] : Fin 6 → IVec S_ 32) k (Shape.Idx.first h_S_)).toInt) sliceFits_S34x2x8x4x128x256_S1x2x8x4x128x256) shapeCasts_S1x2x8x4x128x256_S2x8x4x128x256
def takeV (t : FVec F S34x2x8x4x128x512 .f32) (n : IVec S_ 32) : FVec F S2x8x4x128x512 .f32 :=
  shapeCast S2x8x4x128x512 (Host.dynamicSlice S1x2x8x4x128x512 t (fun k => ((![n, constantI S_ 32 0#32, constantI S_ 32 0#32, constantI S_ 32 0#32, constantI S_ 32 0#32, constantI S_ 32 0#32] : Fin 6 → IVec S_ 32) k (Shape.Idx.first h_S_)).toInt) sliceFits_S34x2x8x4x128x512_S1x2x8x4x128x512) shapeCasts_S1x2x8x4x128x512_S2x8x4x128x512

/-- The state after a chunk. -/
def stepS (kd : FVec F S2x1x4x128x1 .f32) (cd : FVec F S2x1x4x1x1 .f32) (k : FVec F S2x8x4x128x256 .f32)
    (v : FVec F S2x8x4x128x512 .f32) (s : FVec F S2x8x4x256x512 .f32) : FVec F S2x8x4x256x512 .f32 :=
  addf (mulf s (broadcastInDim S2x8x4x256x512 ![0, 1, 2, 3, 4] bcast_S2x1x4x1x1_S2x8x4x256x512_0_1_2_3_4 cd))
    (Host.dotGeneral dot_S2x8x4x128x256_S2x8x4x128x512_S2x8x4x256x512_3_3_4_4_012_012 none
      (mulf k (broadcastInDim S2x8x4x128x256 ![0, 1, 2, 3, 4] bcast_S2x1x4x128x1_S2x8x4x128x256_0_1_2_3_4 kd)) v)

/-- A chunk's rows. -/
def stepO (mk : FVec F S2x1x4x128x128 .f32) (qd : FVec F S2x1x4x128x1 .f32) (q k : FVec F S2x8x4x128x256 .f32)
    (v : FVec F S2x8x4x128x512 .f32) (s : FVec F S2x8x4x256x512 .f32) : FVec F S2x8x4x128x512 .f32 :=
  addf (Host.dotGeneral dot_S2x8x4x128x128_S2x8x4x128x512_S2x8x4x128x512_4_3_3_4_012_012 none
      (mulf (Host.dotGeneral dot_S2x8x4x128x256_S2x8x4x128x256_S2x8x4x128x128_4_4_3_3_012_012 none q k)
        (broadcastInDim S2x8x4x128x128 ![0, 1, 2, 3, 4] bcast_S2x1x4x128x128_S2x8x4x128x128_0_1_2_3_4 mk)) v)
    (Host.dotGeneral dot_S2x8x4x128x256_S2x8x4x256x512_S2x8x4x128x512_4_3_3_4_012_012 none
      (mulf q (broadcastInDim S2x8x4x128x256 ![0, 1, 2, 3, 4] bcast_S2x1x4x128x1_S2x8x4x128x256_0_1_2_3_4 qd)) s)

/-- The stack of rows with a chunk's put at its place. -/
def putO (o : FVec F S34x2x8x4x128x512 .f32) (r : FVec F S2x8x4x128x512 .f32) (n : IVec S_ 32) : FVec F S34x2x8x4x128x512 .f32 :=
  Host.dynamicUpdateSlice o (broadcastInDim S1x2x8x4x128x512 ![1, 2, 3, 4, 5] bcast_S2x8x4x128x512_S1x2x8x4x128x512_1_2_3_4_5 r)
    (fun k => ((![n, constantI S_ 32 0#32, constantI S_ 32 0#32, constantI S_ 32 0#32, constantI S_ 32 0#32, constantI S_ 32 0#32] : Fin 6 → IVec S_ 32) k (Shape.Idx.first h_S_)).toInt) updateFits_S34x2x8x4x128x512_S1x2x8x4x128x512

/-! ## After the loop -/

/-- The stack's chunks put one after another. -/
def rowsO (o : FVec F S34x2x8x4x128x512 .f32) : FVec F S2x8x4x4352x512 .f32 :=
  shapeCast S2x8x4x4352x512 (transpose S2x8x4x34x128x512 [1, 2, 3, 0, 4, 5] o transposes_S34x2x8x4x128x512_S2x8x4x34x128x512_1_2_3_0_4_5) shapeCasts_S2x8x4x34x128x512_S2x8x4x4352x512

/-- The forward rows and the backward rows flipped back, added. -/
def sumO (o : FVec F S34x2x8x4x128x512 .f32) : FVec F S8x4x4352x512 .f32 :=
  addf (shapeCast S8x4x4352x512 (extractStridedSlice S1x8x4x4352x512 ![0, 0, 0, 0, 0] (rowsO o) slices_S2x8x4x4352x512_S1x8x4x4352x512_0_0_0_0_0) shapeCasts_S1x8x4x4352x512_S8x4x4352x512)
    (flipV (shapeCast S8x4x4352x512 (extractStridedSlice S1x8x4x4352x512 ![1, 0, 0, 0, 0] (rowsO o) slices_S2x8x4x4352x512_S1x8x4x4352x512_1_0_0_0_0) shapeCasts_S1x8x4x4352x512_S8x4x4352x512))

/-- Each row divided by the root of its mean square, the heads side by side. -/
def normO (o : FVec F S8x4x4352x512 .f32) : FVec F S8x4352x2048 .f32 :=
  shapeCast S8x4352x2048 (transpose S8x4352x4x512 [0, 2, 1, 3] (mulf o (broadcastInDim S8x4x4352x512 ![0, 1, 2, 3] bcast_S8x4x4352x1_S8x4x4352x512_0_1_2_3 (Host.rsqrt (addf (Host.divf (broadcastInDim S8x4x4352x1 ![0, 1, 2] bcast_S8x4x4352_S8x4x4352x1_0_1_2 (Host.reduceAdd (mulf o o) (constant S_ .f32 0x00000000#32) reducesTo_S8x4x4352x512_S8x4x4352_d3 h_S_)) (broadcastInDim S8x4x4352x1 ![] bcast_S_S8x4x4352x1 (constant S_ .f32 0x44000000#32))) (broadcastInDim S8x4x4352x1 ![] bcast_S_S8x4x4352x1 (constant S_ .f32 0x358637BD#32)))))) transposes_S8x4x4352x512_S8x4352x4x512_0_2_1_3) shapeCasts_S8x4352x4x512_S8x4352x2048

/-! ## What the loop starts from -/

section Entry

variable (m : (ℓ : Loc nD τ sig) → Buf (Elt F) ℓ) (c : Dev nD)

/-- The packed queries, keys and values. -/
abbrev argX : FVec F S8x4352x4096 .bf16 := m ((c.tc : Thread nD τ).loc main_arg1)
/-- The decays. -/
abbrev argG : FVec F S2x4 .f32 := m ((c.tc : Thread nD τ).loc main_arg0)

theorem entry_0 : entryContents preI m c (Proc.devRef .tc main_v80_0) = cutK (bothK (refQ (argX m c))) := by
  simp only [entryContents, afterL_cons, afterL_nil]
  after_reads_simp
  chain_rfl
theorem entry_1 : entryContents preI m c (Proc.devRef .tc main_v80_1) = cutK (bothK (refK (argX m c))) := by
  simp only [entryContents, afterL_cons, afterL_nil]
  after_reads_simp
  chain_rfl
theorem entry_2 : entryContents preI m c (Proc.devRef .tc main_v80_2) = cutV (bothV (refV (argX m c))) := by
  simp only [entryContents, afterL_cons, afterL_nil]
  after_reads_simp
  chain_rfl
theorem entry_3 : entryContents preI m c (Proc.devRef .tc main_v80_3) = maskR (lsig (argG m c)) := by
  simp only [entryContents, afterL_cons, afterL_nil]
  after_reads_simp
  rfl
theorem entry_4 : entryContents preI m c (Proc.devRef .tc main_v80_4) = qdR (lsig (argG m c)) := by
  simp only [entryContents, afterL_cons, afterL_nil]
  after_reads_simp
  rfl
theorem entry_5 : entryContents preI m c (Proc.devRef .tc main_v80_5) = cdR (lsig (argG m c)) := by
  simp only [entryContents, afterL_cons, afterL_nil]
  after_reads_simp
  rfl
theorem entry_6 : entryContents preI m c (Proc.devRef .tc main_v80_6) = kdR (lsig (argG m c)) := by
  simp only [entryContents, afterL_cons, afterL_nil]
  after_reads_simp
  rfl
theorem entry_8 : entryContents preI m c (Proc.devRef .tc main_v80_8) = broadcastInDim S2x8x4x256x512 ![] bcast_S_S2x8x4x256x512 (constant S_ .f32 0x00000000#32) := by
  simp only [entryContents, afterL_cons, afterL_nil]
  after_reads_simp
  rfl

end Entry

/-! ## What a step makes -/

section Step

variable (V : Valuation τ sig (Elt F))

theorem step_8 : step_main_v80_8 V = stepS (V (Proc.devRef .tc main_v80_6)) (V (Proc.devRef .tc main_v80_5))
    (takeK (V (Proc.devRef .tc main_v80_1)) (V (Proc.devRef .tc main_v80_7))) (takeV (V (Proc.devRef .tc main_v80_2)) (V (Proc.devRef .tc main_v80_7)))
    (V (Proc.devRef .tc main_v80_8)) := by
  unfold step_main_v80_8 res_main_while0b_v106 res_main_while0b_v107 stepS takeK takeV; rfl
theorem step_9 : step_main_v80_9 V = putO (V (Proc.devRef .tc main_v80_9)) (stepO (V (Proc.devRef .tc main_v80_3)) (V (Proc.devRef .tc main_v80_4))
    (takeK (V (Proc.devRef .tc main_v80_0)) (V (Proc.devRef .tc main_v80_7))) (takeK (V (Proc.devRef .tc main_v80_1)) (V (Proc.devRef .tc main_v80_7)))
    (takeV (V (Proc.devRef .tc main_v80_2)) (V (Proc.devRef .tc main_v80_7)))
    (V (Proc.devRef .tc main_v80_8))) (V (Proc.devRef .tc main_v80_7)) := by
  unfold step_main_v80_9 res_main_while0b_v105 res_main_while0b_v106 res_main_while0b_v107 stepO takeK takeV putO; rfl
theorem out_104 : out_main_v104 V = normO (sumO (V (Proc.devRef .tc main_v80_9))) := rfl

end Step

end Cert.ScanRef
-- ==== Proof.Scan.RefAt.lean ====
/-
  The reference's arrays over the extended reals, read at an index.
-/
module

public import proofs.«01_k».proof.Proof.Scan.RefTerm
public import proofs.«01_k».proof.Proof.Scan.Math
public import Idealize.ShloMosaic.Lib.Pointwise
public import Idealize.ShloMosaic.Lib.DynamicIndex
public import Idealize.ShloMosaic.Lib.Pipeline.Value

@[expose] public section

set_option maxRecDepth 16384

noncomputable section

namespace Cert.ScanRef

open Cert.ReferenceIdeal Cert.ReferenceIdeal.Gen Cert.ReferenceIdeal.Value Cert.ScanMath
open Idealize.ShloMosaic Idealize.ShloMosaic.TcCoe Idealize.SL.Sem Idealize.ShloMosaic.StableHlo

/-- The row the backward direction reads at place `r`. -/
def flip (r : ℕ) : ℕ := if r < 256 then 255 - r else 4607 - r
theorem flip_lt {r : ℕ} (h : r < 4352) : flip r < 4352 := by unfold flip; split <;> omega

/-! ## Queries, keys and values -/

theorem refQ_at (x : FVec Ideal S8x4352x4096 .bf16) (b : Fin 8) (h : Fin 4) (r : Fin 4352) (d : Fin 256) :
    refQ x (ix4 b h r d) = x (ix3 b r ⟨h.val * 256 + d.val, by omega⟩) := by
  pointwise [refQ]
theorem refK_at (x : FVec Ideal S8x4352x4096 .bf16) (b : Fin 8) (h : Fin 4) (r : Fin 4352) (d : Fin 256) :
    refK x (ix4 b h r d) = x (ix3 b r ⟨1024 + (h.val * 256 + d.val), by omega⟩) := by
  pointwise [refK]
theorem refV_at (x : FVec Ideal S8x4352x4096 .bf16) (b : Fin 8) (h : Fin 4) (r : Fin 4352) (d : Fin 512) :
    refV x (ix4 b h r d) = x (ix3 b r ⟨2048 + (h.val * 512 + d.val), by omega⟩) := by
  pointwise [refV]

theorem flipK_at (t : FVec Ideal S8x4x4352x256 .f32) (b : Fin 8) (h : Fin 4) (r : Fin 4352) (d : Fin 256) :
    flipK t (ix4 b h r d) = t (ix4 b h ⟨flip r.val, flip_lt r.isLt⟩ d) := by
  pointwise [flipK]
  simp only [List.mem_singleton, Fin.isValue, Nat.reduceEqDiff, reduceIte, Fin.reduceEq, Fin.val_rev, flip]
  split
  · exact congrArg (fun k => t (ix4 b h k d)) (Fin.ext (by simp only []; omega))
  · exact congrArg (fun k => t (ix4 b h k d)) (Fin.ext (by simp only []; omega))
theorem flipV_at (t : FVec Ideal S8x4x4352x512 .f32) (b : Fin 8) (h : Fin 4) (r : Fin 4352) (d : Fin 512) :
    flipV t (ix4 b h r d) = t (ix4 b h ⟨flip r.val, flip_lt r.isLt⟩ d) := by
  pointwise [flipV]
  simp only [List.mem_singleton, Fin.isValue, Nat.reduceEqDiff, reduceIte, Fin.reduceEq, Fin.val_rev, flip]
  split
  · exact congrArg (fun k => t (ix4 b h k d)) (Fin.ext (by simp only []; omega))
  · exact congrArg (fun k => t (ix4 b h k d)) (Fin.ext (by simp only []; omega))

theorem bothK_at (t : FVec Ideal S8x4x4352x256 .f32) (e : Fin 2) (b : Fin 8) (h : Fin 4) (r : Fin 4352) (d : Fin 256) :
    bothK t (ix5 e b h r d) = if e.val < 1 then t (ix4 b h r d) else flipK t (ix4 b h r d) := by
  pointwise [bothK]
  rfl
theorem bothV_at (t : FVec Ideal S8x4x4352x512 .f32) (e : Fin 2) (b : Fin 8) (h : Fin 4) (r : Fin 4352) (d : Fin 512) :
    bothV t (ix5 e b h r d) = if e.val < 1 then t (ix4 b h r d) else flipV t (ix4 b h r d) := by
  pointwise [bothV]
  rfl
theorem cutK_at (t : FVec Ideal S2x8x4x4352x256 .f32) (n : Fin 34) (e : Fin 2) (b : Fin 8) (h : Fin 4) (j : Fin 128) (d : Fin 256) :
    cutK t (ix6 n e b h j d) = t (ix5 e b h ⟨n.val * 128 + j.val, by omega⟩ d) := by
  pointwise [cutK]
theorem cutV_at (t : FVec Ideal S2x8x4x4352x512 .f32) (n : Fin 34) (e : Fin 2) (b : Fin 8) (h : Fin 4) (j : Fin 128) (d : Fin 512) :
    cutV t (ix6 n e b h j d) = t (ix5 e b h ⟨n.val * 128 + j.val, by omega⟩ d) := by
  pointwise [cutV]

/-! ## The decays -/

theorem pos_sub (i j : Fin 128) : FloatOps.sitofp (F := Ideal) FTy.f32 (BitVec.ofNat 32 i.val) - FloatOps.sitofp (F := Ideal) FTy.f32 (BitVec.ofNat 32 j.val)
    = (((i.val : ℝ) - (j.val : ℝ) : ℝ) : EReal) := by
  rw [sitofp_ofNat (by omega), sitofp_ofNat (by omega), EReal.coe_sub]

theorem maskR_at (lg : FVec Ideal S2x4 .f32) (e : Fin 2) (h : Fin 4) (i j : Fin 128) :
    maskR lg (ix5 e 0 h i j) = mkF (lg (ix2 e h)) i j := by
  pointwise [maskR, lgs, diff, pos]
  rw [pos_sub]
  unfold mkF
  refine if_congr ?_ rfl rfl
  rw [EReal.coe_nonneg, sub_nonneg, Nat.cast_le]; rfl
theorem qdR_at (lg : FVec Ideal S2x4 .f32) (e : Fin 2) (h : Fin 4) (i : Fin 128) :
    qdR lg (ix5 e 0 h i 0) = qdF (lg (ix2 e h)) i := by
  pointwise [qdR, spread, lgs, pos]
  rw [sitofp_ofNat (by omega), ← EReal.coe_one, ← EReal.coe_add]; rfl
theorem kdR_at (lg : FVec Ideal S2x4 .f32) (e : Fin 2) (h : Fin 4) (i : Fin 128) :
    kdR lg (ix5 e 0 h i 0) = kdF (lg (ix2 e h)) i := by
  pointwise [kdR, spread, lgs, pos]
  rw [sitofp_ofNat (by omega), ofBits_127, ← EReal.coe_sub]; rfl
theorem cdR_at (lg : FVec Ideal S2x4 .f32) (e : Fin 2) (h : Fin 4) :
    cdR lg (ix5 e 0 h 0 0) = cdF (lg (ix2 e h)) := by
  pointwise [cdR, lgs]
  rw [ofBits_128]; rfl
theorem lsig_at (g : FVec Ideal S2x4 .f32) (e : Fin 2) (h : Fin 4) :
    lsig g (ix2 e h) = ls (g (ix2 e h)) := by
  pointwise [lsig]
  rw [if_neg (fun h => h rfl)]; rfl

/-! ## One step -/

theorem takeK_at (t : FVec Ideal S34x2x8x4x128x256 .f32) (n : Fin 34) (e : Fin 2) (b : Fin 8) (h : Fin 4) (j : Fin 128) (d : Fin 256) :
    takeK t (fun _ => BitVec.ofNat 32 n.val) (ix5 e b h j d) = t (ix6 n e b h j d) := by
  have hn : (BitVec.ofNat 32 n.val).toInt = n.val := toInt_ofNat_of_lt (by omega)
  have h' : S34x2x8x4x128x256.Slices (![n.val, 0, 0, 0, 0, 0] : Fin 6 → ℕ) S1x2x8x4x128x256 :=
    ⟨rfl, fun a => by fin_cases a <;> simp [Fin.cast, S34x2x8x4x128x256, S1x2x8x4x128x256] <;> omega⟩
  unfold takeK
  rw [Host.dynamicSlice_eq_extractStridedSlice (s := S34x2x8x4x128x256) _ t _ (![n.val, 0, 0, 0, 0, 0] : Fin 6 → ℕ) _ h'
    (fun a => by fin_cases a <;> first | exact hn | rfl)]
  pointwise []
theorem takeV_at (t : FVec Ideal S34x2x8x4x128x512 .f32) (n : Fin 34) (e : Fin 2) (b : Fin 8) (h : Fin 4) (j : Fin 128) (d : Fin 512) :
    takeV t (fun _ => BitVec.ofNat 32 n.val) (ix5 e b h j d) = t (ix6 n e b h j d) := by
  have hn : (BitVec.ofNat 32 n.val).toInt = n.val := toInt_ofNat_of_lt (by omega)
  have h' : S34x2x8x4x128x512.Slices (![n.val, 0, 0, 0, 0, 0] : Fin 6 → ℕ) S1x2x8x4x128x512 :=
    ⟨rfl, fun a => by fin_cases a <;> simp [Fin.cast, S34x2x8x4x128x512, S1x2x8x4x128x512] <;> omega⟩
  unfold takeV
  rw [Host.dynamicSlice_eq_extractStridedSlice (s := S34x2x8x4x128x512) _ t _ (![n.val, 0, 0, 0, 0, 0] : Fin 6 → ℕ) _ h'
    (fun a => by fin_cases a <;> first | exact hn | rfl)]
  pointwise []

theorem stepS_at (kd : FVec Ideal S2x1x4x128x1 .f32) (cd : FVec Ideal S2x1x4x1x1 .f32) (k : FVec Ideal S2x8x4x128x256 .f32)
    (v : FVec Ideal S2x8x4x128x512 .f32) (s : FVec Ideal S2x8x4x256x512 .f32) (e : Fin 2) (b : Fin 8) (h : Fin 4) (d : Fin 256) (w : Fin 512) :
    stepS kd cd k v s (ix5 e b h d w) = s (ix5 e b h d w) * cd (ix5 e 0 h 0 0) + ∑ j : Fin 128, (k (ix5 e b h j d) * kd (ix5 e 0 h j 0)) * v (ix5 e b h j w) := by
  pointwise [stepS]
theorem stepO_at (mk : FVec Ideal S2x1x4x128x128 .f32) (qd : FVec Ideal S2x1x4x128x1 .f32) (q k : FVec Ideal S2x8x4x128x256 .f32)
    (v : FVec Ideal S2x8x4x128x512 .f32) (s : FVec Ideal S2x8x4x256x512 .f32) (e : Fin 2) (b : Fin 8) (h : Fin 4) (i : Fin 128) (w : Fin 512) :
    stepO mk qd q k v s (ix5 e b h i w) = (∑ j : Fin 128, ((∑ d : Fin 256, q (ix5 e b h i d) * k (ix5 e b h j d)) * mk (ix5 e 0 h i j)) * v (ix5 e b h j w))
      + ∑ d : Fin 256, (q (ix5 e b h i d) * qd (ix5 e 0 h i 0)) * s (ix5 e b h d w) := by
  pointwise [stepO]
theorem putO_at (o : FVec Ideal S34x2x8x4x128x512 .f32) (r : FVec Ideal S2x8x4x128x512 .f32) (n n' : Fin 34) (e : Fin 2) (b : Fin 8) (h : Fin 4) (i : Fin 128) (w : Fin 512) :
    putO o r (fun _ => BitVec.ofNat 32 n.val) (ix6 n' e b h i w) = if n' = n then r (ix5 e b h i w) else o (ix6 n' e b h i w) := by
  have hn : (BitVec.ofNat 32 n.val).toInt = n.val := toInt_ofNat_of_lt (by omega)
  have h' : S34x2x8x4x128x512.Slices (![n.val, 0, 0, 0, 0, 0] : Fin 6 → ℕ) S1x2x8x4x128x512 :=
    ⟨rfl, fun a => by fin_cases a <;> simp [Fin.cast, S34x2x8x4x128x512, S1x2x8x4x128x512] <;> omega⟩
  unfold putO
  rw [Host.dynamicUpdateSlice_eq_updateSlice (s := S34x2x8x4x128x512) o _ _ _ (![n.val, 0, 0, 0, 0, 0] : Fin 6 → ℕ)
    (fun a => by
      fin_cases a
      · show (min (max (BitVec.ofNat 32 n.val).toInt 0) 33).toNat = n.val
        rw [hn]; omega
      all_goals rfl) h']
  pointwise []
  exact dite_congr (propext (by rw [Fin.ext_iff]; omega)) (fun _ => rfl) (fun _ => rfl)

/-! ## After the loop -/

theorem sumO_at (o : FVec Ideal S34x2x8x4x128x512 .f32) (b : Fin 8) (h : Fin 4) (r : Fin 4352) (w : Fin 512) :
    sumO o (ix4 b h r w) = o (ix6 ⟨r.val / 128, by omega⟩ 0 b h ⟨r.val % 128, by omega⟩ w)
      + o (ix6 ⟨flip r.val / 128, by have := flip_lt r.isLt; omega⟩ 1 b h ⟨flip r.val % 128, by omega⟩ w) := by
  unfold sumO
  rw [show ∀ a b : FVec Ideal S8x4x4352x512 .f32, ∀ i, addf a b i = a i + b i from fun _ _ _ => rfl, flipV_at]
  pointwise [rowsO]
theorem normO_at (o : FVec Ideal S8x4x4352x512 .f32) (b : Fin 8) (r : Fin 4352) (w : Fin 2048) :
    normO o (ix3 b r w) = o (ix4 b ⟨w.val / 512, by omega⟩ r ⟨w.val % 512, by omega⟩)
      * Ideal.rsqrt (Ideal.div (∑ x : Fin 512, o (ix4 b ⟨w.val / 512, by omega⟩ r x) * o (ix4 b ⟨w.val / 512, by omega⟩ r x))
          (Ideal.ofBits .f32 0x44000000#32) + Ideal.ofBits .f32 0x358637BD#32) := by
  pointwise [normO]

/-- The norm of rows known one by one. -/
theorem normO_of (o : FVec Ideal S8x4x4352x512 .f32) (b : Fin 8) (r : Fin 4352) (u : Fin 2048) (f : Fin 512 → EReal)
    (hf : ∀ w, o (ix4 b ⟨u.val / 512, by omega⟩ r w) = f w) :
    normO o (ix3 b r u) = normRow f ⟨u.val % 512, by omega⟩ := by
  obtain rfl : (fun w => o (ix4 b ⟨u.val / 512, by omega⟩ r w)) = f := funext hf
  exact normO_at o b r u

end Cert.ScanRef
-- ==== Proof.Scan.RefValue.lean ====
/-
  The reference's result over the extended reals: the carried buffers after `k` chunks, by induction, and what the
  program makes of them.
-/
module

public import proofs.«01_k».proof.Proof.Scan.RefAt

@[expose] public section

noncomputable section

namespace Cert.ScanRef

open Cert.ReferenceIdeal Cert.ReferenceIdeal.Gen Cert.ReferenceIdeal.Value Cert.ScanMath
open Idealize.ShloMosaic Idealize.ShloMosaic.TcCoe Idealize.SL.Sem Idealize.ShloMosaic.StableHlo

/-- The chunks of a direction and a head, from the stack of them all. -/
def cK (t : FVec Ideal S34x2x8x4x128x256 .f32) (e : Fin 2) (b : Fin 8) (h : Fin 4) (n : ℕ) (j : Fin 128) (d : Fin 256) : EReal :=
  if hn : n < 34 then t (ix6 ⟨n, hn⟩ e b h j d) else 0
def cV (t : FVec Ideal S34x2x8x4x128x512 .f32) (e : Fin 2) (b : Fin 8) (h : Fin 4) (n : ℕ) (j : Fin 128) (d : Fin 512) : EReal :=
  if hn : n < 34 then t (ix6 ⟨n, hn⟩ e b h j d) else 0

section Loop

variable (V : Valuation τ sig (Elt Ideal)) (q k : FVec Ideal S34x2x8x4x128x256 .f32) (v : FVec Ideal S34x2x8x4x128x512 .f32)
  (lg : FVec Ideal S2x4 .f32)

/-- The carried buffers before chunk `n`. -/
structure At (n : ℕ) : Prop where
  h0 : V (Proc.devRef .tc main_v80_0) = q
  h1 : V (Proc.devRef .tc main_v80_1) = k
  h2 : V (Proc.devRef .tc main_v80_2) = v
  h3 : V (Proc.devRef .tc main_v80_3) = maskR lg
  h4 : V (Proc.devRef .tc main_v80_4) = qdR lg
  h5 : V (Proc.devRef .tc main_v80_5) = cdR lg
  h6 : V (Proc.devRef .tc main_v80_6) = kdR lg
  h7 : V (Proc.devRef .tc main_v80_7) = fun _ => BitVec.ofNat 32 n
  h8 : ∀ (e : Fin 2) (b : Fin 8) (h : Fin 4) (d : Fin 256) (w : Fin 512),
    (V (Proc.devRef .tc main_v80_8) : FVec Ideal S2x8x4x256x512 .f32) (ix5 e b h d w) = St (kdF (lg (ix2 e h))) (cdF (lg (ix2 e h))) (cK k e b h) (cV v e b h) n d w
  h9 : ∀ (n' : Fin 34) (e : Fin 2) (b : Fin 8) (h : Fin 4) (i : Fin 128) (w : Fin 512), n'.val < n →
    (V (Proc.devRef .tc main_v80_9) : FVec Ideal S34x2x8x4x128x512 .f32) (ix6 n' e b h i w)
      = Out (mkF (lg (ix2 e h))) (qdF (lg (ix2 e h))) (kdF (lg (ix2 e h))) (cdF (lg (ix2 e h))) (cK q e b h) (cK k e b h) (cV v e b h) n'.val i w

variable {V q k v lg}

theorem At.step {n : ℕ} (H : At V q k v lg n) (hn : n < 34) : At (STEP V) q k v lg (n + 1) where
  h0 := (STEP_main_v80_0 V).trans H.h0
  h1 := (STEP_main_v80_1 V).trans H.h1
  h2 := (STEP_main_v80_2 V).trans H.h2
  h3 := (STEP_main_v80_3 V).trans H.h3
  h4 := (STEP_main_v80_4 V).trans H.h4
  h5 := (STEP_main_v80_5 V).trans H.h5
  h6 := (STEP_main_v80_6 V).trans H.h6
  h7 := by
    rw [STEP_main_v80_7]
    show id (addi (V (Proc.devRef .tc main_v80_7)) (constantI S_ 32 1#32)) = _
    rw [H.h7]
    funext _
    exact (BitVec.ofNat_add n 1).symm
  h8 e b h d w := by
    rw [STEP_main_v80_8, step_8, H.h1, H.h2, H.h5, H.h6, H.h7]
    refine (stepS_at _ _ _ _ _ _ _ _ _ _).trans ?_
    have ek : ∀ j, takeK k (fun _ => BitVec.ofNat 32 n) (ix5 e b h j d) = cK k e b h n j d := fun j =>
      (takeK_at k ⟨n, hn⟩ e b h j d).trans (by unfold cK; rw [dif_pos hn])
    have ev : ∀ j, takeV v (fun _ => BitVec.ofNat 32 n) (ix5 e b h j w) = cV v e b h n j w := fun j =>
      (takeV_at v ⟨n, hn⟩ e b h j w).trans (by unfold cV; rw [dif_pos hn])
    exact congrArg₂ (· + ·) (congrArg₂ (· * ·) (H.h8 e b h d w) (cdR_at lg e h))
      (Finset.sum_congr rfl fun j _ => congrArg₂ (· * ·) (congrArg₂ (· * ·) (ek j) (kdR_at lg e h j)) (ev j))
  h9 n' e b h i w hl := by
    rw [STEP_main_v80_9, step_9, H.h0, H.h1, H.h2, H.h3, H.h4, H.h7]
    refine (putO_at _ _ ⟨n, hn⟩ n' e b h i w).trans ?_
    split
    · rename_i he
      subst he
      refine (stepO_at _ _ _ _ _ _ _ _ _ _ _).trans ?_
      have eq : ∀ i d, takeK q (fun _ => BitVec.ofNat 32 n) (ix5 e b h i d) = cK q e b h n i d := fun j d =>
        (takeK_at q ⟨n, hn⟩ e b h j d).trans (by unfold cK; rw [dif_pos hn])
      have ek : ∀ j d, takeK k (fun _ => BitVec.ofNat 32 n) (ix5 e b h j d) = cK k e b h n j d := fun j d =>
        (takeK_at k ⟨n, hn⟩ e b h j d).trans (by unfold cK; rw [dif_pos hn])
      have ev : ∀ j, takeV v (fun _ => BitVec.ofNat 32 n) (ix5 e b h j w) = cV v e b h n j w := fun j =>
        (takeV_at v ⟨n, hn⟩ e b h j w).trans (by unfold cV; rw [dif_pos hn])
      exact congrArg₂ (· + ·)
        (Finset.sum_congr rfl fun j _ => congrArg₂ (· * ·) (congrArg₂ (· * ·)
          (Finset.sum_congr rfl fun d _ => congrArg₂ (· * ·) (eq i d) (ek j d)) (maskR_at lg e h i j)) (ev j))
        (Finset.sum_congr rfl fun d _ => congrArg₂ (· * ·) (congrArg₂ (· * ·) (eq i d) (qdR_at lg e h i)) (H.h8 e b h d w))
    · rename_i he
      exact H.h9 n' e b h i w (by
        have h' : n'.val ≠ n := fun h' => he (Fin.ext h')
        omega)

end Loop

section Result

variable (m : (ℓ : Loc nD τ sig) → Buf (Elt Ideal) ℓ) (c : Dev nD)

/-- Queries, keys and values in chunks, both directions, and the log-sigmoid of the decays. -/
abbrev qC := cutK (bothK (refQ (argX m c)))
abbrev kC := cutK (bothK (refK (argX m c)))
abbrev vC := cutV (bothV (refV (argX m c)))
abbrev lgC := lsig (argG m c)

theorem at_entry : At (entryContents preI m c) (qC m c) (kC m c) (vC m c) (lgC m c) 0 where
  h0 := entry_0 m c
  h1 := entry_1 m c
  h2 := entry_2 m c
  h3 := entry_3 m c
  h4 := entry_4 m c
  h5 := entry_5 m c
  h6 := entry_6 m c
  h7 := ctr_entry m c
  h8 e b h d w := by
    rw [entry_8]
    show Ideal.ofBits .f32 0x00000000#32 = 0
    simp [Ideal.ofBits, Ideal.ieee]
  h9 _ _ _ _ _ _ h := absurd h (Nat.not_lt_zero _)

theorem at_iter : ∀ n ≤ 34, At (STEP^[n] (entryContents preI m c)) (qC m c) (kC m c) (vC m c) (lgC m c) n
  | 0, _ => at_entry m c
  | n + 1, h => by
    rw [Function.iterate_succ_apply']
    exact (at_iter n (by omega)).step (by omega)

/-- The arguments by coordinates. -/
abbrev gOf (e : Fin 2) (h : Fin 4) : EReal := argG m c (ix2 e h)
abbrev xOf (b : Fin 8) (r : Fin 4352) (u : Fin 4096) : EReal := argX m c (ix3 b r u)

theorem lg_at (e : Fin 2) (h : Fin 4) : lgC m c (ix2 e h) = ls (gOf m c e h) := lsig_at _ _ _

section Chunks

variable (b : Fin 8) (h : Fin 4) {n : ℕ} (hn : n < 34)
include hn

theorem row_eq (j : Fin 128) : (⟨n * 128 + j.val, by omega⟩ : Fin 4352) = ⟨(128 * n + j.val) % 4352, Nat.mod_lt _ (by decide)⟩ :=
  Fin.ext (by simp only []; omega)
theorem row_flip (j : Fin 128) : (⟨flip (n * 128 + j.val), flip_lt (by omega)⟩ : Fin 4352)
    = ⟨(128 * cn n + j.rev.val) % 4352, Nat.mod_lt _ (by decide)⟩ :=
  Fin.ext (by simp only [flip, cn, Fin.val_rev]; split <;> split <;> omega)

theorem q0 : cK (qC m c) 0 b h n = qCh (xOf m c) b h n := by
  funext j d
  unfold cK qCh
  rw [dif_pos hn, ← row_eq hn j]
  exact (cutK_at _ _ _ _ _ _ _).trans ((bothK_at _ _ _ _ _ _).trans ((if_pos (by decide)).trans (refQ_at _ _ _ _ _)))
theorem k0 : cK (kC m c) 0 b h n = kCh (xOf m c) b h n := by
  funext j d
  unfold cK kCh
  rw [dif_pos hn, ← row_eq hn j]
  exact (cutK_at _ _ _ _ _ _ _).trans ((bothK_at _ _ _ _ _ _).trans ((if_pos (by decide)).trans (refK_at _ _ _ _ _)))
theorem v0 : cV (vC m c) 0 b h n = vCh (xOf m c) b h n := by
  funext j d
  unfold cV vCh
  rw [dif_pos hn, ← row_eq hn j]
  exact (cutV_at _ _ _ _ _ _ _).trans ((bothV_at _ _ _ _ _ _).trans ((if_pos (by decide)).trans (refV_at _ _ _ _ _)))
theorem q1 : cK (qC m c) 1 b h n = fun j => qCh (xOf m c) b h (cn n) j.rev := by
  funext j d
  unfold cK qCh
  rw [dif_pos hn, ← row_flip hn j]
  exact (cutK_at _ _ _ _ _ _ _).trans ((bothK_at _ _ _ _ _ _).trans ((if_neg (by decide)).trans ((flipK_at _ _ _ _ _).trans (refQ_at _ _ _ _ _))))
theorem k1 : cK (kC m c) 1 b h n = fun j => kCh (xOf m c) b h (cn n) j.rev := by
  funext j d
  unfold cK kCh
  rw [dif_pos hn, ← row_flip hn j]
  exact (cutK_at _ _ _ _ _ _ _).trans ((bothK_at _ _ _ _ _ _).trans ((if_neg (by decide)).trans ((flipK_at _ _ _ _ _).trans (refK_at _ _ _ _ _))))
theorem v1 : cV (vC m c) 1 b h n = fun j => vCh (xOf m c) b h (cn n) j.rev := by
  funext j d
  unfold cV vCh
  rw [dif_pos hn, ← row_flip hn j]
  exact (cutV_at _ _ _ _ _ _ _).trans ((bothV_at _ _ _ _ _ _).trans ((if_neg (by decide)).trans ((flipV_at _ _ _ _ _).trans (refV_at _ _ _ _ _))))

end Chunks

/-- The result, read at an index. -/
theorem out_at (b : Fin 8) (r : Fin 4352) (u : Fin 2048) :
    (out_main_v104 (STEP^[34] (entryContents preI m c)) : FVec Ideal S8x4352x2048 .f32) (ix3 b r u)
      = val (gOf m c) (xOf m c) b ⟨u.val / 512, by omega⟩ r ⟨u.val % 512, Nat.mod_lt _ (by decide)⟩ := by
  have H := at_iter m c 34 le_rfl
  rw [out_104]
  refine normO_of _ b r u _ fun w => ?_
  generalize (⟨u.val / 512, _⟩ : Fin 4) = h
  refine (sumO_at _ _ _ _ _).trans (congrArg₂ (· + ·) ?_ ?_)
  · refine (H.h9 _ _ _ _ _ _ (by simp only []; omega)).trans ?_
    rw [lg_at]
    exact congrFun (congrFun (Out_congr _ _ _ _ _ (q0 m c b h (by simp only []; omega))
      (fun k hk => k0 m c b h (by simp only [] at hk; omega)) (fun k hk => v0 m c b h (by simp only [] at hk; omega))) _) w
  · have hl := flip_lt r.isLt
    refine (H.h9 _ _ _ _ _ _ (by simp only []; omega)).trans ?_
    rw [lg_at]
    refine (congrFun (congrFun (Out_congr _ _ _ _ (Q' := fun n j => qCh (xOf m c) b h (cn n) j.rev)
      (K' := fun n j => kCh (xOf m c) b h (cn n) j.rev) (V' := fun n j => vCh (xOf m c) b h (cn n) j.rev)
      (flip r.val / 128) (q1 m c b h (by omega)) (fun k hk => k1 m c b h (by omega)) (fun k hk => v1 m c b h (by omega))) _) w).trans ?_
    have e1 : flip r.val / 128 = cn (r.val / 128) := by
      unfold flip cn; have := r.isLt; split <;> split <;> omega
    have e2 : (⟨flip r.val % 128, by omega⟩ : Fin 128) = Fin.rev ⟨r.val % 128, Nat.mod_lt _ (by decide)⟩ :=
      Fin.ext (by rw [Fin.val_rev]; show flip r.val % 128 = 128 - (r.val % 128 + 1); unfold flip; split <;> omega)
    simp only [e1, e2]

end Result

end Cert.ScanRef
-- ==== Proof.Out.Spec.lean ====
/- A projection, the residual and a layer norm, of one row: what the output calls of the layers compute. -/
module

public import Idealize.ShloMosaic.PureOps.Ideal

@[expose] public section

noncomputable section

open Idealize.ShloMosaic

namespace Cert.Out

/-- The residual's weight, as the programs have it. -/
abbrev alpha : EReal := Ideal.ofBits .f32 0x3FD744FD#32
/-- The width of a row. -/
abbrev width : EReal := Ideal.ofBits .f32 0x44800000#32
/-- What the norm adds to a variance. -/
abbrev eps : EReal := Ideal.ofBits .f32 0x3727C5AC#32

/-- A row's mean. -/
def mean (z : Fin 1024 → EReal) : EReal := Ideal.div (∑ d, z d) width

/-- A row less its mean. -/
def dev (z : Fin 1024 → EReal) (d : Fin 1024) : EReal := z d - mean z

/-- The layer norm of a row, with weights `g` and offsets `b`. -/
def norm (z g b : Fin 1024 → EReal) (d : Fin 1024) : EReal :=
  dev z d * Ideal.rsqrt (mean (fun e => dev z e * dev z e) + eps) * g d + b d

/-- A row of the residual stream plus its gated projection: activations `a`, projection `w`. -/
def stream {n : ℕ} (x gate : Fin 1024 → EReal) (a : Fin n → EReal) (w : Fin n → Fin 1024 → EReal) (d : Fin 1024) : EReal :=
  alpha * x d + gate d * ∑ k, a k * w k d

/-- The norm of the stream: a row of a layer's result. -/
def row {n : ℕ} (x gate : Fin 1024 → EReal) (a : Fin n → EReal) (w : Fin n → Fin 1024 → EReal) (g b : Fin 1024 → EReal) :
    Fin 1024 → EReal := norm (stream x gate a w) g b

theorem row_congr {n : ℕ} {x x' gate gate' : Fin 1024 → EReal} {a a' : Fin n → EReal} {w w' : Fin n → Fin 1024 → EReal}
    {g g' b b' : Fin 1024 → EReal} (hx : ∀ d, x d = x' d) (hgate : ∀ d, gate d = gate' d) (ha : ∀ k, a k = a' k)
    (hw : ∀ k d, w k d = w' k d) (hg : ∀ d, g d = g' d) (hb : ∀ d, b d = b' d) (d : Fin 1024) :
    row x gate a w g b d = row x' gate' a' w' g' b' d := by
  obtain rfl : x = x' := funext hx
  obtain rfl : gate = gate' := funext hgate
  obtain rfl : a = a' := funext ha
  obtain rfl : w = w' := funext fun k => funext fun d => hw k d
  obtain rfl : g = g' := funext hg
  obtain rfl : b = b' := funext hb
  rfl

/-- A gated activation. -/
def gated (g o : EReal) : EReal := g * Ideal.logistic g * o

/-- The same with the gate last. -/
def gatedR (o g : EReal) : EReal := o * (g * Ideal.logistic g)

/-- An activation with a weight, a weighted skip and a gate. -/
def gatedM (o gn sk xc z : EReal) : EReal := (o * gn + sk * xc) * (z * Ideal.logistic z)

end Cert.Out
-- ==== Proof.RetOut.Kernel.lean ====
/- The output call's result array: every row the layer norm of its stream. -/
module

public import proofs.«01_k».proof.Proof.Out.Spec
public import proofs.«01_k».proof.Proof.Gen.KernelOutIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetOut

open Cert.KernelOutIdeal Cert.KernelOutIdeal.Gen Cert.Out

/-! ## The body's values at an index -/

section Body

variable (g o : FVec Ideal S1x256x2048 .f32) (w : FVec Ideal S2048x1024 .bf16) (ms : FVec Ideal S1x1x3x1024 .f32)
  (x : FVec Ideal S1x256x1024 .f32) (lg lb : FVec Ideal S1x1024 .f32)

/-- The stream at a row of the block. -/
abbrev blockStream (r : Fin 256) : Fin 1024 → EReal :=
  stream (fun d => x (ix3 0 r d)) (fun d => ms (ix4 0 0 2 d)) (fun k => gated (g (ix3 0 r k)) (o (ix3 0 r k)))
    (fun k d => w (ix2 k d))

theorem pay2_at (r : Fin 256) (d : Fin 1024) :
    k0_pay2 (F := Ideal) g o w ms x (ix2 r d) = dev (blockStream g o w ms x r) d := by
  pointwise [k0_pay2]
  rfl

theorem pay3_at (r : Fin 256) (d : Fin 1024) :
    k0_pay3 (F := Ideal) g o w ms x (ix2 r d)
      = Ideal.rsqrt (mean (fun e => dev (blockStream g o w ms x r) e * dev (blockStream g o w ms x r) e) + eps) := by
  pointwise [k0_pay3]
  exact congrArg (fun s => Ideal.rsqrt (Ideal.div s width + eps))
    (Finset.sum_congr rfl fun e _ => congrArg₂ (· * ·) (pay2_at g o w ms x r e) (pay2_at g o w ms x r e))

theorem pay1_at (z s : FVec Ideal S256x1024 .f32) (r : Fin 256) (d : Fin 1024) :
    k0_pay1 (F := Ideal) z s lg lb (ix3 0 r d) = z (ix2 r d) * s (ix2 r d) * lg (ix2 0 d) + lb (ix2 0 d) := by
  pointwise [k0_pay1]

theorem body_at (r : Fin 256) (d : Fin 1024) :
    k0_pay1 (F := Ideal) (k0_pay2 g o w ms x) (k0_pay3 g o w ms x) lg lb (ix3 0 r d)
      = row (fun d => x (ix3 0 r d)) (fun d => ms (ix4 0 0 2 d)) (fun k => gated (g (ix3 0 r k)) (o (ix3 0 r k)))
          (fun k d => w (ix2 k d)) (fun d => lg (ix2 0 d)) (fun d => lb (ix2 0 d)) d :=
  (pay1_at lg lb _ _ r d).trans (congrArg (fun s => s * lg (ix2 0 d) + lb (ix2 0 d))
    (congrArg₂ (· * ·) (pay2_at g o w ms x r d) (pay3_at g o w ms x r d)))

end Body

/-! ## The result array -/

variable (m : (ℓ : Loc nD τ sig) → Buf (Elt Ideal) ℓ)

/-- A row's gate: the context's rows come before row 256, the latents' from there. -/
def gateOf (mod : FVec Ideal S8x3072 .f32) (modc : FVec Ideal S3072 .f32) (b : Fin 8) (i : Fin 4352) (d : Fin 1024) : EReal :=
  if i.val < 256 then modc (ix1 ⟨2048 + d.val, by omega⟩) else mod (ix2 b ⟨2048 + d.val, by omega⟩)

/-- The result at an index, of the arguments. -/
def value (o g : FVec Ideal S8x4352x2048 .f32) (w : FVec Ideal S2048x1024 .f32) (x : FVec Ideal S8x4352x1024 .f32)
    (mod : FVec Ideal S8x3072 .f32) (modc : FVec Ideal S3072 .f32) (lg lb : FVec Ideal S1024 .f32)
    (b : Fin 8) (i : Fin 4352) : Fin 1024 → EReal :=
  row (fun d => x (ix3 b i d)) (gateOf mod modc b i) (fun k => gated (g (ix3 b i k)) (o (ix3 b i k)))
    (fun k d => w (ix2 k d)) (fun d => lg (ix1 d)) (fun d => lb (ix1 d))

/-- The result array of a launch. -/
def result (c : Dev nD) : FVec Ideal S8x4352x1024 .f32 := fun i =>
  value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

theorem idx : ∀ t : Fin cfg0.N, win0_0.index t = ![(grid0.coords t 0).val, (grid0.coords t 1).val, 0]
    ∧ win0_1.index t = ![(grid0.coords t 0).val, (grid0.coords t 1).val, 0]
    ∧ win0_2.index t = ![0, 0]
    ∧ win0_3.index t = ![(grid0.coords t 0).val, (grid0.coords t 1).val, 0]
    ∧ win0_4.index t = ![(grid0.coords t 0).val, min (grid0.coords t 1).val 1, 0, 0]
    ∧ win0_5.index t = ![0, 0] ∧ win0_6.index t = ![0, 0]
    ∧ win0_7.index t = ![(grid0.coords t 0).val, (grid0.coords t 1).val, 0]
    ∧ (grid0.coords t 0).val < 8 ∧ (grid0.coords t 1).val < 17 :=
  (by decide +kernel : ∀ t : Fin grid0.N, _)

/-- The batch and the row of the array that a point's block row is. -/
def bAt (t : Fin cfg0.N) : Fin 8 := ⟨(grid0.coords t 0).val, (idx t).2.2.2.2.2.2.2.2.1⟩
def rAt (t : Fin cfg0.N) (r : Fin 256) : Fin 4352 :=
  ⟨(grid0.coords t 1).val * 256 + r.val, by have := (idx t).2.2.2.2.2.2.2.2.2; omega⟩

section Reads

variable (c : Dev nD) (t : Fin cfg0.N)

theorem rd_o (r : Fin 256) (k : Fin 2048) :
    (iblk m c 0 t : FVec Ideal S1x256x2048 .f32) (ix3 0 r k) = m ((c : Thread nD τ).loc main_arg0) (ix3 (bAt t) (rAt t r) k) := by
  blk_ext [iblk, V, idx t, bAt, rAt]

theorem rd_g (r : Fin 256) (k : Fin 2048) :
    (iblk m c 1 t : FVec Ideal S1x256x2048 .f32) (ix3 0 r k) = m ((c : Thread nD τ).loc main_arg1) (ix3 (bAt t) (rAt t r) k) := by
  blk_ext [iblk, V, idx t, bAt, rAt]

theorem rd_x (r : Fin 256) (d : Fin 1024) :
    (iblk m c 3 t : FVec Ideal S1x256x1024 .f32) (ix3 0 r d) = m ((c : Thread nD τ).loc main_arg3) (ix3 (bAt t) (rAt t r) d) := by
  blk_ext [iblk, V, idx t, bAt, rAt]

/-! The arrays that the host code prepares. -/

theorem V_w (k : Fin 2048) (d : Fin 1024) :
    (V m c main_v6 : FVec Ideal S2048x1024 .bf16) (ix2 k d) = m ((c : Thread nD τ).loc main_arg2) (ix2 k d) := by
  entry_read; pointwise

theorem V_lg (d : Fin 1024) :
    (V m c main_v7 : FVec Ideal S1x1024 .f32) (ix2 0 d) = m ((c : Thread nD τ).loc main_arg6) (ix1 d) := by
  entry_read; pointwise

theorem V_lb (d : Fin 1024) :
    (V m c main_v8 : FVec Ideal S1x1024 .f32) (ix2 0 d) = m ((c : Thread nD τ).loc main_arg7) (ix1 d) := by
  entry_read; pointwise

theorem V_ms (b : Fin 8) (s : Fin 2) (e : Fin 3) (d : Fin 1024) :
    (V m c main_v5 : FVec Ideal S8x2x3x1024 .f32) (ix4 b s e d)
      = if s.val < 1 then (m ((c : Thread nD τ).loc main_arg5) : FVec Ideal S3072 .f32) (ix1 ⟨e.val * 1024 + d.val, by omega⟩)
        else (m ((c : Thread nD τ).loc main_arg4) : FVec Ideal S8x3072 .f32) (ix2 b ⟨e.val * 1024 + d.val, by omega⟩) := by
  entry_read; pointwise; rfl

theorem rd_w (k : Fin 2048) (d : Fin 1024) :
    (iblk m c 2 t : FVec Ideal S2048x1024 .bf16) (ix2 k d) = m ((c : Thread nD τ).loc main_arg2) (ix2 k d) :=
  Eq.trans (by blk_ext [iblk, idx t]) (V_w m c k d)

theorem rd_lg (d : Fin 1024) :
    (iblk m c 5 t : FVec Ideal S1x1024 .f32) (ix2 0 d) = m ((c : Thread nD τ).loc main_arg6) (ix1 d) :=
  Eq.trans (by blk_ext [iblk, idx t]) (V_lg m c d)

theorem rd_lb (d : Fin 1024) :
    (iblk m c 6 t : FVec Ideal S1x1024 .f32) (ix2 0 d) = m ((c : Thread nD τ).loc main_arg7) (ix1 d) :=
  Eq.trans (by blk_ext [iblk, idx t]) (V_lb m c d)

theorem rd_ms (r : Fin 256) (d : Fin 1024) :
    (iblk m c 4 t : FVec Ideal S1x1x3x1024 .f32) (ix4 0 0 2 d)
      = gateOf (m ((c : Thread nD τ).loc main_arg4)) (m ((c : Thread nD τ).loc main_arg5)) (bAt t) (rAt t r) d := by
  refine Eq.trans (b := (V m c main_v5 : FVec Ideal S8x2x3x1024 .f32)
    (ix4 (bAt t) ⟨min (grid0.coords t 1).val 1, by omega⟩ 2 d)) (by blk_ext [iblk, idx t, bAt]) ((V_ms m c _ _ _ _).trans ?_)
  unfold gateOf
  by_cases h : (grid0.coords t 1).val = 0
  · rw [if_pos (by show min _ 1 < 1; omega), if_pos (by show _ * 256 + r.val < 256; omega)]; rfl
  · rw [if_neg (by show ¬ min _ 1 < 1; omega), if_neg (by show ¬ _ * 256 + r.val < 256; omega)]; rfl

end Reads

theorem point (c : Dev nD) (t : Fin cfg0.N) (r : Fin 256) (d : Fin 1024) :
    k0_pay1 (F := Ideal) (k0_pay2 (iblk m c 1 t) (iblk m c 0 t) (iblk m c 2 t) (iblk m c 4 t) (iblk m c 3 t))
        (k0_pay3 (iblk m c 1 t) (iblk m c 0 t) (iblk m c 2 t) (iblk m c 4 t) (iblk m c 3 t)) (iblk m c 5 t) (iblk m c 6 t) (ix3 0 r d)
      = result m c (ix3 (bAt t) (rAt t r) d) :=
  (body_at _ _ _ _ _ _ _ r d).trans (row_congr (rd_x m c t r) (rd_ms m c t r)
    (fun k => congrArg₂ gated (rd_g m c t r k) (rd_o m c t r k)) (rd_w m c t) (rd_lg m c t) (rd_lb m c t) d)

theorem final (c : Dev nD) : (dats m 0 c).arrAt 7 (cfgs 0).N = result m c := by
  refine (dats m 0 c).arrAt_eq_of_covers 7 _ (by decide +kernel) fun t _ y => ?_
  blk_simp
  rw [after0_7]; frame_out
  have hy : y = ix3 (n0 := 1) (n1 := 256) (n2 := 1024) 0 (y 1) (y 2) := by
    funext a; fin_cases a
    · exact Subsingleton.elim (α := Fin 1) _ _
    · rfl
    · rfl
  refine (congrArg _ hy).trans ((point m c t (y 1) (y 2)).trans (congrArg (result m c) ?_))
  blk_ext [idx t, bAt, rAt]

/-- The run: the result array, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 7).trans (final m c), h.2 c⟩)
    (θ_run_and (run_main m ρ) (unchanged m ρ))

end Cert.RetOut
-- ==== Proof.RetOut.Reference.lean ====
/- The reference's result array: the same norm of the same streams. -/
module

public import proofs.«01_k».proof.Proof.Out.Spec
public import proofs.«01_k».proof.Proof.Gen.ReferenceOutIdeal.Run
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.RetOutRef

open Cert.ReferenceOutIdeal Cert.ReferenceOutIdeal.Gen Cert.Out

/-! ## The context's stream -/

/-- The gated activations, projected. -/
def projC (g o : FVec Ideal S8x256x2048 .f32) (w : FVec Ideal S2048x1024 .f32) : FVec Ideal S8x256x1024 .f32 :=
  Host.dotGeneral dot_S8x256x2048_S2048x1024_S8x256x1024_2_0_01_1_n_n none
    (mulf (mulf g (Host.divf (broadcastInDim S8x256x2048 ![] bcast_S_S8x256x2048 (constant S_ .f32 0x3F800000#32))
      (addf (broadcastInDim S8x256x2048 ![] bcast_S_S8x256x2048 (constant S_ .f32 0x3F800000#32)) (Host.exp (Host.negf g))))) o) w

/-- The residual stream. -/
def streamC (x gate y : FVec Ideal S8x256x1024 .f32) : FVec Ideal S8x256x1024 .f32 :=
  addf (mulf (broadcastInDim S8x256x1024 ![] bcast_S_S8x256x1024 (constant S_ .f32 0x3FD744FD#32)) x) (mulf gate y)

/-- The mean of every row. -/
def meanC (z : FVec Ideal S8x256x1024 .f32) : FVec Ideal S8x256x1 .f32 :=
  Host.divf (broadcastInDim S8x256x1 ![0, 1] bcast_S8x256_S8x256x1_0_1
      (Host.reduceAdd z (constant S_ .f32 0x00000000#32) reducesTo_S8x256x1024_S8x256_d2 h_S_))
    (broadcastInDim S8x256x1 ![] bcast_S_S8x256x1 (constant S_ .f32 0x44800000#32))

def devC (z : FVec Ideal S8x256x1024 .f32) : FVec Ideal S8x256x1024 .f32 :=
  subf z (broadcastInDim S8x256x1024 ![0, 1, 2] bcast_S8x256x1_S8x256x1024_0_1_2 (meanC z))

/-- The layer norm. -/
def normC (z : FVec Ideal S8x256x1024 .f32) (lg lb : FVec Ideal S1024 .f32) : FVec Ideal S8x256x1024 .f32 :=
  addf (mulf (mulf (devC z) (broadcastInDim S8x256x1024 ![0, 1, 2] bcast_S8x256x1_S8x256x1024_0_1_2
      (Host.rsqrt (addf (meanC (mulf (devC z) (devC z)))
        (broadcastInDim S8x256x1 ![] bcast_S_S8x256x1 (constant S_ .f32 0x3727C5AC#32))))))
      (broadcastInDim S8x256x1024 ![0, 1, 2] bcast_S1x1x1024_S8x256x1024_0_1_2 (broadcastInDim S1x1x1024 ![2] bcast_S1024_S1x1x1024_2 lg)))
    (broadcastInDim S8x256x1024 ![0, 1, 2] bcast_S1x1x1024_S8x256x1024_0_1_2 (broadcastInDim S1x1x1024 ![2] bcast_S1024_S1x1x1024_2 lb))

theorem meanC_at (z : FVec Ideal S8x256x1024 .f32) (b : Fin 8) (i : Fin 256) (u : Fin 1) :
    meanC z (ix3 b i u) = mean (fun d => z (ix3 b i d)) := by
  pointwise [meanC]
  rfl

theorem devC_at (z : FVec Ideal S8x256x1024 .f32) (b : Fin 8) (i : Fin 256) (d : Fin 1024) :
    devC z (ix3 b i d) = dev (fun d => z (ix3 b i d)) d := by
  pointwise [devC]
  exact congrArg (z (ix3 b i d) - ·) (meanC_at z b i _)

theorem normC_at (z : FVec Ideal S8x256x1024 .f32) (lg lb : FVec Ideal S1024 .f32) (b : Fin 8) (i : Fin 256) (d : Fin 1024) :
    normC z lg lb (ix3 b i d) = norm (fun d => z (ix3 b i d)) (fun d => lg (ix1 d)) (fun d => lb (ix1 d)) d := by
  pointwise [normC]
  refine congrArg (fun s => s * lg (ix1 d) + lb (ix1 d)) (congrArg₂ (· * ·) (devC_at z b i d)
    (congrArg (fun s => Ideal.rsqrt (s + eps)) ((meanC_at _ b i _).trans (congrArg mean (funext fun e => ?_)))))
  pointwise
  exact congrArg₂ (· * ·) (devC_at z b i e) (devC_at z b i e)

theorem projC_at (g o : FVec Ideal S8x256x2048 .f32) (w : FVec Ideal S2048x1024 .f32) (b : Fin 8) (i : Fin 256) (d : Fin 1024) :
    projC g o w (ix3 b i d) = ∑ k, gated (g (ix3 b i k)) (o (ix3 b i k)) * w (ix2 k d) := by
  pointwise [projC]
  rfl

theorem streamC_at (x gate y : FVec Ideal S8x256x1024 .f32) (b : Fin 8) (i : Fin 256) (d : Fin 1024) :
    streamC x gate y (ix3 b i d) = alpha * x (ix3 b i d) + gate (ix3 b i d) * y (ix3 b i d) := by
  pointwise [streamC]

/-! ## The latents' stream -/

/-- The gated activations, projected. -/
def projL (g o : FVec Ideal S8x4096x2048 .f32) (w : FVec Ideal S2048x1024 .f32) : FVec Ideal S8x4096x1024 .f32 :=
  Host.dotGeneral dot_S8x4096x2048_S2048x1024_S8x4096x1024_2_0_01_1_n_n none
    (mulf (mulf g (Host.divf (broadcastInDim S8x4096x2048 ![] bcast_S_S8x4096x2048 (constant S_ .f32 0x3F800000#32))
      (addf (broadcastInDim S8x4096x2048 ![] bcast_S_S8x4096x2048 (constant S_ .f32 0x3F800000#32)) (Host.exp (Host.negf g))))) o) w

/-- The residual stream. -/
def streamL (x gate y : FVec Ideal S8x4096x1024 .f32) : FVec Ideal S8x4096x1024 .f32 :=
  addf (mulf (broadcastInDim S8x4096x1024 ![] bcast_S_S8x4096x1024 (constant S_ .f32 0x3FD744FD#32)) x) (mulf gate y)

/-- The mean of every row. -/
def meanL (z : FVec Ideal S8x4096x1024 .f32) : FVec Ideal S8x4096x1 .f32 :=
  Host.divf (broadcastInDim S8x4096x1 ![0, 1] bcast_S8x4096_S8x4096x1_0_1
      (Host.reduceAdd z (constant S_ .f32 0x00000000#32) reducesTo_S8x4096x1024_S8x4096_d2 h_S_))
    (broadcastInDim S8x4096x1 ![] bcast_S_S8x4096x1 (constant S_ .f32 0x44800000#32))

def devL (z : FVec Ideal S8x4096x1024 .f32) : FVec Ideal S8x4096x1024 .f32 :=
  subf z (broadcastInDim S8x4096x1024 ![0, 1, 2] bcast_S8x4096x1_S8x4096x1024_0_1_2 (meanL z))

/-- The layer norm. -/
def normL (z : FVec Ideal S8x4096x1024 .f32) (lg lb : FVec Ideal S1024 .f32) : FVec Ideal S8x4096x1024 .f32 :=
  addf (mulf (mulf (devL z) (broadcastInDim S8x4096x1024 ![0, 1, 2] bcast_S8x4096x1_S8x4096x1024_0_1_2
      (Host.rsqrt (addf (meanL (mulf (devL z) (devL z)))
        (broadcastInDim S8x4096x1 ![] bcast_S_S8x4096x1 (constant S_ .f32 0x3727C5AC#32))))))
      (broadcastInDim S8x4096x1024 ![0, 1, 2] bcast_S1x1x1024_S8x4096x1024_0_1_2 (broadcastInDim S1x1x1024 ![2] bcast_S1024_S1x1x1024_2 lg)))
    (broadcastInDim S8x4096x1024 ![0, 1, 2] bcast_S1x1x1024_S8x4096x1024_0_1_2 (broadcastInDim S1x1x1024 ![2] bcast_S1024_S1x1x1024_2 lb))

theorem meanL_at (z : FVec Ideal S8x4096x1024 .f32) (b : Fin 8) (i : Fin 4096) (u : Fin 1) :
    meanL z (ix3 b i u) = mean (fun d => z (ix3 b i d)) := by
  pointwise [meanL]
  rfl

theorem devL_at (z : FVec Ideal S8x4096x1024 .f32) (b : Fin 8) (i : Fin 4096) (d : Fin 1024) :
    devL z (ix3 b i d) = dev (fun d => z (ix3 b i d)) d := by
  pointwise [devL]
  exact congrArg (z (ix3 b i d) - ·) (meanL_at z b i _)

theorem normL_at (z : FVec Ideal S8x4096x1024 .f32) (lg lb : FVec Ideal S1024 .f32) (b : Fin 8) (i : Fin 4096) (d : Fin 1024) :
    normL z lg lb (ix3 b i d) = norm (fun d => z (ix3 b i d)) (fun d => lg (ix1 d)) (fun d => lb (ix1 d)) d := by
  pointwise [normL]
  refine congrArg (fun s => s * lg (ix1 d) + lb (ix1 d)) (congrArg₂ (· * ·) (devL_at z b i d)
    (congrArg (fun s => Ideal.rsqrt (s + eps)) ((meanL_at _ b i _).trans (congrArg mean (funext fun e => ?_)))))
  pointwise
  exact congrArg₂ (· * ·) (devL_at z b i e) (devL_at z b i e)

theorem projL_at (g o : FVec Ideal S8x4096x2048 .f32) (w : FVec Ideal S2048x1024 .f32) (b : Fin 8) (i : Fin 4096) (d : Fin 1024) :
    projL g o w (ix3 b i d) = ∑ k, gated (g (ix3 b i k)) (o (ix3 b i k)) * w (ix2 k d) := by
  pointwise [projL]
  rfl

theorem streamL_at (x gate y : FVec Ideal S8x4096x1024 .f32) (b : Fin 8) (i : Fin 4096) (d : Fin 1024) :
    streamL x gate y (ix3 b i d) = alpha * x (ix3 b i d) + gate (ix3 b i d) * y (ix3 b i d) := by
  pointwise [streamL]

/-! ## The gates -/

/-- The context's gate, at every row. -/
def gateC (modc : FVec Ideal S3072 .f32) : FVec Ideal S8x256x1024 .f32 :=
  broadcastInDim S8x256x1024 ![0, 1, 2] bcast_S1x1x1024_S8x256x1024_0_1_2
    (broadcastInDim S1x1x1024 ![2] bcast_S1024_S1x1x1024_2 (extractStridedSlice S1024 ![2048] modc slices_S3072_S1024_2048))

/-- The latents' gate, at every row. -/
def gateL (mod : FVec Ideal S8x3072 .f32) : FVec Ideal S8x4096x1024 .f32 :=
  broadcastInDim S8x4096x1024 ![0, 1, 2] bcast_S8x1x1024_S8x4096x1024_0_1_2
    (extractStridedSlice S8x1x1024 ![0, 0, 2048] (broadcastInDim S8x1x3072 ![0, 2] bcast_S8x3072_S8x1x3072_0_2 mod) slices_S8x1x3072_S8x1x1024_0_0_2048)

theorem gateC_at (modc : FVec Ideal S3072 .f32) (b : Fin 8) (i : Fin 256) (d : Fin 1024) :
    gateC modc (ix3 b i d) = modc (ix1 ⟨2048 + d.val, by omega⟩) := by
  pointwise [gateC]

theorem gateL_at (mod : FVec Ideal S8x3072 .f32) (b : Fin 8) (i : Fin 4096) (d : Fin 1024) :
    gateL mod (ix3 b i d) = mod (ix2 b ⟨2048 + d.val, by omega⟩) := by
  pointwise [gateL]

/-! ## The result -/

/-- The result, of the arguments. -/
def resultOf (o g : FVec Ideal S8x4352x2048 .f32) (w : FVec Ideal S2048x1024 .f32) (x : FVec Ideal S8x4352x1024 .f32)
    (mod : FVec Ideal S8x3072 .f32) (modc : FVec Ideal S3072 .f32) (lg lb : FVec Ideal S1024 .f32) : FVec Ideal S8x4352x1024 .f32 :=
  concatenate S8x4352x1024 1
    [⟨S8x256x1024, normC (streamC (extractStridedSlice S8x256x1024 ![0, 0, 0] x slices_S8x4352x1024_S8x256x1024_0_0_0) (gateC modc)
      (projC (extractStridedSlice S8x256x2048 ![0, 0, 0] g slices_S8x4352x2048_S8x256x2048_0_0_0)
        (extractStridedSlice S8x256x2048 ![0, 0, 0] o slices_S8x4352x2048_S8x256x2048_0_0_0) w)) lg lb⟩,
     ⟨S8x4096x1024, normL (streamL (extractStridedSlice S8x4096x1024 ![0, 256, 0] x slices_S8x4352x1024_S8x4096x1024_0_256_0) (gateL mod)
      (projL (extractStridedSlice S8x4096x2048 ![0, 256, 0] g slices_S8x4352x2048_S8x4096x2048_0_256_0)
        (extractStridedSlice S8x4096x2048 ![0, 256, 0] o slices_S8x4352x2048_S8x4096x2048_0_256_0) w)) lg lb⟩]
    concatenates_S8x256x1024_S8x4096x1024_S8x4352x1024_d1

theorem res_eq (m : (ℓ : Loc nD τ sig) → Buf (Elt Ideal) ℓ) (c : Dev nD) :
    Cert.ReferenceOutIdeal.Value.res_out0 m c
      = resultOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceOutIdeal.Value.res_out0 Cert.ReferenceOutIdeal.Value.res_main_v78
  rfl

section At

variable (o g : FVec Ideal S8x4352x2048 .f32) (w : FVec Ideal S2048x1024 .f32) (x : FVec Ideal S8x4352x1024 .f32)
    (mod : FVec Ideal S8x3072 .f32) (modc : FVec Ideal S3072 .f32) (lg lb : FVec Ideal S1024 .f32)

theorem resultOf_ctx (b : Fin 8) (i : Fin 4352) (hi : i.val < 256) (d : Fin 1024) :
    resultOf o g w x mod modc lg lb (ix3 b i d)
      = row (fun d => x (ix3 b i d)) (fun d => modc (ix1 ⟨2048 + d.val, by omega⟩)) (fun k => gated (g (ix3 b i k)) (o (ix3 b i k)))
          (fun k d => w (ix2 k d)) (fun d => lg (ix1 d)) (fun d => lb (ix1 d)) d := by
  pointwise [resultOf]
  rw [dif_pos hi]
  refine (normC_at _ lg lb b ⟨i.val, hi⟩ d).trans (congrArg (fun z => norm z _ _ d) (funext fun e => ?_))
  refine (streamC_at _ _ _ b ⟨i.val, hi⟩ e).trans (congrArg₂ (· + ·) (congrArg (alpha * ·) ?_)
    (congrArg₂ (· * ·) (gateC_at modc b _ e) ((projC_at _ _ w b _ e).trans
      (Finset.sum_congr rfl fun k _ => congrArg (· * w (ix2 k e)) (congrArg₂ gated ?_ ?_))))) <;> pointwise

theorem resultOf_lat (b : Fin 8) (i : Fin 4352) (hi : ¬ i.val < 256) (d : Fin 1024) :
    resultOf o g w x mod modc lg lb (ix3 b i d)
      = row (fun d => x (ix3 b i d)) (fun d => mod (ix2 b ⟨2048 + d.val, by omega⟩)) (fun k => gated (g (ix3 b i k)) (o (ix3 b i k)))
          (fun k d => w (ix2 k d)) (fun d => lg (ix1 d)) (fun d => lb (ix1 d)) d := by
  pointwise [resultOf]
  rw [dif_neg hi]
  refine (normL_at _ lg lb b ⟨i.val - 256, by omega⟩ d).trans (congrArg (fun z => norm z _ _ d) (funext fun e => ?_))
  have h : (⟨256 + (i.val - 256), by omega⟩ : Fin 4352) = i := Fin.ext (by show 256 + (i.val - 256) = i.val; omega)
  refine (streamL_at _ _ _ b ⟨i.val - 256, by omega⟩ e).trans (congrArg₂ (· + ·) (congrArg (alpha * ·) ?_)
    (congrArg₂ (· * ·) (gateL_at mod b _ e) ((projL_at _ _ w b _ e).trans
      (Finset.sum_congr rfl fun k _ => congrArg (· * w (ix2 k e)) (congrArg₂ gated ?_ ?_)))))
  · pointwise; exact congrArg (fun i => x (ix3 b i e)) h
  · pointwise; exact congrArg (fun i => g (ix3 b i k)) h
  · pointwise; exact congrArg (fun i => o (ix3 b i k)) h

end At

end Cert.RetOutRef
-- ==== Proof.RetOut.Claims.lean ====
/- The claims on the retention's output call. -/
module

public import proofs.«01_k».proof.Defs
public import proofs.«01_k».proof.Proof.Gen.KernelOut
public import proofs.«01_k».proof.Proof.Gen.KernelOutIdeal
public import proofs.«01_k».proof.Proof.Gen.ReferenceOutIdeal
public import proofs.«01_k».proof.Proof.Gen.ReferenceOutIdeal.Run
public import proofs.«01_k».proof.Proof.RetOut.Kernel
public import proofs.«01_k».proof.Proof.RetOut.Reference
public import Idealize.ShloMosaic.Adequacy
public import Idealize.ShloMosaic.Init

@[expose] public section

noncomputable section

namespace Cert.RetOutClaims

open Idealize.ShloMosaic Idealize.SL.Sem

/-- The output call at the chip's own floats is the idealized one read at them. -/
theorem kernel_eq : Cert.quiescent_KernelOut
    = ∀ (m : (ℓ : Loc Cert.KernelOutIdeal.nD Cert.KernelOutIdeal.τ Cert.KernelOutIdeal.sig) → Buf (Elt Bits) ℓ) (ρ : Dev Cert.KernelOutIdeal.nD → PrngReg),
      True → θ_run (Cert.KernelOutIdeal.defs (F := Bits)) (onTc (τ := Cert.KernelOutIdeal.τ) (Cert.KernelOutIdeal.main (F := Bits)))
        ⟨m, fun _ => 0, ρ⟩ (fun r => (∀ c : Dev Cert.KernelOutIdeal.nD,
          r.2.mem ((c.tc : Thread Cert.KernelOutIdeal.nD Cert.KernelOutIdeal.τ).loc Cert.KernelOutIdeal.main_arg0)
              = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1)
              = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2)
              = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3)
              = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4)
              = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5)
              = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6)
              = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7)
              = m ((c.tc : Thread Cert.KernelOutIdeal.nD Cert.KernelOutIdeal.τ).loc Cert.KernelOutIdeal.main_arg7))
          ∧ r.2.sem = fun _ => 0) := by
  chain_rfl

theorem frame_kernel : Cert.quiescent_KernelOut := kernel_eq ▸ fun m ρ _ => Cert.KernelOutIdeal.Gen.frame (F := Bits) m ρ

theorem frame_kernelIdeal : Cert.quiescent_KernelOutIdeal := fun m ρ _ => Cert.KernelOutIdeal.Gen.frame (F := Ideal) m ρ

theorem frame_reference : Cert.quiescent_ReferenceOutIdeal := fun m ρ _ =>
  (θ_run Cert.ReferenceOutIdeal.defs _ _).mono
    (fun r h => ⟨fun c => (h c).2, Idealize.ShloMosaic.sem_eq_zero_of_no_sems (by decide) r.2⟩)
    (Cert.ReferenceOutIdeal.Value.run (F := Ideal) m ρ)

/-- The reference's formula is the kernel's, at every index. -/
theorem value_eq (o g : FVec Ideal Cert.KernelOutIdeal.S8x4352x2048 .f32) (w : FVec Ideal Cert.KernelOutIdeal.S2048x1024 .f32)
    (x : FVec Ideal Cert.KernelOutIdeal.S8x4352x1024 .f32) (mod : FVec Ideal Cert.KernelOutIdeal.S8x3072 .f32)
    (modc : FVec Ideal Cert.KernelOutIdeal.S3072 .f32) (lg lb : FVec Ideal Cert.KernelOutIdeal.S1024 .f32)
    (b : Fin 8) (i : Fin 4352) (d : Fin 1024) :
    Cert.RetOutRef.resultOf o g w x mod modc lg lb (ix3 b i d) = Cert.RetOut.value o g w x mod modc lg lb b i d := by
  unfold Cert.RetOut.value
  by_cases h : i.val < 256
  · rw [show Cert.RetOut.gateOf mod modc b i = fun d => modc (ix1 ⟨2048 + d.val, by omega⟩) from funext fun _ => if_pos h]
    exact Cert.RetOutRef.resultOf_ctx o g w x mod modc lg lb b i h d
  · rw [show Cert.RetOut.gateOf mod modc b i = fun d => mod (ix2 b ⟨2048 + d.val, by omega⟩) from funext fun _ => if_neg h]
    exact Cert.RetOutRef.resultOf_lat o g w x mod modc lg lb b i h d

theorem result_eq (m : (ℓ : Loc Cert.KernelOutIdeal.nD Cert.KernelOutIdeal.τ Cert.KernelOutIdeal.sig) → Buf (Elt Ideal) ℓ)
    (c : Dev Cert.KernelOutIdeal.nD) (o g : FVec Ideal Cert.KernelOutIdeal.S8x4352x2048 .f32)
    (w : FVec Ideal Cert.KernelOutIdeal.S2048x1024 .f32) (x : FVec Ideal Cert.KernelOutIdeal.S8x4352x1024 .f32)
    (mod : FVec Ideal Cert.KernelOutIdeal.S8x3072 .f32) (modc : FVec Ideal Cert.KernelOutIdeal.S3072 .f32)
    (lg lb : FVec Ideal Cert.KernelOutIdeal.S1024 .f32)
    (h0 : o = m ((c.tc : Thread Cert.KernelOutIdeal.nD Cert.KernelOutIdeal.τ).loc Cert.KernelOutIdeal.main_arg0))
    (h1 : g = m ((c.tc : Thread Cert.KernelOutIdeal.nD Cert.KernelOutIdeal.τ).loc Cert.KernelOutIdeal.main_arg1))
    (h2 : w = m ((c.tc : Thread Cert.KernelOutIdeal.nD Cert.KernelOutIdeal.τ).loc Cert.KernelOutIdeal.main_arg2))
    (h3 : x = m ((c.tc : Thread Cert.KernelOutIdeal.nD Cert.KernelOutIdeal.τ).loc Cert.KernelOutIdeal.main_arg3))
    (h4 : mod = m ((c.tc : Thread Cert.KernelOutIdeal.nD Cert.KernelOutIdeal.τ).loc Cert.KernelOutIdeal.main_arg4))
    (h5 : modc = m ((c.tc : Thread Cert.KernelOutIdeal.nD Cert.KernelOutIdeal.τ).loc Cert.KernelOutIdeal.main_arg5))
    (h6 : lg = m ((c.tc : Thread Cert.KernelOutIdeal.nD Cert.KernelOutIdeal.τ).loc Cert.KernelOutIdeal.main_arg6))
    (h7 : lb = m ((c.tc : Thread Cert.KernelOutIdeal.nD Cert.KernelOutIdeal.τ).loc Cert.KernelOutIdeal.main_arg7)) :
    Cert.RetOutRef.resultOf o g w x mod modc lg lb = Cert.RetOut.result m c := by
  subst h0 h1 h2 h3 h4 h5 h6 h7
  funext i
  have hi : i = ix3 (n0 := 8) (n1 := 4352) (n2 := 1024) (i 0) (i 1) (i 2) := by
    funext a; fin_cases a <;> rfl
  exact (congrArg _ hi).trans (value_eq _ _ _ _ _ _ _ _ (i 0) (i 1) (i 2))

theorem algebraic : Cert.algebraic_KernelOutIdeal_ReferenceOutIdeal := by
  intro m ρ m' ρ' _ hagree
  refine ⟨fun c => Cert.RetOut.result m c, Cert.RetOut.run m ρ, ?_⟩
  exact (θ_run _ _ _).mono (fun _ h c => ⟨((h c).1.trans (Cert.RetOutRef.res_eq m' c)).trans
    (result_eq m c _ _ _ _ _ _ _ _ (hagree c).1 (hagree c).2.1 (hagree c).2.2.1 (hagree c).2.2.2.1 (hagree c).2.2.2.2.1
      (hagree c).2.2.2.2.2.1 (hagree c).2.2.2.2.2.2.1 (hagree c).2.2.2.2.2.2.2), (h c).2⟩)
    (Cert.ReferenceOutIdeal.Value.run m' ρ')

end Cert.RetOutClaims
-- ==== Proof.RetIn.Body.lean ====
/- The input call's body at an index: modulated rows, projected, the queries' and keys' lanes rotated. -/
module

public import proofs.«01_k».proof.Proof.Gen.KernelInIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetIn

open Cert.KernelInIdeal Cert.KernelInIdeal.Gen

/-- A row scaled and shifted. -/
def modulated (x scale shift : Fin 1024 → EReal) (k : Fin 1024) : EReal := x k * (1 + scale k) + shift k

/-- A row against a column of the weight. -/
def proj (h : Fin 1024 → EReal) (w : Fin 1024 → EReal) : EReal := ∑ k, h k * w k

/-- The lane a lane is rotated with: half a half away, in the same half. -/
def partner (e : Fin 256) : Fin 256 :=
  ⟨if e.val < 128 then (e.val + 64) % 128 else 128 + (e.val - 128 + 64) % 128, by split <;> omega⟩

/-- A row of lanes rotated, by a row of cosines and a row of signed sines. -/
def rotated (p cos sin : Fin 256 → EReal) (e : Fin 256) : EReal := p e * cos e + p (partner e) * sin e

variable (x : FVec Ideal S1x256x1024 .f32) (ms : FVec Ideal S1x1x3x1024 .f32) (cosb sinb : FVec Ideal S256x256 .f32)
  (h : FVec Ideal S256x1024 .bf16) (w : FVec Ideal S1024x256 .bf16)

theorem pay3_at (r : Fin 256) (k : Fin 1024) :
    k0_pay3 (F := Ideal) x ms (ix2 r k) = modulated (fun k => x (ix3 0 r k)) (fun k => ms (ix4 0 0 1 k)) (fun k => ms (ix4 0 0 0 k)) k := by
  pointwise [k0_pay3]
  rfl

/-- The scale of the keys. -/
abbrev keyScale : EReal := Ideal.ofBits .f32 0x3D800000#32

theorem partner_lo (e : Fin 256) (h : e.val < 128) (hl : (e.val + 128 - 64) % 128 < 256) :
    (⟨(e.val + 128 - 64) % 128, hl⟩ : Fin 256) = partner e :=
  Fin.ext (by unfold partner; simp only [if_pos h]; omega)

theorem partner_hi (e : Fin 256) (h : ¬ e.val < 128) (hl : 128 + (e.val - 128 + 128 - 64) % 128 < 256) :
    (⟨128 + (e.val - 128 + 128 - 64) % 128, hl⟩ : Fin 256) = partner e :=
  Fin.ext (by unfold partner; simp only [if_neg h]; omega)

/-- The lanes of a head of the queries. -/
abbrev lanes (r e : Fin 256) : EReal :=
  rotated (fun e => proj (fun k => h (ix2 r k)) (fun k => w (ix2 k e))) (fun e => cosb (ix2 r e)) (fun e => sinb (ix2 r e)) e

/-- The rotation with the partner's column named. -/
abbrev lanesWith (r e i : Fin 256) : EReal :=
  (∑ k, h (ix2 r k) * w (ix2 k e)) * cosb (ix2 r e) + (∑ k, h (ix2 r k) * w (ix2 k i)) * sinb (ix2 r e)

theorem pay6_at (r e : Fin 256) :
    k0_pay6 (F := Ideal) x ms cosb sinb w (ix3 0 r e) = lanes cosb sinb (k0_pay3 (F := Ideal) x ms) w r e := by
  pointwise [k0_pay6, k0_pay4, k0_pay5]
  by_cases he : e.val < 128
  · rw [dif_pos he]
    exact congrArg (lanesWith cosb sinb (k0_pay3 (F := Ideal) x ms) w r e) (partner_lo e he _)
  · rw [dif_neg he]
    exact congrArg (lanesWith cosb sinb (k0_pay3 (F := Ideal) x ms) w r e) (partner_hi e he _)

theorem pay8_at (r e : Fin 256) :
    k0_pay8 (F := Ideal) h cosb sinb w (constant S256x256 .f32 0x00000000#32) (ix3 0 r e) = lanes cosb sinb h w r e := by
  pointwise [k0_pay8]
  by_cases he : e.val < 128
  · rw [dif_pos he]
    exact congrArg (lanesWith cosb sinb h w r e) (partner_lo e he _)
  · rw [dif_neg he]
    exact congrArg (lanesWith cosb sinb h w r e) (partner_hi e he _)

theorem pay9_at (r e : Fin 256) :
    k0_pay9 (F := Ideal) h cosb sinb w (ix3 0 r e) = lanes cosb sinb h w r e := by
  pointwise [k0_pay9]
  by_cases he : e.val < 128
  · rw [dif_pos he]
    exact congrArg (lanesWith cosb sinb h w r e) (partner_lo e he _)
  · rw [dif_neg he]
    exact congrArg (lanesWith cosb sinb h w r e) (partner_hi e he _)

theorem pay10_at (r e : Fin 256) :
    k0_pay10 (F := Ideal) h cosb sinb w (ix2 r e) = lanes cosb sinb h w r e := by
  pointwise [k0_pay10]
  by_cases he : e.val < 128
  · rw [dif_pos he]
    exact congrArg (lanesWith cosb sinb h w r e) (partner_lo e he _)
  · rw [dif_neg he]
    exact congrArg (lanesWith cosb sinb h w r e) (partner_hi e he _)

theorem pay12_at (r e : Fin 256) :
    k0_pay12 (F := Ideal) h cosb sinb w (ix3 0 r e) = lanes cosb sinb h w r e * keyScale := by
  pointwise [k0_pay12]
  by_cases he : e.val < 128
  · rw [dif_pos he]
    exact congrArg (· * keyScale) (congrArg (lanesWith cosb sinb h w r e) (partner_lo e he _))
  · rw [dif_neg he]
    exact congrArg (· * keyScale) (congrArg (lanesWith cosb sinb h w r e) (partner_hi e he _))

theorem pay13_at (r e : Fin 256) :
    k0_pay13 (F := Ideal) h cosb sinb w (ix3 0 r e) = lanes cosb sinb h w r e * keyScale := by
  pointwise [k0_pay13]
  by_cases he : e.val < 128
  · rw [dif_pos he]
    exact congrArg (· * keyScale) (congrArg (lanesWith cosb sinb h w r e) (partner_lo e he _))
  · rw [dif_neg he]
    exact congrArg (· * keyScale) (congrArg (lanesWith cosb sinb h w r e) (partner_hi e he _))

theorem pay14_at (r e : Fin 256) :
    k0_pay14 (F := Ideal) h cosb sinb w (ix3 0 r e) = lanes cosb sinb h w r e * keyScale := by
  pointwise [k0_pay14]
  by_cases he : e.val < 128
  · rw [dif_pos he]
    exact congrArg (· * keyScale) (congrArg (lanesWith cosb sinb h w r e) (partner_lo e he _))
  · rw [dif_neg he]
    exact congrArg (· * keyScale) (congrArg (lanesWith cosb sinb h w r e) (partner_hi e he _))

theorem pay15_at (r e : Fin 256) :
    k0_pay15 (F := Ideal) h cosb sinb w (ix3 0 r e) = lanes cosb sinb h w r e * keyScale := by
  pointwise [k0_pay15]
  by_cases he : e.val < 128
  · rw [dif_pos he]
    exact congrArg (· * keyScale) (congrArg (lanesWith cosb sinb h w r e) (partner_lo e he _))
  · rw [dif_neg he]
    exact congrArg (· * keyScale) (congrArg (lanesWith cosb sinb h w r e) (partner_hi e he _))

theorem pay11_at (v : FVec Ideal S256x256 .bf16) (r e : Fin 256) : k0_pay11 (F := Ideal) v (ix3 0 r e) = v (ix2 r e) := by
  pointwise [k0_pay11]

theorem pay1_at (v : FVec Ideal S1024x2048 .bf16) (r : Fin 256) (d : Fin 2048) :
    k0_pay1 (F := Ideal) h v (constant S256x2048 .f32 0x00000000#32) (ix3 0 r d) = proj (fun k => h (ix2 r k)) (fun k => v (ix2 k d)) := by
  pointwise [k0_pay1]
  rfl

theorem pay2_at (v : FVec Ideal S1024x2048 .bf16) (r : Fin 256) (d : Fin 2048) :
    k0_pay2 (F := Ideal) h v (ix3 0 r d) = proj (fun k => h (ix2 r k)) (fun k => v (ix2 k d)) := by
  pointwise [k0_pay2]
  rfl

end Cert.RetIn
-- ==== Proof.RetIn.Tables.lean ====
/- What the host prepares for the input call. -/
module
public import Idealize.ShloMosaic.Lib.StableHlo.RunRead

public import proofs.«01_k».proof.Proof.Gen.KernelInIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetIn

open Cert.KernelInIdeal Cert.KernelInIdeal.Gen

variable (m : (ℓ : Loc nD τ sig) → Buf (Elt Ideal) ℓ)

/-! ## The rotation's angles: two coordinates of a latent on its grid of side 64, times 64 frequencies -/

/-- The latents' numbers. -/
def numbers : (⟨S4096, .i32⟩ : BufTy).Contents (Elt Ideal) := iotaInDim S4096 32 0

/-- The side of the grid, and the grid's side as the remainder takes it. -/
def side : (⟨S_, .i32⟩ : BufTy).Contents (Elt Ideal) := constantI S_ 32 64#32
def sideR : (⟨S_, .i32⟩ : BufTy).Contents (Elt Ideal) := select (cmpi .eq side (constantI S_ 32 0#32)) (constantI S_ 32 1#32) side

/-- An integer at every latent. -/
abbrev every (x : (⟨S_, .i32⟩ : BufTy).Contents (Elt Ideal)) : (⟨S4096, .i32⟩ : BufTy).Contents (Elt Ideal) :=
  broadcastInDim S4096 ![] bcast_S_S4096 x

/-- The quotient rounded to zero and the remainder of the same sign as the number. -/
def quot : (⟨S4096, .i32⟩ : BufTy).Contents (Elt Ideal) := Host.divsi numbers (every side)
def remd : (⟨S4096, .i32⟩ : BufTy).Contents (Elt Ideal) := Host.remsi numbers (every sideR)

/-- The row of the grid: the number divided by the side, rounded down. -/
def coordY : FVec Ideal S4096 .f32 :=
  sitofp .f32 (select (andi (cmpi .ne (signi numbers) (broadcastInDim S4096 ![] bcast_S_S4096 (signi side)))
    (cmpi .ne (Host.remsi numbers (every side)) (every (constantI S_ 32 0#32)))) (subi quot (every (constantI S_ 32 1#32))) quot)

/-- The column of the grid: what is left of the number. -/
def coordX : FVec Ideal S4096 .f32 :=
  sitofp .f32 (select (andi (cmpi .ne (cmpi .slt remd (every (constantI S_ 32 0#32)))
      (broadcastInDim S4096 ![] bcast_S_S4096 (cmpi .slt sideR (constantI S_ 32 0#32))))
    (cmpi .ne remd (every (constantI S_ 32 0#32)))) (addi remd (every sideR)) remd)

/-- The frequencies. -/
def freqs : FVec Ideal S64 .f32 :=
  Host.powf (broadcastInDim S64 ![] bcast_S_S64 (constant S_ .f32 0x461C4000#32))
    (Host.divf (Host.negf (sitofp .f32 (iotaInDim S64 32 0))) (broadcastInDim S64 ![] bcast_S_S64 (constant S_ .f32 0x42800000#32)))

/-- A coordinate times the frequencies. -/
def angles (coord : FVec Ideal S4096 .f32) : FVec Ideal S4096x64 .f32 :=
  mulf (broadcastInDim S4096x64 ![0, 1] bcast_S4096x1_S4096x64_0_1 (broadcastInDim S4096x1 ![0] bcast_S4096_S4096x1_0 coord))
    (broadcastInDim S4096x64 ![0, 1] bcast_S1x64_S4096x64_0_1 (broadcastInDim S1x64 ![1] bcast_S64_S1x64_1 freqs))

/-- Four tables of 64 lanes side by side. -/
def quads (a b c d : FVec Ideal S4096x64 .f32) : FVec Ideal S4096x256 .f32 :=
  concatenate S4096x256 1 [⟨S4096x64, a⟩, ⟨S4096x64, b⟩, ⟨S4096x64, c⟩, ⟨S4096x64, d⟩]
    concatenates_S4096x64_S4096x64_S4096x64_S4096x64_S4096x256_d1

/-- The context's table, of one number, above the latents'. -/
def withContext (v : FVec Ideal S_ .f32) (t : FVec Ideal S4096x256 .f32) : FVec Ideal S4352x256 .f32 :=
  concatenate S4352x256 0 [⟨S256x256, broadcastInDim S256x256 ![] bcast_S_S256x256 v⟩, ⟨S4096x256, t⟩]
    concatenates_S256x256_S4096x256_S4352x256_d0

def cosTable : FVec Ideal S4352x256 .f32 :=
  withContext (constant S_ .f32 0x3F800000#32)
    (quads (Host.cos (angles coordY)) (Host.cos (angles coordY)) (Host.cos (angles coordX)) (Host.cos (angles coordX)))

def sinTable : FVec Ideal S4352x256 .f32 :=
  withContext (constant S_ .f32 0x00000000#32)
    (quads (Host.negf (Host.sin (angles coordY))) (Host.sin (angles coordY)) (Host.negf (Host.sin (angles coordX))) (Host.sin (angles coordX)))

/-- A block of rows above the latents' table. -/
def stacked (a : FVec Ideal S256x256 .f32) (t : FVec Ideal S4096x256 .f32) : FVec Ideal S4352x256 .f32 :=
  concatenate S4352x256 0 [⟨S256x256, a⟩, ⟨S4096x256, t⟩] concatenates_S256x256_S4096x256_S4352x256_d0

theorem stacked_fold : (fun (a : FVec Ideal S256x256 .f32) (b : FVec Ideal S4096x256 .f32) =>
    concatenate S4352x256 0 [⟨S256x256, a⟩, ⟨S4096x256, b⟩] concatenates_S256x256_S4096x256_S4352x256_d0) = stacked := rfl

theorem cos_fold : (fun (u : (k : Fin 4) → ((![main_v27, main_v28, main_v29, main_v30] : Fin 4 → Ref sig .tc) k).ty.Contents (Elt Ideal)) =>
    (concatenate S4096x256 1 [⟨S4096x64, u 0⟩, ⟨S4096x64, u 1⟩, ⟨S4096x64, u 2⟩, ⟨S4096x64, u 3⟩]
      concatenates_S4096x64_S4096x64_S4096x64_S4096x64_S4096x256_d1 : FVec Ideal S4096x256 .f32)) = fun u => quads (u 0) (u 1) (u 2) (u 3) := rfl

theorem sin_fold : (fun (u : (k : Fin 4) → ((![main_v33, main_v34, main_v36, main_v37] : Fin 4 → Ref sig .tc) k).ty.Contents (Elt Ideal)) =>
    (concatenate S4096x256 1 [⟨S4096x64, u 0⟩, ⟨S4096x64, u 1⟩, ⟨S4096x64, u 2⟩, ⟨S4096x64, u 3⟩]
      concatenates_S4096x64_S4096x64_S4096x64_S4096x64_S4096x256_d1 : FVec Ideal S4096x256 .f32)) = fun u => quads (u 0) (u 1) (u 2) (u 3) := rfl

/-- The angles of a coordinate from the frequencies. -/
def anglesOf (x : FVec Ideal S4096 .f32) (f : FVec Ideal S64 .f32) : FVec Ideal S4096x64 .f32 :=
  mulf (broadcastInDim S4096x64 ![0, 1] bcast_S4096x1_S4096x64_0_1 (broadcastInDim S4096x1 ![0] bcast_S4096_S4096x1_0 x))
    (broadcastInDim S4096x64 ![0, 1] bcast_S1x64_S4096x64_0_1 (broadcastInDim S1x64 ![1] bcast_S64_S1x64_1 f))

open StableHlo in
theorem after_cos (W : Valuation τ sig (Elt Ideal)) :
    (after hostOps0_4 W main_v40 : FVec Ideal S4352x256 .f32) =
      stacked (broadcastInDim S256x256 ![] bcast_S_S256x256 (constant S_ .f32 0x3F800000#32))
        (quads (Host.cos (anglesOf (W main_v14) (W main_v11))) (Host.cos (anglesOf (W main_v14) (W main_v11)))
          (Host.cos (anglesOf (sitofp .f32 (W main_v15 : (⟨S4096, .i32⟩ : BufTy).Contents (Elt Ideal))) (W main_v11)))
          (Host.cos (anglesOf (sitofp .f32 (W main_v15 : (⟨S4096, .i32⟩ : BufTy).Contents (Elt Ideal))) (W main_v11)))) := by
  unfold hostOps0_4
  erw [stacked_fold, cos_fold]
  after_reads_simp
  rfl

open StableHlo in
theorem after_sin (W : Valuation τ sig (Elt Ideal)) :
    (after hostOps0_4 W main_v42 : FVec Ideal S4352x256 .f32) =
      stacked (broadcastInDim S256x256 ![] bcast_S_S256x256 (constant S_ .f32 0x00000000#32))
        (quads (Host.negf (Host.sin (anglesOf (W main_v14) (W main_v11)))) (Host.sin (anglesOf (W main_v14) (W main_v11)))
          (Host.negf (Host.sin (anglesOf (sitofp .f32 (W main_v15 : (⟨S4096, .i32⟩ : BufTy).Contents (Elt Ideal))) (W main_v11))))
          (Host.sin (anglesOf (sitofp .f32 (W main_v15 : (⟨S4096, .i32⟩ : BufTy).Contents (Elt Ideal))) (W main_v11)))) := by
  unfold hostOps0_4
  erw [stacked_fold, sin_fold]
  after_reads_simp
  rfl

/-- The contents before the last segment of the host's lines. -/
abbrev before (c : Dev nD) : Valuation τ sig (Elt Ideal) :=
  StableHlo.after (hostOps0 ++ hostOps0_1 ++ hostOps0_2 ++ hostOps0_3) (fun b => m (c, b))

theorem V_split (c : Dev nD) (b : Ref sig .tc) : V m c b = StableHlo.after hostOps0_4 (before m c) b := by
  unfold V before
  simp only [List.flatten_cons, List.flatten_nil, List.append_nil, Idealize.ShloMosaic.StableHlo.after_append, List.append_assoc]

open StableHlo in
theorem before_y (c : Dev nD) : (before m c main_v14 : FVec Ideal S4096 .f32) = coordY := by
  unfold before
  simp only [hostOps0, hostOps0_1, hostOps0_2, hostOps0_3, List.cons_append, List.nil_append,
    TRef.unary, TRef.binary, TRef.nullary, TRef.ternary, TRef.toBuf, TRef.ofBuf, cast_eq]
  after_reads_simp
  rfl

open StableHlo in
theorem before_x (c : Dev nD) : sitofp .f32 (before m c main_v15 : (⟨S4096, .i32⟩ : BufTy).Contents (Elt Ideal)) = coordX := by
  unfold before
  simp only [hostOps0, hostOps0_1, hostOps0_2, hostOps0_3, List.cons_append, List.nil_append,
    TRef.unary, TRef.binary, TRef.nullary, TRef.ternary, TRef.toBuf, TRef.ofBuf, cast_eq]
  after_reads_simp
  rfl

open StableHlo in
theorem before_f (c : Dev nD) : (before m c main_v11 : FVec Ideal S64 .f32) = freqs := by
  unfold before
  simp only [hostOps0, hostOps0_1, hostOps0_2, hostOps0_3, List.cons_append, List.nil_append,
    TRef.unary, TRef.binary, TRef.nullary, TRef.ternary, TRef.toBuf, TRef.ofBuf, cast_eq]
  after_reads_simp
  rfl

theorem V_cos (c : Dev nD) : (V m c main_v40 : FVec Ideal S4352x256 .f32) = cosTable := by
  rw [V_split, after_cos, before_y, before_x, before_f]
  rfl

theorem V_sin (c : Dev nD) : (V m c main_v42 : FVec Ideal S4352x256 .f32) = sinTable := by
  rw [V_split, after_sin, before_y, before_x, before_f]
  rfl

open StableHlo in
theorem V_w (c : Dev nD) : (V m c main_v43 : FVec Ideal S1024x6144 .bf16) = truncf (F := Ideal) .bf16 (m ((c : Thread nD τ).loc main_arg3) : FVec Ideal S1024x6144 .f32) bitsLt_bf16_f32 := by
  unfold V
  simp only [List.flatten_cons, List.flatten_nil, List.append_nil, hostOps0, hostOps0_1, hostOps0_2, hostOps0_3, hostOps0_4, List.cons_append, List.nil_append,
    TRef.unary, TRef.binary, TRef.nullary, TRef.ternary, TRef.toBuf, TRef.ofBuf, cast_eq]
  after_results_simp

/-- The modulation vectors: the context's before the latents'. -/
def modTable (mod : FVec Ideal S8x3072 .f32) (modc : FVec Ideal S3072 .f32) : FVec Ideal S8x2x3x1024 .f32 :=
  concatenate S8x2x3x1024 1
    [⟨S8x1x3x1024, broadcastInDim S8x1x3x1024 ![0, 2, 3] bcast_S8x3x1024_S8x1x3x1024_0_2_3
      (broadcastInDim S8x3x1024 ![0, 1, 2] bcast_S1x3x1024_S8x3x1024_0_1_2 (shapeCast S1x3x1024 modc shapeCasts_S3072_S1x3x1024))⟩,
     ⟨S8x1x3x1024, broadcastInDim S8x1x3x1024 ![0, 2, 3] bcast_S8x3x1024_S8x1x3x1024_0_2_3 (shapeCast S8x3x1024 mod shapeCasts_S8x3072_S8x3x1024)⟩]
    concatenates_S8x1x3x1024_S8x1x3x1024_S8x2x3x1024_d1

open StableHlo in
theorem V_ms (c : Dev nD) : (V m c main_v5 : FVec Ideal S8x2x3x1024 .f32)
    = modTable (m ((c : Thread nD τ).loc main_arg1)) (m ((c : Thread nD τ).loc main_arg2)) := by
  unfold V
  simp only [List.flatten_cons, List.flatten_nil, List.append_nil, hostOps0, hostOps0_1, hostOps0_2, hostOps0_3, hostOps0_4, List.cons_append, List.nil_append,
    TRef.unary, TRef.binary, TRef.nullary, TRef.ternary, TRef.toBuf, TRef.ofBuf, cast_eq]
  after_results_simp
  rfl

theorem modTable_at (mod : FVec Ideal S8x3072 .f32) (modc : FVec Ideal S3072 .f32) (b : Fin 8) (s : Fin 2) (e : Fin 3) (d : Fin 1024) :
    modTable mod modc (ix4 b s e d) = if s.val < 1 then modc (ix1 ⟨e.val * 1024 + d.val, by omega⟩) else mod (ix2 b ⟨e.val * 1024 + d.val, by omega⟩) := by
  pointwise [modTable]
  rfl

/-- A latent's angle at a lane of a head: the row's angles in the first half, the column's in the second. -/
def angle (n : Fin 4096) (e : Fin 256) : EReal :=
  if e.val < 128 then angles coordY (ix2 n ⟨e.val % 64, by omega⟩) else angles coordX (ix2 n ⟨e.val % 64, by omega⟩)

/-- The cosine and the signed sine at a row and a lane: a row of the context is not rotated. -/
def cosAt (i : Fin 4352) (e : Fin 256) : EReal :=
  if h : i.val < 256 then 1 else Ideal.cos (angle ⟨i.val - 256, by omega⟩ e)
def sinAt (i : Fin 4352) (e : Fin 256) : EReal :=
  if h : i.val < 256 then 0 else if e.val % 128 < 64 then -Ideal.sin (angle ⟨i.val - 256, by omega⟩ e)
    else Ideal.sin (angle ⟨i.val - 256, by omega⟩ e)

theorem angle_y (n : Fin 4096) (e : Fin 256) (j : Fin 64) (h : e.val < 128) (hj : j.val = e.val % 64) :
    angle n e = angles coordY (ix2 n j) := by
  unfold angle; rw [if_pos h]; exact congrArg (fun j => angles coordY (ix2 n j)) (Fin.ext hj.symm)

theorem angle_x (n : Fin 4096) (e : Fin 256) (j : Fin 64) (h : ¬ e.val < 128) (hj : j.val = e.val % 64) :
    angle n e = angles coordX (ix2 n j) := by
  unfold angle; rw [if_neg h]; exact congrArg (fun j => angles coordX (ix2 n j)) (Fin.ext hj.symm)

theorem cosAt_y (i : Fin 4352) (e : Fin 256) (j : Fin 64) (h : ¬ i.val < 256) (h1 : e.val < 128) (hj : j.val = e.val % 64) :
    cosAt i e = Ideal.cos (angles coordY (ix2 ⟨i.val - 256, by omega⟩ j)) := by
  unfold cosAt; rw [dif_neg h, angle_y _ e j h1 hj]

theorem cosAt_x (i : Fin 4352) (e : Fin 256) (j : Fin 64) (h : ¬ i.val < 256) (h1 : ¬ e.val < 128) (hj : j.val = e.val % 64) :
    cosAt i e = Ideal.cos (angles coordX (ix2 ⟨i.val - 256, by omega⟩ j)) := by
  unfold cosAt; rw [dif_neg h, angle_x _ e j h1 hj]

theorem sinAt_yn (i : Fin 4352) (e : Fin 256) (j : Fin 64) (h : ¬ i.val < 256) (h1 : e.val < 128) (h2 : e.val % 128 < 64) (hj : j.val = e.val % 64) :
    sinAt i e = -Ideal.sin (angles coordY (ix2 ⟨i.val - 256, by omega⟩ j)) := by
  unfold sinAt; rw [dif_neg h, if_pos h2, angle_y _ e j h1 hj]

theorem sinAt_yp (i : Fin 4352) (e : Fin 256) (j : Fin 64) (h : ¬ i.val < 256) (h1 : e.val < 128) (h2 : ¬ e.val % 128 < 64) (hj : j.val = e.val % 64) :
    sinAt i e = Ideal.sin (angles coordY (ix2 ⟨i.val - 256, by omega⟩ j)) := by
  unfold sinAt; rw [dif_neg h, if_neg h2, angle_y _ e j h1 hj]

theorem sinAt_xn (i : Fin 4352) (e : Fin 256) (j : Fin 64) (h : ¬ i.val < 256) (h1 : ¬ e.val < 128) (h2 : e.val % 128 < 64) (hj : j.val = e.val % 64) :
    sinAt i e = -Ideal.sin (angles coordX (ix2 ⟨i.val - 256, by omega⟩ j)) := by
  unfold sinAt; rw [dif_neg h, if_pos h2, angle_x _ e j h1 hj]

theorem sinAt_xp (i : Fin 4352) (e : Fin 256) (j : Fin 64) (h : ¬ i.val < 256) (h1 : ¬ e.val < 128) (h2 : ¬ e.val % 128 < 64) (hj : j.val = e.val % 64) :
    sinAt i e = Ideal.sin (angles coordX (ix2 ⟨i.val - 256, by omega⟩ j)) := by
  unfold sinAt; rw [dif_neg h, if_neg h2, angle_x _ e j h1 hj]

theorem cosTable_at (i : Fin 4352) (e : Fin 256) : cosTable (ix2 i e) = cosAt i e := by
  pointwise [cosTable, withContext, quads]
  by_cases h : i.val < 256
  · refine (dif_pos h).trans ?_
    unfold cosAt; rw [dif_pos h]
  refine (dif_neg h).trans ?_
  by_cases h1 : e.val < 64
  · refine (dif_pos h1).trans ?_
    exact (cosAt_y i e ⟨e.val, by omega⟩ h (by omega) (by show e.val = e.val % 64; omega)).symm
  refine (dif_neg h1).trans ?_
  by_cases h2 : e.val - 64 < 64
  · refine (dif_pos h2).trans ?_
    exact (cosAt_y i e ⟨e.val - 64, by omega⟩ h (by omega) (by show e.val - 64 = e.val % 64; omega)).symm
  refine (dif_neg h2).trans ?_
  by_cases h3 : e.val - 64 - 64 < 64
  · refine (dif_pos h3).trans ?_
    exact (cosAt_x i e ⟨e.val - 64 - 64, by omega⟩ h (by omega) (by show e.val - 64 - 64 = e.val % 64; omega)).symm
  refine (dif_neg h3).trans ?_
  exact (cosAt_x i e ⟨e.val - 64 - 64 - 64, by omega⟩ h (by omega) (by show e.val - 64 - 64 - 64 = e.val % 64; omega)).symm

theorem sinTable_at (i : Fin 4352) (e : Fin 256) : sinTable (ix2 i e) = sinAt i e := by
  pointwise [sinTable, withContext, quads]
  by_cases h : i.val < 256
  · refine (dif_pos h).trans ?_
    unfold sinAt; rw [dif_pos h]
  refine (dif_neg h).trans ?_
  by_cases h1 : e.val < 64
  · refine (dif_pos h1).trans ?_
    exact (sinAt_yn i e ⟨e.val, by omega⟩ h (by omega) (by omega) (by show e.val = e.val % 64; omega)).symm
  refine (dif_neg h1).trans ?_
  by_cases h2 : e.val - 64 < 64
  · refine (dif_pos h2).trans ?_
    exact (sinAt_yp i e ⟨e.val - 64, by omega⟩ h (by omega) (by omega) (by show e.val - 64 = e.val % 64; omega)).symm
  refine (dif_neg h2).trans ?_
  by_cases h3 : e.val - 64 - 64 < 64
  · refine (dif_pos h3).trans ?_
    exact (sinAt_xn i e ⟨e.val - 64 - 64, by omega⟩ h (by omega) (by omega) (by show e.val - 64 - 64 = e.val % 64; omega)).symm
  refine (dif_neg h3).trans ?_
  exact (sinAt_xp i e ⟨e.val - 64 - 64 - 64, by omega⟩ h (by omega) (by omega) (by show e.val - 64 - 64 - 64 = e.val % 64; omega)).symm

end Cert.RetIn
-- ==== Proof.RetIn.Kernel.lean ====
/- The input call's result arrays. -/
module

public import proofs.«01_k».proof.Proof.RetIn.Body
public import proofs.«01_k».proof.Proof.RetIn.Tables
public import proofs.«01_k».proof.Proof.Gen.KernelIn
public import proofs.«01_k».proof.Proof.Gen.ReferenceInIdeal.Run

@[expose] public section

set_option maxRecDepth 16384

noncomputable section

open Idealize.ShloMosaic Idealize.ShloMosaic.TcCoe Idealize.SL.Sem
open Idealize.ShloMosaic.Pipeline (Dat)

namespace Cert.RetIn

open Cert.KernelInIdeal Cert.KernelInIdeal.Gen

variable (m : (ℓ : Loc nD τ sig) → Buf (Elt Ideal) ℓ)

/-- The column of the weight that a lane of a head is projected with. -/
def headCol (col : Fin 4096) (e : Fin 256) : Fin 6144 := ⟨col.val / 256 * 256 + e.val, by omega⟩

/-- A row of the queries, keys and values: the queries rotated, the keys rotated and scaled, the values plain. -/
def qkvRow (h : Fin 1024 → EReal) (w : Fin 1024 → Fin 6144 → EReal) (cos sin : Fin 256 → EReal) (col : Fin 4096) : EReal :=
  if col.val < 1024 then rotated (fun e => proj h (fun k => w k (headCol col e))) cos sin ⟨col.val % 256, by omega⟩
  else if col.val < 2048 then rotated (fun e => proj h (fun k => w k (headCol col e))) cos sin ⟨col.val % 256, by omega⟩ * keyScale
  else proj h (fun k => w k ⟨col.val, by omega⟩)

section Pieces

variable (h : FVec Ideal S256x1024 .bf16) (w : FVec Ideal S1024x6144 .bf16) (wl : FVec Ideal S1024x256 .bf16) (cosb sinb cb sb : FVec Ideal S256x256 .f32)

theorem pay4_eq : k0_pay4 (F := Ideal) cosb = cosb := by funext i; pointwise [k0_pay4]

theorem pay5_eq : k0_pay5 (F := Ideal) sinb = sinb := by funext i; pointwise [k0_pay5]

theorem ix_tile (x : S1x256x2048.Idx) (r : Fin 256) (hr : r.val = (x 1).val) : x = ix3 0 r (x 2) := by
  funext a; fin_cases a
  · exact Subsingleton.elim (α := Fin 1) _ _
  · exact Fin.ext hr.symm
  · rfl

theorem ix_head (x : S1x256x256.Idx) (r : Fin 256) (hr : r.val = (x 1).val) : x = ix3 0 r (x 2) := by
  funext a; fin_cases a
  · exact Subsingleton.elim (α := Fin 1) _ _
  · exact Fin.ext hr.symm
  · rfl

/-- A head's lanes, of its columns of the weight. -/
theorem lanes_row (off : Nat) (hoff : off % 256 = 0) (hlt : off < 2048) (hcos : cb = cosb) (hsin : sb = sinb)
    (hw : ∀ (k : Fin 1024) (e : Fin 256), wl (ix2 k e) = w (ix2 k ⟨off + e.val, by omega⟩))
    (r e : Fin 256) (col : Fin 4096) (hc : col.val = off + e.val) :
    lanes cb sb h wl r e
      = rotated (fun e => proj (fun k => h (ix2 r k)) (fun k => w (ix2 k (headCol col e)))) (fun e => cosb (ix2 r e)) (fun e => sinb (ix2 r e))
          ⟨col.val % 256, by omega⟩ := by
  subst hcos hsin
  have he : (⟨col.val % 256, by omega⟩ : Fin 256) = e := Fin.ext (by show col.val % 256 = e.val; omega)
  have hp : ∀ e : Fin 256, (⟨off + e.val, by omega⟩ : Fin 6144) = headCol col e := fun e' => Fin.ext (by show off + e'.val = col.val / 256 * 256 + e'.val; omega)
  rw [he]
  exact congrArg (fun p => rotated p (fun e => cb (ix2 r e)) (fun e => sb (ix2 r e)) e)
    (funext fun e' => congrArg (proj fun k => h (ix2 r k)) (funext fun k => (hw k e').trans (congrArg (fun d => w (ix2 k d)) (hp e'))))

variable (P : FVec Ideal S1x256x256 .bf16)

/-- A store of a head of the queries. -/
theorem tileQ (off : Nat) (hoff : off % 256 = 0) (hlt : off + 256 ≤ 1024) (hcos : cb = cosb) (hsin : sb = sinb)
    (hw : ∀ (k : Fin 1024) (e : Fin 256), wl (ix2 k e) = w (ix2 k ⟨off + e.val, by omega⟩))
    (hP : ∀ r e : Fin 256, P (ix3 0 r e) = lanes cb sb h wl r e) (x : S1x256x256.Idx) (r : Fin 256) (col : Fin 4096)
    (hr : r.val = (x 1).val) (hc : col.val = off + (x 2).val) :
    P x = qkvRow (fun k => h (ix2 r k)) (fun k d => w (ix2 k d)) (fun e => cosb (ix2 r e)) (fun e => sinb (ix2 r e)) col := by
  have h2 : (x 2).val < 256 := (x 2).isLt
  refine (congrArg P (ix_head x r hr)).trans ((hP r (x 2)).trans ?_)
  unfold qkvRow
  rw [if_pos (by omega)]
  exact lanes_row h w wl cosb sinb cb sb off hoff (by omega) hcos hsin hw r (x 2) col hc

/-- A store of a head of the keys. -/
theorem tileK (off : Nat) (hoff : off % 256 = 0) (hge : 1024 ≤ off) (hlt : off + 256 ≤ 2048) (hcos : cb = cosb) (hsin : sb = sinb)
    (hw : ∀ (k : Fin 1024) (e : Fin 256), wl (ix2 k e) = w (ix2 k ⟨off + e.val, by omega⟩))
    (hP : ∀ r e : Fin 256, P (ix3 0 r e) = lanes cb sb h wl r e * keyScale) (x : S1x256x256.Idx) (r : Fin 256) (col : Fin 4096)
    (hr : r.val = (x 1).val) (hc : col.val = off + (x 2).val) :
    P x = qkvRow (fun k => h (ix2 r k)) (fun k d => w (ix2 k d)) (fun e => cosb (ix2 r e)) (fun e => sinb (ix2 r e)) col := by
  have h2 : (x 2).val < 256 := (x 2).isLt
  refine (congrArg P (ix_head x r hr)).trans ((hP r (x 2)).trans ?_)
  unfold qkvRow
  rw [if_neg (by omega), if_pos (by omega)]
  exact congrArg (· * keyScale) (lanes_row h w wl cosb sinb cb sb off hoff (by omega) hcos hsin hw r (x 2) col hc)

/-- The store of the values. -/
theorem tileV (v : FVec Ideal S1024x2048 .bf16) (Q : FVec Ideal S1x256x2048 .bf16)
    (hw : ∀ (k : Fin 1024) (d : Fin 2048), v (ix2 k d) = w (ix2 k ⟨2048 + d.val, by omega⟩))
    (hP : ∀ (r : Fin 256) (d : Fin 2048), Q (ix3 0 r d) = proj (fun k => h (ix2 r k)) (fun k => v (ix2 k d)))
    (x : S1x256x2048.Idx) (r : Fin 256) (col : Fin 4096) (hr : r.val = (x 1).val) (hc : col.val = 2048 + (x 2).val) :
    Q x = qkvRow (fun k => h (ix2 r k)) (fun k d => w (ix2 k d)) (fun e => cosb (ix2 r e)) (fun e => sinb (ix2 r e)) col := by
  refine (congrArg Q (ix_tile x r hr)).trans ((hP r (x 2)).trans ?_)
  unfold qkvRow
  rw [if_neg (by omega), if_neg (by omega)]
  exact congrArg (proj fun k => h (ix2 r k)) (funext fun k => (hw k (x 2)).trans (congrArg (fun d => w (ix2 k d)) (Fin.ext hc.symm)))

end Pieces

theorem point5 (c : Dev nD) (t : Fin cfg0.N) (r : Fin 256) (col : Fin 4096) :
    (outsAt0 m c t).1 (ix3 0 r col)
      = qkvRow (fun k => k0_pay3 (F := Ideal) (iblk m c 0 t) (iblk m c 1 t) (ix2 r k))
          (fun k d => (iblk m c 2 t : FVec Ideal S1024x6144 .bf16) (ix2 k d)) (fun e => (iblk m c 3 t : FVec Ideal S256x256 .f32) (ix2 r e))
          (fun e => (iblk m c 4 t : FVec Ideal S256x256 .f32) (ix2 r e)) col := by
  unfold outsAt0
  frame_out
  canon_tiles x h using (View.cover_of_tiledBy _ ![1, 256, 256] (by sl_kernel_rfl) _)
  case piece0 =>
    exact tileV _ _ _ _ _ _ (fun k d => by pointwise [k0_pay16]) (fun r d => pay1_at _ _ r d) x r col h1 h2
  case piece1 =>
    exact tileK _ _ _ _ _ _ _ _ 1792 (by decide) (by decide) (by decide) (pay4_eq _) (pay5_eq _) (fun k e => by pointwise) (fun r e => pay15_at _ _ _ _ r e) x r col h1 h2
  case piece2 =>
    exact tileK _ _ _ _ _ _ _ _ 1536 (by decide) (by decide) (by decide) (pay4_eq _) (pay5_eq _) (fun k e => by pointwise) (fun r e => pay14_at _ _ _ _ r e) x r col h1 h2
  case piece3 =>
    exact tileK _ _ _ _ _ _ _ _ 1280 (by decide) (by decide) (by decide) (pay4_eq _) (pay5_eq _) (fun k e => by pointwise) (fun r e => pay13_at _ _ _ _ r e) x r col h1 h2
  case piece4 =>
    exact tileK _ _ _ _ _ _ _ _ 1024 (by decide) (by decide) (by decide) (pay4_eq _) (pay5_eq _) (fun k e => by pointwise) (fun r e => pay12_at _ _ _ _ r e) x r col h1 h2
  case piece5 =>
    exact tileQ _ _ _ _ _ _ _ _ 768 (by decide) (by decide) (pay4_eq _) (pay5_eq _) (fun k e => by pointwise) (fun r e => (pay11_at _ r e).trans (pay10_at _ _ _ _ r e)) x r col h1 h2
  case piece6 =>
    exact tileQ _ _ _ _ _ _ _ _ 512 (by decide) (by decide) (pay4_eq _) (pay5_eq _) (fun k e => by pointwise) (fun r e => pay9_at _ _ _ _ r e) x r col h1 h2
  case piece7 =>
    exact tileQ _ _ _ _ _ _ _ _ 256 (by decide) (by decide) (pay4_eq _) (pay5_eq _) (fun k e => by pointwise [k0_pay7]) (fun r e => pay8_at _ _ _ _ r e) x r col h1 h2
  case piece8 =>
    exact tileQ _ _ _ _ _ _ _ _ 0 (by decide) (by decide) rfl rfl (fun k e => by pointwise) (fun r e => pay6_at _ _ _ _ _ r e) x r col h1 (h2.trans (Nat.zero_add _).symm)

theorem point6 (c : Dev nD) (t : Fin cfg0.N) (r : Fin 256) (d : Fin 2048) :
    (outsAt0 m c t).2 (ix3 0 r d)
      = proj (fun k => k0_pay3 (F := Ideal) (iblk m c 0 t) (iblk m c 1 t) (ix2 r k))
          (fun k => (iblk m c 2 t : FVec Ideal S1024x6144 .bf16) (ix2 k ⟨4096 + d.val, by omega⟩)) := by
  unfold outsAt0
  frame_out
  refine (pay2_at _ _ r d).trans ?_
  exact congrArg (proj _) (funext fun k => by pointwise)

/-! ## The blocks read -/

theorem idx : ∀ t : Fin cfg0.N, win0_0.index t = ![(grid0.coords t 0).val, (grid0.coords t 1).val, 0]
    ∧ win0_1.index t = ![(grid0.coords t 0).val, min (grid0.coords t 1).val 1, 0, 0]
    ∧ win0_2.index t = ![0, 0]
    ∧ win0_3.index t = ![(grid0.coords t 1).val, 0]
    ∧ win0_4.index t = ![(grid0.coords t 1).val, 0]
    ∧ win0_5.index t = ![(grid0.coords t 0).val, (grid0.coords t 1).val, 0]
    ∧ win0_6.index t = ![(grid0.coords t 0).val, (grid0.coords t 1).val, 0]
    ∧ (grid0.coords t 0).val < 8 ∧ (grid0.coords t 1).val < 17 :=
  (by decide +kernel : ∀ t : Fin grid0.N, _)

/-- The batch and the row of the array that a point's block row is. -/
def bAt (t : Fin cfg0.N) : Fin 8 := ⟨(grid0.coords t 0).val, (idx t).2.2.2.2.2.2.2.1⟩
def rAt (t : Fin cfg0.N) (r : Fin 256) : Fin 4352 :=
  ⟨(grid0.coords t 1).val * 256 + r.val, by have := (idx t).2.2.2.2.2.2.2.2; omega⟩

/-- A row's modulation vector: the context's rows come before row 256, the latents' from there. -/
def modOf (e : Fin 3) (mod : FVec Ideal S8x3072 .f32) (modc : FVec Ideal S3072 .f32) (b : Fin 8) (i : Fin 4352) (d : Fin 1024) : EReal :=
  if i.val < 256 then modc (ix1 ⟨e.val * 1024 + d.val, by omega⟩) else mod (ix2 b ⟨e.val * 1024 + d.val, by omega⟩)

section Reads

variable (c : Dev nD) (t : Fin cfg0.N)

theorem rd_x (r : Fin 256) (d : Fin 1024) :
    (iblk m c 0 t : FVec Ideal S1x256x1024 .f32) (ix3 0 r d) = m ((c : Thread nD τ).loc main_arg0) (ix3 (bAt t) (rAt t r) d) := by
  blk_ext [iblk, V, idx t, bAt, rAt]

theorem rd_w (k : Fin 1024) (d : Fin 6144) :
    (iblk m c 2 t : FVec Ideal S1024x6144 .bf16) (ix2 k d) = m ((c : Thread nD τ).loc main_arg3) (ix2 k d) :=
  Eq.trans (b := (V m c main_v43 : FVec Ideal S1024x6144 .bf16) (ix2 k d)) (by blk_ext [iblk, idx t])
    ((congrFun (V_w m c) (ix2 k d)).trans (by pointwise))

theorem rd_cos (r e : Fin 256) :
    (iblk m c 3 t : FVec Ideal S256x256 .f32) (ix2 r e) = cosAt (rAt t r) e :=
  Eq.trans (b := (V m c main_v40 : FVec Ideal S4352x256 .f32) (ix2 (rAt t r) e)) (by blk_ext [iblk, idx t, rAt])
    ((congrFun (V_cos m c) _).trans (cosTable_at _ _))

theorem rd_sin (r e : Fin 256) :
    (iblk m c 4 t : FVec Ideal S256x256 .f32) (ix2 r e) = sinAt (rAt t r) e :=
  Eq.trans (b := (V m c main_v42 : FVec Ideal S4352x256 .f32) (ix2 (rAt t r) e)) (by blk_ext [iblk, idx t, rAt])
    ((congrFun (V_sin m c) _).trans (sinTable_at _ _))

theorem rd_ms (r : Fin 256) (e : Fin 3) (d : Fin 1024) :
    (iblk m c 1 t : FVec Ideal S1x1x3x1024 .f32) (ix4 0 0 e d)
      = modOf e (m ((c : Thread nD τ).loc main_arg1)) (m ((c : Thread nD τ).loc main_arg2)) (bAt t) (rAt t r) d := by
  refine Eq.trans (b := (V m c main_v5 : FVec Ideal S8x2x3x1024 .f32)
    (ix4 (bAt t) ⟨min (grid0.coords t 1).val 1, by omega⟩ e d)) (by blk_ext [iblk, idx t, bAt])
    ((congrFun (V_ms m c) _).trans ((modTable_at _ _ _ _ _ _).trans ?_))
  unfold modOf
  by_cases h : (grid0.coords t 1).val = 0
  · rw [if_pos (by show min _ 1 < 1; omega), if_pos (by show _ * 256 + r.val < 256; omega)]
  · rw [if_neg (by show ¬ min _ 1 < 1; omega), if_neg (by show ¬ _ * 256 + r.val < 256; omega)]

end Reads

/-! ## The result arrays -/

/-- A row modulated. -/
def rowOf (xs : FVec Ideal S8x4352x1024 .f32) (mod : FVec Ideal S8x3072 .f32) (modc : FVec Ideal S3072 .f32) (b : Fin 8) (i : Fin 4352) :
    Fin 1024 → EReal :=
  modulated (fun k => xs (ix3 b i k)) (modOf 1 mod modc b i) (modOf 0 mod modc b i)

/-- The queries, keys and values of a launch, and the gate. -/
def result5 (c : Dev nD) : FVec Ideal S8x4352x4096 .bf16 := fun i =>
  qkvRow (rowOf (m ((c : Thread nD τ).loc main_arg0)) (m ((c : Thread nD τ).loc main_arg1)) (m ((c : Thread nD τ).loc main_arg2)) (i 0) (i 1))
    (fun k d => (m ((c : Thread nD τ).loc main_arg3) : FVec Ideal S1024x6144 .f32) (ix2 k d)) (cosAt (i 1)) (sinAt (i 1)) (i 2)
def result6 (c : Dev nD) : FVec Ideal S8x4352x2048 .f32 := fun i =>
  proj (rowOf (m ((c : Thread nD τ).loc main_arg0)) (m ((c : Thread nD τ).loc main_arg1)) (m ((c : Thread nD τ).loc main_arg2)) (i 0) (i 1))
    (fun k => (m ((c : Thread nD τ).loc main_arg3) : FVec Ideal S1024x6144 .f32) (ix2 k ⟨4096 + (i 2).val, by have : (i 2).val < 2048 := (i 2).isLt; omega⟩))

theorem row_at (c : Dev nD) (t : Fin cfg0.N) (r : Fin 256) :
    (fun k => k0_pay3 (F := Ideal) (iblk m c 0 t) (iblk m c 1 t) (ix2 r k))
      = rowOf (m ((c : Thread nD τ).loc main_arg0)) (m ((c : Thread nD τ).loc main_arg1)) (m ((c : Thread nD τ).loc main_arg2)) (bAt t) (rAt t r) := by
  funext k
  refine (pay3_at _ _ r k).trans ?_
  unfold rowOf modulated
  exact congrArg₂ (· + ·) (congrArg₂ (fun a b => a * (1 + b)) (rd_x m c t r k) (rd_ms m c t r 1 k)) (rd_ms m c t r 0 k)

theorem qkvRow_congr {h h' : Fin 1024 → EReal} {w w' : Fin 1024 → Fin 6144 → EReal} {cs cs' sn sn' : Fin 256 → EReal}
    (hh : h = h') (hw : ∀ k d, w k d = w' k d) (hc : ∀ e, cs e = cs' e) (hs : ∀ e, sn e = sn' e) (col : Fin 4096) :
    qkvRow h w cs sn col = qkvRow h' w' cs' sn' col := by
  subst hh
  obtain rfl : w = w' := funext fun k => funext fun d => hw k d
  obtain rfl : cs = cs' := funext hc
  obtain rfl : sn = sn' := funext hs
  rfl

theorem value5 (c : Dev nD) (t : Fin cfg0.N) (r : Fin 256) (col : Fin 4096) :
    (outsAt0 m c t).1 (ix3 0 r col) = result5 m c (ix3 (bAt t) (rAt t r) col) :=
  (point5 m c t r col).trans (qkvRow_congr (row_at m c t r) (rd_w m c t) (rd_cos m c t r) (rd_sin m c t r) col)

theorem value6 (c : Dev nD) (t : Fin cfg0.N) (r : Fin 256) (d : Fin 2048) :
    (outsAt0 m c t).2 (ix3 0 r d) = result6 m c (ix3 (bAt t) (rAt t r) d) :=
  (point6 m c t r d).trans (congrArg₂ proj (row_at m c t r) (funext fun k => rd_w m c t k _))

theorem final5 (c : Dev nD) : (dats m 0 c).arrAt 5 (cfgs 0).N = result5 m c := by
  refine (dats m 0 c).arrAt_eq_of_covers 5 _ (by decide +kernel) fun t _ y => ?_
  blk_simp
  rw [after0_5]
  have hy : y = ix3 (n0 := 1) (n1 := 256) (n2 := 4096) 0 (y 1) (y 2) := by
    funext a; fin_cases a
    · exact Subsingleton.elim (α := Fin 1) _ _
    · rfl
    · rfl
  refine (congrArg _ hy).trans ((value5 m c t (y 1) (y 2)).trans (congrArg (result5 m c) ?_))
  blk_ext [idx t, bAt, rAt]

theorem final6 (c : Dev nD) : (dats m 0 c).arrAt 6 (cfgs 0).N = result6 m c := by
  refine (dats m 0 c).arrAt_eq_of_covers 6 _ (by decide +kernel) fun t _ y => ?_
  blk_simp
  rw [after0_6]
  have hy : y = ix3 (n0 := 1) (n1 := 256) (n2 := 2048) 0 (y 1) (y 2) := by
    funext a; fin_cases a
    · exact Subsingleton.elim (α := Fin 1) _ _
    · rfl
    · rfl
  refine (congrArg _ hy).trans ((value6 m c t (y 1) (y 2)).trans (congrArg (result6 m c) ?_))
  blk_ext [idx t, bAt, rAt]

/-- The run: the result arrays, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v44_0) = result5 m c
      ∧ r.2.mem ((c.tc : Thread nD τ).loc main_v44_1) = result6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final5 m c), ((h.1 c).1 6).trans (final6 m c), h.2 c⟩)
    (θ_run_and (run_main m ρ) (unchanged m ρ))

end Cert.RetIn
-- ==== Proof.RetIn.Reference.lean ====
/- The input call's reference: modulation, projection, and the rotation of the latents' queries and keys. -/
module

public import proofs.«01_k».proof.Proof.RetIn.Kernel
public import proofs.«01_k».proof.Proof.Gen.ReferenceInIdeal.Run
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.RetInRef

open Cert.ReferenceInIdeal Cert.ReferenceInIdeal.Gen
open Cert.RetIn (modulated proj partner rotated keyScale angle angles coordY coordX angle_y angle_x headCol qkvRow rowOf modOf cosAt sinAt)

/-! ## Modulation and projection -/

def projL (xs : FVec Ideal S8x4352x1024 .f32) (mod : FVec Ideal S8x3072 .f32) (w : FVec Ideal S1024x6144 .f32) : FVec Ideal S8x4096x6144 .f32 :=
  Host.dotGeneral dot_S8x4096x1024_S1024x6144_S8x4096x6144_2_0_01_1_n_n none
    (addf (mulf (extractStridedSlice S8x4096x1024 ![0, 256, 0] xs slices_S8x4352x1024_S8x4096x1024_0_256_0)
      (broadcastInDim S8x4096x1024 ![0, 1, 2] bcast_S8x1x1024_S8x4096x1024_0_1_2
        (addf (broadcastInDim S8x1x1024 ![] bcast_S_S8x1x1024 (constant S_ .f32 0x3F800000#32))
          (extractStridedSlice S8x1x1024 ![0, 0, 1024] (broadcastInDim S8x1x3072 ![0, 2] bcast_S8x3072_S8x1x3072_0_2 mod) slices_S8x1x3072_S8x1x1024_0_0_1024))))
      (broadcastInDim S8x4096x1024 ![0, 1, 2] bcast_S8x1x1024_S8x4096x1024_0_1_2
        (extractStridedSlice S8x1x1024 ![0, 0, 0] (broadcastInDim S8x1x3072 ![0, 2] bcast_S8x3072_S8x1x3072_0_2 mod) slices_S8x1x3072_S8x1x1024_0_0_0))) w

def projC (xs : FVec Ideal S8x4352x1024 .f32) (modc : FVec Ideal S3072 .f32) (w : FVec Ideal S1024x6144 .f32) : FVec Ideal S8x256x6144 .f32 :=
  Host.dotGeneral dot_S8x256x1024_S1024x6144_S8x256x6144_2_0_01_1_n_n none
    (addf (mulf (extractStridedSlice S8x256x1024 ![0, 0, 0] xs slices_S8x4352x1024_S8x256x1024_0_0_0)
      (broadcastInDim S8x256x1024 ![0, 1, 2] bcast_S1x1x1024_S8x256x1024_0_1_2 (broadcastInDim S1x1x1024 ![2] bcast_S1024_S1x1x1024_2
        (addf (broadcastInDim S1024 ![] bcast_S_S1024 (constant S_ .f32 0x3F800000#32)) (extractStridedSlice S1024 ![1024] modc slices_S3072_S1024_1024)))))
      (broadcastInDim S8x256x1024 ![0, 1, 2] bcast_S1x1x1024_S8x256x1024_0_1_2 (broadcastInDim S1x1x1024 ![2] bcast_S1024_S1x1x1024_2
        (extractStridedSlice S1024 ![0] modc slices_S3072_S1024_0)))) w

theorem projL_at (xs : FVec Ideal S8x4352x1024 .f32) (mod : FVec Ideal S8x3072 .f32) (w : FVec Ideal S1024x6144 .f32)
    (b : Fin 8) (n : Fin 4096) (d : Fin 6144) :
    projL xs mod w (ix3 b n d) = proj (modulated (fun k => xs (ix3 b ⟨256 + n.val, by omega⟩ k))
      (fun k => mod (ix2 b ⟨1024 + k.val, by omega⟩)) (fun k => mod (ix2 b ⟨k.val, by omega⟩))) (fun k => w (ix2 k d)) := by
  pointwise [projL]
  rfl

theorem projC_at (xs : FVec Ideal S8x4352x1024 .f32) (modc : FVec Ideal S3072 .f32) (w : FVec Ideal S1024x6144 .f32)
    (b : Fin 8) (n : Fin 256) (d : Fin 6144) :
    projC xs modc w (ix3 b n d) = proj (modulated (fun k => xs (ix3 b ⟨n.val, by omega⟩ k))
      (fun k => modc (ix1 ⟨1024 + k.val, by omega⟩)) (fun k => modc (ix1 ⟨k.val, by omega⟩))) (fun k => w (ix2 k d)) := by
  pointwise [projC]
  rfl

/-! ## Heads -/

def headsQ (u : FVec Ideal S8x4096x6144 .f32) : FVec Ideal S8x4x4096x256 .f32 :=
  transpose S8x4x4096x256 [0, 2, 1, 3] (shapeCast S8x4096x4x256 (extractStridedSlice S8x4096x1024 ![0, 0, 0] u slices_S8x4096x6144_S8x4096x1024_0_0_0)
    shapeCasts_S8x4096x1024_S8x4096x4x256) transposes_S8x4096x4x256_S8x4x4096x256_0_2_1_3

def headsK (u : FVec Ideal S8x4096x6144 .f32) : FVec Ideal S8x4x4096x256 .f32 :=
  mulf (transpose S8x4x4096x256 [0, 2, 1, 3] (shapeCast S8x4096x4x256 (extractStridedSlice S8x4096x1024 ![0, 0, 1024] u slices_S8x4096x6144_S8x4096x1024_0_0_1024)
    shapeCasts_S8x4096x1024_S8x4096x4x256) transposes_S8x4096x4x256_S8x4x4096x256_0_2_1_3)
    (broadcastInDim S8x4x4096x256 ![] bcast_S_S8x4x4096x256 (constant S_ .f32 0x3D800000#32))

theorem headsQ_at (u : FVec Ideal S8x4096x6144 .f32) (b : Fin 8) (h : Fin 4) (n : Fin 4096) (e : Fin 256) :
    headsQ u (ix4 b h n e) = u (ix3 b n ⟨h.val * 256 + e.val, by omega⟩) := by
  pointwise [headsQ]

theorem headsK_at (u : FVec Ideal S8x4096x6144 .f32) (b : Fin 8) (h : Fin 4) (n : Fin 4096) (e : Fin 256) :
    headsK u (ix4 b h n e) = u (ix3 b n ⟨1024 + (h.val * 256 + e.val), by omega⟩) * keyScale := by
  pointwise [headsK]

/-- The heads' lanes side by side again. -/
def pack (q : FVec Ideal S8x4x4096x256 .f32) : FVec Ideal S8x4096x1024 .f32 :=
  shapeCast S8x4096x1024 (transpose S8x4096x4x256 [0, 2, 1, 3] q transposes_S8x4x4096x256_S8x4096x4x256_0_2_1_3) shapeCasts_S8x4096x4x256_S8x4096x1024

theorem pack_at (q : FVec Ideal S8x4x4096x256 .f32) (b : Fin 8) (n : Fin 4096) (d : Fin 1024) :
    pack q (ix3 b n d) = q (ix4 b ⟨d.val / 256, by omega⟩ n ⟨d.val % 256, by omega⟩) := by
  pointwise [pack]

/-! ## The rotation -/

/-- A table of angles at every head. -/
def spread (a : FVec Ideal S4096x64 .f32) : FVec Ideal S8x4x4096x64 .f32 :=
  broadcastInDim S8x4x4096x64 ![0, 1, 2, 3] bcast_S1x1x4096x64_S8x4x4096x64_0_1_2_3 (broadcastInDim S1x1x4096x64 ![2, 3] bcast_S4096x64_S1x1x4096x64_2_3 a)

def first (h : FVec Ideal S8x4x4096x128 .f32) : FVec Ideal S8x4x4096x64 .f32 :=
  extractStridedSlice S8x4x4096x64 ![0, 0, 0, 0] h slices_S8x4x4096x128_S8x4x4096x64_0_0_0_0
def second (h : FVec Ideal S8x4x4096x128 .f32) : FVec Ideal S8x4x4096x64 .f32 :=
  extractStridedSlice S8x4x4096x64 ![0, 0, 0, 64] h slices_S8x4x4096x128_S8x4x4096x64_0_0_0_64

/-- The rotation of a half of the lanes. -/
def ropeHalf (h : FVec Ideal S8x4x4096x128 .f32) (a : FVec Ideal S4096x64 .f32) : FVec Ideal S8x4x4096x128 .f32 :=
  concatenate S8x4x4096x128 3
    [⟨S8x4x4096x64, subf (mulf (first h) (spread (Host.cos a))) (mulf (second h) (spread (Host.sin a)))⟩,
     ⟨S8x4x4096x64, addf (mulf (first h) (spread (Host.sin a))) (mulf (second h) (spread (Host.cos a)))⟩]
    concatenates_S8x4x4096x64_S8x4x4096x64_S8x4x4096x128_d3

/-- The rotation: a half of the lanes by the row's angles, a half by the column's. -/
def rope (q : FVec Ideal S8x4x4096x256 .f32) (y x : FVec Ideal S4096x64 .f32) : FVec Ideal S8x4x4096x256 .f32 :=
  concatenate S8x4x4096x256 3
    [⟨S8x4x4096x128, ropeHalf (extractStridedSlice S8x4x4096x128 ![0, 0, 0, 0] q slices_S8x4x4096x256_S8x4x4096x128_0_0_0_0) y⟩,
     ⟨S8x4x4096x128, ropeHalf (extractStridedSlice S8x4x4096x128 ![0, 0, 0, 128] q slices_S8x4x4096x256_S8x4x4096x128_0_0_0_128) x⟩]
    concatenates_S8x4x4096x128_S8x4x4096x128_S8x4x4096x256_d3

/-- The cosine and the signed sine of a latent. -/
def cosL (n : Fin 4096) (e : Fin 256) : EReal := Ideal.cos (angle n e)
def sinL (n : Fin 4096) (e : Fin 256) : EReal := if e.val % 128 < 64 then -Ideal.sin (angle n e) else Ideal.sin (angle n e)

theorem ropeHalf_lo (h : FVec Ideal S8x4x4096x128 .f32) (a : FVec Ideal S4096x64 .f32) (b : Fin 8) (g : Fin 4) (n : Fin 4096) (j : Fin 64)
    (e : Fin 128) (he : e.val = j.val) :
    ropeHalf h a (ix4 b g n e) = h (ix4 b g n e) * Ideal.cos (a (ix2 n j)) + h (ix4 b g n ⟨j.val + 64, by omega⟩) * -Ideal.sin (a (ix2 n j)) := by
  obtain rfl : e = ⟨j.val, Nat.lt_trans j.isLt (by decide)⟩ := Fin.ext he
  pointwise [ropeHalf, first, second, spread]
  rw [sub_eq_add_neg, ← mul_neg]
  exact congrArg (fun i : Fin 128 => _ + h (ix4 b g n i) * -Ideal.sin (a (ix2 n j))) (Fin.ext (Nat.add_comm _ _))

theorem ropeHalf_hi (h : FVec Ideal S8x4x4096x128 .f32) (a : FVec Ideal S4096x64 .f32) (b : Fin 8) (g : Fin 4) (n : Fin 4096) (j : Fin 64)
    (e : Fin 128) (he : e.val = j.val + 64) :
    ropeHalf h a (ix4 b g n e) = h (ix4 b g n e) * Ideal.cos (a (ix2 n j)) + h (ix4 b g n ⟨j.val, by omega⟩) * Ideal.sin (a (ix2 n j)) := by
  obtain rfl : e = ⟨j.val + 64, Nat.add_lt_add_right j.isLt 64⟩ := Fin.ext he
  pointwise [ropeHalf, first, second, spread]
  refine (dif_neg (by omega)).trans ?_
  have h1 : (⟨j.val + 64 - 64, by omega⟩ : Fin 64) = j := Fin.ext (Nat.add_sub_cancel _ _)
  have h2 : (⟨j.val + 64 - 64, by omega⟩ : Fin 128) = ⟨j.val, by omega⟩ := Fin.ext (Nat.add_sub_cancel _ _)
  have h3 : (⟨64 + (j.val + 64 - 64), by omega⟩ : Fin 128) = ⟨j.val + 64, by omega⟩ := Fin.ext (by show 64 + (j.val + 64 - 64) = j.val + 64; omega)
  refine (add_comm _ _).trans ?_
  exact congrArg₂ (· + ·) (congrArg₂ (· * ·) (congrArg (fun i => h (ix4 b g n i)) h3) (congrArg (fun i => Ideal.cos (a (ix2 n i))) h1))
    (congrArg₂ (· * ·) (congrArg (fun i => h (ix4 b g n i)) h2) (congrArg (fun i => Ideal.sin (a (ix2 n i))) h1))

theorem half_at (off : Nat) (q : FVec Ideal S8x4x4096x256 .f32) (hs) (b : Fin 8) (g : Fin 4) (n : Fin 4096) (e : Fin 128) (e' : Fin 256)
    (he : e'.val = off + e.val) : extractStridedSlice S8x4x4096x128 ![0, 0, 0, off] q hs (ix4 b g n e) = q (ix4 b g n e') := by
  pointwise
  exact congrArg (fun i => q (ix4 b g n i)) (Fin.ext he.symm)

/-- The two products of a rotated lane. -/
theorem rotated_of (p : Fin 256 → EReal) (n : Fin 4096) (e e' : Fin 256) (u v c s : EReal) (hp : partner e = e') (hu : u = p e) (hv : v = p e')
    (hc : c = cosL n e) (hs : s = sinL n e) : u * c + v * s = rotated p (cosL n) (sinL n) e := by
  subst hp hu hv hc hs; rfl

theorem rope_at (q : FVec Ideal S8x4x4096x256 .f32) (b : Fin 8) (g : Fin 4) (n : Fin 4096) (e : Fin 256) :
    rope q (angles coordY) (angles coordX) (ix4 b g n e) = rotated (fun e => q (ix4 b g n e)) (cosL n) (sinL n) e := by
  pointwise [rope]
  by_cases h : e.val < 128
  · refine (dif_pos h).trans ?_
    have hp : (partner e).val = (e.val + 64) % 128 := if_pos h
    by_cases h1 : e.val < 64
    · refine (ropeHalf_lo _ _ b g n ⟨e.val, h1⟩ _ rfl).trans (rotated_of _ n e ⟨e.val + 64, by omega⟩ _ _ _ _ (Fin.ext (hp.trans (by show _ = e.val + 64; omega)))
        (half_at 0 q _ b g n _ e (Nat.zero_add _).symm) (half_at 0 q _ b g n _ _ (Nat.zero_add _).symm) ?_ ?_)
      · unfold cosL; rw [angle_y n e ⟨e.val, h1⟩ h (Nat.mod_eq_of_lt h1).symm]
      · unfold sinL; rw [if_pos (by omega), angle_y n e ⟨e.val, h1⟩ h (Nat.mod_eq_of_lt h1).symm]
    · have hj : e.val - 64 = e.val % 64 := by omega
      refine (ropeHalf_hi _ _ b g n ⟨e.val - 64, by omega⟩ _ (by show e.val = e.val - 64 + 64; omega)).trans
        (rotated_of _ n e ⟨e.val - 64, by omega⟩ _ _ _ _ (Fin.ext (hp.trans (by show _ = e.val - 64; omega)))
        (half_at 0 q _ b g n _ e (Nat.zero_add _).symm) (half_at 0 q _ b g n _ _ (Nat.zero_add _).symm) ?_ ?_)
      · unfold cosL; rw [angle_y n e ⟨e.val - 64, by omega⟩ h hj]
      · unfold sinL; rw [if_neg (by omega), angle_y n e ⟨e.val - 64, by omega⟩ h hj]
  · refine (dif_neg h).trans ?_
    have hp : (partner e).val = 128 + (e.val - 128 + 64) % 128 := if_neg h
    by_cases h1 : e.val - 128 < 64
    · have hj : e.val - 128 = e.val % 64 := by omega
      refine (ropeHalf_lo _ _ b g n ⟨e.val - 128, h1⟩ _ rfl).trans (rotated_of _ n e ⟨e.val + 64, by omega⟩ _ _ _ _ (Fin.ext (hp.trans (by show _ = e.val + 64; omega)))
        (half_at 128 q _ b g n _ e (by show e.val = 128 + (e.val - 128); omega)) (half_at 128 q _ b g n _ _ (by show e.val + 64 = 128 + (e.val - 128 + 64); omega)) ?_ ?_)
      · unfold cosL; rw [angle_x n e ⟨e.val - 128, h1⟩ h hj]
      · unfold sinL; rw [if_pos (by omega), angle_x n e ⟨e.val - 128, h1⟩ h hj]
    · have hj : e.val - 128 - 64 = e.val % 64 := by omega
      refine (ropeHalf_hi _ _ b g n ⟨e.val - 128 - 64, by omega⟩ _ (by show e.val - 128 = e.val - 128 - 64 + 64; omega)).trans
        (rotated_of _ n e ⟨e.val - 64, by omega⟩ _ _ _ _ (Fin.ext (hp.trans (by show _ = e.val - 64; omega)))
        (half_at 128 q _ b g n _ e (by show e.val = 128 + (e.val - 128); omega)) (half_at 128 q _ b g n _ _ (by show e.val - 64 = 128 + (e.val - 128 - 64); omega)) ?_ ?_)
      · unfold cosL; rw [angle_x n e ⟨e.val - 128 - 64, by omega⟩ h hj]
      · unfold sinL; rw [if_neg (by omega), angle_x n e ⟨e.val - 128 - 64, by omega⟩ h hj]

/-! ## A row of queries, keys and values -/

/-- A row of the latents' queries, keys and values, of its projections. -/
def latentRow (p : Fin 6144 → EReal) (cos sin : Fin 256 → EReal) (col : Fin 4096) : EReal :=
  if col.val < 1024 then rotated (fun e => p (headCol col e)) cos sin ⟨col.val % 256, by omega⟩
  else if col.val < 2048 then rotated (fun e => p (headCol col e) * keyScale) cos sin ⟨col.val % 256, by omega⟩
  else p ⟨col.val, by omega⟩

/-- A row of the context's. -/
def contextRow (p : Fin 6144 → EReal) (col : Fin 4096) : EReal :=
  if col.val < 1024 then p ⟨col.val, by omega⟩ else if col.val < 2048 then p ⟨col.val, by omega⟩ * keyScale else p ⟨col.val, by omega⟩

theorem keyScale_eq : keyScale = ((1 / 16 : ℝ) : EReal) := by
  simp [keyScale, Ideal.ofBits, Ideal.ieee, -EReal.coe_mul]; norm_num

theorem rotated_scaled (p cos sin : Fin 256 → EReal) (e : Fin 256) :
    rotated (fun e => p e * keyScale) cos sin e = rotated p cos sin e * keyScale := by
  unfold rotated
  rw [EReal.right_distrib_of_nonneg_of_ne_top (by rw [keyScale_eq]; exact EReal.coe_nonneg.2 (by norm_num)) (by rw [keyScale_eq]; exact EReal.coe_ne_top _)]
  exact congrArg₂ (· + ·) (mul_right_comm _ _ _) (mul_right_comm _ _ _)

theorem rotated_none (p cos sin : Fin 256 → EReal) (hc : ∀ e, cos e = 1) (hs : ∀ e, sin e = 0) (e : Fin 256) : rotated p cos sin e = p e := by
  unfold rotated; rw [hc, hs, mul_one, mul_zero, add_zero]

theorem qkvRow_latent (h : Fin 1024 → EReal) (w : Fin 1024 → Fin 6144 → EReal) (cos sin : Fin 256 → EReal) (col : Fin 4096) :
    latentRow (fun d => proj h (fun k => w k d)) cos sin col = qkvRow h w cos sin col := by
  unfold latentRow qkvRow
  rw [rotated_scaled]

theorem qkvRow_context (h : Fin 1024 → EReal) (w : Fin 1024 → Fin 6144 → EReal) (cos sin : Fin 256 → EReal) (hc : ∀ e, cos e = 1) (hs : ∀ e, sin e = 0)
    (col : Fin 4096) : contextRow (fun d => proj h (fun k => w k d)) col = qkvRow h w cos sin col := by
  have hh : headCol col ⟨col.val % 256, by omega⟩ = ⟨col.val, by omega⟩ := Fin.ext (by show col.val / 256 * 256 + col.val % 256 = col.val; omega)
  unfold contextRow qkvRow
  rw [rotated_none _ cos sin hc hs, hh]

def contextPart (u : FVec Ideal S8x256x6144 .f32) : FVec Ideal S8x256x4096 .f32 :=
  concatenate S8x256x4096 2
    [⟨S8x256x1024, shapeCast S8x256x1024 (transpose S8x256x4x256 [0, 2, 1, 3] (transpose S8x4x256x256 [0, 2, 1, 3]
        (shapeCast S8x256x4x256 (extractStridedSlice S8x256x1024 ![0, 0, 0] u slices_S8x256x6144_S8x256x1024_0_0_0) shapeCasts_S8x256x1024_S8x256x4x256)
        transposes_S8x256x4x256_S8x4x256x256_0_2_1_3) transposes_S8x4x256x256_S8x256x4x256_0_2_1_3) shapeCasts_S8x256x4x256_S8x256x1024⟩,
     ⟨S8x256x1024, shapeCast S8x256x1024 (transpose S8x256x4x256 [0, 2, 1, 3] (mulf (transpose S8x4x256x256 [0, 2, 1, 3]
        (shapeCast S8x256x4x256 (extractStridedSlice S8x256x1024 ![0, 0, 1024] u slices_S8x256x6144_S8x256x1024_0_0_1024) shapeCasts_S8x256x1024_S8x256x4x256)
        transposes_S8x256x4x256_S8x4x256x256_0_2_1_3) (broadcastInDim S8x4x256x256 ![] bcast_S_S8x4x256x256 (constant S_ .f32 0x3D800000#32)))
        transposes_S8x4x256x256_S8x256x4x256_0_2_1_3) shapeCasts_S8x256x4x256_S8x256x1024⟩,
     ⟨S8x256x2048, extractStridedSlice S8x256x2048 ![0, 0, 2048] u slices_S8x256x6144_S8x256x2048_0_0_2048⟩]
    concatenates_S8x256x1024_S8x256x1024_S8x256x2048_S8x256x4096_d2

theorem contextPart_at (u : FVec Ideal S8x256x6144 .f32) (b : Fin 8) (n : Fin 256) (col : Fin 4096) :
    contextPart u (ix3 b n col) = contextRow (fun d => u (ix3 b n d)) col := by
  pointwise [contextPart]
  unfold contextRow
  by_cases h : col.val < 1024
  · refine (dif_pos h).trans (Eq.trans ?_ (if_pos h).symm)
    exact congrArg (fun d => u (ix3 b n d)) (Fin.ext (by show col.val / 256 * 256 + col.val % 256 = col.val; omega))
  refine (dif_neg h).trans (Eq.trans ?_ (if_neg h).symm)
  by_cases h1 : col.val - 1024 < 1024
  · refine (dif_pos h1).trans (Eq.trans ?_ (if_pos (by omega)).symm)
    exact congrArg (fun d => u (ix3 b n d) * keyScale)
      (Fin.ext (by show 1024 + ((col.val - 1024) / 256 * 256 + (col.val - 1024) % 256) = col.val; omega))
  refine (dif_neg h1).trans (Eq.trans ?_ (if_neg (by omega)).symm)
  exact congrArg (fun d => u (ix3 b n d)) (Fin.ext (by show 2048 + (col.val - 1024 - 1024) = col.val; omega))

def latentPart (u : FVec Ideal S8x4096x6144 .f32) (y x : FVec Ideal S4096x64 .f32) : FVec Ideal S8x4096x4096 .f32 :=
  concatenate S8x4096x4096 2
    [⟨S8x4096x1024, pack (rope (headsQ u) y x)⟩, ⟨S8x4096x1024, pack (rope (headsK u) y x)⟩,
     ⟨S8x4096x2048, extractStridedSlice S8x4096x2048 ![0, 0, 2048] u slices_S8x4096x6144_S8x4096x2048_0_0_2048⟩]
    concatenates_S8x4096x1024_S8x4096x1024_S8x4096x2048_S8x4096x4096_d2

theorem latentPart_at (u : FVec Ideal S8x4096x6144 .f32) (b : Fin 8) (n : Fin 4096) (col : Fin 4096) :
    latentPart u (angles coordY) (angles coordX) (ix3 b n col) = latentRow (fun d => u (ix3 b n d)) (cosL n) (sinL n) col := by
  pointwise [latentPart]
  unfold latentRow
  by_cases h : col.val < 1024
  · refine (dif_pos h).trans (Eq.trans ?_ (if_pos h).symm)
    refine (pack_at _ b n _).trans ((rope_at _ b _ n _).trans ?_)
    exact congrArg (fun p => rotated p (cosL n) (sinL n) _) (funext fun e => headsQ_at u b _ n e)
  refine (dif_neg h).trans (Eq.trans ?_ (if_neg h).symm)
  by_cases h1 : col.val - 1024 < 1024
  · refine (dif_pos h1).trans (Eq.trans ?_ (if_pos (by omega)).symm)
    refine (pack_at _ b n _).trans ((rope_at _ b _ n _).trans ?_)
    refine congrArg₂ (fun p e => rotated p (cosL n) (sinL n) e) (funext fun e => (headsK_at u b _ n e).trans
      (congrArg (fun d => u (ix3 b n d) * keyScale) (Fin.ext ?_))) (Fin.ext ?_)
    · show 1024 + ((col.val - 1024) / 256 * 256 + e.val) = col.val / 256 * 256 + e.val; omega
    · show (col.val - 1024) % 256 = col.val % 256; omega
  refine (dif_neg h1).trans (Eq.trans ?_ (if_neg (by omega)).symm)
  exact congrArg (fun d => u (ix3 b n d)) (Fin.ext (by show 2048 + (col.val - 1024 - 1024) = col.val; omega))

/-! ## The results -/

def qkvOf (xs : FVec Ideal S8x4352x1024 .f32) (mod : FVec Ideal S8x3072 .f32) (modc : FVec Ideal S3072 .f32) (w : FVec Ideal S1024x6144 .f32) :
    FVec Ideal S8x4352x4096 .bf16 :=
  truncf .bf16 (concatenate S8x4352x4096 1 [⟨S8x256x4096, contextPart (projC xs modc w)⟩,
    ⟨S8x4096x4096, latentPart (projL xs mod w) (angles coordY) (angles coordX)⟩] concatenates_S8x256x4096_S8x4096x4096_S8x4352x4096_d1) bitsLt_bf16_f32

def gateOf (xs : FVec Ideal S8x4352x1024 .f32) (mod : FVec Ideal S8x3072 .f32) (modc : FVec Ideal S3072 .f32) (w : FVec Ideal S1024x6144 .f32) :
    FVec Ideal S8x4352x2048 .f32 :=
  concatenate S8x4352x2048 1
    [⟨S8x256x2048, extractStridedSlice S8x256x2048 ![0, 0, 4096] (projC xs modc w) slices_S8x256x6144_S8x256x2048_0_0_4096⟩,
     ⟨S8x4096x2048, extractStridedSlice S8x4096x2048 ![0, 0, 4096] (projL xs mod w) slices_S8x4096x6144_S8x4096x2048_0_0_4096⟩]
    concatenates_S8x256x2048_S8x4096x2048_S8x4352x2048_d1

theorem rowOf_latent (xs : FVec Ideal S8x4352x1024 .f32) (mod : FVec Ideal S8x3072 .f32) (modc : FVec Ideal S3072 .f32) (b : Fin 8) (i : Fin 4352)
    (hi : ¬ i.val < 256) :
    modulated (fun k => xs (ix3 b ⟨256 + (i.val - 256), by omega⟩ k)) (fun k => mod (ix2 b ⟨1024 + k.val, by omega⟩)) (fun k => mod (ix2 b ⟨k.val, by omega⟩))
      = rowOf xs mod modc b i := by
  have h : (⟨256 + (i.val - 256), by omega⟩ : Fin 4352) = i := Fin.ext (by show 256 + (i.val - 256) = i.val; omega)
  unfold rowOf
  refine congr (congr (congrArg modulated ?_) ?_) ?_
  · exact funext fun k => congrArg (fun i => xs (ix3 b i k)) h
  · exact funext fun k => Eq.trans (congrArg (fun d => mod (ix2 b d)) (Fin.ext (by show 1024 + k.val = 1 * 1024 + k.val; omega))) (if_neg hi).symm
  · exact funext fun k => Eq.trans (congrArg (fun d => mod (ix2 b d)) (Fin.ext (by show k.val = 0 * 1024 + k.val; omega))) (if_neg hi).symm

theorem rowOf_context (xs : FVec Ideal S8x4352x1024 .f32) (mod : FVec Ideal S8x3072 .f32) (modc : FVec Ideal S3072 .f32) (b : Fin 8) (i : Fin 4352)
    (hi : i.val < 256) :
    modulated (fun k => xs (ix3 b ⟨i.val, by omega⟩ k)) (fun k => modc (ix1 ⟨1024 + k.val, by omega⟩)) (fun k => modc (ix1 ⟨k.val, by omega⟩))
      = rowOf xs mod modc b i := by
  unfold rowOf
  refine congr (congr (congrArg modulated rfl) ?_) ?_
  · exact funext fun k => Eq.trans (congrArg (fun d => modc (ix1 d)) (Fin.ext (by show 1024 + k.val = 1 * 1024 + k.val; omega))) (if_pos hi).symm
  · exact funext fun k => Eq.trans (congrArg (fun d => modc (ix1 d)) (Fin.ext (by show k.val = 0 * 1024 + k.val; omega))) (if_pos hi).symm

theorem cosAt_latent (i : Fin 4352) (h : ¬ i.val < 256) (e : Fin 256) : cosAt i e = cosL ⟨i.val - 256, by omega⟩ e := by
  unfold cosAt cosL; rw [dif_neg h]

theorem sinAt_latent (i : Fin 4352) (h : ¬ i.val < 256) (e : Fin 256) : sinAt i e = sinL ⟨i.val - 256, by omega⟩ e := by
  unfold sinAt sinL; rw [dif_neg h]

section At

variable (xs : FVec Ideal S8x4352x1024 .f32) (mod : FVec Ideal S8x3072 .f32) (modc : FVec Ideal S3072 .f32) (w : FVec Ideal S1024x6144 .f32)

theorem qkvOf_at (b : Fin 8) (i : Fin 4352) (col : Fin 4096) :
    qkvOf xs mod modc w (ix3 b i col) = qkvRow (rowOf xs mod modc b i) (fun k d => w (ix2 k d)) (cosAt i) (sinAt i) col := by
  pointwise [qkvOf]
  by_cases h : i.val < 256
  · refine (dif_pos h).trans ((contextPart_at _ b _ col).trans ?_)
    refine Eq.trans (congrArg (fun p => contextRow p col) (funext fun d => (projC_at xs modc w b ⟨i.val, h⟩ d).trans
      (congrArg (fun r => proj r fun k => w (ix2 k d)) (rowOf_context xs mod modc b i h)))) ?_
    exact qkvRow_context _ (fun k d => w (ix2 k d)) _ _ (fun e => dif_pos h) (fun e => dif_pos h) col
  · refine (dif_neg h).trans ((latentPart_at _ b _ col).trans ?_)
    refine Eq.trans (congrArg (fun p => latentRow p _ _ col) (funext fun d => (projL_at xs mod w b ⟨i.val - 256, by omega⟩ d).trans
      (congrArg (fun r => proj r fun k => w (ix2 k d)) (rowOf_latent xs mod modc b i h)))) ?_
    refine (qkvRow_latent _ (fun k d => w (ix2 k d)) _ _ col).trans ?_
    exact congrArg₂ (fun cs sn => qkvRow _ _ cs sn col) (funext fun e => (cosAt_latent i h e).symm)
      (funext fun e => (sinAt_latent i h e).symm)

theorem gateOf_at (b : Fin 8) (i : Fin 4352) (d : Fin 2048) :
    gateOf xs mod modc w (ix3 b i d) = proj (rowOf xs mod modc b i) (fun k => w (ix2 k ⟨4096 + d.val, by omega⟩)) := by
  pointwise [gateOf]
  by_cases h : i.val < 256
  · exact (dif_pos h).trans ((projC_at xs modc w b ⟨i.val, h⟩ _).trans (congrArg (fun r => proj r _) (rowOf_context xs mod modc b i h)))
  · exact (dif_neg h).trans ((projL_at xs mod w b ⟨i.val - 256, by omega⟩ _).trans (congrArg (fun r => proj r _) (rowOf_latent xs mod modc b i h)))

end At

section Run

open Cert.ReferenceInIdeal.Value StableHlo

variable (V0 : Valuation τ sig (Elt Ideal))

theorem res_y : res_main_v61 V0 = angles coordY := rfl
theorem res_y' : res_main_v118 V0 = angles coordY := rfl
theorem res_x : res_main_v86 V0 = angles coordX := rfl
theorem res_x' : res_main_v143 V0 = angles coordX := rfl
theorem res_u : res_main_v23 V0 = projL (V0 main_arg0) (V0 main_arg1) (V0 main_arg3) := rfl
theorem res_uc : res_main_v34 V0 = projC (V0 main_arg0) (V0 main_arg2) (V0 main_arg3) := rfl
theorem res_lat : res_main_v173 V0 = latentPart (res_main_v23 V0) (angles coordY) (angles coordX) := by
  unfold res_main_v173 res_main_v62 res_main_v63 res_main_v87 res_main_v88 res_main_v119 res_main_v120 res_main_v144 res_main_v145
  rw [res_y, res_y', res_x, res_x']
  rfl

theorem res_eq5 (m : (ℓ : Loc nD τ sig) → Buf (Elt Ideal) ℓ) (c : Dev nD) :
    (truncf .bf16 (concatenate S8x4352x4096 1 [⟨S8x256x4096, ((concatenate S8x256x4096 2 [⟨S8x256x1024, ((shapeCast _ (transpose S8x256x4x256 [0, 2, 1, 3] (transpose S8x4x256x256 [0, 2, 1, 3] (shapeCast _ (extractStridedSlice S8x256x1024 ![0, 0, 0] (res_main_v34 (launchContents m c)) slices_S8x256x6144_S8x256x1024_0_0_0) shapeCasts_S8x256x1024_S8x256x4x256) transposes_S8x256x4x256_S8x4x256x256_0_2_1_3) transposes_S8x4x256x256_S8x256x4x256_0_2_1_3) shapeCasts_S8x256x4x256_S8x256x1024) : (⟨S8x256x1024, .f32⟩ : BufTy).Contents (Elt Ideal))⟩, ⟨S8x256x1024, ((shapeCast _ (transpose S8x256x4x256 [0, 2, 1, 3] (mulf (transpose S8x4x256x256 [0, 2, 1, 3] (shapeCast _ (extractStridedSlice S8x256x1024 ![0, 0, 1024] (res_main_v34 (launchContents m c)) slices_S8x256x6144_S8x256x1024_0_0_1024) shapeCasts_S8x256x1024_S8x256x4x256) transposes_S8x256x4x256_S8x4x256x256_0_2_1_3) (broadcastInDim S8x4x256x256 ![] bcast_S_S8x4x256x256 (constant S_ .f32 0x3D800000#32))) transposes_S8x4x256x256_S8x256x4x256_0_2_1_3) shapeCasts_S8x256x4x256_S8x256x1024) : (⟨S8x256x1024, .f32⟩ : BufTy).Contents (Elt Ideal))⟩, ⟨S8x256x2048, ((extractStridedSlice S8x256x2048 ![0, 0, 2048] (res_main_v34 (launchContents m c)) slices_S8x256x6144_S8x256x2048_0_0_2048) : (⟨S8x256x2048, .f32⟩ : BufTy).Contents (Elt Ideal))⟩] concatenates_S8x256x1024_S8x256x1024_S8x256x2048_S8x256x4096_d2 : (⟨S8x256x4096, .f32⟩ : BufTy).Contents (Elt Ideal)))⟩, ⟨S8x4096x4096, (res_main_v173 (launchContents m c))⟩] concatenates_S8x256x4096_S8x4096x4096_S8x4352x4096_d1) bitsLt_bf16_f32 : FVec Ideal S8x4352x4096 .bf16)
      = qkvOf (m ((c.tc : Thread nD τ).loc main_arg0)) (m ((c.tc : Thread nD τ).loc main_arg1)) (m ((c.tc : Thread nD τ).loc main_arg2))
          (m ((c.tc : Thread nD τ).loc main_arg3)) := by
  rw [res_lat, res_u, res_uc]
  rfl

theorem res_eq6 (m : (ℓ : Loc nD τ sig) → Buf (Elt Ideal) ℓ) (c : Dev nD) :
    concatenate S8x4352x2048 1 [⟨S8x256x2048, (extractStridedSlice S8x256x2048 ![0, 0, 4096] (res_main_v34 (launchContents m c)) slices_S8x256x6144_S8x256x2048_0_0_4096)⟩, ⟨S8x4096x2048, (extractStridedSlice S8x4096x2048 ![0, 0, 4096] (res_main_v23 (launchContents m c)) slices_S8x4096x6144_S8x4096x2048_0_0_4096)⟩] concatenates_S8x256x2048_S8x4096x2048_S8x4352x2048_d1
      = gateOf (m ((c.tc : Thread nD τ).loc main_arg0)) (m ((c.tc : Thread nD τ).loc main_arg1)) (m ((c.tc : Thread nD τ).loc main_arg2))
          (m ((c.tc : Thread nD τ).loc main_arg3)) := by
  rw [res_u, res_uc]
  rfl

end Run

end Cert.RetInRef
-- ==== Proof.RetIn.Claims.lean ====
/- The claims on the input call. -/
module

public import proofs.«01_k».proof.Defs
public import proofs.«01_k».proof.Proof.Gen.KernelIn
public import proofs.«01_k».proof.Proof.Gen.KernelInIdeal
public import proofs.«01_k».proof.Proof.Gen.ReferenceInIdeal
public import proofs.«01_k».proof.Proof.Gen.ReferenceInIdeal.Run
public import proofs.«01_k».proof.Proof.RetIn.Kernel
public import proofs.«01_k».proof.Proof.RetIn.Reference
public import Idealize.ShloMosaic.Adequacy
public import Idealize.ShloMosaic.Init

@[expose] public section

noncomputable section

namespace Cert.RetInClaims

open Idealize.ShloMosaic Idealize.SL.Sem

/-- The input call at the chip's own floats is the idealized one read at them. -/
theorem kernel_eq : Cert.quiescent_KernelIn
    = ∀ (m : (ℓ : Loc Cert.KernelInIdeal.nD Cert.KernelInIdeal.τ Cert.KernelInIdeal.sig) → Buf (Elt Bits) ℓ) (ρ : Dev Cert.KernelInIdeal.nD → PrngReg),
      True → θ_run (Cert.KernelInIdeal.defs (F := Bits)) (onTc (τ := Cert.KernelInIdeal.τ) (Cert.KernelInIdeal.main (F := Bits)))
        ⟨m, fun _ => 0, ρ⟩ (fun r => (∀ c : Dev Cert.KernelInIdeal.nD,
          r.2.mem ((c.tc : Thread Cert.KernelInIdeal.nD Cert.KernelInIdeal.τ).loc Cert.KernelInIdeal.main_arg0)
              = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1)
              = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2)
              = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3)
              = m ((c.tc : Thread Cert.KernelInIdeal.nD Cert.KernelInIdeal.τ).loc Cert.KernelInIdeal.main_arg3))
          ∧ r.2.sem = fun _ => 0) := by
  chain_rfl

theorem frame_kernel : Cert.quiescent_KernelIn := kernel_eq ▸ fun m ρ _ => Cert.KernelInIdeal.Gen.frame (F := Bits) m ρ

theorem frame_kernelIdeal : Cert.quiescent_KernelInIdeal := fun m ρ _ => Cert.KernelInIdeal.Gen.frame (F := Ideal) m ρ

theorem frame_reference : Cert.quiescent_ReferenceInIdeal := fun m ρ _ =>
  (θ_run Cert.ReferenceInIdeal.defs _ _).mono
    (fun r h => ⟨fun c => (h c).2.2, Idealize.ShloMosaic.sem_eq_zero_of_no_sems (by decide) r.2⟩)
    (Cert.ReferenceInIdeal.Value.run (F := Ideal) m ρ)

theorem result_eq (m : (ℓ : Loc Cert.KernelInIdeal.nD Cert.KernelInIdeal.τ Cert.KernelInIdeal.sig) → Buf (Elt Ideal) ℓ) (c : Dev Cert.KernelInIdeal.nD)
    (xs : FVec Ideal Cert.KernelInIdeal.S8x4352x1024 .f32) (mod : FVec Ideal Cert.KernelInIdeal.S8x3072 .f32) (modc : FVec Ideal Cert.KernelInIdeal.S3072 .f32)
    (w : FVec Ideal Cert.KernelInIdeal.S1024x6144 .f32)
    (h0 : xs = m ((c.tc : Thread Cert.KernelInIdeal.nD Cert.KernelInIdeal.τ).loc Cert.KernelInIdeal.main_arg0))
    (h1 : mod = m ((c.tc : Thread Cert.KernelInIdeal.nD Cert.KernelInIdeal.τ).loc Cert.KernelInIdeal.main_arg1))
    (h2 : modc = m ((c.tc : Thread Cert.KernelInIdeal.nD Cert.KernelInIdeal.τ).loc Cert.KernelInIdeal.main_arg2))
    (h3 : w = m ((c.tc : Thread Cert.KernelInIdeal.nD Cert.KernelInIdeal.τ).loc Cert.KernelInIdeal.main_arg3)) :
    Cert.RetInRef.qkvOf xs mod modc w = Cert.RetIn.result5 m c ∧ Cert.RetInRef.gateOf xs mod modc w = Cert.RetIn.result6 m c := by
  subst h0 h1 h2 h3
  constructor
  · funext i
    have hi : i = ix3 (n0 := 8) (n1 := 4352) (n2 := 4096) (i 0) (i 1) (i 2) := by
      funext a; fin_cases a <;> rfl
    exact (congrArg _ hi).trans (Cert.RetInRef.qkvOf_at _ _ _ _ (i 0) (i 1) (i 2))
  · funext i
    have hi : i = ix3 (n0 := 8) (n1 := 4352) (n2 := 2048) (i 0) (i 1) (i 2) := by
      funext a; fin_cases a <;> rfl
    exact (congrArg _ hi).trans (Cert.RetInRef.gateOf_at _ _ _ _ (i 0) (i 1) (i 2))

theorem algebraic : Cert.algebraic_KernelInIdeal_ReferenceInIdeal := by
  intro m ρ m' ρ' _ hagree
  have hr := fun c => result_eq m c _ _ _ _ (hagree c).1 (hagree c).2.1 (hagree c).2.2.1 (hagree c).2.2.2
  refine ⟨fun c => Cert.RetIn.result5 m c, fun c => Cert.RetIn.result6 m c, Cert.RetIn.run m ρ, ?_⟩
  exact (θ_run _ _ _).mono (fun _ h c => ⟨((h c).1.trans (Cert.RetInRef.res_eq5 m' c)).trans (hr c).1,
    ((h c).2.1.trans (Cert.RetInRef.res_eq6 m' c)).trans (hr c).2, (h c).2.2⟩)
    (Cert.ReferenceInIdeal.Value.run m' ρ')

end Cert.RetInClaims
-- ==== Proof.RkIn.Body.lean ====
/- The RWKV-7 input call's body at an index: modulated rows, their neighbours, and the projections of the mixed rows. -/
module

public import proofs.«01_k».proof.Proof.RetIn.Kernel
public import proofs.«01_k».proof.Proof.Gen.KernelRkInIdeal.Frame
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.RkIn

open Cert.KernelRkInIdeal Cert.KernelRkInIdeal.Gen
open Cert.RetIn (modulated proj)

/-- A row mixed with its shifted row. -/
def mixedRow (h s mx : Fin 1024 → EReal) (k : Fin 1024) : EReal := h k + (s k - h k) * mx k

section Body

variable (ms : FVec Ideal S1x1x3x1024 .f32) (x : FVec Ideal S1x256x1024 .f32) (xh : FVec Ideal S1x64x1024 .f32)
  (u sh v : FVec Ideal S256x1024 .f32) (mix : FVec Ideal S6x1024 .f32) (w4 : FVec Ideal S1x1024x1024 .bf16)
  (w : FVec Ideal S1024x128 .bf16)

/-- A row of the block, modulated. -/
abbrev uRow (r : Fin 256) : Fin 1024 → EReal :=
  modulated (fun k => x (ix3 0 r k)) (fun k => ms (ix4 0 0 1 k)) (fun k => ms (ix4 0 0 0 k))

/-- A row of a neighbouring block, modulated. -/
abbrev hRow (r : Fin 64) : Fin 1024 → EReal :=
  modulated (fun k => xh (ix3 0 r k)) (fun k => ms (ix4 0 0 1 k)) (fun k => ms (ix4 0 0 0 k))

theorem pay15_at (r : Fin 256) (k : Fin 1024) : k0_pay15 (F := Ideal) ms x (ix2 r k) = uRow ms x r k := by
  pointwise [k0_pay15, k0_pay14]
  try rfl

theorem pay20_at (r : Fin 256) (k : Fin 1024) :
    k0_pay20 (F := Ideal) ms x sh (ix2 r k) = sh (ix2 r k) - k0_pay15 (F := Ideal) ms x (ix2 r k) := by
  pointwise [k0_pay20]

theorem pay21_at (r : Fin 256) (d : Fin 1024) :
    k0_pay21 (F := Ideal) ms x sh mix w4 (ix2 r d)
      = proj (fun k => k0_pay15 (F := Ideal) ms x (ix2 r k) + k0_pay20 (F := Ideal) ms x sh (ix2 r k) * mix (ix2 0 k)) (fun k => w4 (ix3 0 k d)) := by
  pointwise [k0_pay21]
  try rfl

theorem pay22_at (r : Fin 256) (d : Fin 1024) : k0_pay22 (F := Ideal) v (ix3 0 r d) = v (ix2 r d) := by
  pointwise [k0_pay22]

theorem pay1_at (r : Fin 256) (d : Fin 1024) : k0_pay1 (F := Ideal) v (ix3 0 r d) = v (ix2 r d) := by
  pointwise [k0_pay1]

theorem pay23_at (r : Fin 256) (d : Fin 1024) :
    k0_pay23 (F := Ideal) u v mix w4 (ix3 0 r d)
      = proj (fun k => u (ix2 r k) + v (ix2 r k) * mix (ix2 2 k)) (fun k => w4 (ix3 0 k d)) := by
  pointwise [k0_pay23]
  try rfl

theorem pay24_at (r : Fin 256) (d : Fin 1024) :
    k0_pay24 (F := Ideal) u v mix w4 (ix3 0 r d)
      = proj (fun k => u (ix2 r k) + v (ix2 r k) * mix (ix2 3 k)) (fun k => w4 (ix3 0 k d)) := by
  pointwise [k0_pay24]
  try rfl

theorem pay25_at (r : Fin 256) (d : Fin 1024) :
    k0_pay25 (F := Ideal) u v mix w4 (ix2 r d)
      = proj (fun k => u (ix2 r k) + v (ix2 r k) * mix (ix2 5 k)) (fun k => w4 (ix3 0 k d)) := by
  pointwise [k0_pay25]
  try rfl

theorem pay2_at (r : Fin 256) (d : Fin 128) :
    k0_pay2 (F := Ideal) u v mix w (ix3 0 r d)
      = Ideal.tanh (proj (fun k => u (ix2 r k) + v (ix2 r k) * mix (ix2 1 k)) (fun k => w (ix2 k d))) := by
  pointwise [k0_pay2]
  try rfl

theorem pay3_at (r : Fin 256) (d : Fin 128) :
    k0_pay3 (F := Ideal) u v mix w (ix3 0 r d)
      = proj (fun k => u (ix2 r k) + v (ix2 r k) * mix (ix2 4 k)) (fun k => w (ix2 k d)) := by
  pointwise [k0_pay3]
  try rfl

/-! ## The neighbours -/

theorem pay16_at (r : Fin 256) (k : Fin 1024) :
    k0_pay16 (F := Ideal) ms x (ix2 r k) = uRow ms x ⟨(r.val + 255) % 256, by omega⟩ k := by
  unfold k0_pay16
  refine (dynamicRotate_apply _ _ _ _ _ (ix2 ⟨(r.val + 255) % 256, by omega⟩ k) fun b => ?_).trans (pay15_at ms x _ k)
  fin_cases b
  · rfl
  · rfl

theorem pay17_at (r : Fin 256) (k : Fin 1024) :
    k0_pay17 (F := Ideal) ms x (ix2 r k) = uRow ms x ⟨(r.val + 1) % 256, by omega⟩ k := by
  unfold k0_pay17
  refine (dynamicRotate_apply _ _ _ _ _ (ix2 ⟨(r.val + 1) % 256, by omega⟩ k) fun b => ?_).trans (pay15_at ms x _ k)
  fin_cases b
  · rfl
  · rfl

theorem word_eq_0 : ∀ r : Fin 256, IntOp.cmpi CmpIPredicate.eq (BitVec.ofNat 32 r.val) 0#32 = if r.val = 0 then 1#1 else 0#1 := by
  decide +kernel

theorem word_eq_63 : ∀ r : Fin 256, IntOp.cmpi CmpIPredicate.eq (BitVec.ofNat 32 r.val) 63#32 = if r.val = 63 then 1#1 else 0#1 := by
  decide +kernel

theorem word_eq_255 : ∀ r : Fin 256, IntOp.cmpi CmpIPredicate.eq (BitVec.ofNat 32 r.val) 255#32 = if r.val = 255 then 1#1 else 0#1 := by
  decide +kernel

theorem select_if (p : Prop) [Decidable p] (a b : EReal) : Scalar.select (if p then 1#1 else 0#1) a b = if p then a else b := by
  by_cases h : p
  · rw [if_pos h, if_pos h]; rfl
  · rw [if_neg h, if_neg h]; rfl

theorem flag_ge : ∀ n : Fin 17, (Scalar.extui (Scalar.cmpi CmpIPredicate.sge (BitVec.ofNat 32 n.val) 2#32) : BitVec 32).toInt
    = if 2 ≤ n.val then 1 else 0 := by
  decide +kernel

theorem flag_lt : ∀ n : Fin 17, (Scalar.extui (Scalar.cmpi CmpIPredicate.slt (BitVec.ofNat 32 n.val) 16#32) : BitVec 32).toInt
    = if n.val < 16 then 1 else 0 := by
  decide +kernel

theorem mul_flag (p : Prop) [Decidable p] (a : EReal) : a * (((if p then 1 else 0 : ℤ) : ℝ) : EReal) = if p then a else 0 := by
  by_cases h : p
  · rw [if_pos h, if_pos h]; simp
  · rw [if_neg h, if_neg h]; simp

theorem pay18_at (r : Fin 256) (d : Fin 512) :
    k0_pay18 (F := Ideal) ms x (ix2 r d)
      = if r.val = 0 then 0 else uRow ms x ⟨(r.val + 255) % 256, by omega⟩ ⟨d.val, by omega⟩ := by
  pointwise [k0_pay18]
  rw [word_eq_0, select_if]
  exact congrArg (fun e => if r.val = 0 then 0 else e) (pay16_at ms x r _)

theorem pay19_at (r : Fin 256) (d : Fin 512) :
    k0_pay19 (F := Ideal) ms x (ix2 r d)
      = if r.val = 255 then 0 else uRow ms x ⟨(r.val + 1) % 256, by omega⟩ ⟨512 + d.val, by omega⟩ := by
  pointwise [k0_pay19]
  rw [word_eq_255, select_if]
  exact congrArg (fun e => if r.val = 255 then 0 else e) (pay17_at ms x r _)

theorem pay4_at : ∀ r : Fin 256, k0_pay4 (iota Kind.tc S256x1 32 [0] iota_S256x1_d0_w32) (ix2 r 0) = BitVec.ofNat 32 (r.val % 64) := by
  decide +kernel

theorem pay5_at (r : Fin 256) (d : Fin 256) :
    k0_pay5 (F := Ideal) (iota Kind.tc S256x1 32 [0] iota_S256x1_d0_w32) v (ix2 r d)
      = if r.val % 64 = 0 then 0 else v (ix2 r ⟨d.val, by omega⟩) := by
  pointwise [k0_pay5]
  rw [pay4_at, word_eq_0 ⟨r.val % 64, by omega⟩, select_if]

theorem pay6_at (r : Fin 256) (d : Fin 256) :
    k0_pay6 (F := Ideal) (iota Kind.tc S256x1 32 [0] iota_S256x1_d0_w32) v (ix2 r d)
      = if r.val % 64 = 63 then 0 else v (ix2 r ⟨256 + d.val, by omega⟩) := by
  pointwise [k0_pay6]
  rw [pay4_at, word_eq_63 ⟨r.val % 64, by omega⟩, select_if]

theorem pay10_at (n : Fin 17) (r : Fin 64) (d : Fin 256) :
    k0_pay10 (F := Ideal) (BitVec.ofNat 32 n.val) (k0_pay14 ms) (k0_pay7 xh) (k0_pay8 (k0_pay14 ms)) k0_pay9 (ix2 r d)
      = if 2 ≤ n.val then hRow ms xh r ⟨512 + d.val, by omega⟩ else 0 := by
  pointwise [k0_pay10, k0_pay14, k0_pay7, k0_pay8, k0_pay9]
  rw [flag_ge n, mul_flag]
  rfl

theorem pay11_at (r : Fin 192) (d : Fin 256) :
    k0_pay11 (F := Ideal) u (ix2 r d) = u (ix2 ⟨r.val, by omega⟩ ⟨512 + d.val, by omega⟩) := by
  pointwise [k0_pay11]

theorem pay12_at (r : Fin 192) (d : Fin 256) :
    k0_pay12 (F := Ideal) u (ix2 r d) = u (ix2 ⟨64 + r.val, by omega⟩ ⟨768 + d.val, by omega⟩) := by
  pointwise [k0_pay12]

theorem pay13_at (n : Fin 17) (r : Fin 64) (d : Fin 256) :
    k0_pay13 (F := Ideal) (BitVec.ofNat 32 n.val) (k0_pay14 ms) xh (ix2 r d)
      = if n.val < 16 then hRow ms xh r ⟨768 + d.val, by omega⟩ else 0 := by
  pointwise [k0_pay13, k0_pay14]
  rw [flag_lt n, mul_flag]
  rfl

/-! ## The shifted rows, as the body lays them out -/

/-- The context's shifted rows: the first half of the lanes from the row before, the second from the row after. -/
def shiftC (u : Fin 256 → Fin 1024 → EReal) (r : Fin 256) (d : Fin 1024) : EReal :=
  if d.val < 512 then if r.val = 0 then 0 else u ⟨(r.val + 255) % 256, by omega⟩ d
  else if r.val = 255 then 0 else u ⟨(r.val + 1) % 256, by omega⟩ d

/-- The latents' shifted rows in tile `n`: a quarter of the lanes each from the left, the right, above and below. -/
def shiftL (n : Fin 17) (u : Fin 256 → Fin 1024 → EReal) (up down : Fin 64 → Fin 1024 → EReal) (r : Fin 256) (d : Fin 1024) : EReal :=
  if d.val < 256 then if r.val % 64 = 0 then 0 else u ⟨(r.val + 255) % 256, by omega⟩ d
  else if d.val < 512 then if r.val % 64 = 63 then 0 else u ⟨(r.val + 1) % 256, by omega⟩ d
  else if d.val < 768 then
    if h : r.val < 64 then if 2 ≤ n.val then up ⟨r.val, h⟩ d else 0 else u ⟨r.val - 64, by omega⟩ d
  else if h : r.val < 192 then u ⟨r.val + 64, by omega⟩ d else if n.val < 16 then down ⟨r.val - 192, by omega⟩ d else 0

section Cases

variable (n : Fin 17) (f : Fin 256 → Fin 1024 → EReal) (up down : Fin 64 → Fin 1024 → EReal) (r : Fin 256) (d : Fin 1024)

theorem shiftC_lo (h : d.val < 512) : shiftC f r d = if r.val = 0 then 0 else f ⟨(r.val + 255) % 256, by omega⟩ d := by
  unfold shiftC; rw [if_pos h]

theorem shiftC_hi (h : 512 ≤ d.val) : shiftC f r d = if r.val = 255 then 0 else f ⟨(r.val + 1) % 256, by omega⟩ d := by
  unfold shiftC; rw [if_neg (by omega : ¬ d.val < 512)]

theorem shiftL_left (h : d.val < 256) :
    shiftL n f up down r d = if r.val % 64 = 0 then 0 else f ⟨(r.val + 255) % 256, by omega⟩ d := by
  unfold shiftL; rw [if_pos h]

theorem shiftL_right (h : 256 ≤ d.val) (h' : d.val < 512) :
    shiftL n f up down r d = if r.val % 64 = 63 then 0 else f ⟨(r.val + 1) % 256, by omega⟩ d := by
  unfold shiftL; rw [if_neg (by omega : ¬ d.val < 256), if_pos h']

theorem shiftL_up0 (h : 512 ≤ d.val) (h' : d.val < 768) (hr : r.val < 64) :
    shiftL n f up down r d = if 2 ≤ n.val then up ⟨r.val, hr⟩ d else 0 := by
  unfold shiftL
  rw [if_neg (by omega : ¬ d.val < 256), if_neg (by omega : ¬ d.val < 512), if_pos h', dif_pos hr]

theorem shiftL_up (h : 512 ≤ d.val) (h' : d.val < 768) (hr : 64 ≤ r.val) :
    shiftL n f up down r d = f ⟨r.val - 64, by omega⟩ d := by
  unfold shiftL
  rw [if_neg (by omega : ¬ d.val < 256), if_neg (by omega : ¬ d.val < 512), if_pos h', dif_neg (by omega : ¬ r.val < 64)]

theorem shiftL_down (h : 768 ≤ d.val) (hr : r.val < 192) : shiftL n f up down r d = f ⟨r.val + 64, by omega⟩ d := by
  unfold shiftL
  rw [if_neg (by omega : ¬ d.val < 256), if_neg (by omega : ¬ d.val < 512), if_neg (by omega : ¬ d.val < 768), dif_pos hr]

theorem shiftL_down0 (h : 768 ≤ d.val) (hr : 192 ≤ r.val) :
    shiftL n f up down r d = if n.val < 16 then down ⟨r.val - 192, by omega⟩ d else 0 := by
  unfold shiftL
  rw [if_neg (by omega : ¬ d.val < 256), if_neg (by omega : ¬ d.val < 512), if_neg (by omega : ¬ d.val < 768),
    dif_neg (by omega : ¬ r.val < 192)]

end Cases

/-- The scratch read back, in the context's tile. -/
abbrev scratchC : FVec Ideal S256x1024 .f32 :=
  (View.whole cc0_scratch0).readCov (Val := Elt Ideal)
    [⟨Rect.unit (s := S256x1024) ![0, 512] ![256, 512] inb_S256x1024_S256x512_0_512, k0_pay19 (F := Ideal) ms x⟩,
      ⟨Rect.unit (s := S256x1024) ![0, 0] ![256, 512] inb_S256x1024_S256x512_0_0, k0_pay18 (F := Ideal) ms x⟩]
    (Rect.unit (s := S256x1024) ![0, 0] ![256, 1024] inb_S256x1024_S256x1024_0_0).toLoadRect

/-- The scratch read back, in the latents' tile `n`. -/
abbrev scratchL (n : Fin 17) (xp xn : FVec Ideal S1x64x1024 .f32) : FVec Ideal S256x1024 .f32 :=
  (View.whole cc0_scratch0).readCov (Val := Elt Ideal)
    [⟨Rect.unit (s := S256x1024) ![192, 768] ![64, 256] inb_S256x1024_S64x256_192_768,
        k0_pay13 (F := Ideal) (BitVec.ofNat 32 n.val) (k0_pay14 ms) xn⟩,
      ⟨Rect.unit (s := S256x1024) ![0, 768] ![192, 256] inb_S256x1024_S192x256_0_768, k0_pay12 (F := Ideal) (k0_pay15 ms x)⟩,
      ⟨Rect.unit (s := S256x1024) ![64, 512] ![192, 256] inb_S256x1024_S192x256_64_512, k0_pay11 (F := Ideal) (k0_pay15 ms x)⟩,
      ⟨Rect.unit (s := S256x1024) ![0, 512] ![64, 256] inb_S256x1024_S64x256_0_512,
        k0_pay10 (F := Ideal) (BitVec.ofNat 32 n.val) (k0_pay14 ms) (k0_pay7 xp) (k0_pay8 (k0_pay14 ms)) k0_pay9⟩,
      ⟨Rect.unit (s := S256x1024) ![0, 256] ![256, 256] inb_S256x1024_S256x256_0_256,
        k0_pay6 (F := Ideal) (iota Kind.tc S256x1 32 [0] iota_S256x1_d0_w32) (k0_pay17 ms x)⟩,
      ⟨Rect.unit (s := S256x1024) ![0, 0] ![256, 256] inb_S256x1024_S256x256_0_0,
        k0_pay5 (F := Ideal) (iota Kind.tc S256x1 32 [0] iota_S256x1_d0_w32) (k0_pay16 ms x)⟩]
    (Rect.unit (s := S256x1024) ![0, 0] ![256, 1024] inb_S256x1024_S256x1024_0_0).toLoadRect

theorem idx_whole (r : Fin 256) (d : Fin 1024) :
    (Rect.unit (s := S256x1024) ![0, 0] ![256, 1024] inb_S256x1024_S256x1024_0_0).toLoadRect.idx (ix2 r d) = ix2 r d := by
  funext a; fin_cases a
  · exact Fin.ext (by show 0 + 1 * r.val = r.val; omega)
  · exact Fin.ext (by show 0 + 1 * d.val = d.val; omega)

theorem eq_ix2 {a b : Nat} (z : Shape.Idx ⟨2, ![a, b]⟩) : z = ix2 (z 0) (z 1) := by
  funext k; fin_cases k <;> rfl

theorem scratchC_at (r : Fin 256) (d : Fin 1024) : scratchC ms x (ix2 r d) = shiftC (uRow ms x) r d := by
  unfold scratchC
  rw [View.readCov_eq_canon']
  refine (congrArg (View.canon _) (idx_whole r d)).trans ?_
  canon_tiles z h
  case piece0 =>
    refine (congrArg _ (eq_ix2 z)).trans ((pay19_at ms x _ _).trans ?_)
    obtain rfl : r = z 0 := Fin.ext h0
    obtain rfl : d = ⟨512 + (z 1).val, by clear h0 h1; omega⟩ := Fin.ext h1
    exact (shiftC_hi _ _ _ (Nat.le_add_right _ _)).symm
  case piece1 =>
    refine (congrArg _ (eq_ix2 z)).trans ((pay18_at ms x _ _).trans ?_)
    obtain rfl : r = z 0 := Fin.ext h0
    obtain rfl : d = ⟨(z 1).val, by clear h0 h1; omega⟩ := Fin.ext h1
    exact (shiftC_lo _ _ _ z1_lt).symm

theorem scratchL_at (n : Fin 17) (xp xn : FVec Ideal S1x64x1024 .f32) (r : Fin 256) (d : Fin 1024) :
    scratchL ms x n xp xn (ix2 r d) = shiftL n (uRow ms x) (hRow ms xp) (hRow ms xn) r d := by
  unfold scratchL
  rw [View.readCov_eq_canon']
  refine (congrArg (View.canon _) (idx_whole r d)).trans ?_
  canon_tiles z h using (View.cover_of_tiledBy _ ![64, 256] (by sl_kernel_rfl) _)
  case piece0 =>
    refine (congrArg _ (eq_ix2 z)).trans ((pay13_at ms xn n _ _).trans ?_)
    obtain rfl : r = ⟨192 + (z 0).val, by clear h0 h1; omega⟩ := Fin.ext h0
    obtain rfl : d = ⟨768 + (z 1).val, by clear h0 h1; omega⟩ := Fin.ext h1
    refine Eq.trans ?_ (shiftL_down0 _ _ _ _ _ _ (Nat.le_add_right _ _) (Nat.le_add_right _ _)).symm
    exact congrArg (fun e => if n.val < 16 then hRow ms xn e ⟨768 + (z 1).val, by omega⟩ else 0)
      (Fin.ext (by show (z 0).val = 192 + (z 0).val - 192; omega))
  case piece1 =>
    refine (congrArg _ (eq_ix2 z)).trans ((pay12_at _ _ _).trans ((pay15_at ms x _ _).trans ?_))
    obtain rfl : r = ⟨(z 0).val, by clear h0 h1; omega⟩ := Fin.ext h0
    obtain rfl : d = ⟨768 + (z 1).val, by clear h0 h1; omega⟩ := Fin.ext h1
    refine Eq.trans ?_ (shiftL_down _ _ _ _ _ _ (Nat.le_add_right _ _) z0_lt).symm
    exact congrArg (fun e => uRow ms x e ⟨768 + (z 1).val, by omega⟩) (Fin.ext (Nat.add_comm _ _))
  case piece2 =>
    refine (congrArg _ (eq_ix2 z)).trans ((pay11_at _ _ _).trans ((pay15_at ms x _ _).trans ?_))
    obtain rfl : r = ⟨64 + (z 0).val, by clear h0 h1; omega⟩ := Fin.ext h0
    obtain rfl : d = ⟨512 + (z 1).val, by clear h0 h1; omega⟩ := Fin.ext h1
    refine Eq.trans ?_ (shiftL_up _ _ _ _ _ _ (Nat.le_add_right _ _) (Nat.add_lt_add_left z1_lt 512) (Nat.le_add_right _ _)).symm
    exact congrArg (fun e => uRow ms x e ⟨512 + (z 1).val, by omega⟩)
      (Fin.ext (by show (z 0).val = 64 + (z 0).val - 64; omega))
  case piece3 =>
    refine (congrArg _ (eq_ix2 z)).trans ((pay10_at ms xp n _ _).trans ?_)
    obtain rfl : r = ⟨(z 0).val, by clear h0 h1; omega⟩ := Fin.ext h0
    obtain rfl : d = ⟨512 + (z 1).val, by clear h0 h1; omega⟩ := Fin.ext h1
    exact (shiftL_up0 n (uRow ms x) (hRow ms xp) (hRow ms xn) ⟨(z 0).val, by omega⟩ ⟨512 + (z 1).val, by omega⟩ (Nat.le_add_right _ _) (Nat.add_lt_add_left z1_lt 512) z0_lt).symm
  case piece4 =>
    refine (congrArg _ (eq_ix2 z)).trans ((pay6_at _ _ _).trans ?_)
    obtain rfl : r = z 0 := Fin.ext h0
    obtain rfl : d = ⟨256 + (z 1).val, by clear h0 h1; omega⟩ := Fin.ext h1
    refine Eq.trans ?_ (shiftL_right _ _ _ _ _ _ (Nat.le_add_right _ _) (Nat.add_lt_add_left z1_lt 256)).symm
    exact congrArg (fun e => if (z 0).val % 64 = 63 then 0 else e) (pay17_at ms x _ _)
  case piece5 =>
    refine (congrArg _ (eq_ix2 z)).trans ((pay5_at _ _ _).trans ?_)
    obtain rfl : r = z 0 := Fin.ext h0
    obtain rfl : d = ⟨(z 1).val, by clear h0 h1; omega⟩ := Fin.ext h1
    refine Eq.trans ?_ (shiftL_left _ _ _ _ _ _ z1_lt).symm
    exact congrArg (fun e => if (z 0).val % 64 = 0 then 0 else e) (pay16_at ms x _ _)

/-! ## A row of each result's block, of a shifted row -/

variable (s : Fin 1024 → EReal)

theorem mix_eq (r : Fin 256) (hs : ∀ k, sh (ix2 r k) = s k) (j : Fin 6) (k : Fin 1024) :
    k0_pay15 (F := Ideal) ms x (ix2 r k) + k0_pay20 (F := Ideal) ms x sh (ix2 r k) * mix (ix2 j k)
      = mixedRow (uRow ms x r) s (fun k => mix (ix2 j k)) k := by
  rw [pay20_at, pay15_at, hs k]
  rfl

theorem row8 (r : Fin 256) (hs : ∀ k, sh (ix2 r k) = s k) (d : Fin 1024) :
    k0_pay22 (F := Ideal) (k0_pay21 ms x sh mix w4) (ix3 0 r d)
      = proj (mixedRow (uRow ms x r) s (fun k => mix (ix2 0 k))) (fun k => w4 (ix3 0 k d)) :=
  (pay22_at _ r d).trans ((pay21_at ms x sh mix w4 r d).trans (congrArg (fun h => proj h _) (funext fun k => mix_eq ms x sh mix s r hs 0 k)))

theorem row9 (r : Fin 256) (hs : ∀ k, sh (ix2 r k) = s k) (d : Fin 1024) :
    k0_pay23 (F := Ideal) (k0_pay15 ms x) (k0_pay20 ms x sh) mix w4 (ix3 0 r d)
      = proj (mixedRow (uRow ms x r) s (fun k => mix (ix2 2 k))) (fun k => w4 (ix3 0 k d)) :=
  (pay23_at _ _ mix w4 r d).trans (congrArg (fun h => proj h _) (funext fun k => mix_eq ms x sh mix s r hs 2 k))

theorem row10 (r : Fin 256) (hs : ∀ k, sh (ix2 r k) = s k) (d : Fin 1024) :
    k0_pay24 (F := Ideal) (k0_pay15 ms x) (k0_pay20 ms x sh) mix w4 (ix3 0 r d)
      = proj (mixedRow (uRow ms x r) s (fun k => mix (ix2 3 k))) (fun k => w4 (ix3 0 k d)) :=
  (pay24_at _ _ mix w4 r d).trans (congrArg (fun h => proj h _) (funext fun k => mix_eq ms x sh mix s r hs 3 k))

theorem row11 (r : Fin 256) (hs : ∀ k, sh (ix2 r k) = s k) (d : Fin 1024) :
    k0_pay1 (F := Ideal) (k0_pay25 (k0_pay15 ms x) (k0_pay20 ms x sh) mix w4) (ix3 0 r d)
      = proj (mixedRow (uRow ms x r) s (fun k => mix (ix2 5 k))) (fun k => w4 (ix3 0 k d)) :=
  (pay1_at _ r d).trans ((pay25_at _ _ mix w4 r d).trans (congrArg (fun h => proj h _) (funext fun k => mix_eq ms x sh mix s r hs 5 k)))

theorem row12 (r : Fin 256) (hs : ∀ k, sh (ix2 r k) = s k) (d : Fin 128) :
    k0_pay2 (F := Ideal) (k0_pay15 ms x) (k0_pay20 ms x sh) mix w (ix3 0 r d)
      = Ideal.tanh (proj (mixedRow (uRow ms x r) s (fun k => mix (ix2 1 k))) (fun k => w (ix2 k d))) :=
  (pay2_at _ _ mix w r d).trans (congrArg (fun h => Ideal.tanh (proj h _)) (funext fun k => mix_eq ms x sh mix s r hs 1 k))

theorem row13 (r : Fin 256) (hs : ∀ k, sh (ix2 r k) = s k) (d : Fin 128) :
    k0_pay3 (F := Ideal) (k0_pay15 ms x) (k0_pay20 ms x sh) mix w (ix3 0 r d)
      = proj (mixedRow (uRow ms x r) s (fun k => mix (ix2 4 k))) (fun k => w (ix2 k d)) :=
  (pay3_at _ _ mix w r d).trans (congrArg (fun h => proj h _) (funext fun k => mix_eq ms x sh mix s r hs 4 k))

end Body

end Cert.RkIn
-- ==== Proof.RkIn.Kernel.lean ====
/- The RWKV-7 input call's result arrays. -/
module

public import proofs.«01_k».proof.Proof.RkIn.Body

@[expose] public section

set_option maxRecDepth 16384

noncomputable section

open Idealize.ShloMosaic Idealize.ShloMosaic.TcCoe Idealize.SL.Sem
open Idealize.ShloMosaic.Pipeline (Dat)

namespace Cert.RkIn

open Cert.KernelRkInIdeal Cert.KernelRkInIdeal.Gen
open Cert.RetIn (modulated proj modOf rowOf)

variable (m : (ℓ : Loc nD τ sig) → Buf (Elt Ideal) ℓ)

/-! ## The shifted rows of the array -/

/-- A row of the array shifted: the context along its sequence, the latents on their grid of 64 columns. -/
def shifted (H : Fin 4352 → Fin 1024 → EReal) (i : Fin 4352) (d : Fin 1024) : EReal :=
  if i.val < 256 then
    if d.val < 512 then if i.val = 0 then 0 else H ⟨(i.val + 4351) % 4352, by omega⟩ d
    else if i.val = 255 then 0 else H ⟨(i.val + 1) % 4352, by omega⟩ d
  else if d.val < 256 then if i.val % 64 = 0 then 0 else H ⟨(i.val + 4351) % 4352, by omega⟩ d
  else if d.val < 512 then if i.val % 64 = 63 then 0 else H ⟨(i.val + 1) % 4352, by omega⟩ d
  else if d.val < 768 then if i.val < 320 then 0 else H ⟨(i.val + 4288) % 4352, by omega⟩ d
  else if 4288 ≤ i.val then 0 else H ⟨(i.val + 64) % 4352, by omega⟩ d

section Shift

variable (H : Fin 4352 → Fin 1024 → EReal) (f : Fin 256 → Fin 1024 → EReal) (up down : Fin 64 → Fin 1024 → EReal)

theorem if_zero_congr {p q : Prop} [Decidable p] [Decidable q] {a b : EReal} (hpq : p ↔ q) (hab : ¬ q → a = b) :
    (if p then 0 else a) = if q then 0 else b := by
  by_cases hq : q
  · rw [if_pos hq, if_pos (hpq.mpr hq)]
  · rw [if_neg hq, if_neg (fun h => hq (hpq.mp h)), hab hq]

theorem shiftC_eq (i : Fin 4352) (r : Fin 256) (d : Fin 1024) (hi : i.val = r.val)
    (hf : ∀ (r' : Fin 256) (i' : Fin 4352), i'.val = r'.val → f r' d = H i' d) :
    shiftC f r d = shifted H i d := by
  unfold shifted
  rw [if_pos (by omega : i.val < 256)]
  by_cases h : d.val < 512
  · rw [shiftC_lo f r d h, if_pos h]
    exact if_zero_congr (by omega) fun hq => hf _ _ (by show (i.val + 4351) % 4352 = (r.val + 255) % 256; omega)
  · rw [shiftC_hi f r d (by omega), if_neg h]
    exact if_zero_congr (by omega) fun hq => hf _ _ (by show (i.val + 1) % 4352 = (r.val + 1) % 256; omega)

theorem shiftL_eq (n : Fin 17) (hn : 1 ≤ n.val) (i : Fin 4352) (r : Fin 256) (d : Fin 1024) (hi : i.val = n.val * 256 + r.val)
    (hf : ∀ (r' : Fin 256) (i' : Fin 4352), i'.val = n.val * 256 + r'.val → f r' d = H i' d)
    (hup : 2 ≤ n.val → ∀ (r' : Fin 64) (i' : Fin 4352), i'.val + 64 = n.val * 256 + r'.val → up r' d = H i' d)
    (hdown : n.val < 16 → ∀ (r' : Fin 64) (i' : Fin 4352), i'.val = n.val * 256 + 256 + r'.val → down r' d = H i' d) :
    shiftL n f up down r d = shifted H i d := by
  unfold shifted
  rw [if_neg (by omega : ¬ i.val < 256)]
  by_cases h : d.val < 256
  · rw [shiftL_left n f up down r d h, if_pos h]
    exact if_zero_congr (by omega) fun hq => hf _ _ (by show (i.val + 4351) % 4352 = n.val * 256 + (r.val + 255) % 256; omega)
  rw [if_neg h]
  by_cases h' : d.val < 512
  · rw [shiftL_right n f up down r d (by omega) h', if_pos h']
    exact if_zero_congr (by omega) fun hq => hf _ _ (by show (i.val + 1) % 4352 = n.val * 256 + (r.val + 1) % 256; omega)
  rw [if_neg h']
  by_cases h2 : d.val < 768
  · rw [if_pos h2]
    by_cases hr : r.val < 64
    · rw [shiftL_up0 n f up down r d (by omega) h2 hr]
      by_cases hn2 : 2 ≤ n.val
      · rw [if_pos hn2, if_neg (by omega : ¬ i.val < 320)]
        exact hup hn2 _ _ (by show (i.val + 4288) % 4352 + 64 = n.val * 256 + r.val; omega)
      · rw [if_neg hn2, if_pos (by omega : i.val < 320)]
    · rw [shiftL_up n f up down r d (by omega) h2 (by omega), if_neg (by omega : ¬ i.val < 320)]
      exact hf _ _ (by show (i.val + 4288) % 4352 = n.val * 256 + (r.val - 64); omega)
  rw [if_neg h2]
  by_cases hr : r.val < 192
  · rw [shiftL_down n f up down r d (by omega) hr, if_neg (by omega : ¬ 4288 ≤ i.val)]
    exact hf _ _ (by show (i.val + 64) % 4352 = n.val * 256 + (r.val + 64); omega)
  · rw [shiftL_down0 n f up down r d (by omega) (by omega)]
    by_cases hn2 : n.val < 16
    · rw [if_pos hn2, if_neg (by omega : ¬ 4288 ≤ i.val)]
      exact hdown hn2 _ _ (by show (i.val + 64) % 4352 = n.val * 256 + 256 + (r.val - 192); omega)
    · rw [if_neg hn2, if_pos (by omega : 4288 ≤ i.val)]

end Shift

/-! ## The blocks read -/

theorem idx : ∀ t : Fin cfg0.N, win0_0.index t = ![(grid0.coords t 0).val, (grid0.coords t 1).val, 0]
    ∧ win0_1.index t = ![(grid0.coords t 0).val, (grid0.coords t 1).val * 4 - 1, 0]
    ∧ win0_2.index t = ![(grid0.coords t 0).val, min (((grid0.coords t 1).val + 1) * 4) 67, 0]
    ∧ win0_3.index t = ![(grid0.coords t 0).val, min (grid0.coords t 1).val 1, 0, 0]
    ∧ win0_4.index t = ![0, 0] ∧ win0_5.index t = ![0, 0, 0] ∧ win0_6.index t = ![0, 0] ∧ win0_7.index t = ![0, 0]
    ∧ (grid0.coords t 0).val < 8 ∧ (grid0.coords t 1).val < 17 ∧ (grid0.coords t 1).val = t.val % 17 :=
  (by decide +kernel : ∀ t : Fin grid0.N, _)

theorem idxo : ∀ t : Fin cfg0.N, win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0] :=
  (by decide +kernel : ∀ t : Fin grid0.N, _)

/-- The batch, the tile and the row of the array that a point's block row is. -/
def bAt (t : Fin cfg0.N) : Fin 8 := ⟨(grid0.coords t 0).val, (idx t).2.2.2.2.2.2.2.2.1⟩
def nAt (t : Fin cfg0.N) : Fin 17 := ⟨(grid0.coords t 1).val, (idx t).2.2.2.2.2.2.2.2.2.1⟩
def rAt (t : Fin cfg0.N) (r : Fin 256) : Fin 4352 :=
  ⟨(grid0.coords t 1).val * 256 + r.val, by have := (idx t).2.2.2.2.2.2.2.2.2.1; omega⟩

section Reads

variable (c : Dev nD) (t : Fin cfg0.N)

theorem rd_x (r : Fin 256) (d : Fin 1024) :
    (iblk m c 0 t : FVec Ideal S1x256x1024 .f32) (ix3 0 r d) = m ((c : Thread nD τ).loc main_arg0) (ix3 (bAt t) (rAt t r) d) := by
  blk_ext [iblk, V, idx t, bAt, rAt]

theorem rd_xp (r : Fin 64) (d : Fin 1024) (h : 1 ≤ (nAt t).val) (i : Fin 4352) (hi : i.val + 64 = (nAt t).val * 256 + r.val) :
    (iblk m c 1 t : FVec Ideal S1x64x1024 .f32) (ix3 0 r d) = m ((c : Thread nD τ).loc main_arg0) (ix3 (bAt t) i d) := by
  have h' : 1 ≤ (grid0.coords t 1).val := h
  have hi' : i.val = ((grid0.coords t 1).val * 4 - 1) * 64 + r.val := by
    have : i.val + 64 = (grid0.coords t 1).val * 256 + r.val := hi
    omega
  blk_ext [iblk, V, idx t, bAt, hi']

theorem rd_xn (r : Fin 64) (d : Fin 1024) (h : (nAt t).val < 16) (i : Fin 4352) (hi : i.val = (nAt t).val * 256 + 256 + r.val) :
    (iblk m c 2 t : FVec Ideal S1x64x1024 .f32) (ix3 0 r d) = m ((c : Thread nD τ).loc main_arg0) (ix3 (bAt t) i d) := by
  have hi' : i.val = min (((grid0.coords t 1).val + 1) * 4) 67 * 64 + r.val := by
    have h1 : i.val = (grid0.coords t 1).val * 256 + 256 + r.val := hi
    have h2 : (grid0.coords t 1).val < 16 := h
    omega
  blk_ext [iblk, V, idx t, bAt, hi']

theorem rd_mix (j : Fin 6) (k : Fin 1024) :
    (iblk m c 4 t : FVec Ideal S6x1024 .f32) (ix2 j k) = m ((c : Thread nD τ).loc main_arg3) (ix2 j k) := by
  blk_ext [iblk, V, idx t]

/-! The arrays that the host code prepares. -/

theorem V_w4 (j : Fin 4) (k d : Fin 1024) :
    (V m c main_v6 : FVec Ideal S4x1024x1024 .bf16) (ix3 j k d) = m ((c : Thread nD τ).loc main_arg4) (ix3 j k d) := by
  entry_read; pointwise

/-- The low-rank weights of the two directions side by side. -/
def sideBySide (w : FVec Ideal S2x1024x64 .f32) (k : Fin 1024) (d : Fin 128) : EReal :=
  w (ix3 ⟨d.val / 64, by omega⟩ k ⟨d.val % 64, by omega⟩)

/-- The host code's join of the two directions' weights. -/
def joinDirs (w : FVec Ideal S2x1024x64 .f32) : FVec Ideal S1024x128 .f32 :=
  concatenate S1024x128 1
    [⟨S1024x64, shapeCast S1024x64 (extractStridedSlice S1x1024x64 ![0, 0, 0] w slices_S2x1024x64_S1x1024x64_0_0_0) shapeCasts_S1x1024x64_S1024x64⟩,
     ⟨S1024x64, shapeCast S1024x64 (extractStridedSlice S1x1024x64 ![1, 0, 0] w slices_S2x1024x64_S1x1024x64_1_0_0) shapeCasts_S1x1024x64_S1024x64⟩]
    concatenates_S1024x64_S1024x64_S1024x128_d1

theorem joinDirs_at (w : FVec Ideal S2x1024x64 .f32) (k : Fin 1024) (d : Fin 128) : joinDirs w (ix2 k d) = sideBySide w k d := by
  unfold sideBySide
  by_cases h : d.val < 64
  · have h0 : (⟨d.val / 64, by omega⟩ : Fin 2) = 0 := Fin.ext (by show d.val / 64 = 0; omega)
    have h1 : (⟨d.val % 64, by omega⟩ : Fin 64) = ⟨d.val, h⟩ := Fin.ext (by show d.val % 64 = d.val; omega)
    rw [h0, h1]
    pointwise [joinDirs]
    exact dif_pos h
  · have h0 : (⟨d.val / 64, by omega⟩ : Fin 2) = 1 := Fin.ext (by show d.val / 64 = 1; omega)
    have h1 : (⟨d.val % 64, by omega⟩ : Fin 64) = ⟨d.val - 64, by omega⟩ := Fin.ext (by show d.val % 64 = d.val - 64; omega)
    rw [h0, h1]
    pointwise [joinDirs]
    exact dif_neg h

theorem V_w1 (k : Fin 1024) (d : Fin 128) :
    (V m c main_v12 : FVec Ideal S1024x128 .bf16) (ix2 k d) = sideBySide (m ((c : Thread nD τ).loc main_arg5)) k d := by
  refine Eq.trans (b := joinDirs (m ((c : Thread nD τ).loc main_arg5)) (ix2 k d)) ?_ (joinDirs_at _ k d)
  entry_read; rfl

theorem V_a1 (k : Fin 1024) (d : Fin 128) :
    (V m c main_v18 : FVec Ideal S1024x128 .bf16) (ix2 k d) = sideBySide (m ((c : Thread nD τ).loc main_arg6)) k d := by
  refine Eq.trans (b := joinDirs (m ((c : Thread nD τ).loc main_arg6)) (ix2 k d)) ?_ (joinDirs_at _ k d)
  entry_read; rfl

theorem V_ms (b : Fin 8) (s : Fin 2) (e : Fin 3) (d : Fin 1024) :
    (V m c main_v5 : FVec Ideal S8x2x3x1024 .f32) (ix4 b s e d)
      = if s.val < 1 then (m ((c : Thread nD τ).loc main_arg2) : FVec Ideal S3072 .f32) (ix1 ⟨e.val * 1024 + d.val, by omega⟩)
        else (m ((c : Thread nD τ).loc main_arg1) : FVec Ideal S8x3072 .f32) (ix2 b ⟨e.val * 1024 + d.val, by omega⟩) := by
  entry_read; pointwise; rfl

theorem rd_w4 (j : Fin 4) (k d : Fin 1024) :
    (iblk m c 5 t : FVec Ideal S4x1024x1024 .bf16) (ix3 j k d) = m ((c : Thread nD τ).loc main_arg4) (ix3 j k d) :=
  Eq.trans (by blk_ext [iblk, idx t]) (V_w4 m c j k d)

theorem rd_w1 (k : Fin 1024) (d : Fin 128) :
    (iblk m c 6 t : FVec Ideal S1024x128 .bf16) (ix2 k d) = sideBySide (m ((c : Thread nD τ).loc main_arg5)) k d :=
  Eq.trans (by blk_ext [iblk, idx t]) (V_w1 m c k d)

theorem rd_a1 (k : Fin 1024) (d : Fin 128) :
    (iblk m c 7 t : FVec Ideal S1024x128 .bf16) (ix2 k d) = sideBySide (m ((c : Thread nD τ).loc main_arg6)) k d :=
  Eq.trans (by blk_ext [iblk, idx t]) (V_a1 m c k d)

theorem rd_ms (e : Fin 3) (d : Fin 1024) (i : Fin 4352) (hi : i.val < 256 ↔ (nAt t).val = 0) :
    (iblk m c 3 t : FVec Ideal S1x1x3x1024 .f32) (ix4 0 0 e d)
      = modOf e (m ((c : Thread nD τ).loc main_arg1)) (m ((c : Thread nD τ).loc main_arg2)) (bAt t) i d := by
  refine Eq.trans (b := (V m c main_v5 : FVec Ideal S8x2x3x1024 .f32)
    (ix4 (bAt t) ⟨min (grid0.coords t 1).val 1, by omega⟩ e d)) (by blk_ext [iblk, idx t, bAt]) ((V_ms m c _ _ _ _).trans ?_)
  unfold modOf
  by_cases h : (grid0.coords t 1).val = 0
  · rw [if_pos (by show min _ 1 < 1; omega), if_pos (hi.mpr h)]
  · rw [if_neg (by show ¬ min _ 1 < 1; omega), if_neg (fun h' => h (hi.mp h'))]

end Reads

/-! ## The result arrays -/

/-- The rows of a batch, modulated. -/
abbrev rows (c : Dev nD) (b : Fin 8) : Fin 4352 → Fin 1024 → EReal :=
  rowOf (m ((c : Thread nD τ).loc main_arg0)) (m ((c : Thread nD τ).loc main_arg1)) (m ((c : Thread nD τ).loc main_arg2)) b

theorem row_at (c : Dev nD) (t : Fin cfg0.N) (r : Fin 256) (i : Fin 4352) (hi : i.val = (nAt t).val * 256 + r.val) :
    uRow (iblk m c 3 t) (iblk m c 0 t) r = rows m c (bAt t) i := by
  have hm : i.val < 256 ↔ (nAt t).val = 0 := by omega
  obtain rfl : i = rAt t r := Fin.ext hi
  funext k
  exact congrArg₂ (· + ·) (congrArg₂ (fun a b => a * (1 + b)) (rd_x m c t r k) (rd_ms m c t 1 k _ hm)) (rd_ms m c t 0 k _ hm)

theorem up_at (c : Dev nD) (t : Fin cfg0.N) (h : 2 ≤ (nAt t).val) (r : Fin 64) (i : Fin 4352)
    (hi : i.val + 64 = (nAt t).val * 256 + r.val) : hRow (iblk m c 3 t) (iblk m c 1 t) r = rows m c (bAt t) i := by
  have hm : i.val < 256 ↔ (nAt t).val = 0 := by omega
  funext k
  exact congrArg₂ (· + ·) (congrArg₂ (fun a b => a * (1 + b)) (rd_xp m c t r k (by omega) i hi) (rd_ms m c t 1 k _ hm)) (rd_ms m c t 0 k _ hm)

theorem down_at (c : Dev nD) (t : Fin cfg0.N) (h0 : 1 ≤ (nAt t).val) (h : (nAt t).val < 16) (r : Fin 64) (i : Fin 4352)
    (hi : i.val = (nAt t).val * 256 + 256 + r.val) : hRow (iblk m c 3 t) (iblk m c 2 t) r = rows m c (bAt t) i := by
  have hm : i.val < 256 ↔ (nAt t).val = 0 := by omega
  funext k
  exact congrArg₂ (· + ·) (congrArg₂ (fun a b => a * (1 + b)) (rd_xn m c t r k h i hi) (rd_ms m c t 1 k _ hm)) (rd_ms m c t 0 k _ hm)

theorem shiftA (c : Dev nD) (t : Fin cfg0.N) (h : t.val % 17 = 0) (r : Fin 256) (k : Fin 1024) :
    scratchC (iblk m c 3 t) (iblk m c 0 t) (ix2 r k) = shifted (rows m c (bAt t)) (rAt t r) k := by
  have hn : (nAt t).val = 0 := (idx t).2.2.2.2.2.2.2.2.2.2.trans h
  refine (scratchC_at _ _ r k).trans (shiftC_eq _ _ _ r k ?_ fun r' i' hi => congrFun (row_at m c t r' i' (by omega)) k)
  show (nAt t).val * 256 + r.val = r.val
  omega

theorem shiftB (c : Dev nD) (t : Fin cfg0.N) (h : ¬ t.val % 17 = 0) (r : Fin 256) (k : Fin 1024) :
    scratchL (iblk m c 3 t) (iblk m c 0 t) (nAt t) (iblk m c 1 t) (iblk m c 2 t) (ix2 r k)
      = shifted (rows m c (bAt t)) (rAt t r) k := by
  have hn : 1 ≤ (nAt t).val := by
    have : (nAt t).val = t.val % 17 := (idx t).2.2.2.2.2.2.2.2.2.2
    omega
  exact (scratchL_at _ _ (nAt t) _ _ r k).trans (shiftL_eq _ _ _ _ (nAt t) hn (rAt t r) r k rfl
    (fun r' i' hi => congrFun (row_at m c t r' i' hi) k) (fun h2 r' i' hi => congrFun (up_at m c t h2 r' i' hi) k)
    (fun h2 r' i' hi => congrFun (down_at m c t hn h2 r' i' hi) k))

/-- A row of the array mixed with its shifted row, by row `j` of the mixing weights. -/
def mixedAt (c : Dev nD) (j : Fin 6) (b : Fin 8) (i : Fin 4352) : Fin 1024 → EReal :=
  mixedRow (rows m c b i) (shifted (rows m c b) i) (fun k => (m ((c : Thread nD τ).loc main_arg3) : FVec Ideal S6x1024 .f32) (ix2 j k))

theorem mixed_eq (c : Dev nD) (t : Fin cfg0.N) (r : Fin 256) (j : Fin 6) :
    mixedRow (uRow (iblk m c 3 t) (iblk m c 0 t) r) (shifted (rows m c (bAt t)) (rAt t r))
        (fun k => (iblk m c 4 t : FVec Ideal S6x1024 .f32) (ix2 j k))
      = mixedAt m c j (bAt t) (rAt t r) := by
  unfold mixedAt
  rw [row_at m c t r (rAt t r) rfl]
  exact congrArg (mixedRow _ _) (funext fun k => rd_mix m c t j k)

def result8 (c : Dev nD) : FVec Ideal S8x4352x1024 .f32 := fun i =>
  proj (mixedAt m c 0 (i 0) (i 1)) (fun k => (m ((c : Thread nD τ).loc main_arg4) : FVec Ideal S4x1024x1024 .f32) (ix3 0 k (i 2)))

def result9 (c : Dev nD) : FVec Ideal S8x4352x1024 .f32 := fun i =>
  proj (mixedAt m c 2 (i 0) (i 1)) (fun k => (m ((c : Thread nD τ).loc main_arg4) : FVec Ideal S4x1024x1024 .f32) (ix3 1 k (i 2)))

def result10 (c : Dev nD) : FVec Ideal S8x4352x1024 .f32 := fun i =>
  proj (mixedAt m c 3 (i 0) (i 1)) (fun k => (m ((c : Thread nD τ).loc main_arg4) : FVec Ideal S4x1024x1024 .f32) (ix3 2 k (i 2)))

def result11 (c : Dev nD) : FVec Ideal S8x4352x1024 .f32 := fun i =>
  proj (mixedAt m c 5 (i 0) (i 1)) (fun k => (m ((c : Thread nD τ).loc main_arg4) : FVec Ideal S4x1024x1024 .f32) (ix3 3 k (i 2)))

def result12 (c : Dev nD) : FVec Ideal S8x4352x128 .f32 := fun i =>
  Ideal.tanh (proj (mixedAt m c 1 (i 0) (i 1)) (fun k => sideBySide (m ((c : Thread nD τ).loc main_arg5)) k (i 2)))

def result13 (c : Dev nD) : FVec Ideal S8x4352x128 .f32 := fun i =>
  proj (mixedAt m c 4 (i 0) (i 1)) (fun k => sideBySide (m ((c : Thread nD τ).loc main_arg6)) k (i 2))

theorem value8 (c : Dev nD) (t : Fin cfg0.N) (r : Fin 256) (d : Fin 1024) :
    (outsAt0 m c t.val t.isLt).1 (ix3 0 r d) = result8 m c (ix3 (bAt t) (rAt t r) d) := by
  by_cases h : t.val % 17 = 0
  · rw [outsAt0_A m c t h (by omega)]
    frame_out
    exact (row8 _ _ _ _ _ _ r (shiftA m c t h r) d).trans
      (congrArg₂ proj (mixed_eq m c t r 0) (funext fun k => Eq.trans (by pointwise) (rd_w4 m c t 0 k d)))
  · rw [outsAt0_B m c t h (by omega)]
    frame_out
    exact (row8 _ _ _ _ _ _ r (shiftB m c t h r) d).trans
      (congrArg₂ proj (mixed_eq m c t r 0) (funext fun k => Eq.trans (by pointwise) (rd_w4 m c t 0 k d)))

theorem final8 (c : Dev nD) : (dats m 0 c).arrAt 8 (cfgs 0).N = result8 m c := by
  refine (dats m 0 c).arrAt_eq_of_covers 8 _ (by decide +kernel) fun t _ y => ?_
  blk_simp
  rw [after0_8]
  have hy : y = ix3 (n0 := 1) (n1 := 256) (n2 := 1024) 0 (y 1) (y 2) := by
    funext a; fin_cases a
    · exact Subsingleton.elim (α := Fin 1) _ _
    · rfl
    · rfl
  refine (congrArg _ hy).trans ((value8 m c t (y 1) (y 2)).trans (congrArg (result8 m c) ?_))
  blk_ext [idxo t, bAt, rAt]

theorem value9 (c : Dev nD) (t : Fin cfg0.N) (r : Fin 256) (d : Fin 1024) :
    (outsAt0 m c t.val t.isLt).2.1 (ix3 0 r d) = result9 m c (ix3 (bAt t) (rAt t r) d) := by
  by_cases h : t.val % 17 = 0
  · rw [outsAt0_A m c t h (by omega)]
    frame_out
    exact (row9 _ _ _ _ _ _ r (shiftA m c t h r) d).trans
      (congrArg₂ proj (mixed_eq m c t r 2) (funext fun k => Eq.trans (by pointwise) (rd_w4 m c t 1 k d)))
  · rw [outsAt0_B m c t h (by omega)]
    frame_out
    exact (row9 _ _ _ _ _ _ r (shiftB m c t h r) d).trans
      (congrArg₂ proj (mixed_eq m c t r 2) (funext fun k => Eq.trans (by pointwise) (rd_w4 m c t 1 k d)))

theorem final9 (c : Dev nD) : (dats m 0 c).arrAt 9 (cfgs 0).N = result9 m c := by
  refine (dats m 0 c).arrAt_eq_of_covers 9 _ (by decide +kernel) fun t _ y => ?_
  blk_simp
  rw [after0_9]
  have hy : y = ix3 (n0 := 1) (n1 := 256) (n2 := 1024) 0 (y 1) (y 2) := by
    funext a; fin_cases a
    · exact Subsingleton.elim (α := Fin 1) _ _
    · rfl
    · rfl
  refine (congrArg _ hy).trans ((value9 m c t (y 1) (y 2)).trans (congrArg (result9 m c) ?_))
  blk_ext [idxo t, bAt, rAt]

theorem value10 (c : Dev nD) (t : Fin cfg0.N) (r : Fin 256) (d : Fin 1024) :
    (outsAt0 m c t.val t.isLt).2.2.1 (ix3 0 r d) = result10 m c (ix3 (bAt t) (rAt t r) d) := by
  by_cases h : t.val % 17 = 0
  · rw [outsAt0_A m c t h (by omega)]
    frame_out
    exact (row10 _ _ _ _ _ _ r (shiftA m c t h r) d).trans
      (congrArg₂ proj (mixed_eq m c t r 3) (funext fun k => Eq.trans (by pointwise) (rd_w4 m c t 2 k d)))
  · rw [outsAt0_B m c t h (by omega)]
    frame_out
    exact (row10 _ _ _ _ _ _ r (shiftB m c t h r) d).trans
      (congrArg₂ proj (mixed_eq m c t r 3) (funext fun k => Eq.trans (by pointwise) (rd_w4 m c t 2 k d)))

theorem final10 (c : Dev nD) : (dats m 0 c).arrAt 10 (cfgs 0).N = result10 m c := by
  refine (dats m 0 c).arrAt_eq_of_covers 10 _ (by decide +kernel) fun t _ y => ?_
  blk_simp
  rw [after0_10]
  have hy : y = ix3 (n0 := 1) (n1 := 256) (n2 := 1024) 0 (y 1) (y 2) := by
    funext a; fin_cases a
    · exact Subsingleton.elim (α := Fin 1) _ _
    · rfl
    · rfl
  refine (congrArg _ hy).trans ((value10 m c t (y 1) (y 2)).trans (congrArg (result10 m c) ?_))
  blk_ext [idxo t, bAt, rAt]

theorem value11 (c : Dev nD) (t : Fin cfg0.N) (r : Fin 256) (d : Fin 1024) :
    (outsAt0 m c t.val t.isLt).2.2.2.1 (ix3 0 r d) = result11 m c (ix3 (bAt t) (rAt t r) d) := by
  by_cases h : t.val % 17 = 0
  · rw [outsAt0_A m c t h (by omega)]
    frame_out
    exact (row11 _ _ _ _ _ _ r (shiftA m c t h r) d).trans
      (congrArg₂ proj (mixed_eq m c t r 5) (funext fun k => Eq.trans (by pointwise) (rd_w4 m c t 3 k d)))
  · rw [outsAt0_B m c t h (by omega)]
    frame_out
    exact (row11 _ _ _ _ _ _ r (shiftB m c t h r) d).trans
      (congrArg₂ proj (mixed_eq m c t r 5) (funext fun k => Eq.trans (by pointwise) (rd_w4 m c t 3 k d)))

theorem final11 (c : Dev nD) : (dats m 0 c).arrAt 11 (cfgs 0).N = result11 m c := by
  refine (dats m 0 c).arrAt_eq_of_covers 11 _ (by decide +kernel) fun t _ y => ?_
  blk_simp
  rw [after0_11]
  have hy : y = ix3 (n0 := 1) (n1 := 256) (n2 := 1024) 0 (y 1) (y 2) := by
    funext a; fin_cases a
    · exact Subsingleton.elim (α := Fin 1) _ _
    · rfl
    · rfl
  refine (congrArg _ hy).trans ((value11 m c t (y 1) (y 2)).trans (congrArg (result11 m c) ?_))
  blk_ext [idxo t, bAt, rAt]

theorem value12 (c : Dev nD) (t : Fin cfg0.N) (r : Fin 256) (d : Fin 128) :
    (outsAt0 m c t.val t.isLt).2.2.2.2.1 (ix3 0 r d) = result12 m c (ix3 (bAt t) (rAt t r) d) := by
  by_cases h : t.val % 17 = 0
  · rw [outsAt0_A m c t h (by omega)]
    frame_out
    exact (row12 _ _ _ _ _ _ r (shiftA m c t h r) d).trans
      (congrArg Ideal.tanh (congrArg₂ proj (mixed_eq m c t r 1) (funext fun k => rd_w1 m c t k d)))
  · rw [outsAt0_B m c t h (by omega)]
    frame_out
    exact (row12 _ _ _ _ _ _ r (shiftB m c t h r) d).trans
      (congrArg Ideal.tanh (congrArg₂ proj (mixed_eq m c t r 1) (funext fun k => rd_w1 m c t k d)))

theorem final12 (c : Dev nD) : (dats m 0 c).arrAt 12 (cfgs 0).N = result12 m c := by
  refine (dats m 0 c).arrAt_eq_of_covers 12 _ (by decide +kernel) fun t _ y => ?_
  blk_simp
  rw [after0_12]
  have hy : y = ix3 (n0 := 1) (n1 := 256) (n2 := 128) 0 (y 1) (y 2) := by
    funext a; fin_cases a
    · exact Subsingleton.elim (α := Fin 1) _ _
    · rfl
    · rfl
  refine (congrArg _ hy).trans ((value12 m c t (y 1) (y 2)).trans (congrArg (result12 m c) ?_))
  blk_ext [idxo t, bAt, rAt]

theorem value13 (c : Dev nD) (t : Fin cfg0.N) (r : Fin 256) (d : Fin 128) :
    (outsAt0 m c t.val t.isLt).2.2.2.2.2 (ix3 0 r d) = result13 m c (ix3 (bAt t) (rAt t r) d) := by
  by_cases h : t.val % 17 = 0
  · rw [outsAt0_A m c t h (by omega)]
    frame_out
    exact (row13 _ _ _ _ _ _ r (shiftA m c t h r) d).trans
      (congrArg₂ proj (mixed_eq m c t r 4) (funext fun k => rd_a1 m c t k d))
  · rw [outsAt0_B m c t h (by omega)]
    frame_out
    exact (row13 _ _ _ _ _ _ r (shiftB m c t h r) d).trans
      (congrArg₂ proj (mixed_eq m c t r 4) (funext fun k => rd_a1 m c t k d))

theorem final13 (c : Dev nD) : (dats m 0 c).arrAt 13 (cfgs 0).N = result13 m c := by
  refine (dats m 0 c).arrAt_eq_of_covers 13 _ (by decide +kernel) fun t _ y => ?_
  blk_simp
  rw [after0_13]
  have hy : y = ix3 (n0 := 1) (n1 := 256) (n2 := 128) 0 (y 1) (y 2) := by
    funext a; fin_cases a
    · exact Subsingleton.elim (α := Fin 1) _ _
    · rfl
    · rfl
  refine (congrArg _ hy).trans ((value13 m c t (y 1) (y 2)).trans (congrArg (result13 m c) ?_))
  blk_ext [idxo t, bAt, rAt]

/-- The run: the result arrays, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v19_0) = result8 m c
      ∧ r.2.mem ((c.tc : Thread nD τ).loc main_v19_1) = result9 m c
      ∧ r.2.mem ((c.tc : Thread nD τ).loc main_v19_2) = result10 m c
      ∧ r.2.mem ((c.tc : Thread nD τ).loc main_v19_3) = result11 m c
      ∧ r.2.mem ((c.tc : Thread nD τ).loc main_v19_4) = result12 m c
      ∧ r.2.mem ((c.tc : Thread nD τ).loc main_v19_5) = result13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 8).trans (final8 m c), ((h.1 c).1 9).trans (final9 m c), ((h.1 c).1 10).trans (final10 m c), ((h.1 c).1 11).trans (final11 m c), ((h.1 c).1 12).trans (final12 m c), ((h.1 c).1 13).trans (final13 m c), h.2 c⟩)
    (θ_run_and (run_main m ρ) (unchanged m ρ))

end Cert.RkIn
-- ==== Proof.RkIn.Shift.lean ====
/- The RWKV-7 input call's reference: modulation and the shift of each stream. -/
module

public import proofs.«01_k».proof.Proof.RkIn.Kernel
public import proofs.«01_k».proof.Proof.RetIn.Reference
public import proofs.«01_k».proof.Proof.Gen.ReferenceRkInIdeal
public import Idealize.ShloMosaic.Lib.Pipeline.Value
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.RkInRef

open Cert.ReferenceRkInIdeal Cert.ReferenceRkInIdeal.Gen
open Cert.RetIn (modulated proj rowOf modOf)
open Cert.RkIn (mixedRow shiftC shifted sideBySide)

/-! ## Modulation -/

def latH (xs : FVec Ideal S8x4352x1024 .f32) (mod : FVec Ideal S8x3072 .f32) : FVec Ideal S8x4096x1024 .f32 :=
  addf (mulf (extractStridedSlice S8x4096x1024 ![0, 256, 0] xs slices_S8x4352x1024_S8x4096x1024_0_256_0)
    (broadcastInDim S8x4096x1024 ![0, 1, 2] bcast_S8x1x1024_S8x4096x1024_0_1_2
      (addf (broadcastInDim S8x1x1024 ![] bcast_S_S8x1x1024 (constant S_ .f32 0x3F800000#32))
        (extractStridedSlice S8x1x1024 ![0, 0, 1024] (broadcastInDim S8x1x3072 ![0, 2] bcast_S8x3072_S8x1x3072_0_2 mod) slices_S8x1x3072_S8x1x1024_0_0_1024))))
    (broadcastInDim S8x4096x1024 ![0, 1, 2] bcast_S8x1x1024_S8x4096x1024_0_1_2
      (extractStridedSlice S8x1x1024 ![0, 0, 0] (broadcastInDim S8x1x3072 ![0, 2] bcast_S8x3072_S8x1x3072_0_2 mod) slices_S8x1x3072_S8x1x1024_0_0_0))

def ctxH (xs : FVec Ideal S8x4352x1024 .f32) (modc : FVec Ideal S3072 .f32) : FVec Ideal S8x256x1024 .f32 :=
  addf (mulf (extractStridedSlice S8x256x1024 ![0, 0, 0] xs slices_S8x4352x1024_S8x256x1024_0_0_0)
    (broadcastInDim S8x256x1024 ![0, 1, 2] bcast_S1x1x1024_S8x256x1024_0_1_2 (broadcastInDim S1x1x1024 ![2] bcast_S1024_S1x1x1024_2
      (addf (broadcastInDim S1024 ![] bcast_S_S1024 (constant S_ .f32 0x3F800000#32)) (extractStridedSlice S1024 ![1024] modc slices_S3072_S1024_1024)))))
    (broadcastInDim S8x256x1024 ![0, 1, 2] bcast_S1x1x1024_S8x256x1024_0_1_2 (broadcastInDim S1x1x1024 ![2] bcast_S1024_S1x1x1024_2
      (extractStridedSlice S1024 ![0] modc slices_S3072_S1024_0)))

theorem latH_at (xs : FVec Ideal S8x4352x1024 .f32) (mod : FVec Ideal S8x3072 .f32) (modc : FVec Ideal S3072 .f32)
    (b : Fin 8) (n : Fin 4096) (i : Fin 4352) (hi : i.val = 256 + n.val) (d : Fin 1024) :
    latH xs mod (ix3 b n d) = rowOf xs mod modc b i d := by
  have h : (⟨256 + n.val, Nat.add_lt_add_left n.isLt 256⟩ : Fin 4352) = i := Fin.ext hi.symm
  have hl : ¬ i.val < 256 := by omega
  refine Eq.trans (b := modulated (fun k => xs (ix3 b ⟨256 + n.val, Nat.add_lt_add_left n.isLt 256⟩ k))
      (fun k => mod (ix2 b ⟨1024 + k.val, by omega⟩)) (fun k => mod (ix2 b ⟨k.val, by omega⟩)) d) ?_ ?_
  · pointwise [latH]
    rfl
  · unfold rowOf
    refine congrFun (congr (congr (congrArg modulated ?_) ?_) ?_) d
    · exact funext fun k => congrArg (fun i => xs (ix3 b i k)) h
    · exact funext fun k => Eq.trans (congrArg (fun d => mod (ix2 b d)) (Fin.ext (by show 1024 + k.val = 1 * 1024 + k.val; omega))) (if_neg hl).symm
    · exact funext fun k => Eq.trans (congrArg (fun d => mod (ix2 b d)) (Fin.ext (by show k.val = 0 * 1024 + k.val; omega))) (if_neg hl).symm

theorem ctxH_at (xs : FVec Ideal S8x4352x1024 .f32) (mod : FVec Ideal S8x3072 .f32) (modc : FVec Ideal S3072 .f32)
    (b : Fin 8) (n : Fin 256) (i : Fin 4352) (hi : i.val = n.val) (d : Fin 1024) :
    ctxH xs modc (ix3 b n d) = rowOf xs mod modc b i d := by
  have h : (⟨n.val, Nat.lt_trans n.isLt (by decide)⟩ : Fin 4352) = i := Fin.ext hi.symm
  have hl : i.val < 256 := by omega
  refine Eq.trans (b := modulated (fun k => xs (ix3 b ⟨n.val, Nat.lt_trans n.isLt (by decide)⟩ k))
      (fun k => modc (ix1 ⟨1024 + k.val, by omega⟩)) (fun k => modc (ix1 ⟨k.val, by omega⟩)) d) ?_ ?_
  · pointwise [ctxH]
    rfl
  · unfold rowOf
    refine congrFun (congr (congr (congrArg modulated ?_) ?_) ?_) d
    · exact funext fun k => congrArg (fun i => xs (ix3 b i k)) h
    · exact funext fun k => Eq.trans (congrArg (fun d => modc (ix1 d)) (Fin.ext (by show 1024 + k.val = 1 * 1024 + k.val; omega))) (if_pos hl).symm
    · exact funext fun k => Eq.trans (congrArg (fun d => modc (ix1 d)) (Fin.ext (by show k.val = 0 * 1024 + k.val; omega))) (if_pos hl).symm

/-! ## The shifts -/

/-- What the reference pads with. -/
def fill : FVec Ideal S_ .f32 := sitofp .f32 (constantI S_ 32 0#32)

theorem fill_at (i : S_.Idx) : fill i = 0 := by
  show (((0#32 : BitVec 32).toInt : ℝ) : EReal) = 0
  simp

def ctxShift (u : FVec Ideal S8x256x1024 .f32) : FVec Ideal S8x256x1024 .f32 :=
  concatenate S8x256x1024 2
    [⟨S8x256x512, pad S8x256x512 ![0, 1, 0] ![0, 0, 0] ![0, 0, 0] (extractStridedSlice S8x255x512 ![0, 0, 0] u slices_S8x256x1024_S8x255x512_0_0_0)
        fill pads_S8x255x512_S8x256x512_000_100_000 h_S_⟩,
     ⟨S8x256x512, pad S8x256x512 ![0, 0, 0] ![0, 1, 0] ![0, 0, 0] (extractStridedSlice S8x255x512 ![0, 1, 512] u slices_S8x256x1024_S8x255x512_0_1_512)
        fill pads_S8x255x512_S8x256x512_000_010_000 h_S_⟩]
    concatenates_S8x256x512_S8x256x512_S8x256x1024_d2

theorem inside {p q : Prop} [Decidable p] [Decidable q] {a : p → EReal} {b c : EReal} (hc : c = 0) (hpq : p ↔ ¬ q)
    (ha : ∀ h : p, a h = b) : (if h : p then a h else c) = if q then 0 else b := by
  by_cases hq : q
  · rw [if_pos hq, dif_neg (fun h => hpq.mp h hq), hc]
  · rw [if_neg hq, dif_pos (hpq.mpr hq), ha]

theorem ctxShift_at (u : FVec Ideal S8x256x1024 .f32) (H : Fin 4352 → Fin 1024 → EReal) (b : Fin 8)
    (hu : ∀ (r : Fin 256) (k k' : Fin 1024) (i : Fin 4352), i.val = r.val → k.val = k'.val → u (ix3 b r k) = H i k')
    (r : Fin 256) (d : Fin 1024) (i : Fin 4352) (hi : i.val = r.val) : ctxShift u (ix3 b r d) = shifted H i d := by
  pointwise [ctxShift]
  unfold shifted
  rw [if_pos (by omega : i.val < 256)]
  by_cases h : d.val < 512
  · rw [if_pos h]
    exact (dif_pos h).trans (inside (fill_at _) (by omega) fun h' => hu _ _ _ _ (by show (i.val + 4351) % 4352 = r.val - 1; omega) rfl)
  · rw [if_neg h]
    exact (dif_neg h).trans (inside (fill_at _) (by omega) fun h' => hu _ _ _ _ (by show (i.val + 1) % 4352 = 1 + r.val; omega)
      (by show 512 + (d.val - 512) = d.val; omega))

abbrev Grid := FVec Ideal S8x64x64x1024 .f32

def gridShift (g : Grid) : Grid :=
  concatenate S8x64x64x1024 3
    [⟨S8x64x64x256, pad S8x64x64x256 ![0, 0, 1, 0] ![0, 0, 0, 0] ![0, 0, 0, 0]
        (extractStridedSlice S8x64x63x256 ![0, 0, 0, 0] g slices_S8x64x64x1024_S8x64x63x256_0_0_0_0) fill pads_S8x64x63x256_S8x64x64x256_000_000_100_000 h_S_⟩,
     ⟨S8x64x64x256, pad S8x64x64x256 ![0, 0, 0, 0] ![0, 0, 1, 0] ![0, 0, 0, 0]
        (extractStridedSlice S8x64x63x256 ![0, 0, 1, 256] g slices_S8x64x64x1024_S8x64x63x256_0_0_1_256) fill pads_S8x64x63x256_S8x64x64x256_000_000_010_000 h_S_⟩,
     ⟨S8x64x64x256, pad S8x64x64x256 ![0, 1, 0, 0] ![0, 0, 0, 0] ![0, 0, 0, 0]
        (extractStridedSlice S8x63x64x256 ![0, 0, 0, 512] g slices_S8x64x64x1024_S8x63x64x256_0_0_0_512) fill pads_S8x63x64x256_S8x64x64x256_000_100_000_000 h_S_⟩,
     ⟨S8x64x64x256, pad S8x64x64x256 ![0, 0, 0, 0] ![0, 1, 0, 0] ![0, 0, 0, 0]
        (extractStridedSlice S8x63x64x256 ![0, 1, 0, 768] g slices_S8x64x64x1024_S8x63x64x256_0_1_0_768) fill pads_S8x63x64x256_S8x64x64x256_000_010_000_000 h_S_⟩]
    concatenates_S8x64x64x256_S8x64x64x256_S8x64x64x256_S8x64x64x256_S8x64x64x1024_d3

section Quarters

variable (H : Fin 4352 → Fin 1024 → EReal) (i : Fin 4352) (d : Fin 1024) (hi : ¬ i.val < 256)

include hi

theorem shifted_left (h : d.val < 256) :
    shifted H i d = if i.val % 64 = 0 then 0 else H ⟨(i.val + 4351) % 4352, Nat.mod_lt _ (by decide)⟩ d :=
  (if_neg hi).trans (if_pos h)
theorem shifted_right (h : ¬ d.val < 256) (h2 : d.val < 512) :
    shifted H i d = if i.val % 64 = 63 then 0 else H ⟨(i.val + 1) % 4352, Nat.mod_lt _ (by decide)⟩ d :=
  (if_neg hi).trans ((if_neg h).trans (if_pos h2))
theorem shifted_up (h : ¬ d.val < 256) (h2 : ¬ d.val < 512) (h3 : d.val < 768) :
    shifted H i d = if i.val < 320 then 0 else H ⟨(i.val + 4288) % 4352, Nat.mod_lt _ (by decide)⟩ d :=
  (if_neg hi).trans ((if_neg h).trans ((if_neg h2).trans (if_pos h3)))
theorem shifted_down (h : ¬ d.val < 256) (h2 : ¬ d.val < 512) (h3 : ¬ d.val < 768) :
    shifted H i d = if 4288 ≤ i.val then 0 else H ⟨(i.val + 64) % 4352, Nat.mod_lt _ (by decide)⟩ d :=
  (if_neg hi).trans ((if_neg h).trans ((if_neg h2).trans (if_neg h3)))

end Quarters

theorem gridShift_at (g : Grid) (H : Fin 4352 → Fin 1024 → EReal) (b : Fin 8)
    (hg : ∀ (y x : Fin 64) (k k' : Fin 1024) (i : Fin 4352), i.val = 256 + (y.val * 64 + x.val) → k.val = k'.val → g (ix4 b y x k) = H i k')
    (y x : Fin 64) (d : Fin 1024) (i : Fin 4352) (hi : i.val = 256 + (y.val * 64 + x.val)) :
    gridShift g (ix4 b y x d) = shifted H i d := by
  have hl : ¬ i.val < 256 := by omega
  pointwise [gridShift]
  by_cases h : d.val < 256
  · refine Eq.trans ?_ (shifted_left H i d hl h).symm
    exact (dif_pos h).trans (inside (fill_at _) (by omega) fun h' => hg _ _ _ _ _
      (by show (i.val + 4351) % 4352 = 256 + (y.val * 64 + (x.val - 1)); omega) rfl)
  refine (dif_neg h).trans ?_
  by_cases h2 : d.val < 512
  · refine Eq.trans ?_ (shifted_right H i d hl h h2).symm
    exact (dif_pos (by omega)).trans (inside (fill_at _) (by omega) fun h' => hg _ _ _ _ _
      (by show (i.val + 1) % 4352 = 256 + (y.val * 64 + (1 + x.val)); omega) (by show 256 + (d.val - 256) = d.val; omega))
  refine (dif_neg (by omega)).trans ?_
  by_cases h3 : d.val < 768
  · refine Eq.trans ?_ (shifted_up H i d hl h h2 h3).symm
    exact (dif_pos (by omega)).trans (inside (fill_at _) (by omega) fun h' => hg _ _ _ _ _
      (by show (i.val + 4288) % 4352 = 256 + ((y.val - 1) * 64 + x.val); omega) (by show 512 + (d.val - 256 - 256) = d.val; omega))
  · refine Eq.trans ?_ (shifted_down H i d hl h h2 h3).symm
    exact (dif_neg (by omega)).trans (inside (fill_at _) (by omega) fun h' => hg _ _ _ _ _
      (by show (i.val + 64) % 4352 = 256 + ((1 + y.val) * 64 + x.val); omega) (by show 768 + (d.val - 256 - 256 - 256) = d.val; omega))

def latShift (u : FVec Ideal S8x4096x1024 .f32) : FVec Ideal S8x4096x1024 .f32 :=
  shapeCast S8x4096x1024 (gridShift (shapeCast S8x64x64x1024 u shapeCasts_S8x4096x1024_S8x64x64x1024)) shapeCasts_S8x64x64x1024_S8x4096x1024

theorem grid_at (u : FVec Ideal S8x4096x1024 .f32) (b : Fin 8) (y x : Fin 64) (k : Fin 1024) :
    (shapeCast S8x64x64x1024 u shapeCasts_S8x4096x1024_S8x64x64x1024 : Grid) (ix4 b y x k) = u (ix3 b ⟨y.val * 64 + x.val, by omega⟩ k) := by
  pointwise

theorem ungrid_at (g : Grid) (b : Fin 8) (n : Fin 4096) (k : Fin 1024) :
    (shapeCast S8x4096x1024 g shapeCasts_S8x64x64x1024_S8x4096x1024 : FVec Ideal S8x4096x1024 .f32) (ix3 b n k)
      = g (ix4 b ⟨n.val / 64, by omega⟩ ⟨n.val % 64, by omega⟩ k) := by
  pointwise

theorem latShift_at (u : FVec Ideal S8x4096x1024 .f32) (H : Fin 4352 → Fin 1024 → EReal) (b : Fin 8)
    (hu : ∀ (n : Fin 4096) (k : Fin 1024) (i : Fin 4352), i.val = 256 + n.val → u (ix3 b n k) = H i k)
    (n : Fin 4096) (d : Fin 1024) (i : Fin 4352) (hi : i.val = 256 + n.val) : latShift u (ix3 b n d) = shifted H i d := by
  refine (ungrid_at _ b n d).trans (gridShift_at _ H b (fun y x k k' i' hi' hk => ?_) _ _ d i
    (by show i.val = 256 + (n.val / 64 * 64 + n.val % 64); omega))
  obtain rfl : k = k' := Fin.ext hk
  exact (grid_at u b y x k).trans (hu _ k i' hi')

end Cert.RkInRef
-- ==== Proof.RkIn.Mixes.lean ====
/- The RWKV-7 input call's reference: the mixes and the projections. -/
module

public import proofs.«01_k».proof.Proof.RkIn.Shift
public import proofs.«01_k».proof.Proof.RetIn.Reference
public import Idealize.ShloMosaic.Lib.Pipeline.Value
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.RkInRef

open Cert.ReferenceRkInIdeal Cert.ReferenceRkInIdeal.Gen
open Cert.RetIn (modulated proj rowOf modOf)
open Cert.RkIn (mixedRow shiftC shifted sideBySide)

/-! ## The mixes -/

/-- A row of the mixing weights, and a matrix of the projections' weights. -/
def mixSel (j : Nat) (mix : FVec Ideal S6x1024 .f32) (hs : S6x1024.Slices ![j, 0] S1x1024) : FVec Ideal S1024 .f32 :=
  shapeCast S1024 (extractStridedSlice S1x1024 ![j, 0] mix hs) shapeCasts_S1x1024_S1024

theorem mixSel_at (j : Nat) (mix : FVec Ideal S6x1024 .f32) (hs) (j' : Fin 6) (hj : j'.val = j) (k : Fin 1024) :
    mixSel j mix hs (ix1 k) = mix (ix2 j' k) := by
  subst hj
  pointwise [mixSel]

def wSel (j : Nat) (w4 : FVec Ideal S4x1024x1024 .f32) (hs : S4x1024x1024.Slices ![j, 0, 0] S1x1024x1024) : FVec Ideal S1024x1024 .f32 :=
  shapeCast S1024x1024 (extractStridedSlice S1x1024x1024 ![j, 0, 0] w4 hs) shapeCasts_S1x1024x1024_S1024x1024

theorem wSel_at (j : Nat) (w4 : FVec Ideal S4x1024x1024 .f32) (hs) (j' : Fin 4) (hj : j'.val = j) (k d : Fin 1024) :
    wSel j w4 hs (ix2 k d) = w4 (ix3 j' k d) := by
  subst hj
  pointwise [wSel]

def lowSel (j : Nat) (w : FVec Ideal S2x1024x64 .f32) (hs : S2x1024x64.Slices ![j, 0, 0] S1x1024x64) : FVec Ideal S1024x64 .f32 :=
  shapeCast S1024x64 (extractStridedSlice S1x1024x64 ![j, 0, 0] w hs) shapeCasts_S1x1024x64_S1024x64

theorem lowSel_at (j : Nat) (w : FVec Ideal S2x1024x64 .f32) (hs) (k : Fin 1024) (d : Fin 64) (d' : Fin 128) (hd : d'.val = 64 * j + d.val) :
    lowSel j w hs (ix2 k d) = sideBySide w k d' := by
  have h0 : (⟨d'.val / 64, by omega⟩ : Fin 2).val = j := by show d'.val / 64 = j; omega
  have h1 : (⟨d'.val % 64, by omega⟩ : Fin 64) = d := Fin.ext (by show d'.val % 64 = d.val; omega)
  have key : ∀ j' : Fin 2, j'.val = j → lowSel j w hs (ix2 k d) = w (ix3 j' k d) := by
    rintro j' rfl
    pointwise [lowSel]
  refine (key _ h0).trans ?_
  exact congrArg (fun e => w (ix3 ⟨d'.val / 64, by omega⟩ k e)) h1.symm

def mixWithC (u e : FVec Ideal S8x256x1024 .f32) (mx : FVec Ideal S1024 .f32) : FVec Ideal S8x256x1024 .f32 :=
  addf u (mulf e (broadcastInDim S8x256x1024 ![0, 1, 2] bcast_S1x1x1024_S8x256x1024_0_1_2
    (broadcastInDim S1x1x1024 ![2] bcast_S1024_S1x1x1024_2 mx)))

def mixWithL (u e : FVec Ideal S8x4096x1024 .f32) (mx : FVec Ideal S1024 .f32) : FVec Ideal S8x4096x1024 .f32 :=
  addf u (mulf e (broadcastInDim S8x4096x1024 ![0, 1, 2] bcast_S1x1x1024_S8x4096x1024_0_1_2
    (broadcastInDim S1x1x1024 ![2] bcast_S1024_S1x1x1024_2 mx)))

def mixC (u : FVec Ideal S8x256x1024 .f32) (mx : FVec Ideal S1024 .f32) : FVec Ideal S8x256x1024 .f32 :=
  mixWithC u (subf (ctxShift u) u) mx

def mixL (u : FVec Ideal S8x4096x1024 .f32) (mx : FVec Ideal S1024 .f32) : FVec Ideal S8x4096x1024 .f32 :=
  mixWithL u (subf (latShift u) u) mx

theorem mixWithC_at (u e : FVec Ideal S8x256x1024 .f32) (mx : FVec Ideal S1024 .f32) (b : Fin 8) (r : Fin 256) (k : Fin 1024) :
    mixWithC u e mx (ix3 b r k) = u (ix3 b r k) + e (ix3 b r k) * mx (ix1 k) := by
  pointwise [mixWithC]

theorem mixWithL_at (u e : FVec Ideal S8x4096x1024 .f32) (mx : FVec Ideal S1024 .f32) (b : Fin 8) (r : Fin 4096) (k : Fin 1024) :
    mixWithL u e mx (ix3 b r k) = u (ix3 b r k) + e (ix3 b r k) * mx (ix1 k) := by
  pointwise [mixWithL]

theorem difference_at {s : Shape} (p q : FVec Ideal s .f32) (i : s.Idx) : subf p q i = p i - q i := rfl

section Rows

variable (xs : FVec Ideal S8x4352x1024 .f32) (mod : FVec Ideal S8x3072 .f32) (modc : FVec Ideal S3072 .f32) (mx : FVec Ideal S1024 .f32)

/-- A row of the joined streams mixed with its shifted row. -/
def mixedOf (b : Fin 8) (i : Fin 4352) : Fin 1024 → EReal :=
  mixedRow (rowOf xs mod modc b i) (shifted (rowOf xs mod modc b) i) (fun k => mx (ix1 k))

theorem mixedC_at (b : Fin 8) (r : Fin 256) (i : Fin 4352) (hi : i.val = r.val) :
    (fun k => mixC (ctxH xs modc) mx (ix3 b r k)) = mixedOf xs mod modc mx b i := by
  funext k
  refine (mixWithC_at _ _ mx b r k).trans ?_
  rw [difference_at]
  rw [ctxShift_at _ (rowOf xs mod modc b) b (fun r k k' i hi hk => by obtain rfl := Fin.ext hk; exact ctxH_at xs mod modc b r i hi k) r k i hi,
    ctxH_at xs mod modc b r i hi k]
  rfl

theorem mixedL_at (b : Fin 8) (n : Fin 4096) (i : Fin 4352) (hi : i.val = 256 + n.val) :
    (fun k => mixL (latH xs mod) mx (ix3 b n k)) = mixedOf xs mod modc mx b i := by
  funext k
  refine (mixWithL_at _ _ mx b n k).trans ?_
  rw [difference_at]
  rw [latShift_at _ (rowOf xs mod modc b) b (fun n k i hi => latH_at xs mod modc b n i hi k) n k i hi, latH_at xs mod modc b n i hi k]
  rfl

/-! ## The projections -/

/-- A projection of the mixed streams, the context's rows first. -/
def outFrom (u e : FVec Ideal S8x256x1024 .f32) (u' e' : FVec Ideal S8x4096x1024 .f32) (mx : FVec Ideal S1024 .f32)
    (w : FVec Ideal S1024x1024 .f32) : FVec Ideal S8x4352x1024 .f32 :=
  concatenate S8x4352x1024 1
    [⟨S8x256x1024, Host.dotGeneral dot_S8x256x1024_S1024x1024_S8x256x1024_2_0_01_1_n_n none (mixWithC u e mx) w⟩,
     ⟨S8x4096x1024, Host.dotGeneral dot_S8x4096x1024_S1024x1024_S8x4096x1024_2_0_01_1_n_n none (mixWithL u' e' mx) w⟩]
    concatenates_S8x256x1024_S8x4096x1024_S8x4352x1024_d1

def outOf (w : FVec Ideal S1024x1024 .f32) : FVec Ideal S8x4352x1024 .f32 :=
  outFrom (ctxH xs modc) (subf (ctxShift (ctxH xs modc)) (ctxH xs modc)) (latH xs mod) (subf (latShift (latH xs mod)) (latH xs mod)) mx w

theorem dotC_at (u : FVec Ideal S8x256x1024 .f32) (w : FVec Ideal S1024x1024 .f32) (b : Fin 8) (r : Fin 256) (d : Fin 1024) :
    (Host.dotGeneral dot_S8x256x1024_S1024x1024_S8x256x1024_2_0_01_1_n_n none u w : FVec Ideal S8x256x1024 .f32) (ix3 b r d)
      = proj (fun k => u (ix3 b r k)) (fun k => w (ix2 k d)) := by
  pointwise
  rfl

theorem dotL_at (u : FVec Ideal S8x4096x1024 .f32) (w : FVec Ideal S1024x1024 .f32) (b : Fin 8) (r : Fin 4096) (d : Fin 1024) :
    (Host.dotGeneral dot_S8x4096x1024_S1024x1024_S8x4096x1024_2_0_01_1_n_n none u w : FVec Ideal S8x4096x1024 .f32) (ix3 b r d)
      = proj (fun k => u (ix3 b r k)) (fun k => w (ix2 k d)) := by
  pointwise
  rfl

theorem joined_at (p : FVec Ideal S8x256x1024 .f32) (q : FVec Ideal S8x4096x1024 .f32) (b : Fin 8) (i : Fin 4352) (d : Fin 1024) :
    (concatenate S8x4352x1024 1 [⟨S8x256x1024, p⟩, ⟨S8x4096x1024, q⟩] concatenates_S8x256x1024_S8x4096x1024_S8x4352x1024_d1
        : FVec Ideal S8x4352x1024 .f32) (ix3 b i d)
      = if h : i.val < 256 then p (ix3 b ⟨i.val, h⟩ d) else q (ix3 b ⟨i.val - 256, by omega⟩ d) := by
  pointwise

theorem outOf_at (w : FVec Ideal S1024x1024 .f32) (b : Fin 8) (i : Fin 4352) (d : Fin 1024) :
    outOf xs mod modc mx w (ix3 b i d) = proj (mixedOf xs mod modc mx b i) (fun k => w (ix2 k d)) := by
  refine (joined_at _ _ b i d).trans ?_
  by_cases h : i.val < 256
  · exact (dif_pos h).trans ((dotC_at _ w b ⟨i.val, h⟩ d).trans (congrArg (fun r => proj r _) (mixedC_at xs mod modc mx b _ i rfl)))
  · exact (dif_neg h).trans ((dotL_at _ w b ⟨i.val - 256, by omega⟩ d).trans (congrArg (fun r => proj r _)
      (mixedL_at xs mod modc mx b _ i (by show i.val = 256 + (i.val - 256); omega))))

/-- The low-rank rows of the two directions of a stream, side by side. -/
def sideC (p q : FVec Ideal S8x256x64 .f32) : FVec Ideal S8x256x128 .f32 :=
  concatenate S8x256x128 2 [⟨S8x256x64, p⟩, ⟨S8x256x64, q⟩] concatenates_S8x256x64_S8x256x64_S8x256x128_d2
def sideL (p q : FVec Ideal S8x4096x64 .f32) : FVec Ideal S8x4096x128 .f32 :=
  concatenate S8x4096x128 2 [⟨S8x4096x64, p⟩, ⟨S8x4096x64, q⟩] concatenates_S8x4096x64_S8x4096x64_S8x4096x128_d2
def joinLow (p : FVec Ideal S8x256x128 .f32) (q : FVec Ideal S8x4096x128 .f32) : FVec Ideal S8x4352x128 .f32 :=
  concatenate S8x4352x128 1 [⟨S8x256x128, p⟩, ⟨S8x4096x128, q⟩] concatenates_S8x256x128_S8x4096x128_S8x4352x128_d1

theorem sideC_at (p q : FVec Ideal S8x256x64 .f32) (b : Fin 8) (r : Fin 256) (d : Fin 128) :
    sideC p q (ix3 b r d) = if h : d.val < 64 then p (ix3 b r ⟨d.val, h⟩) else q (ix3 b r ⟨d.val - 64, by omega⟩) := by
  pointwise [sideC]
theorem sideL_at (p q : FVec Ideal S8x4096x64 .f32) (b : Fin 8) (r : Fin 4096) (d : Fin 128) :
    sideL p q (ix3 b r d) = if h : d.val < 64 then p (ix3 b r ⟨d.val, h⟩) else q (ix3 b r ⟨d.val - 64, by omega⟩) := by
  pointwise [sideL]
theorem joinLow_at (p : FVec Ideal S8x256x128 .f32) (q : FVec Ideal S8x4096x128 .f32) (b : Fin 8) (i : Fin 4352) (d : Fin 128) :
    joinLow p q (ix3 b i d) = if h : i.val < 256 then p (ix3 b ⟨i.val, h⟩ d) else q (ix3 b ⟨i.val - 256, by omega⟩ d) := by
  pointwise [joinLow]

def lowC (u : FVec Ideal S8x256x1024 .f32) (w : FVec Ideal S1024x64 .f32) : FVec Ideal S8x256x64 .f32 :=
  Host.dotGeneral dot_S8x256x1024_S1024x64_S8x256x64_2_0_01_1_n_n none u w
def lowL (u : FVec Ideal S8x4096x1024 .f32) (w : FVec Ideal S1024x64 .f32) : FVec Ideal S8x4096x64 .f32 :=
  Host.dotGeneral dot_S8x4096x1024_S1024x64_S8x4096x64_2_0_01_1_n_n none u w

theorem lowC_at (u : FVec Ideal S8x256x1024 .f32) (w : FVec Ideal S1024x64 .f32) (b : Fin 8) (r : Fin 256) (d : Fin 64) :
    lowC u w (ix3 b r d) = proj (fun k => u (ix3 b r k)) (fun k => w (ix2 k d)) := by
  pointwise [lowC]
  rfl
theorem lowL_at (u : FVec Ideal S8x4096x1024 .f32) (w : FVec Ideal S1024x64 .f32) (b : Fin 8) (n : Fin 4096) (d : Fin 64) :
    lowL u w (ix3 b n d) = proj (fun k => u (ix3 b n k)) (fun k => w (ix2 k d)) := by
  pointwise [lowL]
  rfl

def laFrom (u : FVec Ideal S8x256x1024 .f32) (v : FVec Ideal S8x4096x1024 .f32) (w : FVec Ideal S2x1024x64 .f32) : FVec Ideal S8x4352x128 .f32 :=
  joinLow (sideC (lowC u (lowSel 0 w slices_S2x1024x64_S1x1024x64_0_0_0)) (lowC u (lowSel 1 w slices_S2x1024x64_S1x1024x64_1_0_0)))
    (sideL (lowL v (lowSel 0 w slices_S2x1024x64_S1x1024x64_0_0_0)) (lowL v (lowSel 1 w slices_S2x1024x64_S1x1024x64_1_0_0)))

def twFrom (u : FVec Ideal S8x256x1024 .f32) (v : FVec Ideal S8x4096x1024 .f32) (w : FVec Ideal S2x1024x64 .f32) : FVec Ideal S8x4352x128 .f32 :=
  joinLow (sideC (Host.tanh (lowC u (lowSel 0 w slices_S2x1024x64_S1x1024x64_0_0_0)))
      (Host.tanh (lowC u (lowSel 1 w slices_S2x1024x64_S1x1024x64_1_0_0))))
    (sideL (Host.tanh (lowL v (lowSel 0 w slices_S2x1024x64_S1x1024x64_0_0_0)))
      (Host.tanh (lowL v (lowSel 1 w slices_S2x1024x64_S1x1024x64_1_0_0))))

def laOf (w : FVec Ideal S2x1024x64 .f32) : FVec Ideal S8x4352x128 .f32 := laFrom (mixC (ctxH xs modc) mx) (mixL (latH xs mod) mx) w
def twOf (w : FVec Ideal S2x1024x64 .f32) : FVec Ideal S8x4352x128 .f32 := twFrom (mixC (ctxH xs modc) mx) (mixL (latH xs mod) mx) w

/-- The low-rank row of a direction is a lane of the row on the two directions' weights. -/
theorem lowRowC (w : FVec Ideal S2x1024x64 .f32) (j : Nat) (hs) (b : Fin 8) (r : Fin 256) (i : Fin 4352) (hi : i.val = r.val) (e : Fin 64)
    (d : Fin 128) (hd : d.val = 64 * j + e.val) :
    lowC (mixC (ctxH xs modc) mx) (lowSel j w hs) (ix3 b r e) = proj (mixedOf xs mod modc mx b i) (fun k => sideBySide w k d) :=
  (lowC_at _ _ b r e).trans (congrArg₂ proj (mixedC_at xs mod modc mx b r i hi) (funext fun k => lowSel_at j w hs k e d hd))

theorem lowRowL (w : FVec Ideal S2x1024x64 .f32) (j : Nat) (hs) (b : Fin 8) (n : Fin 4096) (i : Fin 4352) (hi : i.val = 256 + n.val) (e : Fin 64)
    (d : Fin 128) (hd : d.val = 64 * j + e.val) :
    lowL (mixL (latH xs mod) mx) (lowSel j w hs) (ix3 b n e) = proj (mixedOf xs mod modc mx b i) (fun k => sideBySide w k d) :=
  (lowL_at _ _ b n e).trans (congrArg₂ proj (mixedL_at xs mod modc mx b n i hi) (funext fun k => lowSel_at j w hs k e d hd))

theorem laOf_at (w : FVec Ideal S2x1024x64 .f32) (b : Fin 8) (i : Fin 4352) (d : Fin 128) :
    laOf xs mod modc mx w (ix3 b i d) = proj (mixedOf xs mod modc mx b i) (fun k => sideBySide w k d) := by
  refine (joinLow_at _ _ b i d).trans ?_
  by_cases h : i.val < 256
  · refine (dif_pos h).trans ((sideC_at _ _ b _ d).trans ?_)
    by_cases hd : d.val < 64
    · exact (dif_pos hd).trans (lowRowC xs mod modc mx w 0 _ b _ i rfl _ d (by show d.val = 64 * 0 + d.val; omega))
    · exact (dif_neg hd).trans (lowRowC xs mod modc mx w 1 _ b _ i rfl _ d (by show d.val = 64 * 1 + (d.val - 64); omega))
  · refine (dif_neg h).trans ((sideL_at _ _ b _ d).trans ?_)
    have hi : i.val = 256 + (i.val - 256) := by omega
    by_cases hd : d.val < 64
    · exact (dif_pos hd).trans (lowRowL xs mod modc mx w 0 _ b _ i hi _ d (by show d.val = 64 * 0 + d.val; omega))
    · exact (dif_neg hd).trans (lowRowL xs mod modc mx w 1 _ b _ i hi _ d (by show d.val = 64 * 1 + (d.val - 64); omega))

theorem twOf_at (w : FVec Ideal S2x1024x64 .f32) (b : Fin 8) (i : Fin 4352) (d : Fin 128) :
    twOf xs mod modc mx w (ix3 b i d) = Ideal.tanh (proj (mixedOf xs mod modc mx b i) (fun k => sideBySide w k d)) := by
  refine (joinLow_at _ _ b i d).trans ?_
  by_cases h : i.val < 256
  · refine (dif_pos h).trans ((sideC_at _ _ b _ d).trans ?_)
    by_cases hd : d.val < 64
    · exact (dif_pos hd).trans (congrArg Ideal.tanh (lowRowC xs mod modc mx w 0 _ b _ i rfl _ d (by show d.val = 64 * 0 + d.val; omega)))
    · exact (dif_neg hd).trans (congrArg Ideal.tanh (lowRowC xs mod modc mx w 1 _ b _ i rfl _ d (by show d.val = 64 * 1 + (d.val - 64); omega)))
  · refine (dif_neg h).trans ((sideL_at _ _ b _ d).trans ?_)
    have hi : i.val = 256 + (i.val - 256) := by omega
    by_cases hd : d.val < 64
    · exact (dif_pos hd).trans (congrArg Ideal.tanh (lowRowL xs mod modc mx w 0 _ b _ i hi _ d (by show d.val = 64 * 0 + d.val; omega)))
    · exact (dif_neg hd).trans (congrArg Ideal.tanh (lowRowL xs mod modc mx w 1 _ b _ i hi _ d (by show d.val = 64 * 1 + (d.val - 64); omega)))

end Rows

end Cert.RkInRef
-- ==== Proof.RkIn.Reference.lean ====
/- The RWKV-7 input call's reference: its run's results. -/
module

public import proofs.«01_k».proof.Proof.RkIn.Mixes
public import proofs.«01_k».proof.Proof.RetIn.Reference
public import proofs.«01_k».proof.Proof.Gen.ReferenceRkInIdeal.Run
public import Idealize.ShloMosaic.Lib.Pipeline.Value
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.RkInRef

open Cert.ReferenceRkInIdeal Cert.ReferenceRkInIdeal.Gen
open Cert.RetIn (modulated proj rowOf modOf)
open Cert.RkIn (mixedRow shiftC shifted sideBySide)

section Run

open Cert.ReferenceRkInIdeal.Value StableHlo

variable (V0 : Valuation τ sig (Elt Ideal))

theorem res_latH : res_main_v14 V0 = latH (V0 main_arg0) (V0 main_arg1) := rfl
theorem res_ctxH : res_main_v22 V0 = ctxH (V0 main_arg0) (V0 main_arg2) := rfl
theorem res_ctxD : res_main_v28 V0 = subf (ctxShift (ctxH (V0 main_arg0) (V0 main_arg2))) (ctxH (V0 main_arg0) (V0 main_arg2)) := by
  unfold res_main_v28
  rw [res_ctxH]
  rfl
theorem res_latD : res_main_v104 V0 = subf (latShift (latH (V0 main_arg0) (V0 main_arg1))) (latH (V0 main_arg0) (V0 main_arg1)) := by
  unfold res_main_v104 res_main_v93
  rw [res_latH]
  rfl
theorem res_ctx1 : res_main_v40 V0 = mixC (ctxH (V0 main_arg0) (V0 main_arg2)) (mixSel 1 (V0 main_arg3) slices_S6x1024_S1x1024_1_0) := by
  unfold res_main_v40
  rw [res_ctxD, res_ctxH]
  rfl
theorem res_ctx4 : res_main_v58 V0 = mixC (ctxH (V0 main_arg0) (V0 main_arg2)) (mixSel 4 (V0 main_arg3) slices_S6x1024_S1x1024_4_0) := by
  unfold res_main_v58
  rw [res_ctxD, res_ctxH]
  rfl
theorem res_lat1 : res_main_v116 V0 = mixL (latH (V0 main_arg0) (V0 main_arg1)) (mixSel 1 (V0 main_arg3) slices_S6x1024_S1x1024_1_0) := by
  unfold res_main_v116
  rw [res_latD, res_latH]
  rfl
theorem res_lat4 : res_main_v134 V0 = mixL (latH (V0 main_arg0) (V0 main_arg1)) (mixSel 4 (V0 main_arg3) slices_S6x1024_S1x1024_4_0) := by
  unfold res_main_v134
  rw [res_latD, res_latH]
  rfl

theorem res_out (mx : FVec Ideal S1024 .f32) (w : FVec Ideal S1024x1024 .f32) :
    outFrom (res_main_v22 V0) (res_main_v28 V0) (res_main_v14 V0) (res_main_v104 V0) mx w
      = outOf (V0 main_arg0) (V0 main_arg1) (V0 main_arg2) mx w := by
  rw [res_ctxD, res_ctxH, res_latD, res_latH]
  rfl

theorem res_tw (w : FVec Ideal S2x1024x64 .f32) :
    twFrom (res_main_v40 V0) (res_main_v116 V0) w
      = twOf (V0 main_arg0) (V0 main_arg1) (V0 main_arg2) (mixSel 1 (V0 main_arg3) slices_S6x1024_S1x1024_1_0) w := by
  rw [res_ctx1, res_lat1]
  rfl

theorem res_la (w : FVec Ideal S2x1024x64 .f32) :
    laFrom (res_main_v58 V0) (res_main_v134 V0) w
      = laOf (V0 main_arg0) (V0 main_arg1) (V0 main_arg2) (mixSel 4 (V0 main_arg3) slices_S6x1024_S1x1024_4_0) w := by
  rw [res_ctx4, res_lat4]
  rfl

end Run

end Cert.RkInRef
-- ==== Proof.RkIn.Claims.lean ====
/- The claims on the RWKV-7 input call. -/
module

public import proofs.«01_k».proof.Defs
public import proofs.«01_k».proof.Proof.Gen.KernelRkIn
public import proofs.«01_k».proof.Proof.Gen.KernelRkInIdeal
public import proofs.«01_k».proof.Proof.Gen.ReferenceRkInIdeal
public import proofs.«01_k».proof.Proof.Gen.ReferenceRkInIdeal.Run
public import proofs.«01_k».proof.Proof.RkIn.Kernel
public import proofs.«01_k».proof.Proof.RkIn.Reference
public import Idealize.ShloMosaic.Adequacy
public import Idealize.ShloMosaic.Init

@[expose] public section

noncomputable section

namespace Cert.RkInClaims

open Idealize.ShloMosaic Idealize.SL.Sem

/-- The input call at the chip's own floats is the idealized one read at them. -/
theorem kernel_eq : Cert.quiescent_KernelRkIn
    = ∀ (m : (ℓ : Loc Cert.KernelRkInIdeal.nD Cert.KernelRkInIdeal.τ Cert.KernelRkInIdeal.sig) → Buf (Elt Bits) ℓ) (ρ : Dev Cert.KernelRkInIdeal.nD → PrngReg),
      True → θ_run (Cert.KernelRkInIdeal.defs (F := Bits)) (onTc (τ := Cert.KernelRkInIdeal.τ) (Cert.KernelRkInIdeal.main (F := Bits)))
        ⟨m, fun _ => 0, ρ⟩ (fun r => (∀ c : Dev Cert.KernelRkInIdeal.nD,
          r.2.mem ((c.tc : Thread Cert.KernelRkInIdeal.nD Cert.KernelRkInIdeal.τ).loc Cert.KernelRkInIdeal.main_arg0)
              = m ((c.tc : Thread Cert.KernelRkInIdeal.nD Cert.KernelRkInIdeal.τ).loc Cert.KernelRkInIdeal.main_arg0)
          ∧ r.2.mem ((c.tc : Thread Cert.KernelRkInIdeal.nD Cert.KernelRkInIdeal.τ).loc Cert.KernelRkInIdeal.main_arg1)
              = m ((c.tc : Thread Cert.KernelRkInIdeal.nD Cert.KernelRkInIdeal.τ).loc Cert.KernelRkInIdeal.main_arg1)
          ∧ r.2.mem ((c.tc : Thread Cert.KernelRkInIdeal.nD Cert.KernelRkInIdeal.τ).loc Cert.KernelRkInIdeal.main_arg2)
              = m ((c.tc : Thread Cert.KernelRkInIdeal.nD Cert.KernelRkInIdeal.τ).loc Cert.KernelRkInIdeal.main_arg2)
          ∧ r.2.mem ((c.tc : Thread Cert.KernelRkInIdeal.nD Cert.KernelRkInIdeal.τ).loc Cert.KernelRkInIdeal.main_arg3)
              = m ((c.tc : Thread Cert.KernelRkInIdeal.nD Cert.KernelRkInIdeal.τ).loc Cert.KernelRkInIdeal.main_arg3)
          ∧ r.2.mem ((c.tc : Thread Cert.KernelRkInIdeal.nD Cert.KernelRkInIdeal.τ).loc Cert.KernelRkInIdeal.main_arg4)
              = m ((c.tc : Thread Cert.KernelRkInIdeal.nD Cert.KernelRkInIdeal.τ).loc Cert.KernelRkInIdeal.main_arg4)
          ∧ r.2.mem ((c.tc : Thread Cert.KernelRkInIdeal.nD Cert.KernelRkInIdeal.τ).loc Cert.KernelRkInIdeal.main_arg5)
              = m ((c.tc : Thread Cert.KernelRkInIdeal.nD Cert.KernelRkInIdeal.τ).loc Cert.KernelRkInIdeal.main_arg5)
          ∧ r.2.mem ((c.tc : Thread Cert.KernelRkInIdeal.nD Cert.KernelRkInIdeal.τ).loc Cert.KernelRkInIdeal.main_arg6)
              = m ((c.tc : Thread Cert.KernelRkInIdeal.nD Cert.KernelRkInIdeal.τ).loc Cert.KernelRkInIdeal.main_arg6))
          ∧ r.2.sem = fun _ => 0) := by
  chain_rfl

theorem frame_kernel : Cert.quiescent_KernelRkIn := kernel_eq ▸ fun m ρ _ => Cert.KernelRkInIdeal.Gen.frame (F := Bits) m ρ

theorem frame_kernelIdeal : Cert.quiescent_KernelRkInIdeal := fun m ρ _ => Cert.KernelRkInIdeal.Gen.frame (F := Ideal) m ρ

theorem frame_reference : Cert.quiescent_ReferenceRkInIdeal := fun m ρ _ =>
  (θ_run Cert.ReferenceRkInIdeal.defs _ _).mono
    (fun r h => ⟨fun c => (h c).2.2.2.2.2.2, Idealize.ShloMosaic.sem_eq_zero_of_no_sems (by decide) r.2⟩)
    (Cert.ReferenceRkInIdeal.Value.run (F := Ideal) m ρ)

theorem mixed_eq (xs : FVec Ideal Cert.KernelRkInIdeal.S8x4352x1024 .f32) (mod : FVec Ideal Cert.KernelRkInIdeal.S8x3072 .f32) (modc : FVec Ideal Cert.KernelRkInIdeal.S3072 .f32)
    (mix : FVec Ideal Cert.KernelRkInIdeal.S6x1024 .f32) (j : Nat) (hs) (j' : Fin 6) (hj : j'.val = j) (b : Fin 8) (i : Fin 4352) :
    Cert.RkInRef.mixedOf xs mod modc (Cert.RkInRef.mixSel j mix hs) b i
      = Cert.RkIn.mixedRow (Cert.RetIn.rowOf xs mod modc b i) (Cert.RkIn.shifted (Cert.RetIn.rowOf xs mod modc b) i) (fun k => mix (ix2 j' k)) :=
  congrArg (Cert.RkIn.mixedRow _ _) (funext fun k => Cert.RkInRef.mixSel_at j mix hs j' hj k)

theorem result8_eq (m : (ℓ : Loc Cert.KernelRkInIdeal.nD Cert.KernelRkInIdeal.τ Cert.KernelRkInIdeal.sig) → Buf (Elt Ideal) ℓ) (c : Dev Cert.KernelRkInIdeal.nD)
    (xs : FVec Ideal Cert.KernelRkInIdeal.S8x4352x1024 .f32) (mod : FVec Ideal Cert.KernelRkInIdeal.S8x3072 .f32) (modc : FVec Ideal Cert.KernelRkInIdeal.S3072 .f32) (mix : FVec Ideal Cert.KernelRkInIdeal.S6x1024 .f32) (w4 : FVec Ideal Cert.KernelRkInIdeal.S4x1024x1024 .f32)
    (h0 : xs = m ((c.tc : Thread Cert.KernelRkInIdeal.nD Cert.KernelRkInIdeal.τ).loc Cert.KernelRkInIdeal.main_arg0))
    (h1 : mod = m ((c.tc : Thread Cert.KernelRkInIdeal.nD Cert.KernelRkInIdeal.τ).loc Cert.KernelRkInIdeal.main_arg1))
    (h2 : modc = m ((c.tc : Thread Cert.KernelRkInIdeal.nD Cert.KernelRkInIdeal.τ).loc Cert.KernelRkInIdeal.main_arg2))
    (h3 : mix = m ((c.tc : Thread Cert.KernelRkInIdeal.nD Cert.KernelRkInIdeal.τ).loc Cert.KernelRkInIdeal.main_arg3))
    (h4 : w4 = m ((c.tc : Thread Cert.KernelRkInIdeal.nD Cert.KernelRkInIdeal.τ).loc Cert.KernelRkInIdeal.main_arg4)) :
    Cert.RkInRef.outOf xs mod modc (Cert.RkInRef.mixSel 0 mix Cert.ReferenceRkInIdeal.Gen.slices_S6x1024_S1x1024_0_0) (Cert.RkInRef.wSel 0 w4 Cert.ReferenceRkInIdeal.Gen.slices_S4x1024x1024_S1x1024x1024_0_0_0)
      = Cert.RkIn.result8 m c := by
  subst h0 h1 h2 h3 h4
  funext i
  have hi : i = ix3 (n0 := 8) (n1 := 4352) (n2 := 1024) (i 0) (i 1) (i 2) := by
    funext a; fin_cases a <;> rfl
  refine (congrArg _ hi).trans ((Cert.RkInRef.outOf_at _ _ _ _ _ (i 0) (i 1) (i 2)).trans ?_)
  exact congrArg₂ Cert.RetIn.proj (mixed_eq _ _ _ _ 0 _ 0 rfl _ _) (funext fun k => Cert.RkInRef.wSel_at 0 _ _ 0 rfl k (i 2))

theorem result9_eq (m : (ℓ : Loc Cert.KernelRkInIdeal.nD Cert.KernelRkInIdeal.τ Cert.KernelRkInIdeal.sig) → Buf (Elt Ideal) ℓ) (c : Dev Cert.KernelRkInIdeal.nD)
    (xs : FVec Ideal Cert.KernelRkInIdeal.S8x4352x1024 .f32) (mod : FVec Ideal Cert.KernelRkInIdeal.S8x3072 .f32) (modc : FVec Ideal Cert.KernelRkInIdeal.S3072 .f32) (mix : FVec Ideal Cert.KernelRkInIdeal.S6x1024 .f32) (w4 : FVec Ideal Cert.KernelRkInIdeal.S4x1024x1024 .f32)
    (h0 : xs = m ((c.tc : Thread Cert.KernelRkInIdeal.nD Cert.KernelRkInIdeal.τ).loc Cert.KernelRkInIdeal.main_arg0))
    (h1 : mod = m ((c.tc : Thread Cert.KernelRkInIdeal.nD Cert.KernelRkInIdeal.τ).loc Cert.KernelRkInIdeal.main_arg1))
    (h2 : modc = m ((c.tc : Thread Cert.KernelRkInIdeal.nD Cert.KernelRkInIdeal.τ).loc Cert.KernelRkInIdeal.main_arg2))
    (h3 : mix = m ((c.tc : Thread Cert.KernelRkInIdeal.nD Cert.KernelRkInIdeal.τ).loc Cert.KernelRkInIdeal.main_arg3))
    (h4 : w4 = m ((c.tc : Thread Cert.KernelRkInIdeal.nD Cert.KernelRkInIdeal.τ).loc Cert.KernelRkInIdeal.main_arg4)) :
    Cert.RkInRef.outOf xs mod modc (Cert.RkInRef.mixSel 2 mix Cert.ReferenceRkInIdeal.Gen.slices_S6x1024_S1x1024_2_0) (Cert.RkInRef.wSel 1 w4 Cert.ReferenceRkInIdeal.Gen.slices_S4x1024x1024_S1x1024x1024_1_0_0)
      = Cert.RkIn.result9 m c := by
  subst h0 h1 h2 h3 h4
  funext i
  have hi : i = ix3 (n0 := 8) (n1 := 4352) (n2 := 1024) (i 0) (i 1) (i 2) := by
    funext a; fin_cases a <;> rfl
  refine (congrArg _ hi).trans ((Cert.RkInRef.outOf_at _ _ _ _ _ (i 0) (i 1) (i 2)).trans ?_)
  exact congrArg₂ Cert.RetIn.proj (mixed_eq _ _ _ _ 2 _ 2 rfl _ _) (funext fun k => Cert.RkInRef.wSel_at 1 _ _ 1 rfl k (i 2))

theorem result10_eq (m : (ℓ : Loc Cert.KernelRkInIdeal.nD Cert.KernelRkInIdeal.τ Cert.KernelRkInIdeal.sig) → Buf (Elt Ideal) ℓ) (c : Dev Cert.KernelRkInIdeal.nD)
    (xs : FVec Ideal Cert.KernelRkInIdeal.S8x4352x1024 .f32) (mod : FVec Ideal Cert.KernelRkInIdeal.S8x3072 .f32) (modc : FVec Ideal Cert.KernelRkInIdeal.S3072 .f32) (mix : FVec Ideal Cert.KernelRkInIdeal.S6x1024 .f32) (w4 : FVec Ideal Cert.KernelRkInIdeal.S4x1024x1024 .f32)
    (h0 : xs = m ((c.tc : Thread Cert.KernelRkInIdeal.nD Cert.KernelRkInIdeal.τ).loc Cert.KernelRkInIdeal.main_arg0))
    (h1 : mod = m ((c.tc : Thread Cert.KernelRkInIdeal.nD Cert.KernelRkInIdeal.τ).loc Cert.KernelRkInIdeal.main_arg1))
    (h2 : modc = m ((c.tc : Thread Cert.KernelRkInIdeal.nD Cert.KernelRkInIdeal.τ).loc Cert.KernelRkInIdeal.main_arg2))
    (h3 : mix = m ((c.tc : Thread Cert.KernelRkInIdeal.nD Cert.KernelRkInIdeal.τ).loc Cert.KernelRkInIdeal.main_arg3))
    (h4 : w4 = m ((c.tc : Thread Cert.KernelRkInIdeal.nD Cert.KernelRkInIdeal.τ).loc Cert.KernelRkInIdeal.main_arg4)) :
    Cert.RkInRef.outOf xs mod modc (Cert.RkInRef.mixSel 3 mix Cert.ReferenceRkInIdeal.Gen.slices_S6x1024_S1x1024_3_0) (Cert.RkInRef.wSel 2 w4 Cert.ReferenceRkInIdeal.Gen.slices_S4x1024x1024_S1x1024x1024_2_0_0)
      = Cert.RkIn.result10 m c := by
  subst h0 h1 h2 h3 h4
  funext i
  have hi : i = ix3 (n0 := 8) (n1 := 4352) (n2 := 1024) (i 0) (i 1) (i 2) := by
    funext a; fin_cases a <;> rfl
  refine (congrArg _ hi).trans ((Cert.RkInRef.outOf_at _ _ _ _ _ (i 0) (i 1) (i 2)).trans ?_)
  exact congrArg₂ Cert.RetIn.proj (mixed_eq _ _ _ _ 3 _ 3 rfl _ _) (funext fun k => Cert.RkInRef.wSel_at 2 _ _ 2 rfl k (i 2))

theorem result11_eq (m : (ℓ : Loc Cert.KernelRkInIdeal.nD Cert.KernelRkInIdeal.τ Cert.KernelRkInIdeal.sig) → Buf (Elt Ideal) ℓ) (c : Dev Cert.KernelRkInIdeal.nD)
    (xs : FVec Ideal Cert.KernelRkInIdeal.S8x4352x1024 .f32) (mod : FVec Ideal Cert.KernelRkInIdeal.S8x3072 .f32) (modc : FVec Ideal Cert.KernelRkInIdeal.S3072 .f32) (mix : FVec Ideal Cert.KernelRkInIdeal.S6x1024 .f32) (w4 : FVec Ideal Cert.KernelRkInIdeal.S4x1024x1024 .f32)
    (h0 : xs = m ((c.tc : Thread Cert.KernelRkInIdeal.nD Cert.KernelRkInIdeal.τ).loc Cert.KernelRkInIdeal.main_arg0))
    (h1 : mod = m ((c.tc : Thread Cert.KernelRkInIdeal.nD Cert.KernelRkInIdeal.τ).loc Cert.KernelRkInIdeal.main_arg1))
    (h2 : modc = m ((c.tc : Thread Cert.KernelRkInIdeal.nD Cert.KernelRkInIdeal.τ).loc Cert.KernelRkInIdeal.main_arg2))
    (h3 : mix = m ((c.tc : Thread Cert.KernelRkInIdeal.nD Cert.KernelRkInIdeal.τ).loc Cert.KernelRkInIdeal.main_arg3))
    (h4 : w4 = m ((c.tc : Thread Cert.KernelRkInIdeal.nD Cert.KernelRkInIdeal.τ).loc Cert.KernelRkInIdeal.main_arg4)) :
    Cert.RkInRef.outOf xs mod modc (Cert.RkInRef.mixSel 5 mix Cert.ReferenceRkInIdeal.Gen.slices_S6x1024_S1x1024_5_0) (Cert.RkInRef.wSel 3 w4 Cert.ReferenceRkInIdeal.Gen.slices_S4x1024x1024_S1x1024x1024_3_0_0)
      = Cert.RkIn.result11 m c := by
  subst h0 h1 h2 h3 h4
  funext i
  have hi : i = ix3 (n0 := 8) (n1 := 4352) (n2 := 1024) (i 0) (i 1) (i 2) := by
    funext a; fin_cases a <;> rfl
  refine (congrArg _ hi).trans ((Cert.RkInRef.outOf_at _ _ _ _ _ (i 0) (i 1) (i 2)).trans ?_)
  exact congrArg₂ Cert.RetIn.proj (mixed_eq _ _ _ _ 5 _ 5 rfl _ _) (funext fun k => Cert.RkInRef.wSel_at 3 _ _ 3 rfl k (i 2))

theorem result12_eq (m : (ℓ : Loc Cert.KernelRkInIdeal.nD Cert.KernelRkInIdeal.τ Cert.KernelRkInIdeal.sig) → Buf (Elt Ideal) ℓ) (c : Dev Cert.KernelRkInIdeal.nD)
    (xs : FVec Ideal Cert.KernelRkInIdeal.S8x4352x1024 .f32) (mod : FVec Ideal Cert.KernelRkInIdeal.S8x3072 .f32) (modc : FVec Ideal Cert.KernelRkInIdeal.S3072 .f32) (mix : FVec Ideal Cert.KernelRkInIdeal.S6x1024 .f32) (w1 : FVec Ideal Cert.KernelRkInIdeal.S2x1024x64 .f32)
    (h0 : xs = m ((c.tc : Thread Cert.KernelRkInIdeal.nD Cert.KernelRkInIdeal.τ).loc Cert.KernelRkInIdeal.main_arg0))
    (h1 : mod = m ((c.tc : Thread Cert.KernelRkInIdeal.nD Cert.KernelRkInIdeal.τ).loc Cert.KernelRkInIdeal.main_arg1))
    (h2 : modc = m ((c.tc : Thread Cert.KernelRkInIdeal.nD Cert.KernelRkInIdeal.τ).loc Cert.KernelRkInIdeal.main_arg2))
    (h3 : mix = m ((c.tc : Thread Cert.KernelRkInIdeal.nD Cert.KernelRkInIdeal.τ).loc Cert.KernelRkInIdeal.main_arg3))
    (h5 : w1 = m ((c.tc : Thread Cert.KernelRkInIdeal.nD Cert.KernelRkInIdeal.τ).loc Cert.KernelRkInIdeal.main_arg5)) :
    Cert.RkInRef.twOf xs mod modc (Cert.RkInRef.mixSel 1 mix Cert.ReferenceRkInIdeal.Gen.slices_S6x1024_S1x1024_1_0) w1 = Cert.RkIn.result12 m c := by
  subst h0 h1 h2 h3 h5
  funext i
  have hi : i = ix3 (n0 := 8) (n1 := 4352) (n2 := 128) (i 0) (i 1) (i 2) := by
    funext a; fin_cases a <;> rfl
  refine (congrArg _ hi).trans ((Cert.RkInRef.twOf_at _ _ _ _ _ (i 0) (i 1) (i 2)).trans ?_)
  exact congrArg (fun h => Ideal.tanh (Cert.RetIn.proj h _)) (mixed_eq _ _ _ _ 1 _ 1 rfl _ _)

theorem result13_eq (m : (ℓ : Loc Cert.KernelRkInIdeal.nD Cert.KernelRkInIdeal.τ Cert.KernelRkInIdeal.sig) → Buf (Elt Ideal) ℓ) (c : Dev Cert.KernelRkInIdeal.nD)
    (xs : FVec Ideal Cert.KernelRkInIdeal.S8x4352x1024 .f32) (mod : FVec Ideal Cert.KernelRkInIdeal.S8x3072 .f32) (modc : FVec Ideal Cert.KernelRkInIdeal.S3072 .f32) (mix : FVec Ideal Cert.KernelRkInIdeal.S6x1024 .f32) (a1 : FVec Ideal Cert.KernelRkInIdeal.S2x1024x64 .f32)
    (h0 : xs = m ((c.tc : Thread Cert.KernelRkInIdeal.nD Cert.KernelRkInIdeal.τ).loc Cert.KernelRkInIdeal.main_arg0))
    (h1 : mod = m ((c.tc : Thread Cert.KernelRkInIdeal.nD Cert.KernelRkInIdeal.τ).loc Cert.KernelRkInIdeal.main_arg1))
    (h2 : modc = m ((c.tc : Thread Cert.KernelRkInIdeal.nD Cert.KernelRkInIdeal.τ).loc Cert.KernelRkInIdeal.main_arg2))
    (h3 : mix = m ((c.tc : Thread Cert.KernelRkInIdeal.nD Cert.KernelRkInIdeal.τ).loc Cert.KernelRkInIdeal.main_arg3))
    (h6 : a1 = m ((c.tc : Thread Cert.KernelRkInIdeal.nD Cert.KernelRkInIdeal.τ).loc Cert.KernelRkInIdeal.main_arg6)) :
    Cert.RkInRef.laOf xs mod modc (Cert.RkInRef.mixSel 4 mix Cert.ReferenceRkInIdeal.Gen.slices_S6x1024_S1x1024_4_0) a1 = Cert.RkIn.result13 m c := by
  subst h0 h1 h2 h3 h6
  funext i
  have hi : i = ix3 (n0 := 8) (n1 := 4352) (n2 := 128) (i 0) (i 1) (i 2) := by
    funext a; fin_cases a <;> rfl
  refine (congrArg _ hi).trans ((Cert.RkInRef.laOf_at _ _ _ _ _ (i 0) (i 1) (i 2)).trans ?_)
  exact congrArg (fun h => Cert.RetIn.proj h _) (mixed_eq _ _ _ _ 4 _ 4 rfl _ _)

theorem algebraic : Cert.algebraic_KernelRkInIdeal_ReferenceRkInIdeal := by
  intro m ρ m' ρ' _ hagree
  refine ⟨fun c => Cert.RkIn.result8 m c, fun c => Cert.RkIn.result9 m c, fun c => Cert.RkIn.result10 m c, fun c => Cert.RkIn.result11 m c, fun c => Cert.RkIn.result12 m c, fun c => Cert.RkIn.result13 m c, Cert.RkIn.run m ρ, ?_⟩
  exact (θ_run _ _ _).mono (fun _ h c => ⟨
      ((h c).1.trans (Cert.RkInRef.res_out (StableHlo.launchContents m' c) (Cert.RkInRef.mixSel 0 _ Cert.ReferenceRkInIdeal.Gen.slices_S6x1024_S1x1024_0_0) (Cert.RkInRef.wSel 0 _ Cert.ReferenceRkInIdeal.Gen.slices_S4x1024x1024_S1x1024x1024_0_0_0))).trans
        (result8_eq m c _ _ _ _ _ (hagree c).1 (hagree c).2.1 (hagree c).2.2.1 (hagree c).2.2.2.1 (hagree c).2.2.2.2.1),
      ((h c).2.1.trans (Cert.RkInRef.res_out (StableHlo.launchContents m' c) (Cert.RkInRef.mixSel 2 _ Cert.ReferenceRkInIdeal.Gen.slices_S6x1024_S1x1024_2_0) (Cert.RkInRef.wSel 1 _ Cert.ReferenceRkInIdeal.Gen.slices_S4x1024x1024_S1x1024x1024_1_0_0))).trans
        (result9_eq m c _ _ _ _ _ (hagree c).1 (hagree c).2.1 (hagree c).2.2.1 (hagree c).2.2.2.1 (hagree c).2.2.2.2.1),
      ((h c).2.2.1.trans (Cert.RkInRef.res_out (StableHlo.launchContents m' c) (Cert.RkInRef.mixSel 3 _ Cert.ReferenceRkInIdeal.Gen.slices_S6x1024_S1x1024_3_0) (Cert.RkInRef.wSel 2 _ Cert.ReferenceRkInIdeal.Gen.slices_S4x1024x1024_S1x1024x1024_2_0_0))).trans
        (result10_eq m c _ _ _ _ _ (hagree c).1 (hagree c).2.1 (hagree c).2.2.1 (hagree c).2.2.2.1 (hagree c).2.2.2.2.1),
      ((h c).2.2.2.1.trans (Cert.RkInRef.res_out (StableHlo.launchContents m' c) (Cert.RkInRef.mixSel 5 _ Cert.ReferenceRkInIdeal.Gen.slices_S6x1024_S1x1024_5_0) (Cert.RkInRef.wSel 3 _ Cert.ReferenceRkInIdeal.Gen.slices_S4x1024x1024_S1x1024x1024_3_0_0))).trans
        (result11_eq m c _ _ _ _ _ (hagree c).1 (hagree c).2.1 (hagree c).2.2.1 (hagree c).2.2.2.1 (hagree c).2.2.2.2.1),
      ((h c).2.2.2.2.1.trans (Cert.RkInRef.res_tw (StableHlo.launchContents m' c) _)).trans (result12_eq m c _ _ _ _ _ (hagree c).1 (hagree c).2.1 (hagree c).2.2.1 (hagree c).2.2.2.1 (hagree c).2.2.2.2.2.1),
      ((h c).2.2.2.2.2.1.trans (Cert.RkInRef.res_la (StableHlo.launchContents m' c) _)).trans (result13_eq m c _ _ _ _ _ (hagree c).1 (hagree c).2.1 (hagree c).2.2.1 (hagree c).2.2.2.1 (hagree c).2.2.2.2.2.2),
      (h c).2.2.2.2.2.2⟩)
    (Cert.ReferenceRkInIdeal.Value.run m' ρ')

end Cert.RkInClaims
-- ==== Proof.RkOut.Kernel.lean ====
/- The result array of the RWKV-7 output call: every row the layer norm of its stream. -/
module

public import proofs.«01_k».proof.Proof.RetOut.Kernel
public import proofs.«01_k».proof.Proof.Gen.KernelRkOutIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RkOut

open Cert.KernelRkOutIdeal Cert.KernelRkOutIdeal.Gen Cert.Out

/-! ## The body's values at an index -/

section Body

variable (o g : FVec Ideal S1x256x1024 .f32) (w : FVec Ideal S1024x1024 .bf16) (ms : FVec Ideal S1x1x3x1024 .f32)
  (x : FVec Ideal S1x256x1024 .f32) (lg lb : FVec Ideal S1x1024 .f32)

/-- The stream at a row of the block. -/
abbrev blockStream (r : Fin 256) : Fin 1024 → EReal :=
  stream (fun d => x (ix3 0 r d)) (fun d => ms (ix4 0 0 2 d)) (fun k => gatedR (o (ix3 0 r k)) (g (ix3 0 r k)))
    (fun k d => w (ix2 k d))

theorem pay2_at (r : Fin 256) (d : Fin 1024) :
    k0_pay2 (F := Ideal) o g w ms x (ix2 r d) = dev (blockStream o g w ms x r) d := by
  pointwise [k0_pay2]
  rfl

theorem pay3_at (r : Fin 256) (d : Fin 1024) :
    k0_pay3 (F := Ideal) o g w ms x (ix2 r d)
      = Ideal.rsqrt (mean (fun e => dev (blockStream o g w ms x r) e * dev (blockStream o g w ms x r) e) + eps) := by
  pointwise [k0_pay3]
  exact congrArg (fun s => Ideal.rsqrt (Ideal.div s width + eps))
    (Finset.sum_congr rfl fun e _ => congrArg₂ (· * ·) (pay2_at o g w ms x r e) (pay2_at o g w ms x r e))

theorem pay1_at (z s : FVec Ideal S256x1024 .f32) (r : Fin 256) (d : Fin 1024) :
    k0_pay1 (F := Ideal) z s lg lb (ix3 0 r d) = z (ix2 r d) * s (ix2 r d) * lg (ix2 0 d) + lb (ix2 0 d) := by
  pointwise [k0_pay1]

theorem body_at (r : Fin 256) (d : Fin 1024) :
    k0_pay1 (F := Ideal) (k0_pay2 o g w ms x) (k0_pay3 o g w ms x) lg lb (ix3 0 r d)
      = row (fun d => x (ix3 0 r d)) (fun d => ms (ix4 0 0 2 d)) (fun k => gatedR (o (ix3 0 r k)) (g (ix3 0 r k)))
          (fun k d => w (ix2 k d)) (fun d => lg (ix2 0 d)) (fun d => lb (ix2 0 d)) d :=
  (pay1_at lg lb _ _ r d).trans (congrArg (fun s => s * lg (ix2 0 d) + lb (ix2 0 d))
    (congrArg₂ (· * ·) (pay2_at o g w ms x r d) (pay3_at o g w ms x r d)))

end Body

/-! ## The result array -/

variable (m : (ℓ : Loc nD τ sig) → Buf (Elt Ideal) ℓ)

/-- The result at an index, of the arguments. -/
def value (o g : FVec Ideal S8x4352x1024 .f32) (w : FVec Ideal S1024x1024 .f32) (x : FVec Ideal S8x4352x1024 .f32)
    (mod : FVec Ideal S8x3072 .f32) (modc : FVec Ideal S3072 .f32) (lg lb : FVec Ideal S1024 .f32)
    (b : Fin 8) (i : Fin 4352) : Fin 1024 → EReal :=
  row (fun d => x (ix3 b i d)) (Cert.RetOut.gateOf mod modc b i) (fun k => gatedR (o (ix3 b i k)) (g (ix3 b i k)))
    (fun k d => w (ix2 k d)) (fun d => lg (ix1 d)) (fun d => lb (ix1 d))

/-- The result array of a launch. -/
def result (c : Dev nD) : FVec Ideal S8x4352x1024 .f32 := fun i =>
  value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

theorem idx : ∀ t : Fin cfg0.N, win0_0.index t = ![(grid0.coords t 0).val, (grid0.coords t 1).val, 0]
    ∧ win0_1.index t = ![(grid0.coords t 0).val, (grid0.coords t 1).val, 0]
    ∧ win0_2.index t = ![0, 0]
    ∧ win0_3.index t = ![(grid0.coords t 0).val, (grid0.coords t 1).val, 0]
    ∧ win0_4.index t = ![(grid0.coords t 0).val, min (grid0.coords t 1).val 1, 0, 0]
    ∧ win0_5.index t = ![0, 0] ∧ win0_6.index t = ![0, 0]
    ∧ win0_7.index t = ![(grid0.coords t 0).val, (grid0.coords t 1).val, 0]
    ∧ (grid0.coords t 0).val < 8 ∧ (grid0.coords t 1).val < 17 :=
  (by decide +kernel : ∀ t : Fin grid0.N, _)

/-- The batch and the row of the array that a point's block row is. -/
def bAt (t : Fin cfg0.N) : Fin 8 := ⟨(grid0.coords t 0).val, (idx t).2.2.2.2.2.2.2.2.1⟩
def rAt (t : Fin cfg0.N) (r : Fin 256) : Fin 4352 :=
  ⟨(grid0.coords t 1).val * 256 + r.val, by have := (idx t).2.2.2.2.2.2.2.2.2; omega⟩

section Reads

variable (c : Dev nD) (t : Fin cfg0.N)

theorem rd_o (r : Fin 256) (k : Fin 1024) :
    (iblk m c 0 t : FVec Ideal S1x256x1024 .f32) (ix3 0 r k) = m ((c : Thread nD τ).loc main_arg0) (ix3 (bAt t) (rAt t r) k) := by
  blk_ext [iblk, V, idx t, bAt, rAt]

theorem rd_g (r : Fin 256) (k : Fin 1024) :
    (iblk m c 1 t : FVec Ideal S1x256x1024 .f32) (ix3 0 r k) = m ((c : Thread nD τ).loc main_arg1) (ix3 (bAt t) (rAt t r) k) := by
  blk_ext [iblk, V, idx t, bAt, rAt]

theorem rd_x (r : Fin 256) (d : Fin 1024) :
    (iblk m c 3 t : FVec Ideal S1x256x1024 .f32) (ix3 0 r d) = m ((c : Thread nD τ).loc main_arg3) (ix3 (bAt t) (rAt t r) d) := by
  blk_ext [iblk, V, idx t, bAt, rAt]

/-! The arrays that the host code prepares. -/

theorem V_w (k : Fin 1024) (d : Fin 1024) :
    (V m c main_v6 : FVec Ideal S1024x1024 .bf16) (ix2 k d) = m ((c : Thread nD τ).loc main_arg2) (ix2 k d) := by
  entry_read; pointwise

theorem V_lg (d : Fin 1024) :
    (V m c main_v7 : FVec Ideal S1x1024 .f32) (ix2 0 d) = m ((c : Thread nD τ).loc main_arg6) (ix1 d) := by
  entry_read; pointwise

theorem V_lb (d : Fin 1024) :
    (V m c main_v8 : FVec Ideal S1x1024 .f32) (ix2 0 d) = m ((c : Thread nD τ).loc main_arg7) (ix1 d) := by
  entry_read; pointwise

theorem V_ms (b : Fin 8) (s : Fin 2) (e : Fin 3) (d : Fin 1024) :
    (V m c main_v5 : FVec Ideal S8x2x3x1024 .f32) (ix4 b s e d)
      = if s.val < 1 then (m ((c : Thread nD τ).loc main_arg5) : FVec Ideal S3072 .f32) (ix1 ⟨e.val * 1024 + d.val, by omega⟩)
        else (m ((c : Thread nD τ).loc main_arg4) : FVec Ideal S8x3072 .f32) (ix2 b ⟨e.val * 1024 + d.val, by omega⟩) := by
  entry_read; pointwise; rfl

theorem rd_w (k : Fin 1024) (d : Fin 1024) :
    (iblk m c 2 t : FVec Ideal S1024x1024 .bf16) (ix2 k d) = m ((c : Thread nD τ).loc main_arg2) (ix2 k d) :=
  Eq.trans (by blk_ext [iblk, idx t]) (V_w m c k d)

theorem rd_lg (d : Fin 1024) :
    (iblk m c 5 t : FVec Ideal S1x1024 .f32) (ix2 0 d) = m ((c : Thread nD τ).loc main_arg6) (ix1 d) :=
  Eq.trans (by blk_ext [iblk, idx t]) (V_lg m c d)

theorem rd_lb (d : Fin 1024) :
    (iblk m c 6 t : FVec Ideal S1x1024 .f32) (ix2 0 d) = m ((c : Thread nD τ).loc main_arg7) (ix1 d) :=
  Eq.trans (by blk_ext [iblk, idx t]) (V_lb m c d)

theorem rd_ms (r : Fin 256) (d : Fin 1024) :
    (iblk m c 4 t : FVec Ideal S1x1x3x1024 .f32) (ix4 0 0 2 d)
      = Cert.RetOut.gateOf (m ((c : Thread nD τ).loc main_arg4)) (m ((c : Thread nD τ).loc main_arg5)) (bAt t) (rAt t r) d := by
  refine Eq.trans (b := (V m c main_v5 : FVec Ideal S8x2x3x1024 .f32)
    (ix4 (bAt t) ⟨min (grid0.coords t 1).val 1, by omega⟩ 2 d)) (by blk_ext [iblk, idx t, bAt]) ((V_ms m c _ _ _ _).trans ?_)
  unfold Cert.RetOut.gateOf
  by_cases h : (grid0.coords t 1).val = 0
  · rw [if_pos (by show min _ 1 < 1; omega), if_pos (by show _ * 256 + r.val < 256; omega)]; rfl
  · rw [if_neg (by show ¬ min _ 1 < 1; omega), if_neg (by show ¬ _ * 256 + r.val < 256; omega)]; rfl

end Reads

theorem point (c : Dev nD) (t : Fin cfg0.N) (r : Fin 256) (d : Fin 1024) :
    k0_pay1 (F := Ideal) (k0_pay2 (iblk m c 0 t) (iblk m c 1 t) (iblk m c 2 t) (iblk m c 4 t) (iblk m c 3 t))
        (k0_pay3 (iblk m c 0 t) (iblk m c 1 t) (iblk m c 2 t) (iblk m c 4 t) (iblk m c 3 t)) (iblk m c 5 t) (iblk m c 6 t) (ix3 0 r d)
      = result m c (ix3 (bAt t) (rAt t r) d) :=
  (body_at _ _ _ _ _ _ _ r d).trans (row_congr (rd_x m c t r) (rd_ms m c t r)
    (fun k => congrArg₂ gatedR (rd_o m c t r k) (rd_g m c t r k)) (rd_w m c t) (rd_lg m c t) (rd_lb m c t) d)

theorem final (c : Dev nD) : (dats m 0 c).arrAt 7 (cfgs 0).N = result m c := by
  refine (dats m 0 c).arrAt_eq_of_covers 7 _ (by decide +kernel) fun t _ y => ?_
  blk_simp
  rw [after0_7]; frame_out
  have hy : y = ix3 (n0 := 1) (n1 := 256) (n2 := 1024) 0 (y 1) (y 2) := by
    funext a; fin_cases a
    · exact Subsingleton.elim (α := Fin 1) _ _
    · rfl
    · rfl
  refine (congrArg _ hy).trans ((point m c t (y 1) (y 2)).trans (congrArg (result m c) ?_))
  blk_ext [idx t, bAt, rAt]

/-- The run: the result array, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 7).trans (final m c), h.2 c⟩)
    (θ_run_and (run_main m ρ) (unchanged m ρ))

end Cert.RkOut
-- ==== Proof.Out.Joined.lean ====
/- The reference's result array of an output call, from the two streams' projections. -/
module

public import proofs.«01_k».proof.Proof.RetOut.Kernel
public import proofs.«01_k».proof.Proof.RetOut.Reference

@[expose] public section

set_option maxRecDepth 16384

noncomputable section

open Idealize.ShloMosaic Idealize.ShloMosaic.TcCoe

namespace Cert.Out

open Cert.ReferenceOutIdeal Cert.ReferenceOutIdeal.Gen Cert.RetOutRef

variable (yC : FVec Ideal S8x256x1024 .f32) (yL : FVec Ideal S8x4096x1024 .f32) (x : FVec Ideal S8x4352x1024 .f32)
    (mod : FVec Ideal S8x3072 .f32) (modc : FVec Ideal S3072 .f32) (lg lb : FVec Ideal S1024 .f32)

/-- The context's and the latents' norms, joined. -/
def joined : FVec Ideal S8x4352x1024 .f32 :=
  concatenate S8x4352x1024 1
    [⟨S8x256x1024, normC (streamC (extractStridedSlice S8x256x1024 ![0, 0, 0] x slices_S8x4352x1024_S8x256x1024_0_0_0) (gateC modc) yC) lg lb⟩,
     ⟨S8x4096x1024, normL (streamL (extractStridedSlice S8x4096x1024 ![0, 256, 0] x slices_S8x4352x1024_S8x4096x1024_0_256_0) (gateL mod) yL) lg lb⟩]
    concatenates_S8x256x1024_S8x4096x1024_S8x4352x1024_d1

/-- If the projections are those of activations `a` over both streams, the result is the rows' norms. -/
theorem joined_at {n : ℕ} (a : Fin 8 → Fin 4352 → Fin n → EReal) (w : Fin n → Fin 1024 → EReal)
    (hC : ∀ b (i : Fin 256) d, yC (ix3 b i d) = ∑ k, a b ⟨i.val, by omega⟩ k * w k d)
    (hL : ∀ b (i : Fin 4096) d, yL (ix3 b i d) = ∑ k, a b ⟨256 + i.val, by omega⟩ k * w k d)
    (b : Fin 8) (i : Fin 4352) (d : Fin 1024) :
    joined yC yL x mod modc lg lb (ix3 b i d)
      = row (fun d => x (ix3 b i d)) (Cert.RetOut.gateOf mod modc b i) (a b i) w (fun d => lg (ix1 d)) (fun d => lb (ix1 d)) d := by
  by_cases hi : i.val < 256
  · pointwise [joined]
    rw [dif_pos hi, show Cert.RetOut.gateOf mod modc b i = fun d => modc (ix1 ⟨2048 + d.val, by omega⟩) from funext fun _ => if_pos hi]
    refine (normC_at _ lg lb b ⟨i.val, hi⟩ d).trans (congrArg (fun z => norm z _ _ d) (funext fun e => ?_))
    refine (streamC_at _ _ _ b ⟨i.val, hi⟩ e).trans (congrArg₂ (· + ·) (congrArg (alpha * ·) ?_)
      (congrArg₂ (· * ·) (gateC_at modc b _ e) (hC b _ e)))
    pointwise
  · pointwise [joined]
    rw [dif_neg hi, show Cert.RetOut.gateOf mod modc b i = fun d => mod (ix2 b ⟨2048 + d.val, by omega⟩) from funext fun _ => if_neg hi]
    refine (normL_at _ lg lb b ⟨i.val - 256, by omega⟩ d).trans (congrArg (fun z => norm z _ _ d) (funext fun e => ?_))
    have h : (⟨256 + (i.val - 256), by omega⟩ : Fin 4352) = i := Fin.ext (by show 256 + (i.val - 256) = i.val; omega)
    refine (streamL_at _ _ _ b ⟨i.val - 256, by omega⟩ e).trans (congrArg₂ (· + ·) (congrArg (alpha * ·) ?_)
      (congrArg₂ (· * ·) (gateL_at mod b _ e) ((hL b _ e).trans (congrArg (fun i => ∑ k, a b i k * w k e) h))))
    pointwise; exact congrArg (fun i => x (ix3 b i e)) h

end Cert.Out
-- ==== Proof.RkOut.Reference.lean ====
/- The reference's result array of the RWKV-7 output call. -/
module

public import proofs.«01_k».proof.Proof.Out.Joined
public import proofs.«01_k».proof.Proof.Gen.ReferenceRkOutIdeal.Run

@[expose] public section

set_option maxRecDepth 16384

noncomputable section

open Idealize.ShloMosaic Idealize.ShloMosaic.TcCoe Idealize.SL.Sem

namespace Cert.RkOutRef

open Cert.ReferenceRkOutIdeal Cert.ReferenceRkOutIdeal.Gen Cert.Out

/-- The context's gated activations, projected. -/
def projC (o g : FVec Ideal S8x256x1024 .f32) (w : FVec Ideal S1024x1024 .f32) : FVec Ideal S8x256x1024 .f32 :=
  Host.dotGeneral dot_S8x256x1024_S1024x1024_S8x256x1024_2_0_01_1_n_n none
    (mulf o (mulf g (Host.divf (broadcastInDim S8x256x1024 ![] bcast_S_S8x256x1024 (constant S_ .f32 0x3F800000#32))
      (addf (broadcastInDim S8x256x1024 ![] bcast_S_S8x256x1024 (constant S_ .f32 0x3F800000#32)) (Host.exp (Host.negf g)))))) w

/-- The latents' gated activations, projected. -/
def projL (o g : FVec Ideal S8x4096x1024 .f32) (w : FVec Ideal S1024x1024 .f32) : FVec Ideal S8x4096x1024 .f32 :=
  Host.dotGeneral dot_S8x4096x1024_S1024x1024_S8x4096x1024_2_0_01_1_n_n none
    (mulf o (mulf g (Host.divf (broadcastInDim S8x4096x1024 ![] bcast_S_S8x4096x1024 (constant S_ .f32 0x3F800000#32))
      (addf (broadcastInDim S8x4096x1024 ![] bcast_S_S8x4096x1024 (constant S_ .f32 0x3F800000#32)) (Host.exp (Host.negf g)))))) w

theorem projC_at (o g : FVec Ideal S8x256x1024 .f32) (w : FVec Ideal S1024x1024 .f32) (b : Fin 8) (i : Fin 256) (d : Fin 1024) :
    projC o g w (ix3 b i d) = ∑ k, gatedR (o (ix3 b i k)) (g (ix3 b i k)) * w (ix2 k d) := by
  pointwise [projC]
  rfl

theorem projL_at (o g : FVec Ideal S8x4096x1024 .f32) (w : FVec Ideal S1024x1024 .f32) (b : Fin 8) (i : Fin 4096) (d : Fin 1024) :
    projL o g w (ix3 b i d) = ∑ k, gatedR (o (ix3 b i k)) (g (ix3 b i k)) * w (ix2 k d) := by
  pointwise [projL]
  rfl

/-- The result, of the arguments. -/
def resultOf (o g : FVec Ideal S8x4352x1024 .f32) (w : FVec Ideal S1024x1024 .f32) (x : FVec Ideal S8x4352x1024 .f32)
    (mod : FVec Ideal S8x3072 .f32) (modc : FVec Ideal S3072 .f32) (lg lb : FVec Ideal S1024 .f32) : FVec Ideal S8x4352x1024 .f32 :=
  joined
    (projC (extractStridedSlice S8x256x1024 ![0, 0, 0] o slices_S8x4352x1024_S8x256x1024_0_0_0)
      (extractStridedSlice S8x256x1024 ![0, 0, 0] g slices_S8x4352x1024_S8x256x1024_0_0_0) w)
    (projL (extractStridedSlice S8x4096x1024 ![0, 256, 0] o slices_S8x4352x1024_S8x4096x1024_0_256_0)
      (extractStridedSlice S8x4096x1024 ![0, 256, 0] g slices_S8x4352x1024_S8x4096x1024_0_256_0) w) x mod modc lg lb

theorem res_eq (m : (ℓ : Loc nD τ sig) → Buf (Elt Ideal) ℓ) (c : Dev nD) :
    Cert.ReferenceRkOutIdeal.Value.res_out0 m c
      = resultOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceRkOutIdeal.Value.res_out0 Cert.ReferenceRkOutIdeal.Value.res_main_v78
  rfl

theorem resultOf_at (o g : FVec Ideal S8x4352x1024 .f32) (w : FVec Ideal S1024x1024 .f32) (x : FVec Ideal S8x4352x1024 .f32)
    (mod : FVec Ideal S8x3072 .f32) (modc : FVec Ideal S3072 .f32) (lg lb : FVec Ideal S1024 .f32) (b : Fin 8) (i : Fin 4352) (d : Fin 1024) :
    resultOf o g w x mod modc lg lb (ix3 b i d)
      = row (fun d => x (ix3 b i d)) (Cert.RetOut.gateOf mod modc b i) (fun k => gatedR (o (ix3 b i k)) (g (ix3 b i k)))
          (fun k d => w (ix2 k d)) (fun d => lg (ix1 d)) (fun d => lb (ix1 d)) d := by
  refine joined_at _ _ x mod modc lg lb (fun b i k => gatedR (o (ix3 b i k)) (g (ix3 b i k))) (fun k d => w (ix2 k d)) ?_ ?_ b i d
  · refine fun b i d => (projC_at _ _ w b i d).trans (Finset.sum_congr rfl fun k _ => congrArg (· * w (ix2 k d)) (congrArg₂ gatedR ?_ ?_)) <;> pointwise
  · refine fun b i d => (projL_at _ _ w b i d).trans (Finset.sum_congr rfl fun k _ => congrArg (· * w (ix2 k d)) (congrArg₂ gatedR ?_ ?_)) <;> pointwise

end Cert.RkOutRef
-- ==== Proof.RkOut.Claims.lean ====
/- The claims on the RWKV-7 output call. -/
module

public import proofs.«01_k».proof.Defs
public import proofs.«01_k».proof.Proof.Gen.KernelRkOut
public import proofs.«01_k».proof.Proof.Gen.KernelRkOutIdeal
public import proofs.«01_k».proof.Proof.Gen.ReferenceRkOutIdeal
public import proofs.«01_k».proof.Proof.Gen.ReferenceRkOutIdeal.Run
public import proofs.«01_k».proof.Proof.RkOut.Kernel
public import proofs.«01_k».proof.Proof.RkOut.Reference
public import Idealize.ShloMosaic.Adequacy
public import Idealize.ShloMosaic.Init

@[expose] public section

noncomputable section

namespace Cert.RkOutClaims

open Idealize.ShloMosaic Idealize.SL.Sem

/-- The output call at the chip's own floats is the idealized one read at them. -/
theorem kernel_eq : Cert.quiescent_KernelRkOut
    = ∀ (m : (ℓ : Loc Cert.KernelRkOutIdeal.nD Cert.KernelRkOutIdeal.τ Cert.KernelRkOutIdeal.sig) → Buf (Elt Bits) ℓ) (ρ : Dev Cert.KernelRkOutIdeal.nD → PrngReg),
      True → θ_run (Cert.KernelRkOutIdeal.defs (F := Bits)) (onTc (τ := Cert.KernelRkOutIdeal.τ) (Cert.KernelRkOutIdeal.main (F := Bits)))
        ⟨m, fun _ => 0, ρ⟩ (fun r => (∀ c : Dev Cert.KernelRkOutIdeal.nD,
          r.2.mem ((c.tc : Thread Cert.KernelRkOutIdeal.nD Cert.KernelRkOutIdeal.τ).loc Cert.KernelRkOutIdeal.main_arg0)
              = m ((c.tc : Thread Cert.KernelRkOutIdeal.nD Cert.KernelRkOutIdeal.τ).loc Cert.KernelRkOutIdeal.main_arg0)
          ∧ r.2.mem ((c.tc : Thread Cert.KernelRkOutIdeal.nD Cert.KernelRkOutIdeal.τ).loc Cert.KernelRkOutIdeal.main_arg1)
              = m ((c.tc : Thread Cert.KernelRkOutIdeal.nD Cert.KernelRkOutIdeal.τ).loc Cert.KernelRkOutIdeal.main_arg1)
          ∧ r.2.mem ((c.tc : Thread Cert.KernelRkOutIdeal.nD Cert.KernelRkOutIdeal.τ).loc Cert.KernelRkOutIdeal.main_arg2)
              = m ((c.tc : Thread Cert.KernelRkOutIdeal.nD Cert.KernelRkOutIdeal.τ).loc Cert.KernelRkOutIdeal.main_arg2)
          ∧ r.2.mem ((c.tc : Thread Cert.KernelRkOutIdeal.nD Cert.KernelRkOutIdeal.τ).loc Cert.KernelRkOutIdeal.main_arg3)
              = m ((c.tc : Thread Cert.KernelRkOutIdeal.nD Cert.KernelRkOutIdeal.τ).loc Cert.KernelRkOutIdeal.main_arg3)
          ∧ r.2.mem ((c.tc : Thread Cert.KernelRkOutIdeal.nD Cert.KernelRkOutIdeal.τ).loc Cert.KernelRkOutIdeal.main_arg4)
              = m ((c.tc : Thread Cert.KernelRkOutIdeal.nD Cert.KernelRkOutIdeal.τ).loc Cert.KernelRkOutIdeal.main_arg4)
          ∧ r.2.mem ((c.tc : Thread Cert.KernelRkOutIdeal.nD Cert.KernelRkOutIdeal.τ).loc Cert.KernelRkOutIdeal.main_arg5)
              = m ((c.tc : Thread Cert.KernelRkOutIdeal.nD Cert.KernelRkOutIdeal.τ).loc Cert.KernelRkOutIdeal.main_arg5)
          ∧ r.2.mem ((c.tc : Thread Cert.KernelRkOutIdeal.nD Cert.KernelRkOutIdeal.τ).loc Cert.KernelRkOutIdeal.main_arg6)
              = m ((c.tc : Thread Cert.KernelRkOutIdeal.nD Cert.KernelRkOutIdeal.τ).loc Cert.KernelRkOutIdeal.main_arg6)
          ∧ r.2.mem ((c.tc : Thread Cert.KernelRkOutIdeal.nD Cert.KernelRkOutIdeal.τ).loc Cert.KernelRkOutIdeal.main_arg7)
              = m ((c.tc : Thread Cert.KernelRkOutIdeal.nD Cert.KernelRkOutIdeal.τ).loc Cert.KernelRkOutIdeal.main_arg7))
          ∧ r.2.sem = fun _ => 0) := by
  chain_rfl

theorem frame_kernel : Cert.quiescent_KernelRkOut := kernel_eq ▸ fun m ρ _ => Cert.KernelRkOutIdeal.Gen.frame (F := Bits) m ρ

theorem frame_kernelIdeal : Cert.quiescent_KernelRkOutIdeal := fun m ρ _ => Cert.KernelRkOutIdeal.Gen.frame (F := Ideal) m ρ

theorem frame_reference : Cert.quiescent_ReferenceRkOutIdeal := fun m ρ _ =>
  (θ_run Cert.ReferenceRkOutIdeal.defs _ _).mono
    (fun r h => ⟨fun c => (h c).2, Idealize.ShloMosaic.sem_eq_zero_of_no_sems (by decide) r.2⟩)
    (Cert.ReferenceRkOutIdeal.Value.run (F := Ideal) m ρ)

theorem result_eq (m : (ℓ : Loc Cert.KernelRkOutIdeal.nD Cert.KernelRkOutIdeal.τ Cert.KernelRkOutIdeal.sig) → Buf (Elt Ideal) ℓ)
    (c : Dev Cert.KernelRkOutIdeal.nD) (o g : FVec Ideal Cert.KernelRkOutIdeal.S8x4352x1024 .f32)
    (w : FVec Ideal Cert.KernelRkOutIdeal.S1024x1024 .f32) (x : FVec Ideal Cert.KernelRkOutIdeal.S8x4352x1024 .f32)
    (mod : FVec Ideal Cert.KernelRkOutIdeal.S8x3072 .f32) (modc : FVec Ideal Cert.KernelRkOutIdeal.S3072 .f32)
    (lg lb : FVec Ideal Cert.KernelRkOutIdeal.S1024 .f32)
    (h0 : o = m ((c.tc : Thread Cert.KernelRkOutIdeal.nD Cert.KernelRkOutIdeal.τ).loc Cert.KernelRkOutIdeal.main_arg0))
    (h1 : g = m ((c.tc : Thread Cert.KernelRkOutIdeal.nD Cert.KernelRkOutIdeal.τ).loc Cert.KernelRkOutIdeal.main_arg1))
    (h2 : w = m ((c.tc : Thread Cert.KernelRkOutIdeal.nD Cert.KernelRkOutIdeal.τ).loc Cert.KernelRkOutIdeal.main_arg2))
    (h3 : x = m ((c.tc : Thread Cert.KernelRkOutIdeal.nD Cert.KernelRkOutIdeal.τ).loc Cert.KernelRkOutIdeal.main_arg3))
    (h4 : mod = m ((c.tc : Thread Cert.KernelRkOutIdeal.nD Cert.KernelRkOutIdeal.τ).loc Cert.KernelRkOutIdeal.main_arg4))
    (h5 : modc = m ((c.tc : Thread Cert.KernelRkOutIdeal.nD Cert.KernelRkOutIdeal.τ).loc Cert.KernelRkOutIdeal.main_arg5))
    (h6 : lg = m ((c.tc : Thread Cert.KernelRkOutIdeal.nD Cert.KernelRkOutIdeal.τ).loc Cert.KernelRkOutIdeal.main_arg6))
    (h7 : lb = m ((c.tc : Thread Cert.KernelRkOutIdeal.nD Cert.KernelRkOutIdeal.τ).loc Cert.KernelRkOutIdeal.main_arg7)) :
    Cert.RkOutRef.resultOf o g w x mod modc lg lb = Cert.RkOut.result m c := by
  subst h0 h1 h2 h3 h4 h5 h6 h7
  funext i
  have hi : i = ix3 (n0 := 8) (n1 := 4352) (n2 := 1024) (i 0) (i 1) (i 2) := by
    funext a; fin_cases a <;> rfl
  exact (congrArg _ hi).trans (Cert.RkOutRef.resultOf_at _ _ _ _ _ _ _ _ (i 0) (i 1) (i 2))

theorem algebraic : Cert.algebraic_KernelRkOutIdeal_ReferenceRkOutIdeal := by
  intro m ρ m' ρ' _ hagree
  refine ⟨fun c => Cert.RkOut.result m c, Cert.RkOut.run m ρ, ?_⟩
  exact (θ_run _ _ _).mono (fun _ h c => ⟨((h c).1.trans (Cert.RkOutRef.res_eq m' c)).trans
    (result_eq m c _ _ _ _ _ _ _ _ (hagree c).1 (hagree c).2.1 (hagree c).2.2.1 (hagree c).2.2.2.1 (hagree c).2.2.2.2.1
      (hagree c).2.2.2.2.2.1 (hagree c).2.2.2.2.2.2.1 (hagree c).2.2.2.2.2.2.2), (h c).2⟩)
    (Cert.ReferenceRkOutIdeal.Value.run m' ρ')

end Cert.RkOutClaims
-- ==== Proof.MlOut.Kernel.lean ====
/- The result array of the mLSTM output call: every row the layer norm of its stream. -/
module

public import proofs.«01_k».proof.Proof.RetOut.Kernel
public import proofs.«01_k».proof.Proof.Gen.KernelMlOutIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlOut

open Cert.KernelMlOutIdeal Cert.KernelMlOutIdeal.Gen Cert.Out

/-! ## The body's values at an index -/

section Body

variable (o : FVec Ideal S1x256x2048 .f32) (gn sk : FVec Ideal S1x2048 .f32) (xc z : FVec Ideal S1x256x2048 .f32) (w : FVec Ideal S2048x1024 .bf16) (ms : FVec Ideal S1x1x3x1024 .f32)
  (x : FVec Ideal S1x256x1024 .f32) (lg lb : FVec Ideal S1x1024 .f32)

/-- The stream at a row of the block. -/
abbrev blockStream (r : Fin 256) : Fin 1024 → EReal :=
  stream (fun d => x (ix3 0 r d)) (fun d => ms (ix4 0 0 2 d)) (fun k => gatedM (o (ix3 0 r k)) (gn (ix2 0 k)) (sk (ix2 0 k)) (xc (ix3 0 r k)) (z (ix3 0 r k)))
    (fun k d => w (ix2 k d))

theorem pay1_at (z : FVec Ideal S256x1024 .f32) (s : FVec Ideal S256 .f32) (r : Fin 256) (hs : s (ix1 r) = ∑ d, z (ix2 r d))
    (d : Fin 1024) :
    k0_pay1 (F := Ideal) z s lg lb (ix3 0 r d)
      = norm (fun d => z (ix2 r d)) (fun d => lg (ix2 0 d)) (fun d => lb (ix2 0 d)) d := by
  pointwise [k0_pay1]
  rw [hs]
  rfl

theorem pay2_at (r : Fin 256) (d : Fin 1024) :
    k0_pay2 (F := Ideal) o gn sk xc z w ms x (ix2 r d) = blockStream o gn sk xc z w ms x r d := by
  pointwise [k0_pay2]
  rfl

theorem pay3_at (r : Fin 256) :
    k0_pay3 (F := Ideal) o gn sk xc z w ms x (ix1 r) = ∑ d, k0_pay2 (F := Ideal) o gn sk xc z w ms x (ix2 r d) := by
  pointwise [k0_pay3]

theorem body_at (r : Fin 256) (d : Fin 1024) :
    k0_pay1 (F := Ideal) (k0_pay2 o gn sk xc z w ms x) (k0_pay3 o gn sk xc z w ms x) lg lb (ix3 0 r d)
      = row (fun d => x (ix3 0 r d)) (fun d => ms (ix4 0 0 2 d))
          (fun k => gatedM (o (ix3 0 r k)) (gn (ix2 0 k)) (sk (ix2 0 k)) (xc (ix3 0 r k)) (z (ix3 0 r k)))
          (fun k d => w (ix2 k d)) (fun d => lg (ix2 0 d)) (fun d => lb (ix2 0 d)) d :=
  (pay1_at lg lb _ _ r (pay3_at o gn sk xc z w ms x r) d).trans
    (congrArg (fun z => norm z (fun d => lg (ix2 0 d)) (fun d => lb (ix2 0 d)) d) (funext (pay2_at o gn sk xc z w ms x r)))

end Body

/-! ## The result array -/

variable (m : (ℓ : Loc nD τ sig) → Buf (Elt Ideal) ℓ)

/-- The result at an index, of the arguments. -/
def value (o xc z : FVec Ideal S8x4352x2048 .f32) (gn sk : FVec Ideal S2048 .f32) (w : FVec Ideal S2048x1024 .f32)
    (x : FVec Ideal S8x4352x1024 .f32) (mod : FVec Ideal S8x3072 .f32) (modc : FVec Ideal S3072 .f32) (lg lb : FVec Ideal S1024 .f32)
    (b : Fin 8) (i : Fin 4352) : Fin 1024 → EReal :=
  row (fun d => x (ix3 b i d)) (Cert.RetOut.gateOf mod modc b i)
    (fun k => gatedM (o (ix3 b i k)) (gn (ix1 k)) (sk (ix1 k)) (xc (ix3 b i k)) (z (ix3 b i k)))
    (fun k d => w (ix2 k d)) (fun d => lg (ix1 d)) (fun d => lb (ix1 d))

/-- The result array of a launch. -/
def result (c : Dev nD) : FVec Ideal S8x4352x1024 .f32 := fun i =>
  value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) (i 2)

theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0] ∧ win0_4.index t = ![0, 0] ∧ win0_5.index t = ![0, 0]
    ∧ win0_6.index t = ![(grid0.coords t 0).val, (grid0.coords t 1).val, 0]
    ∧ win0_7.index t = ![(grid0.coords t 0).val, min (grid0.coords t 1).val 1, 0, 0]
    ∧ win0_8.index t = ![0, 0] ∧ win0_9.index t = ![0, 0]
    ∧ win0_10.index t = ![(grid0.coords t 0).val, (grid0.coords t 1).val, 0] :=
  (by decide +kernel : ∀ t : Fin grid0.N, _)

theorem range : ∀ t : Fin cfg0.N, (grid0.coords t 0).val < 8 ∧ (grid0.coords t 1).val < 17 :=
  (by decide +kernel : ∀ t : Fin grid0.N, _)

/-- The batch and the row of the array that a point's block row is. -/
def bAt (t : Fin cfg0.N) : Fin 8 := ⟨(grid0.coords t 0).val, (range t).1⟩
def rAt (t : Fin cfg0.N) (r : Fin 256) : Fin 4352 := ⟨(grid0.coords t 1).val * 256 + r.val, by have := (range t).2; omega⟩

section Reads

variable (c : Dev nD) (t : Fin cfg0.N)

theorem rd_o (r : Fin 256) (k : Fin 2048) :
    (iblk m c 0 t : FVec Ideal S1x256x2048 .f32) (ix3 0 r k) = m ((c : Thread nD τ).loc main_arg0) (ix3 (bAt t) (rAt t r) k) := by
  blk_ext [iblk, V, idx t, bAt, rAt]

theorem rd_xc (r : Fin 256) (k : Fin 2048) :
    (iblk m c 1 t : FVec Ideal S1x256x2048 .f32) (ix3 0 r k) = m ((c : Thread nD τ).loc main_arg1) (ix3 (bAt t) (rAt t r) k) := by
  blk_ext [iblk, V, idx t, bAt, rAt]

theorem rd_z (r : Fin 256) (k : Fin 2048) :
    (iblk m c 2 t : FVec Ideal S1x256x2048 .f32) (ix3 0 r k) = m ((c : Thread nD τ).loc main_arg2) (ix3 (bAt t) (rAt t r) k) := by
  blk_ext [iblk, V, idx t, bAt, rAt]

theorem rd_x (r : Fin 256) (d : Fin 1024) :
    (iblk m c 6 t : FVec Ideal S1x256x1024 .f32) (ix3 0 r d) = m ((c : Thread nD τ).loc main_arg6) (ix3 (bAt t) (rAt t r) d) := by
  blk_ext [iblk, V, idx t, bAt, rAt]

/-! The arrays that the host code prepares. -/

theorem V_w (k : Fin 2048) (d : Fin 1024) :
    (V m c main_v8 : FVec Ideal S2048x1024 .bf16) (ix2 k d) = m ((c : Thread nD τ).loc main_arg5) (ix2 k d) := by
  entry_read; pointwise

theorem V_gn (d : Fin 2048) :
    (V m c main_v6 : FVec Ideal S1x2048 .f32) (ix2 0 d) = m ((c : Thread nD τ).loc main_arg3) (ix1 d) := by
  entry_read; pointwise

theorem V_sk (d : Fin 2048) :
    (V m c main_v7 : FVec Ideal S1x2048 .f32) (ix2 0 d) = m ((c : Thread nD τ).loc main_arg4) (ix1 d) := by
  entry_read; pointwise

theorem V_lg (d : Fin 1024) :
    (V m c main_v9 : FVec Ideal S1x1024 .f32) (ix2 0 d) = m ((c : Thread nD τ).loc main_arg9) (ix1 d) := by
  entry_read; pointwise

theorem V_lb (d : Fin 1024) :
    (V m c main_v10 : FVec Ideal S1x1024 .f32) (ix2 0 d) = m ((c : Thread nD τ).loc main_arg10) (ix1 d) := by
  entry_read; pointwise

theorem V_ms (b : Fin 8) (s : Fin 2) (e : Fin 3) (d : Fin 1024) :
    (V m c main_v5 : FVec Ideal S8x2x3x1024 .f32) (ix4 b s e d)
      = if s.val < 1 then (m ((c : Thread nD τ).loc main_arg8) : FVec Ideal S3072 .f32) (ix1 ⟨e.val * 1024 + d.val, by omega⟩)
        else (m ((c : Thread nD τ).loc main_arg7) : FVec Ideal S8x3072 .f32) (ix2 b ⟨e.val * 1024 + d.val, by omega⟩) := by
  entry_read; pointwise; rfl

theorem rd_w (k : Fin 2048) (d : Fin 1024) :
    (iblk m c 5 t : FVec Ideal S2048x1024 .bf16) (ix2 k d) = m ((c : Thread nD τ).loc main_arg5) (ix2 k d) :=
  Eq.trans (by blk_ext [iblk, idx t]) (V_w m c k d)

theorem rd_gn (d : Fin 2048) :
    (iblk m c 3 t : FVec Ideal S1x2048 .f32) (ix2 0 d) = m ((c : Thread nD τ).loc main_arg3) (ix1 d) :=
  Eq.trans (by blk_ext [iblk, idx t]) (V_gn m c d)

theorem rd_sk (d : Fin 2048) :
    (iblk m c 4 t : FVec Ideal S1x2048 .f32) (ix2 0 d) = m ((c : Thread nD τ).loc main_arg4) (ix1 d) :=
  Eq.trans (by blk_ext [iblk, idx t]) (V_sk m c d)

theorem rd_lg (d : Fin 1024) :
    (iblk m c 8 t : FVec Ideal S1x1024 .f32) (ix2 0 d) = m ((c : Thread nD τ).loc main_arg9) (ix1 d) :=
  Eq.trans (by blk_ext [iblk, idx t]) (V_lg m c d)

theorem rd_lb (d : Fin 1024) :
    (iblk m c 9 t : FVec Ideal S1x1024 .f32) (ix2 0 d) = m ((c : Thread nD τ).loc main_arg10) (ix1 d) :=
  Eq.trans (by blk_ext [iblk, idx t]) (V_lb m c d)

theorem rd_ms (r : Fin 256) (d : Fin 1024) :
    (iblk m c 7 t : FVec Ideal S1x1x3x1024 .f32) (ix4 0 0 2 d)
      = Cert.RetOut.gateOf (m ((c : Thread nD τ).loc main_arg7)) (m ((c : Thread nD τ).loc main_arg8)) (bAt t) (rAt t r) d := by
  refine Eq.trans (b := (V m c main_v5 : FVec Ideal S8x2x3x1024 .f32)
    (ix4 (bAt t) ⟨min (grid0.coords t 1).val 1, by omega⟩ 2 d)) (by blk_ext [iblk, idx t, bAt]) ((V_ms m c _ _ _ _).trans ?_)
  unfold Cert.RetOut.gateOf
  by_cases h : (grid0.coords t 1).val = 0
  · rw [if_pos (by show min _ 1 < 1; omega), if_pos (by show _ * 256 + r.val < 256; omega)]; rfl
  · rw [if_neg (by show ¬ min _ 1 < 1; omega), if_neg (by show ¬ _ * 256 + r.val < 256; omega)]; rfl

end Reads

theorem point (c : Dev nD) (t : Fin cfg0.N) (r : Fin 256) (d : Fin 1024) :
    k0_pay1 (F := Ideal) (k0_pay2 (iblk m c 0 t) (iblk m c 3 t) (iblk m c 4 t) (iblk m c 1 t) (iblk m c 2 t) (iblk m c 5 t) (iblk m c 7 t) (iblk m c 6 t))
        (k0_pay3 (iblk m c 0 t) (iblk m c 3 t) (iblk m c 4 t) (iblk m c 1 t) (iblk m c 2 t) (iblk m c 5 t) (iblk m c 7 t) (iblk m c 6 t)) (iblk m c 8 t) (iblk m c 9 t) (ix3 0 r d)
      = result m c (ix3 (bAt t) (rAt t r) d) :=
  (body_at _ _ _ _ _ _ _ _ _ _ r d).trans (row_congr (rd_x m c t r) (rd_ms m c t r)
    (fun k => by rw [rd_o m c t r k, rd_gn m c t k, rd_sk m c t k, rd_xc m c t r k, rd_z m c t r k]; rfl) (rd_w m c t) (rd_lg m c t) (rd_lb m c t) d)

theorem final (c : Dev nD) : (dats m 0 c).arrAt 10 (cfgs 0).N = result m c := by
  refine (dats m 0 c).arrAt_eq_of_covers 10 _ (by decide +kernel) fun t _ y => ?_
  blk_simp
  rw [after0_10]; frame_out
  have hy : y = ix3 (n0 := 1) (n1 := 256) (n2 := 1024) 0 (y 1) (y 2) := by
    funext a; fin_cases a
    · exact Subsingleton.elim (α := Fin 1) _ _
    · rfl
    · rfl
  refine (congrArg _ hy).trans ((point m c t (y 1) (y 2)).trans (congrArg (result m c) ?_))
  blk_ext [idx t, bAt, rAt]

/-- The run: the result array, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h.1 c).1 10).trans (final m c), h.2 c⟩)
    (θ_run_and (run_main m ρ) (unchanged m ρ))

end Cert.MlOut
-- ==== Proof.MlOut.Reference.lean ====
/- The reference's result array of the mLSTM output call. -/
module

public import proofs.«01_k».proof.Proof.Out.Joined
public import proofs.«01_k».proof.Proof.Gen.ReferenceMlOutIdeal.Run

@[expose] public section

set_option maxRecDepth 16384

noncomputable section

open Idealize.ShloMosaic Idealize.ShloMosaic.TcCoe Idealize.SL.Sem

namespace Cert.MlOutRef

open Cert.ReferenceMlOutIdeal Cert.ReferenceMlOutIdeal.Gen Cert.Out

/-- The context's weighted, gated activations, projected. -/
def projC (o xc z : FVec Ideal S8x256x2048 .f32) (gn sk : FVec Ideal S2048 .f32) (w : FVec Ideal S2048x1024 .f32) : FVec Ideal S8x256x1024 .f32 :=
  Host.dotGeneral dot_S8x256x2048_S2048x1024_S8x256x1024_2_0_01_1_n_n none
    (mulf (addf (mulf o (broadcastInDim S8x256x2048 ![0, 1, 2] bcast_S1x1x2048_S8x256x2048_0_1_2 (broadcastInDim S1x1x2048 ![2] bcast_S2048_S1x1x2048_2 gn)))
        (mulf (broadcastInDim S8x256x2048 ![0, 1, 2] bcast_S1x1x2048_S8x256x2048_0_1_2 (broadcastInDim S1x1x2048 ![2] bcast_S2048_S1x1x2048_2 sk)) xc))
      (mulf z (Host.divf (broadcastInDim S8x256x2048 ![] bcast_S_S8x256x2048 (constant S_ .f32 0x3F800000#32))
        (addf (broadcastInDim S8x256x2048 ![] bcast_S_S8x256x2048 (constant S_ .f32 0x3F800000#32)) (Host.exp (Host.negf z)))))) w

/-- The latents' weighted, gated activations, projected. -/
def projL (o xc z : FVec Ideal S8x4096x2048 .f32) (gn sk : FVec Ideal S2048 .f32) (w : FVec Ideal S2048x1024 .f32) : FVec Ideal S8x4096x1024 .f32 :=
  Host.dotGeneral dot_S8x4096x2048_S2048x1024_S8x4096x1024_2_0_01_1_n_n none
    (mulf (addf (mulf o (broadcastInDim S8x4096x2048 ![0, 1, 2] bcast_S1x1x2048_S8x4096x2048_0_1_2 (broadcastInDim S1x1x2048 ![2] bcast_S2048_S1x1x2048_2 gn)))
        (mulf (broadcastInDim S8x4096x2048 ![0, 1, 2] bcast_S1x1x2048_S8x4096x2048_0_1_2 (broadcastInDim S1x1x2048 ![2] bcast_S2048_S1x1x2048_2 sk)) xc))
      (mulf z (Host.divf (broadcastInDim S8x4096x2048 ![] bcast_S_S8x4096x2048 (constant S_ .f32 0x3F800000#32))
        (addf (broadcastInDim S8x4096x2048 ![] bcast_S_S8x4096x2048 (constant S_ .f32 0x3F800000#32)) (Host.exp (Host.negf z)))))) w

theorem projC_at (o xc z : FVec Ideal S8x256x2048 .f32) (gn sk : FVec Ideal S2048 .f32) (w : FVec Ideal S2048x1024 .f32) (b : Fin 8) (i : Fin 256) (d : Fin 1024) :
    projC o xc z gn sk w (ix3 b i d)
      = ∑ k, gatedM (o (ix3 b i k)) (gn (ix1 k)) (sk (ix1 k)) (xc (ix3 b i k)) (z (ix3 b i k)) * w (ix2 k d) := by
  pointwise [projC]
  rfl

theorem projL_at (o xc z : FVec Ideal S8x4096x2048 .f32) (gn sk : FVec Ideal S2048 .f32) (w : FVec Ideal S2048x1024 .f32) (b : Fin 8) (i : Fin 4096) (d : Fin 1024) :
    projL o xc z gn sk w (ix3 b i d)
      = ∑ k, gatedM (o (ix3 b i k)) (gn (ix1 k)) (sk (ix1 k)) (xc (ix3 b i k)) (z (ix3 b i k)) * w (ix2 k d) := by
  pointwise [projL]
  rfl

/-- The result, of the arguments. -/
def resultOf (o xc z : FVec Ideal S8x4352x2048 .f32) (gn sk : FVec Ideal S2048 .f32) (w : FVec Ideal S2048x1024 .f32)
    (x : FVec Ideal S8x4352x1024 .f32) (mod : FVec Ideal S8x3072 .f32) (modc : FVec Ideal S3072 .f32) (lg lb : FVec Ideal S1024 .f32) :
    FVec Ideal S8x4352x1024 .f32 :=
  joined
    (projC (extractStridedSlice S8x256x2048 ![0, 0, 0] o slices_S8x4352x2048_S8x256x2048_0_0_0)
      (extractStridedSlice S8x256x2048 ![0, 0, 0] xc slices_S8x4352x2048_S8x256x2048_0_0_0)
      (extractStridedSlice S8x256x2048 ![0, 0, 0] z slices_S8x4352x2048_S8x256x2048_0_0_0) gn sk w)
    (projL (extractStridedSlice S8x4096x2048 ![0, 256, 0] o slices_S8x4352x2048_S8x4096x2048_0_256_0)
      (extractStridedSlice S8x4096x2048 ![0, 256, 0] xc slices_S8x4352x2048_S8x4096x2048_0_256_0)
      (extractStridedSlice S8x4096x2048 ![0, 256, 0] z slices_S8x4352x2048_S8x4096x2048_0_256_0) gn sk w) x mod modc lg lb

theorem res_eq (m : (ℓ : Loc nD τ sig) → Buf (Elt Ideal) ℓ) (c : Dev nD) :
    Cert.ReferenceMlOutIdeal.Value.res_out0 m c
      = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceMlOutIdeal.Value.res_out0 Cert.ReferenceMlOutIdeal.Value.res_main_v94
  rfl

theorem resultOf_at (o xc z : FVec Ideal S8x4352x2048 .f32) (gn sk : FVec Ideal S2048 .f32) (w : FVec Ideal S2048x1024 .f32)
    (x : FVec Ideal S8x4352x1024 .f32) (mod : FVec Ideal S8x3072 .f32) (modc : FVec Ideal S3072 .f32) (lg lb : FVec Ideal S1024 .f32)
    (b : Fin 8) (i : Fin 4352) (d : Fin 1024) :
    resultOf o xc z gn sk w x mod modc lg lb (ix3 b i d)
      = row (fun d => x (ix3 b i d)) (Cert.RetOut.gateOf mod modc b i)
          (fun k => gatedM (o (ix3 b i k)) (gn (ix1 k)) (sk (ix1 k)) (xc (ix3 b i k)) (z (ix3 b i k)))
          (fun k d => w (ix2 k d)) (fun d => lg (ix1 d)) (fun d => lb (ix1 d)) d := by
  refine joined_at _ _ x mod modc lg lb (fun b i k => gatedM (o (ix3 b i k)) (gn (ix1 k)) (sk (ix1 k)) (xc (ix3 b i k)) (z (ix3 b i k)))
    (fun k d => w (ix2 k d)) ?_ ?_ b i d
  · exact fun b i d => (projC_at _ _ _ gn sk w b i d).trans (Finset.sum_congr rfl fun k _ => by pointwise)
  · exact fun b i d => (projL_at _ _ _ gn sk w b i d).trans (Finset.sum_congr rfl fun k _ => by pointwise)

end Cert.MlOutRef
-- ==== Proof.MlOut.Claims.lean ====
/- The claims on the mLSTM output call. -/
module

public import proofs.«01_k».proof.Defs
public import proofs.«01_k».proof.Proof.Gen.KernelMlOut
public import proofs.«01_k».proof.Proof.Gen.KernelMlOutIdeal
public import proofs.«01_k».proof.Proof.Gen.ReferenceMlOutIdeal
public import proofs.«01_k».proof.Proof.Gen.ReferenceMlOutIdeal.Run
public import proofs.«01_k».proof.Proof.MlOut.Kernel
public import proofs.«01_k».proof.Proof.MlOut.Reference
public import Idealize.ShloMosaic.Adequacy
public import Idealize.ShloMosaic.Init

@[expose] public section

noncomputable section

namespace Cert.MlOutClaims

open Idealize.ShloMosaic Idealize.SL.Sem

/-- The output call at the chip's own floats is the idealized one read at them. -/
theorem kernel_eq : Cert.quiescent_KernelMlOut
    = ∀ (m : (ℓ : Loc Cert.KernelMlOutIdeal.nD Cert.KernelMlOutIdeal.τ Cert.KernelMlOutIdeal.sig) → Buf (Elt Bits) ℓ) (ρ : Dev Cert.KernelMlOutIdeal.nD → PrngReg),
      True → θ_run (Cert.KernelMlOutIdeal.defs (F := Bits)) (onTc (τ := Cert.KernelMlOutIdeal.τ) (Cert.KernelMlOutIdeal.main (F := Bits)))
        ⟨m, fun _ => 0, ρ⟩ (fun r => (∀ c : Dev Cert.KernelMlOutIdeal.nD,
          r.2.mem ((c.tc : Thread Cert.KernelMlOutIdeal.nD Cert.KernelMlOutIdeal.τ).loc Cert.KernelMlOutIdeal.main_arg0)
              = m ((c.tc : Thread Cert.KernelMlOutIdeal.nD Cert.KernelMlOutIdeal.τ).loc Cert.KernelMlOutIdeal.main_arg0)
          ∧ r.2.mem ((c.tc : Thread Cert.KernelMlOutIdeal.nD Cert.KernelMlOutIdeal.τ).loc Cert.KernelMlOutIdeal.main_arg1)
              = m ((c.tc : Thread Cert.KernelMlOutIdeal.nD Cert.KernelMlOutIdeal.τ).loc Cert.KernelMlOutIdeal.main_arg1)
          ∧ r.2.mem ((c.tc : Thread Cert.KernelMlOutIdeal.nD Cert.KernelMlOutIdeal.τ).loc Cert.KernelMlOutIdeal.main_arg2)
              = m ((c.tc : Thread Cert.KernelMlOutIdeal.nD Cert.KernelMlOutIdeal.τ).loc Cert.KernelMlOutIdeal.main_arg2)
          ∧ r.2.mem ((c.tc : Thread Cert.KernelMlOutIdeal.nD Cert.KernelMlOutIdeal.τ).loc Cert.KernelMlOutIdeal.main_arg3)
              = m ((c.tc : Thread Cert.KernelMlOutIdeal.nD Cert.KernelMlOutIdeal.τ).loc Cert.KernelMlOutIdeal.main_arg3)
          ∧ r.2.mem ((c.tc : Thread Cert.KernelMlOutIdeal.nD Cert.KernelMlOutIdeal.τ).loc Cert.KernelMlOutIdeal.main_arg4)
              = m ((c.tc : Thread Cert.KernelMlOutIdeal.nD Cert.KernelMlOutIdeal.τ).loc Cert.KernelMlOutIdeal.main_arg4)
          ∧ r.2.mem ((c.tc : Thread Cert.KernelMlOutIdeal.nD Cert.KernelMlOutIdeal.τ).loc Cert.KernelMlOutIdeal.main_arg5)
              = m ((c.tc : Thread Cert.KernelMlOutIdeal.nD Cert.KernelMlOutIdeal.τ).loc Cert.KernelMlOutIdeal.main_arg5)
          ∧ r.2.mem ((c.tc : Thread Cert.KernelMlOutIdeal.nD Cert.KernelMlOutIdeal.τ).loc Cert.KernelMlOutIdeal.main_arg6)
              = m ((c.tc : Thread Cert.KernelMlOutIdeal.nD Cert.KernelMlOutIdeal.τ).loc Cert.KernelMlOutIdeal.main_arg6)
          ∧ r.2.mem ((c.tc : Thread Cert.KernelMlOutIdeal.nD Cert.KernelMlOutIdeal.τ).loc Cert.KernelMlOutIdeal.main_arg7)
              = m ((c.tc : Thread Cert.KernelMlOutIdeal.nD Cert.KernelMlOutIdeal.τ).loc Cert.KernelMlOutIdeal.main_arg7)
          ∧ r.2.mem ((c.tc : Thread Cert.KernelMlOutIdeal.nD Cert.KernelMlOutIdeal.τ).loc Cert.KernelMlOutIdeal.main_arg8)
              = m ((c.tc : Thread Cert.KernelMlOutIdeal.nD Cert.KernelMlOutIdeal.τ).loc Cert.KernelMlOutIdeal.main_arg8)
          ∧ r.2.mem ((c.tc : Thread Cert.KernelMlOutIdeal.nD Cert.KernelMlOutIdeal.τ).loc Cert.KernelMlOutIdeal.main_arg9)
              = m ((c.tc : Thread Cert.KernelMlOutIdeal.nD Cert.KernelMlOutIdeal.τ).loc Cert.KernelMlOutIdeal.main_arg9)
          ∧ r.2.mem ((c.tc : Thread Cert.KernelMlOutIdeal.nD Cert.KernelMlOutIdeal.τ).loc Cert.KernelMlOutIdeal.main_arg10)
              = m ((c.tc : Thread Cert.KernelMlOutIdeal.nD Cert.KernelMlOutIdeal.τ).loc Cert.KernelMlOutIdeal.main_arg10))
          ∧ r.2.sem = fun _ => 0) := by
  chain_rfl

theorem frame_kernel : Cert.quiescent_KernelMlOut := kernel_eq ▸ fun m ρ _ => Cert.KernelMlOutIdeal.Gen.frame (F := Bits) m ρ

theorem frame_kernelIdeal : Cert.quiescent_KernelMlOutIdeal := fun m ρ _ => Cert.KernelMlOutIdeal.Gen.frame (F := Ideal) m ρ

theorem frame_reference : Cert.quiescent_ReferenceMlOutIdeal := fun m ρ _ =>
  (θ_run Cert.ReferenceMlOutIdeal.defs _ _).mono
    (fun r h => ⟨fun c => (h c).2, Idealize.ShloMosaic.sem_eq_zero_of_no_sems (by decide) r.2⟩)
    (Cert.ReferenceMlOutIdeal.Value.run (F := Ideal) m ρ)

theorem result_eq (m : (ℓ : Loc Cert.KernelMlOutIdeal.nD Cert.KernelMlOutIdeal.τ Cert.KernelMlOutIdeal.sig) → Buf (Elt Ideal) ℓ)
    (c : Dev Cert.KernelMlOutIdeal.nD)
    (o : FVec Ideal Cert.KernelMlOutIdeal.S8x4352x2048 .f32)
    (xc : FVec Ideal Cert.KernelMlOutIdeal.S8x4352x2048 .f32)
    (z : FVec Ideal Cert.KernelMlOutIdeal.S8x4352x2048 .f32)
    (gn : FVec Ideal Cert.KernelMlOutIdeal.S2048 .f32)
    (sk : FVec Ideal Cert.KernelMlOutIdeal.S2048 .f32)
    (w : FVec Ideal Cert.KernelMlOutIdeal.S2048x1024 .f32)
    (x : FVec Ideal Cert.KernelMlOutIdeal.S8x4352x1024 .f32)
    (mod : FVec Ideal Cert.KernelMlOutIdeal.S8x3072 .f32)
    (modc : FVec Ideal Cert.KernelMlOutIdeal.S3072 .f32)
    (lg : FVec Ideal Cert.KernelMlOutIdeal.S1024 .f32)
    (lb : FVec Ideal Cert.KernelMlOutIdeal.S1024 .f32)
    (h0 : o = m ((c.tc : Thread Cert.KernelMlOutIdeal.nD Cert.KernelMlOutIdeal.τ).loc Cert.KernelMlOutIdeal.main_arg0))
    (h1 : xc = m ((c.tc : Thread Cert.KernelMlOutIdeal.nD Cert.KernelMlOutIdeal.τ).loc Cert.KernelMlOutIdeal.main_arg1))
    (h2 : z = m ((c.tc : Thread Cert.KernelMlOutIdeal.nD Cert.KernelMlOutIdeal.τ).loc Cert.KernelMlOutIdeal.main_arg2))
    (h3 : gn = m ((c.tc : Thread Cert.KernelMlOutIdeal.nD Cert.KernelMlOutIdeal.τ).loc Cert.KernelMlOutIdeal.main_arg3))
    (h4 : sk = m ((c.tc : Thread Cert.KernelMlOutIdeal.nD Cert.KernelMlOutIdeal.τ).loc Cert.KernelMlOutIdeal.main_arg4))
    (h5 : w = m ((c.tc : Thread Cert.KernelMlOutIdeal.nD Cert.KernelMlOutIdeal.τ).loc Cert.KernelMlOutIdeal.main_arg5))
    (h6 : x = m ((c.tc : Thread Cert.KernelMlOutIdeal.nD Cert.KernelMlOutIdeal.τ).loc Cert.KernelMlOutIdeal.main_arg6))
    (h7 : mod = m ((c.tc : Thread Cert.KernelMlOutIdeal.nD Cert.KernelMlOutIdeal.τ).loc Cert.KernelMlOutIdeal.main_arg7))
    (h8 : modc = m ((c.tc : Thread Cert.KernelMlOutIdeal.nD Cert.KernelMlOutIdeal.τ).loc Cert.KernelMlOutIdeal.main_arg8))
    (h9 : lg = m ((c.tc : Thread Cert.KernelMlOutIdeal.nD Cert.KernelMlOutIdeal.τ).loc Cert.KernelMlOutIdeal.main_arg9))
    (h10 : lb = m ((c.tc : Thread Cert.KernelMlOutIdeal.nD Cert.KernelMlOutIdeal.τ).loc Cert.KernelMlOutIdeal.main_arg10)) :
    Cert.MlOutRef.resultOf o xc z gn sk w x mod modc lg lb = Cert.MlOut.result m c := by
  subst h0 h1 h2 h3 h4 h5 h6 h7 h8 h9 h10
  funext i
  have hi : i = ix3 (n0 := 8) (n1 := 4352) (n2 := 1024) (i 0) (i 1) (i 2) := by
    funext a; fin_cases a <;> rfl
  exact (congrArg _ hi).trans (Cert.MlOutRef.resultOf_at _ _ _ _ _ _ _ _ _ _ _ (i 0) (i 1) (i 2))

theorem algebraic : Cert.algebraic_KernelMlOutIdeal_ReferenceMlOutIdeal := by
  intro m ρ m' ρ' _ hagree
  refine ⟨fun c => Cert.MlOut.result m c, Cert.MlOut.run m ρ, ?_⟩
  refine (θ_run _ _ _).mono (fun _ h c => ⟨((h c).1.trans (Cert.MlOutRef.res_eq m' c)).trans ?_, (h c).2⟩)
    (Cert.ReferenceMlOutIdeal.Value.run m' ρ')
  obtain ⟨h0, h1, h2, h3, h4, h5, h6, h7, h8, h9, h10⟩ := hagree c
  exact result_eq m c _ _ _ _ _ _ _ _ _ _ _ h0 h1 h2 h3 h4 h5 h6 h7 h8 h9 h10

end Cert.MlOutClaims
-- ==== Proof.lean ====
/- The claims of `Cert.Claim` (Defs.lean), assembled. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Scan.KernelValue
public import proofs.«01_k».proof.Proof.Scan.RefValue
public import proofs.«01_k».proof.Proof.RetOut.Claims
public import proofs.«01_k».proof.Proof.RetIn.Claims
public import proofs.«01_k».proof.Proof.RkIn.Claims
public import proofs.«01_k».proof.Proof.RkOut.Claims
public import proofs.«01_k».proof.Proof.MlOut.Claims
public import Idealize.ShloMosaic.Adequacy
public import Idealize.ShloMosaic.Init

@[expose] public section

noncomputable section

namespace Cert.Proof

open Idealize.ShloMosaic Idealize.SL.Sem

/-- The program at the chip's own floats is the idealized program read at them. -/
theorem kernel_eq : Cert.quiescent_Kernel
    = ∀ (m : (ℓ : Loc Cert.KernelIdeal.nD Cert.KernelIdeal.τ Cert.KernelIdeal.sig) → Buf (Elt Bits) ℓ) (ρ : Dev Cert.KernelIdeal.nD → PrngReg),
      True → θ_run (Cert.KernelIdeal.defs (F := Bits)) (onTc (τ := Cert.KernelIdeal.τ) (Cert.KernelIdeal.main (F := Bits)))
        ⟨m, fun _ => 0, ρ⟩ (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
          ∧ r.2.sem = fun _ => 0) := by
  chain_rfl

theorem frame_kernel : Cert.quiescent_Kernel := kernel_eq ▸ fun m ρ _ => Cert.Scan.frame (F := Bits) m ρ

theorem frame_kernelIdeal : Cert.quiescent_KernelIdeal := fun m ρ _ => Cert.Scan.frame (F := Ideal) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result is the retention of the arguments, when they are the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hg : Cert.ScanRef.gOf m' c = Cert.Scan.gOf m c) (hx : Cert.ScanRef.xOf m' c = Cert.Scan.xOf m c) :
    (Cert.ReferenceIdeal.Value.out_main_v104 (Cert.ReferenceIdeal.Value.STEP^[34]
        (StableHlo.entryContents Cert.ReferenceIdeal.Value.preI m' c)) : Cert.ReferenceIdeal.S8x4352x2048.Idx → EReal)
      = Cert.Scan.result m c := by
  funext i
  have hi : i = ix3 (n0 := 8) (n1 := 4352) (n2 := 2048) (i 0) (i 1) (i 2) := by
    funext a; fin_cases a <;> rfl
  refine (congrArg (Cert.ReferenceIdeal.Value.out_main_v104 _) hi).trans ((Cert.ScanRef.out_at m' c (i 0) (i 1) (i 2)).trans ?_)
  rw [hg, hx]
  rfl

theorem algebraic : Cert.algebraic_KernelIdeal_ReferenceIdeal := by
  intro m ρ m' ρ' _ hagree
  refine ⟨fun c => Cert.Scan.result m c, Cert.Scan.run m ρ, ?_⟩
  refine (θ_run _ _ _).mono (fun _ h c => ⟨(h c).1.trans (result_eq m m' c ?_ ?_), (h c).2⟩) (Cert.ReferenceIdeal.Value.run m' ρ')
  · funext e h; exact congrFun (hagree c).1 _
  · funext b r u; exact congrFun (hagree c).2 _

theorem claim : Cert.Claim := ⟨Cert.Kernel.Gen.facts, Cert.KernelIdeal.Gen.facts, Cert.ReferenceIdeal.Gen.facts,
  Cert.KernelIn.Gen.facts, Cert.KernelInIdeal.Gen.facts, Cert.ReferenceInIdeal.Gen.facts,
  Cert.KernelOut.Gen.facts, Cert.KernelOutIdeal.Gen.facts, Cert.ReferenceOutIdeal.Gen.facts,
  Cert.KernelMlOut.Gen.facts, Cert.KernelMlOutIdeal.Gen.facts, Cert.ReferenceMlOutIdeal.Gen.facts,
  Cert.KernelRkOut.Gen.facts, Cert.KernelRkOutIdeal.Gen.facts, Cert.ReferenceRkOutIdeal.Gen.facts,
  Cert.KernelRkIn.Gen.facts, Cert.KernelRkInIdeal.Gen.facts, Cert.ReferenceRkInIdeal.Gen.facts,
  frame_kernel, frame_kernelIdeal, frame_reference,
  Cert.RetInClaims.frame_kernel, Cert.RetInClaims.frame_kernelIdeal, Cert.RetInClaims.frame_reference,
  Cert.RetOutClaims.frame_kernel, Cert.RetOutClaims.frame_kernelIdeal, Cert.RetOutClaims.frame_reference,
  Cert.MlOutClaims.frame_kernel, Cert.MlOutClaims.frame_kernelIdeal, Cert.MlOutClaims.frame_reference,
  Cert.RkOutClaims.frame_kernel, Cert.RkOutClaims.frame_kernelIdeal, Cert.RkOutClaims.frame_reference,
  Cert.RkInClaims.frame_kernel, Cert.RkInClaims.frame_kernelIdeal, Cert.RkInClaims.frame_reference,
  trivial, algebraic, trivial, Cert.RetInClaims.algebraic, trivial, Cert.RetOutClaims.algebraic,
  trivial, Cert.MlOutClaims.algebraic, trivial, Cert.RkOutClaims.algebraic, trivial, Cert.RkInClaims.algebraic⟩

end Cert.Proof

end
